-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_fits : Cert.Pre_fits.Facts),
    quiescent_Kernel (hKernel := hKernel) (hPre_fits := hPre_fits)
    ∧ quiescent_KernelIdeal (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal (hKernelIdeal := hKernelIdeal) (hReferenceIdeal := hReferenceIdeal) (hPre_fits := hPre_fits)
-- ==== Pre_fits.lean ====
abbrev S128 : Shape := ⟨1, ![128]⟩
abbrev S112x8x128 : Shape := ⟨3, ![112, 8, 128]⟩
abbrev S56x1x2x128 : Shape := ⟨4, ![56, 1, 2, 128]⟩
abbrev S112x256x128 : Shape := ⟨3, ![112, 256, 128]⟩
abbrev S56x2x256 : Shape := ⟨3, ![56, 2, 256]⟩
abbrev S3584x128 : Shape := ⟨2, ![3584, 128]⟩
abbrev S100352x128 : Shape := ⟨2, ![100352, 128]⟩
abbrev S112 : Shape := ⟨1, ![112]⟩
abbrev S_ : Shape := ⟨0, ![]⟩

class Facts : Prop where
  slices_S128_S112_0 : S128.Slices ![0] S112
  bcast_S_S112 : S_.BroadcastsInDim S112 (![] : Fin 0 → Fin S112.rank)
  reducesTo_S112_S_d0 : S112.ReducesTo [0] S_
  h_S_ : 0 < S_.numel

variable [Facts]

def fn {F : FTy → Type} [FloatOps F] (main_arg0 : IVec S128 32) (main_arg1 : FVec F S112x8x128 .bf16) (main_arg2 : FVec F S56x1x2x128 .bf16) (main_arg3 : FVec F S56x1x2x128 .bf16) (main_arg4 : FVec F S112x256x128 .fp8e4m3) (main_arg5 : FVec F S112x256x128 .fp8e4m3) (main_arg6 : FVec F S56x2x256 .f32) (main_arg7 : FVec F S56x2x256 .f32) (main_arg8 : FVec F S3584x128 .f32) (main_arg9 : FVec F S3584x128 .f32) (main_arg10 : IVec S100352x128 32) (main_arg11 : IVec S100352x128 32) : IVec S_ 1 :=
  let main_v0 : IVec S112 32 := (extractStridedSlice S112 ![0] · slices_S128_S112_0) main_arg0
  let main_c : IVec S_ 32 := constantI S_ 32 3584#32
  let main_v1 : IVec S112 32 := broadcastInDim S112 ![] bcast_S_S112 main_c
  let main_v2 : IVec S112 1 := cmpi .sle main_v0 main_v1
  let main_c_0 : IVec S_ 1 := constantI S_ 1 1#1
  let main_v3 : IVec S_ 1 := (fun x v => Host.reduce IntOp.andi x v reducesTo_S112_S_d0 h_S_) main_v2 main_c_0
  main_v3
-- ==== Kernel.lean ====
abbrev S128 : Shape := ⟨1, ![128]⟩
abbrev S112x8x128 : Shape := ⟨3, ![112, 8, 128]⟩
abbrev S56x1x2x128 : Shape := ⟨4, ![56, 1, 2, 128]⟩
abbrev S112x256x128 : Shape := ⟨3, ![112, 256, 128]⟩
abbrev S56x2x256 : Shape := ⟨3, ![56, 2, 256]⟩
abbrev S3584x128 : Shape := ⟨2, ![3584, 128]⟩
abbrev S100352x128 : Shape := ⟨2, ![100352, 128]⟩
abbrev S1x8x128 : Shape := ⟨3, ![1, 8, 128]⟩
abbrev S1x1x2x128 : Shape := ⟨4, ![1, 1, 2, 128]⟩
abbrev S1x256x128 : Shape := ⟨3, ![1, 256, 128]⟩
abbrev S1x2x256 : Shape := ⟨3, ![1, 2, 256]⟩
abbrev S32x128 : Shape := ⟨2, ![32, 128]⟩
abbrev S2x896x128 : Shape := ⟨3, ![2, 896, 128]⟩
abbrev S14x8x256 : Shape := ⟨3, ![14, 8, 256]⟩
abbrev S2 : Shape := ⟨1, ![2]⟩
abbrev S1 : Shape := ⟨1, ![1]⟩
abbrev S_ : Shape := ⟨0, ![]⟩
abbrev S1x64x128 : Shape := ⟨3, ![1, 64, 128]⟩
abbrev S64x128 : Shape := ⟨2, ![64, 128]⟩
abbrev S8x128 : Shape := ⟨2, ![8, 128]⟩
abbrev S1x1x256 : Shape := ⟨3, ![1, 1, 256]⟩
abbrev S1x256 : Shape := ⟨2, ![1, 256]⟩
abbrev S256x128 : Shape := ⟨2, ![256, 128]⟩
abbrev S8x256 : Shape := ⟨2, ![8, 256]⟩
abbrev S2x128 : Shape := ⟨2, ![2, 128]⟩
abbrev S1x128 : Shape := ⟨2, ![1, 128]⟩
abbrev S8 : Shape := ⟨1, ![8]⟩
abbrev S8x1 : Shape := ⟨2, ![8, 1]⟩
abbrev S1x8x256 : Shape := ⟨3, ![1, 8, 256]⟩

abbrev nBuf : Space → Nat
  | .hbm => 12
  | .vmem => 23
  | .smem => 1
  | _ => 0

abbrev bufTy : (tb : Table) → Fin (tcTables nBuf tb) → BufTy
  | .hbm, ⟨0, _⟩ => ⟨S112x8x128, .bf16⟩
  | .hbm, ⟨1, _⟩ => ⟨S56x1x2x128, .bf16⟩
  | .hbm, ⟨2, _⟩ => ⟨S56x1x2x128, .bf16⟩
  | .hbm, ⟨3, _⟩ => ⟨S112x256x128, .fp8e4m3⟩
  | .hbm, ⟨4, _⟩ => ⟨S112x256x128, .fp8e4m3⟩
  | .hbm, ⟨5, _⟩ => ⟨S56x2x256, .f32⟩
  | .hbm, ⟨6, _⟩ => ⟨S56x2x256, .f32⟩
  | .hbm, ⟨7, _⟩ => ⟨S3584x128, .f32⟩
  | .hbm, ⟨8, _⟩ => ⟨S3584x128, .f32⟩
  | .hbm, ⟨9, _⟩ => ⟨S100352x128, .i32⟩
  | .hbm, ⟨10, _⟩ => ⟨S100352x128, .i32⟩
  | .hbm, ⟨11, _⟩ => ⟨S112x8x128, .bf16⟩
  | .local _ .vmem, ⟨0, _⟩ => ⟨S1x8x128, .bf16⟩
  | .local _ .vmem, ⟨1, _⟩ => ⟨S1x8x128, .bf16⟩
  | .local _ .vmem, ⟨2, _⟩ => ⟨S1x1x2x128, .bf16⟩
  | .local _ .vmem, ⟨3, _⟩ => ⟨S1x1x2x128, .bf16⟩
  | .local _ .vmem, ⟨4, _⟩ => ⟨S1x1x2x128, .bf16⟩
  | .local _ .vmem, ⟨5, _⟩ => ⟨S1x1x2x128, .bf16⟩
  | .local _ .vmem, ⟨6, _⟩ => ⟨S1x256x128, .fp8e4m3⟩
  | .local _ .vmem, ⟨7, _⟩ => ⟨S1x256x128, .fp8e4m3⟩
  | .local _ .vmem, ⟨8, _⟩ => ⟨S1x256x128, .fp8e4m3⟩
  | .local _ .vmem, ⟨9, _⟩ => ⟨S1x256x128, .fp8e4m3⟩
  | .local _ .vmem, ⟨10, _⟩ => ⟨S1x2x256, .f32⟩
  | .local _ .vmem, ⟨11, _⟩ => ⟨S1x2x256, .f32⟩
  | .local _ .vmem, ⟨12, _⟩ => ⟨S1x2x256, .f32⟩
  | .local _ .vmem, ⟨13, _⟩ => ⟨S1x2x256, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S1x8x128, .bf16⟩
  | .local _ .vmem, ⟨19, _⟩ => ⟨S1x8x128, .bf16⟩
  | .local _ .vmem, ⟨20, _⟩ => ⟨S2x896x128, .i32⟩
  | .local _ .vmem, ⟨21, _⟩ => ⟨S2x896x128, .i32⟩
  | .local _ .vmem, ⟨22, _⟩ => ⟨S14x8x256, .f32⟩
  | .local _ .smem, ⟨0, _⟩ => ⟨S128, .i32⟩
  | _, _ => ⟨S112x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![112], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let v126 : Index := Scalar.indexCast arg0
  ![v126.toNat]
@[reducible] def k0_t1_loop (v127 : BitVec 32) : Scf.Loop 32 :=
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let c1_i32_68 : BitVec 32 := 1#32
  ⟨c0_i32_65, v150, c1_i32_68⟩

def k0_mult1 (i : grid0.Coords) (v127 : BitVec 32) (k0_t1 : Fin (k0_t1_loop v127).trips) : BitVec 32 :=
  let arg0 : BitVec 32 := BitVec.ofNat 32 (i 0).val
  let c896_i32 : BitVec 32 := 896#32
  let v153 : BitVec 32 := Scalar.muli arg0 c896_i32
  let c0_i32_65 : BitVec 32 := 0#32
  let c1_i32_68 : BitVec 32 := 1#32
  let arg18 : BitVec 32 := Scf.iv c0_i32_65 c1_i32_68 k0_t1
  let c64_i32 : BitVec 32 := 64#32
  let v154 : BitVec 32 := Scalar.muli arg18 c64_i32
  let v155 : BitVec 32 := Scalar.addi v153 v154
  v155
def k0_mult2 (v127 : BitVec 32) (k0_t1 : Fin (k0_t1_loop v127).trips) : BitVec 32 :=
  let c0_i32_65 : BitVec 32 := 0#32
  let c1_i32_68 : BitVec 32 := 1#32
  let arg18 : BitVec 32 := Scf.iv c0_i32_65 c1_i32_68 k0_t1
  let c64_i32_70 : BitVec 32 := 64#32
  let v157 : BitVec 32 := Scalar.muli arg18 c64_i32_70
  v157
def k0_off2 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off3 (i : grid0.Coords) (v127 : BitVec 32) (k0_t1 : Fin (k0_t1_loop v127).trips) : Fin 3 → Nat :=
  let arg0 : BitVec 32 := BitVec.ofNat 32 (i 0).val
  let c2_i32 : BitVec 32 := 2#32
  let v0 : BitVec 32 := Scalar.remsi arg0 c2_i32
  let c0_i32_65 : BitVec 32 := 0#32
  let c1_i32_68 : BitVec 32 := 1#32
  let arg18 : BitVec 32 := Scf.iv c0_i32_65 c1_i32_68 k0_t1
  let c64_i32_70 : BitVec 32 := 64#32
  let v157 : BitVec 32 := Scalar.muli arg18 c64_i32_70
  let v158 : BitVec 32 := v157
  let c0_i32_71 : BitVec 32 := 0#32
  ![v0.toNat, v158.toNat, 0]
def k0_off4 (i : grid0.Coords) (v127 : BitVec 32) (k0_t1 : Fin (k0_t1_loop v127).trips) : Fin 2 → Nat :=
  let arg0 : BitVec 32 := BitVec.ofNat 32 (i 0).val
  let c896_i32 : BitVec 32 := 896#32
  let v153 : BitVec 32 := Scalar.muli arg0 c896_i32
  let c0_i32_65 : BitVec 32 := 0#32
  let c1_i32_68 : BitVec 32 := 1#32
  let arg18 : BitVec 32 := Scf.iv c0_i32_65 c1_i32_68 k0_t1
  let c64_i32 : BitVec 32 := 64#32
  let v154 : BitVec 32 := Scalar.muli arg18 c64_i32
  let v155 : BitVec 32 := Scalar.addi v153 v154
  let v156 : BitVec 32 := v155
  let c0_i32_72 : BitVec 32 := 0#32
  ![v156.toNat, 0]
@[reducible] def k0_t2_loop (v127 : BitVec 32) : Scf.Loop 32 :=
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let v147 : BitVec 32 := Scalar.addi c0_i32_65 v146
  let c1_i32_69 : BitVec 32 := 1#32
  ⟨v150, v147, c1_i32_69⟩
def k0_mult3 (i : grid0.Coords) (v127 : BitVec 32) (k0_t2 : Fin (k0_t2_loop v127).trips) : BitVec 32 :=
  let arg0 : BitVec 32 := BitVec.ofNat 32 (i 0).val
  let c896_i32 : BitVec 32 := 896#32
  let v153 : BitVec 32 := Scalar.muli arg0 c896_i32
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let c1_i32_69 : BitVec 32 := 1#32
  let arg18 : BitVec 32 := Scf.iv v150 c1_i32_69 k0_t2
  let c64_i32 : BitVec 32 := 64#32
  let v154 : BitVec 32 := Scalar.muli arg18 c64_i32
  let v155 : BitVec 32 := Scalar.addi v153 v154
  v155
def k0_mult4 (v127 : BitVec 32) (k0_t2 : Fin (k0_t2_loop v127).trips) : BitVec 32 :=
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let c1_i32_69 : BitVec 32 := 1#32
  let arg18 : BitVec 32 := Scf.iv v150 c1_i32_69 k0_t2
  let c64_i32_70 : BitVec 32 := 64#32
  let v157 : BitVec 32 := Scalar.muli arg18 c64_i32_70
  v157
def k0_off5 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off6 (i : grid0.Coords) (v127 : BitVec 32) (k0_t2 : Fin (k0_t2_loop v127).trips) : Fin 3 → Nat :=
  let arg0 : BitVec 32 := BitVec.ofNat 32 (i 0).val
  let c2_i32 : BitVec 32 := 2#32
  let v0 : BitVec 32 := Scalar.remsi arg0 c2_i32
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let c1_i32_69 : BitVec 32 := 1#32
  let arg18 : BitVec 32 := Scf.iv v150 c1_i32_69 k0_t2
  let c64_i32_70 : BitVec 32 := 64#32
  let v157 : BitVec 32 := Scalar.muli arg18 c64_i32_70
  let v158 : BitVec 32 := v157
  let c0_i32_71 : BitVec 32 := 0#32
  ![v0.toNat, v158.toNat, 0]
def k0_off7 (i : grid0.Coords) (v127 : BitVec 32) (k0_t2 : Fin (k0_t2_loop v127).trips) : Fin 2 → Nat :=
  let arg0 : BitVec 32 := BitVec.ofNat 32 (i 0).val
  let c896_i32 : BitVec 32 := 896#32
  let v153 : BitVec 32 := Scalar.muli arg0 c896_i32
  let c0_i32_65 : BitVec 32 := 0#32
  let c255_i32_57 : BitVec 32 := 255#32
  let v128 : BitVec 32 := Scalar.addi v127 c255_i32_57
  let c0_i32_59 : BitVec 32 := 0#32
  let v130 : BitVec 1 := Scalar.cmpi .sgt v128 c0_i32_59
  let v131 : BitVec 32 := Scalar.extui v130
  let c0_i32_60 : BitVec 32 := 0#32
  let v132 : BitVec 1 := Scalar.cmpi .slt v128 c0_i32_60
  let v133 : BitVec 32 := Scalar.extui v132
  let v134 : BitVec 32 := Scalar.subi v131 v133
  let c256_i32_58 : BitVec 32 := 256#32
  let c0_i32_61 : BitVec 32 := 0#32
  let v135 : BitVec 1 := Scalar.cmpi .sgt c256_i32_58 c0_i32_61
  let v136 : BitVec 32 := Scalar.extui v135
  let c0_i32_62 : BitVec 32 := 0#32
  let v137 : BitVec 1 := Scalar.cmpi .slt c256_i32_58 c0_i32_62
  let v138 : BitVec 32 := Scalar.extui v137
  let v139 : BitVec 32 := Scalar.subi v136 v138
  let v140 : BitVec 1 := Scalar.cmpi .ne v134 v139
  let v141 : BitVec 32 := Scalar.remsi v128 c256_i32_58
  let c0_i32_63 : BitVec 32 := 0#32
  let v142 : BitVec 1 := Scalar.cmpi .ne v141 c0_i32_63
  let v143 : BitVec 1 := Scalar.andi v140 v142
  let v129 : BitVec 32 := Scalar.divsi v128 c256_i32_58
  let c1_i32_64 : BitVec 32 := 1#32
  let v144 : BitVec 32 := Scalar.subi v129 c1_i32_64
  let v145 : BitVec 32 := Scalar.select v143 v144 v129
  let v146 : BitVec 32 := Scalar.subi v145 c0_i32_65
  let c1_i32_67 : BitVec 32 := 1#32
  let v148 : BitVec 32 := Scalar.divsi v146 c1_i32_67
  let v149 : BitVec 32 := Scalar.muli v148 c1_i32_67
  let v150 : BitVec 32 := Scalar.addi c0_i32_65 v149
  let c1_i32_69 : BitVec 32 := 1#32
  let arg18 : BitVec 32 := Scf.iv v150 c1_i32_69 k0_t2
  let c64_i32 : BitVec 32 := 64#32
  let v154 : BitVec 32 := Scalar.muli arg18 c64_i32
  let v155 : BitVec 32 := Scalar.addi v153 v154
  let v156 : BitVec 32 := v155
  let c0_i32_72 : BitVec 32 := 0#32
  ![v156.toNat, 0]

def k0_chk1 (i : grid0.Coords) (v127 : BitVec 32) : Prop :=
  (∀ (k0_h1 : k0_cond1 i = 1#1), (k0_t1_loop v127).OK) ∧
  (∀ k0_t1 : Fin (k0_t1_loop v127).trips, ∀ (k0_h1 : k0_cond1 i = 1#1), 64 ∣ (k0_mult1 i v127 k0_t1).toNat) ∧
  (∀ k0_t1 : Fin (k0_t1_loop v127).trips, ∀ (k0_h1 : k0_cond1 i = 1#1), 64 ∣ (k0_mult2 v127 k0_t1).toNat) ∧
  (∀ k0_t1 : Fin (k0_t1_loop v127).trips, ∀ (k0_h1 : k0_cond1 i = 1#1), ∀ a, (k0_off3 i v127 k0_t1) a + S1x64x128.size a ≤ S2x896x128.size a) ∧
  (∀ k0_t1 : Fin (k0_t1_loop v127).trips, ∀ (k0_h1 : k0_cond1 i = 1#1), ∀ a, (k0_off4 i v127 k0_t1) a + S64x128.size a ≤ S100352x128.size a) ∧
  (∀ (k0_h1 : k0_cond1 i = 1#1), (k0_t2_loop v127).OK) ∧
  (∀ k0_t2 : Fin (k0_t2_loop v127).trips, ∀ (k0_h1 : k0_cond1 i = 1#1), 64 ∣ (k0_mult3 i v127 k0_t2).toNat) ∧
  (∀ k0_t2 : Fin (k0_t2_loop v127).trips, ∀ (k0_h1 : k0_cond1 i = 1#1), 64 ∣ (k0_mult4 v127 k0_t2).toNat) ∧
  (∀ k0_t2 : Fin (k0_t2_loop v127).trips, ∀ (k0_h1 : k0_cond1 i = 1#1), ∀ a, (k0_off6 i v127 k0_t2) a + S1x64x128.size a ≤ S2x896x128.size a) ∧
  (∀ k0_t2 : Fin (k0_t2_loop v127).trips, ∀ (k0_h1 : k0_cond1 i = 1#1), ∀ a, (k0_off7 i v127 k0_t2) a + S64x128.size a ≤ S100352x128.size a)
theorem k0_t1_ok : ∀ (i : grid0.Coords) (v127 : BitVec 32) (k0_hw1 : k0_chk1 i v127), ∀ (k0_h1 : k0_cond1 i = 1#1), (k0_t1_loop v127).OK := fun i v127 k0_hw1 k0_h1 => k0_hw1.1 k0_h1
theorem k0_mult1_dvd : ∀ (i : grid0.Coords) (v127 : BitVec 32) (k0_hw1 : k0_chk1 i v127) (k0_t1 : Fin (k0_t1_loop v127).trips), ∀ (k0_h1 : k0_cond1 i = 1#1), 64 ∣ (k0_mult1 i v127 k0_t1).toNat := fun i v127 k0_hw1 k0_t1 k0_h1 => k0_hw1.2.1 k0_t1 k0_h1
theorem k0_mult2_dvd : ∀ (i : grid0.Coords) (v127 : BitVec 32) (k0_hw1 : k0_chk1 i v127) (k0_t1 : Fin (k0_t1_loop v127).trips), ∀ (k0_h1 : k0_cond1 i = 1#1), 64 ∣ (k0_mult2 v127 k0_t1).toNat := fun i v127 k0_hw1 k0_t1 k0_h1 => k0_hw1.2.2.1 k0_t1 k0_h1
theorem k0_off3_inb : ∀ (i : grid0.Coords) (v127 : BitVec 32) (k0_hw1 : k0_chk1 i v127) (k0_t1 : Fin (k0_t1_loop v127).trips), ∀ (k0_h1 : k0_cond1 i = 1#1), ∀ a, (k0_off3 i v127 k0_t1) a + S1x64x128.size a ≤ S2x896x128.size a := fun i v127 k0_hw1 k0_t1 k0_h1 => k0_hw1.2.2.2.1 k0_t1 k0_h1
theorem k0_off4_inb : ∀ (i : grid0.Coords) (v127 : BitVec 32) (k0_hw1 : k0_chk1 i v127) (k0_t1 : Fin (k0_t1_loop v127).trips), ∀ (k0_h1 : k0_cond1 i = 1#1), ∀ a, (k0_off4 i v127 k0_t1) a + S64x128.size a ≤ S100352x128.size a := fun i v127 k0_hw1 k0_t1 k0_h1 => k0_hw1.2.2.2.2.1 k0_t1 k0_h1
theorem k0_t2_ok : ∀ (i : grid0.Coords) (v127 : BitVec 32) (k0_hw1 : k0_chk1 i v127), ∀ (k0_h1 : k0_cond1 i = 1#1), (k0_t2_loop v127).OK := fun i v127 k0_hw1 k0_h1 => k0_hw1.2.2.2.2.2.1 k0_h1
theorem k0_mult3_dvd : ∀ (i : grid0.Coords) (v127 : BitVec 32) (k0_hw1 : k0_chk1 i v127) (k0_t2 : Fin (k0_t2_loop v127).trips), ∀ (k0_h1 : k0_cond1 i = 1#1), 64 ∣ (k0_mult3 i v127 k0_t2).toNat := fun i v127 k0_hw1 k0_t2 k0_h1 => k0_hw1.2.2.2.2.2.2.1 k0_t2 k0_h1
theorem k0_mult4_dvd : ∀ (i : grid0.Coords) (v127 : BitVec 32) (k0_hw1 : k0_chk1 i v127) (k0_t2 : Fin (k0_t2_loop v127).trips), ∀ (k0_h1 : k0_cond1 i = 1#1), 64 ∣ (k0_mult4 v127 k0_t2).toNat := fun i v127 k0_hw1 k0_t2 k0_h1 => k0_hw1.2.2.2.2.2.2.2.1 k0_t2 k0_h1
theorem k0_off6_inb : ∀ (i : grid0.Coords) (v127 : BitVec 32) (k0_hw1 : k0_chk1 i v127) (k0_t2 : Fin (k0_t2_loop v127).trips), ∀ (k0_h1 : k0_cond1 i = 1#1), ∀ a, (k0_off6 i v127 k0_t2) a + S1x64x128.size a ≤ S2x896x128.size a := fun i v127 k0_hw1 k0_t2 k0_h1 => k0_hw1.2.2.2.2.2.2.2.2.1 k0_t2 k0_h1
theorem k0_off7_inb : ∀ (i : grid0.Coords) (v127 : BitVec 32) (k0_hw1 : k0_chk1 i v127) (k0_t2 : Fin (k0_t2_loop v127).trips), ∀ (k0_h1 : k0_cond1 i = 1#1), ∀ a, (k0_off7 i v127 k0_t2) a + S64x128.size a ≤ S100352x128.size a := fun i v127 k0_hw1 k0_t2 k0_h1 => k0_hw1.2.2.2.2.2.2.2.2.2 k0_t2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c112_i32 : BitVec 32 := 112#32
  let v5 : BitVec 1 := Scalar.cmpi .slt v4 c112_i32
  let v6 : BitVec 32 := Scalar.extui v5
  let c0_i32_1 : BitVec 32 := 0#32
  let v7 : BitVec 1 := Scalar.cmpi .ne v6 c0_i32_1
  v7

def k0_off8 (i : grid0.Coords) : Fin 1 → Nat :=
  let arg0 : BitVec 32 := BitVec.ofNat 32 (i 0).val
  let c1_i32_57 : BitVec 32 := 1#32
  let v126 : BitVec 32 := Scalar.addi arg0 c1_i32_57
  let v128 : Index := Scalar.indexCast v126
  ![v128.toNat]
@[reducible] def k0_t3_loop (v129 : BitVec 32) : Scf.Loop 32 :=
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let c1_i32_70 : BitVec 32 := 1#32
  ⟨c0_i32_67, v152, c1_i32_70⟩

def k0_mult5 (i : grid0.Coords) (v129 : BitVec 32) (k0_t3 : Fin (k0_t3_loop v129).trips) : BitVec 32 :=
  let arg0 : BitVec 32 := BitVec.ofNat 32 (i 0).val
  let c1_i32_57 : BitVec 32 := 1#32
  let v126 : BitVec 32 := Scalar.addi arg0 c1_i32_57
  let c896_i32 : BitVec 32 := 896#32
  let v155 : BitVec 32 := Scalar.muli v126 c896_i32
  let c0_i32_67 : BitVec 32 := 0#32
  let c1_i32_70 : BitVec 32 := 1#32
  let arg18 : BitVec 32 := Scf.iv c0_i32_67 c1_i32_70 k0_t3
  let c64_i32 : BitVec 32 := 64#32
  let v156 : BitVec 32 := Scalar.muli arg18 c64_i32
  let v157 : BitVec 32 := Scalar.addi v155 v156
  v157
def k0_mult6 (v129 : BitVec 32) (k0_t3 : Fin (k0_t3_loop v129).trips) : BitVec 32 :=
  let c0_i32_67 : BitVec 32 := 0#32
  let c1_i32_70 : BitVec 32 := 1#32
  let arg18 : BitVec 32 := Scf.iv c0_i32_67 c1_i32_70 k0_t3
  let c64_i32_72 : BitVec 32 := 64#32
  let v159 : BitVec 32 := Scalar.muli arg18 c64_i32_72
  v159
def k0_off9 (i : grid0.Coords) : Fin 1 → Nat :=
  let c1_i32_58 : BitVec 32 := 1#32
  let arg0 : BitVec 32 := BitVec.ofNat 32 (i 0).val
  let c2_i32 : BitVec 32 := 2#32
  let v0 : BitVec 32 := Scalar.remsi arg0 c2_i32
  let v127 : BitVec 32 := Scalar.subi c1_i32_58 v0
  ![v127.toNat]
def k0_off10 (i : grid0.Coords) (v129 : BitVec 32) (k0_t3 : Fin (k0_t3_loop v129).trips) : Fin 3 → Nat :=
  let c1_i32_58 : BitVec 32 := 1#32
  let arg0 : BitVec 32 := BitVec.ofNat 32 (i 0).val
  let c2_i32 : BitVec 32 := 2#32
  let v0 : BitVec 32 := Scalar.remsi arg0 c2_i32
  let v127 : BitVec 32 := Scalar.subi c1_i32_58 v0
  let c0_i32_67 : BitVec 32 := 0#32
  let c1_i32_70 : BitVec 32 := 1#32
  let arg18 : BitVec 32 := Scf.iv c0_i32_67 c1_i32_70 k0_t3
  let c64_i32_72 : BitVec 32 := 64#32
  let v159 : BitVec 32 := Scalar.muli arg18 c64_i32_72
  let v160 : BitVec 32 := v159
  let c0_i32_73 : BitVec 32 := 0#32
  ![v127.toNat, v160.toNat, 0]
def k0_off11 (i : grid0.Coords) (v129 : BitVec 32) (k0_t3 : Fin (k0_t3_loop v129).trips) : Fin 2 → Nat :=
  let arg0 : BitVec 32 := BitVec.ofNat 32 (i 0).val
  let c1_i32_57 : BitVec 32 := 1#32
  let v126 : BitVec 32 := Scalar.addi arg0 c1_i32_57
  let c896_i32 : BitVec 32 := 896#32
  let v155 : BitVec 32 := Scalar.muli v126 c896_i32
  let c0_i32_67 : BitVec 32 := 0#32
  let c1_i32_70 : BitVec 32 := 1#32
  let arg18 : BitVec 32 := Scf.iv c0_i32_67 c1_i32_70 k0_t3
  let c64_i32 : BitVec 32 := 64#32
  let v156 : BitVec 32 := Scalar.muli arg18 c64_i32
  let v157 : BitVec 32 := Scalar.addi v155 v156
  let v158 : BitVec 32 := v157
  let c0_i32_74 : BitVec 32 := 0#32
  ![v158.toNat, 0]
@[reducible] def k0_t4_loop (v129 : BitVec 32) : Scf.Loop 32 :=
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let v149 : BitVec 32 := Scalar.addi c0_i32_67 v148
  let c1_i32_71 : BitVec 32 := 1#32
  ⟨v152, v149, c1_i32_71⟩
def k0_mult7 (i : grid0.Coords) (v129 : BitVec 32) (k0_t4 : Fin (k0_t4_loop v129).trips) : BitVec 32 :=
  let arg0 : BitVec 32 := BitVec.ofNat 32 (i 0).val
  let c1_i32_57 : BitVec 32 := 1#32
  let v126 : BitVec 32 := Scalar.addi arg0 c1_i32_57
  let c896_i32 : BitVec 32 := 896#32
  let v155 : BitVec 32 := Scalar.muli v126 c896_i32
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let c1_i32_71 : BitVec 32 := 1#32
  let arg18 : BitVec 32 := Scf.iv v152 c1_i32_71 k0_t4
  let c64_i32 : BitVec 32 := 64#32
  let v156 : BitVec 32 := Scalar.muli arg18 c64_i32
  let v157 : BitVec 32 := Scalar.addi v155 v156
  v157
def k0_mult8 (v129 : BitVec 32) (k0_t4 : Fin (k0_t4_loop v129).trips) : BitVec 32 :=
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let c1_i32_71 : BitVec 32 := 1#32
  let arg18 : BitVec 32 := Scf.iv v152 c1_i32_71 k0_t4
  let c64_i32_72 : BitVec 32 := 64#32
  let v159 : BitVec 32 := Scalar.muli arg18 c64_i32_72
  v159
def k0_off12 (i : grid0.Coords) : Fin 1 → Nat :=
  let c1_i32_58 : BitVec 32 := 1#32
  let arg0 : BitVec 32 := BitVec.ofNat 32 (i 0).val
  let c2_i32 : BitVec 32 := 2#32
  let v0 : BitVec 32 := Scalar.remsi arg0 c2_i32
  let v127 : BitVec 32 := Scalar.subi c1_i32_58 v0
  ![v127.toNat]
def k0_off13 (i : grid0.Coords) (v129 : BitVec 32) (k0_t4 : Fin (k0_t4_loop v129).trips) : Fin 3 → Nat :=
  let c1_i32_58 : BitVec 32 := 1#32
  let arg0 : BitVec 32 := BitVec.ofNat 32 (i 0).val
  let c2_i32 : BitVec 32 := 2#32
  let v0 : BitVec 32 := Scalar.remsi arg0 c2_i32
  let v127 : BitVec 32 := Scalar.subi c1_i32_58 v0
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let c1_i32_71 : BitVec 32 := 1#32
  let arg18 : BitVec 32 := Scf.iv v152 c1_i32_71 k0_t4
  let c64_i32_72 : BitVec 32 := 64#32
  let v159 : BitVec 32 := Scalar.muli arg18 c64_i32_72
  let v160 : BitVec 32 := v159
  let c0_i32_73 : BitVec 32 := 0#32
  ![v127.toNat, v160.toNat, 0]
def k0_off14 (i : grid0.Coords) (v129 : BitVec 32) (k0_t4 : Fin (k0_t4_loop v129).trips) : Fin 2 → Nat :=
  let arg0 : BitVec 32 := BitVec.ofNat 32 (i 0).val
  let c1_i32_57 : BitVec 32 := 1#32
  let v126 : BitVec 32 := Scalar.addi arg0 c1_i32_57
  let c896_i32 : BitVec 32 := 896#32
  let v155 : BitVec 32 := Scalar.muli v126 c896_i32
  let c0_i32_67 : BitVec 32 := 0#32
  let c255_i32_59 : BitVec 32 := 255#32
  let v130 : BitVec 32 := Scalar.addi v129 c255_i32_59
  let c0_i32_61 : BitVec 32 := 0#32
  let v132 : BitVec 1 := Scalar.cmpi .sgt v130 c0_i32_61
  let v133 : BitVec 32 := Scalar.extui v132
  let c0_i32_62 : BitVec 32 := 0#32
  let v134 : BitVec 1 := Scalar.cmpi .slt v130 c0_i32_62
  let v135 : BitVec 32 := Scalar.extui v134
  let v136 : BitVec 32 := Scalar.subi v133 v135
  let c256_i32_60 : BitVec 32 := 256#32
  let c0_i32_63 : BitVec 32 := 0#32
  let v137 : BitVec 1 := Scalar.cmpi .sgt c256_i32_60 c0_i32_63
  let v138 : BitVec 32 := Scalar.extui v137
  let c0_i32_64 : BitVec 32 := 0#32
  let v139 : BitVec 1 := Scalar.cmpi .slt c256_i32_60 c0_i32_64
  let v140 : BitVec 32 := Scalar.extui v139
  let v141 : BitVec 32 := Scalar.subi v138 v140
  let v142 : BitVec 1 := Scalar.cmpi .ne v136 v141
  let v143 : BitVec 32 := Scalar.remsi v130 c256_i32_60
  let c0_i32_65 : BitVec 32 := 0#32
  let v144 : BitVec 1 := Scalar.cmpi .ne v143 c0_i32_65
  let v145 : BitVec 1 := Scalar.andi v142 v144
  let v131 : BitVec 32 := Scalar.divsi v130 c256_i32_60
  let c1_i32_66 : BitVec 32 := 1#32
  let v146 : BitVec 32 := Scalar.subi v131 c1_i32_66
  let v147 : BitVec 32 := Scalar.select v145 v146 v131
  let v148 : BitVec 32 := Scalar.subi v147 c0_i32_67
  let c1_i32_69 : BitVec 32 := 1#32
  let v150 : BitVec 32 := Scalar.divsi v148 c1_i32_69
  let v151 : BitVec 32 := Scalar.muli v150 c1_i32_69
  let v152 : BitVec 32 := Scalar.addi c0_i32_67 v151
  let c1_i32_71 : BitVec 32 := 1#32
  let arg18 : BitVec 32 := Scf.iv v152 c1_i32_71 k0_t4
  let c64_i32 : BitVec 32 := 64#32
  let v156 : BitVec 32 := Scalar.muli arg18 c64_i32
  let v157 : BitVec 32 := Scalar.addi v155 v156
  let v158 : BitVec 32 := v157
  let c0_i32_74 : BitVec 32 := 0#32
  ![v158.toNat, 0]

def k0_chk2 (i : grid0.Coords) (v129 : BitVec 32) : Prop :=
  (∀ (k0_h2 : k0_cond2 i = 1#1), (k0_t3_loop v129).OK) ∧
  (∀ k0_t3 : Fin (k0_t3_loop v129).trips, ∀ (k0_h2 : k0_cond2 i = 1#1), 64 ∣ (k0_mult5 i v129 k0_t3).toNat) ∧
  (∀ k0_t3 : Fin (k0_t3_loop v129).trips, ∀ (k0_h2 : k0_cond2 i = 1#1), 64 ∣ (k0_mult6 v129 k0_t3).toNat) ∧
  (∀ k0_t3 : Fin (k0_t3_loop v129).trips, ∀ (k0_h2 : k0_cond2 i = 1#1), ∀ a, (k0_off10 i v129 k0_t3) a + S1x64x128.size a ≤ S2x896x128.size a) ∧
  (∀ k0_t3 : Fin (k0_t3_loop v129).trips, ∀ (k0_h2 : k0_cond2 i = 1#1), ∀ a, (k0_off11 i v129 k0_t3) a + S64x128.size a ≤ S100352x128.size a) ∧
  (∀ (k0_h2 : k0_cond2 i = 1#1), (k0_t4_loop v129).OK) ∧
  (∀ k0_t4 : Fin (k0_t4_loop v129).trips, ∀ (k0_h2 : k0_cond2 i = 1#1), 64 ∣ (k0_mult7 i v129 k0_t4).toNat) ∧
  (∀ k0_t4 : Fin (k0_t4_loop v129).trips, ∀ (k0_h2 : k0_cond2 i = 1#1), 64 ∣ (k0_mult8 v129 k0_t4).toNat) ∧
  (∀ k0_t4 : Fin (k0_t4_loop v129).trips, ∀ (k0_h2 : k0_cond2 i = 1#1), ∀ a, (k0_off13 i v129 k0_t4) a + S1x64x128.size a ≤ S2x896x128.size a) ∧
  (∀ k0_t4 : Fin (k0_t4_loop v129).trips, ∀ (k0_h2 : k0_cond2 i = 1#1), ∀ a, (k0_off14 i v129 k0_t4) a + S64x128.size a ≤ S100352x128.size a)
theorem k0_t3_ok : ∀ (i : grid0.Coords) (v129 : BitVec 32) (k0_hw2 : k0_chk2 i v129), ∀ (k0_h2 : k0_cond2 i = 1#1), (k0_t3_loop v129).OK := fun i v129 k0_hw2 k0_h2 => k0_hw2.1 k0_h2
theorem k0_mult5_dvd : ∀ (i : grid0.Coords) (v129 : BitVec 32) (k0_hw2 : k0_chk2 i v129) (k0_t3 : Fin (k0_t3_loop v129).trips), ∀ (k0_h2 : k0_cond2 i = 1#1), 64 ∣ (k0_mult5 i v129 k0_t3).toNat := fun i v129 k0_hw2 k0_t3 k0_h2 => k0_hw2.2.1 k0_t3 k0_h2
theorem k0_mult6_dvd : ∀ (i : grid0.Coords) (v129 : BitVec 32) (k0_hw2 : k0_chk2 i v129) (k0_t3 : Fin (k0_t3_loop v129).trips), ∀ (k0_h2 : k0_cond2 i = 1#1), 64 ∣ (k0_mult6 v129 k0_t3).toNat := fun i v129 k0_hw2 k0_t3 k0_h2 => k0_hw2.2.2.1 k0_t3 k0_h2
theorem k0_off10_inb : ∀ (i : grid0.Coords) (v129 : BitVec 32) (k0_hw2 : k0_chk2 i v129) (k0_t3 : Fin (k0_t3_loop v129).trips), ∀ (k0_h2 : k0_cond2 i = 1#1), ∀ a, (k0_off10 i v129 k0_t3) a + S1x64x128.size a ≤ S2x896x128.size a := fun i v129 k0_hw2 k0_t3 k0_h2 => k0_hw2.2.2.2.1 k0_t3 k0_h2
theorem k0_off11_inb : ∀ (i : grid0.Coords) (v129 : BitVec 32) (k0_hw2 : k0_chk2 i v129) (k0_t3 : Fin (k0_t3_loop v129).trips), ∀ (k0_h2 : k0_cond2 i = 1#1), ∀ a, (k0_off11 i v129 k0_t3) a + S64x128.size a ≤ S100352x128.size a := fun i v129 k0_hw2 k0_t3 k0_h2 => k0_hw2.2.2.2.2.1 k0_t3 k0_h2
theorem k0_t4_ok : ∀ (i : grid0.Coords) (v129 : BitVec 32) (k0_hw2 : k0_chk2 i v129), ∀ (k0_h2 : k0_cond2 i = 1#1), (k0_t4_loop v129).OK := fun i v129 k0_hw2 k0_h2 => k0_hw2.2.2.2.2.2.1 k0_h2
theorem k0_mult7_dvd : ∀ (i : grid0.Coords) (v129 : BitVec 32) (k0_hw2 : k0_chk2 i v129) (k0_t4 : Fin (k0_t4_loop v129).trips), ∀ (k0_h2 : k0_cond2 i = 1#1), 64 ∣ (k0_mult7 i v129 k0_t4).toNat := fun i v129 k0_hw2 k0_t4 k0_h2 => k0_hw2.2.2.2.2.2.2.1 k0_t4 k0_h2
theorem k0_mult8_dvd : ∀ (i : grid0.Coords) (v129 : BitVec 32) (k0_hw2 : k0_chk2 i v129) (k0_t4 : Fin (k0_t4_loop v129).trips), ∀ (k0_h2 : k0_cond2 i = 1#1), 64 ∣ (k0_mult8 v129 k0_t4).toNat := fun i v129 k0_hw2 k0_t4 k0_h2 => k0_hw2.2.2.2.2.2.2.2.1 k0_t4 k0_h2
theorem k0_off13_inb : ∀ (i : grid0.Coords) (v129 : BitVec 32) (k0_hw2 : k0_chk2 i v129) (k0_t4 : Fin (k0_t4_loop v129).trips), ∀ (k0_h2 : k0_cond2 i = 1#1), ∀ a, (k0_off13 i v129 k0_t4) a + S1x64x128.size a ≤ S2x896x128.size a := fun i v129 k0_hw2 k0_t4 k0_h2 => k0_hw2.2.2.2.2.2.2.2.2.1 k0_t4 k0_h2
theorem k0_off14_inb : ∀ (i : grid0.Coords) (v129 : BitVec 32) (k0_hw2 : k0_chk2 i v129) (k0_t4 : Fin (k0_t4_loop v129).trips), ∀ (k0_h2 : k0_cond2 i = 1#1), ∀ a, (k0_off14 i v129 k0_t4) a + S64x128.size a ≤ S100352x128.size a := fun i v129 k0_hw2 k0_t4 k0_h2 => k0_hw2.2.2.2.2.2.2.2.2.2 k0_t4 k0_h2

def k0_off15 (i : grid0.Coords) : Fin 1 → Nat :=
  let arg0 : BitVec 32 := BitVec.ofNat 32 (i 0).val
  let v11 : Index := Scalar.indexCast arg0
  ![v11.toNat]
def k0_off16 (i : grid0.Coords) : Fin 3 → Nat :=
  let c0_11 : Index := 0#32
  let arg0 : BitVec 32 := BitVec.ofNat 32 (i 0).val
  let c2_i32_2 : BitVec 32 := 2#32
  let v8 : BitVec 32 := Scalar.remsi arg0 c2_i32_2
  let v33 : Index := Scalar.indexCast v8
  let c0_12 : Index := 0#32
  ![0, v33.toNat, 0]
@[reducible] def k0_t5_loop (v12 : BitVec 32) : Scf.Loop 32 :=
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_27 : BitVec 32 := 1#32
  ⟨c0_i32_24, v63, c1_i32_27⟩

def k0_mult9 (i : grid0.Coords) (v12 : BitVec 32) (k0_t5 : Fin (k0_t5_loop v12).trips) : BitVec 32 :=
  let arg0 : BitVec 32 := BitVec.ofNat 32 (i 0).val
  let c896_i32 : BitVec 32 := 896#32
  let v126 : BitVec 32 := Scalar.muli arg0 c896_i32
  let c0_i32_24 : BitVec 32 := 0#32
  let c1_i32_27 : BitVec 32 := 1#32
  let arg18 : BitVec 32 := Scf.iv c0_i32_24 c1_i32_27 k0_t5
  let c64_i32 : BitVec 32 := 64#32
  let v127 : BitVec 32 := Scalar.muli arg18 c64_i32
  let v128 : BitVec 32 := Scalar.addi v126 v127
  v128
def k0_mult10 (v12 : BitVec 32) (k0_t5 : Fin (k0_t5_loop v12).trips) : BitVec 32 :=
  let c0_i32_24 : BitVec 32 := 0#32
  let c1_i32_27 : BitVec 32 := 1#32
  let arg18 : BitVec 32 := Scf.iv c0_i32_24 c1_i32_27 k0_t5
  let c64_i32_57 : BitVec 32 := 64#32
  let v130 : BitVec 32 := Scalar.muli arg18 c64_i32_57
  v130
def k0_off17 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off18 (i : grid0.Coords) (v12 : BitVec 32) (k0_t5 : Fin (k0_t5_loop v12).trips) : Fin 3 → Nat :=
  let arg0 : BitVec 32 := BitVec.ofNat 32 (i 0).val
  let c2_i32 : BitVec 32 := 2#32
  let v0 : BitVec 32 := Scalar.remsi arg0 c2_i32
  let c0_i32_24 : BitVec 32 := 0#32
  let c1_i32_27 : BitVec 32 := 1#32
  let arg18 : BitVec 32 := Scf.iv c0_i32_24 c1_i32_27 k0_t5
  let c64_i32_57 : BitVec 32 := 64#32
  let v130 : BitVec 32 := Scalar.muli arg18 c64_i32_57
  let v131 : BitVec 32 := v130
  let c0_i32_58 : BitVec 32 := 0#32
  ![v0.toNat, v131.toNat, 0]
def k0_off19 (i : grid0.Coords) (v12 : BitVec 32) (k0_t5 : Fin (k0_t5_loop v12).trips) : Fin 2 → Nat :=
  let arg0 : BitVec 32 := BitVec.ofNat 32 (i 0).val
  let c896_i32 : BitVec 32 := 896#32
  let v126 : BitVec 32 := Scalar.muli arg0 c896_i32
  let c0_i32_24 : BitVec 32 := 0#32
  let c1_i32_27 : BitVec 32 := 1#32
  let arg18 : BitVec 32 := Scf.iv c0_i32_24 c1_i32_27 k0_t5
  let c64_i32 : BitVec 32 := 64#32
  let v127 : BitVec 32 := Scalar.muli arg18 c64_i32
  let v128 : BitVec 32 := Scalar.addi v126 v127
  let v129 : BitVec 32 := v128
  let c0_i32_59 : BitVec 32 := 0#32
  ![v129.toNat, 0]
@[reducible] def k0_t6_loop (v12 : BitVec 32) : Scf.Loop 32 :=
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let v60 : BitVec 32 := Scalar.addi c0_i32_24 v59
  let c1_i32_28 : BitVec 32 := 1#32
  ⟨v63, v60, c1_i32_28⟩
def k0_mult11 (i : grid0.Coords) (v12 : BitVec 32) (k0_t6 : Fin (k0_t6_loop v12).trips) : BitVec 32 :=
  let arg0 : BitVec 32 := BitVec.ofNat 32 (i 0).val
  let c896_i32 : BitVec 32 := 896#32
  let v126 : BitVec 32 := Scalar.muli arg0 c896_i32
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg18 : BitVec 32 := Scf.iv v63 c1_i32_28 k0_t6
  let c64_i32 : BitVec 32 := 64#32
  let v127 : BitVec 32 := Scalar.muli arg18 c64_i32
  let v128 : BitVec 32 := Scalar.addi v126 v127
  v128
def k0_mult12 (v12 : BitVec 32) (k0_t6 : Fin (k0_t6_loop v12).trips) : BitVec 32 :=
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg18 : BitVec 32 := Scf.iv v63 c1_i32_28 k0_t6
  let c64_i32_57 : BitVec 32 := 64#32
  let v130 : BitVec 32 := Scalar.muli arg18 c64_i32_57
  v130
def k0_off20 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off21 (i : grid0.Coords) (v12 : BitVec 32) (k0_t6 : Fin (k0_t6_loop v12).trips) : Fin 3 → Nat :=
  let arg0 : BitVec 32 := BitVec.ofNat 32 (i 0).val
  let c2_i32 : BitVec 32 := 2#32
  let v0 : BitVec 32 := Scalar.remsi arg0 c2_i32
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg18 : BitVec 32 := Scf.iv v63 c1_i32_28 k0_t6
  let c64_i32_57 : BitVec 32 := 64#32
  let v130 : BitVec 32 := Scalar.muli arg18 c64_i32_57
  let v131 : BitVec 32 := v130
  let c0_i32_58 : BitVec 32 := 0#32
  ![v0.toNat, v131.toNat, 0]
def k0_off22 (i : grid0.Coords) (v12 : BitVec 32) (k0_t6 : Fin (k0_t6_loop v12).trips) : Fin 2 → Nat :=
  let arg0 : BitVec 32 := BitVec.ofNat 32 (i 0).val
  let c896_i32 : BitVec 32 := 896#32
  let v126 : BitVec 32 := Scalar.muli arg0 c896_i32
  let c0_i32_24 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v59 : BitVec 32 := Scalar.subi v30 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg18 : BitVec 32 := Scf.iv v63 c1_i32_28 k0_t6
  let c64_i32 : BitVec 32 := 64#32
  let v127 : BitVec 32 := Scalar.muli arg18 c64_i32
  let v128 : BitVec 32 := Scalar.addi v126 v127
  let v129 : BitVec 32 := v128
  let c0_i32_59 : BitVec 32 := 0#32
  ![v129.toNat, 0]
@[reducible] def k0_t7_loop (v12 : BitVec 32) : Scf.Loop 32 :=
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_31 : BitVec 32 := 1#32
  ⟨c0_i32_29, v70, c1_i32_31⟩
def k0_mult13 (v12 : BitVec 32) (k0_t7 : Fin (k0_t7_loop v12).trips) : BitVec 32 :=
  let c0_i32_29 : BitVec 32 := 0#32
  let c1_i32_31 : BitVec 32 := 1#32
  let arg18 : BitVec 32 := Scf.iv c0_i32_29 c1_i32_31 k0_t7
  let c64_i32 : BitVec 32 := 64#32
  let v126 : BitVec 32 := Scalar.muli arg18 c64_i32
  v126
def k0_off23 (i : grid0.Coords) (v12 : BitVec 32) (k0_t7 : Fin (k0_t7_loop v12).trips) : Fin 3 → Nat :=
  let arg0 : BitVec 32 := BitVec.ofNat 32 (i 0).val
  let c2_i32 : BitVec 32 := 2#32
  let v0 : BitVec 32 := Scalar.remsi arg0 c2_i32
  let v128 : Index := Scalar.indexCast v0
  let c0_i32_29 : BitVec 32 := 0#32
  let c1_i32_31 : BitVec 32 := 1#32
  let arg18 : BitVec 32 := Scf.iv c0_i32_29 c1_i32_31 k0_t7
  let c64_i32 : BitVec 32 := 64#32
  let v126 : BitVec 32 := Scalar.muli arg18 c64_i32
  let v127 : BitVec 32 := v126
  let v129 : Index := Scalar.indexCast v127
  let c0_57 : Index := 0#32
  ![v128.toNat, v129.toNat, 0]
def k0_off24 (v12 : BitVec 32) (k0_t7 : Fin (k0_t7_loop v12).trips) : Fin 2 → Nat :=
  let c2_i32_59 : BitVec 32 := 2#32
  let c0_i32_29 : BitVec 32 := 0#32
  let c1_i32_31 : BitVec 32 := 1#32
  let arg18 : BitVec 32 := Scf.iv c0_i32_29 c1_i32_31 k0_t7
  let v135 : BitVec 32 := Scalar.muli c2_i32_59 arg18
  let v136 : Index := Scalar.indexCast v135
  let c0_60 : Index := 0#32
  ![v136.toNat, 0]
def k0_off25 (v12 : BitVec 32) (k0_t7 : Fin (k0_t7_loop v12).trips) : Fin 2 → Nat :=
  let c2_i32_61 : BitVec 32 := 2#32
  let c0_i32_29 : BitVec 32 := 0#32
  let c1_i32_31 : BitVec 32 := 1#32
  let arg18 : BitVec 32 := Scf.iv c0_i32_29 c1_i32_31 k0_t7
  let v138 : BitVec 32 := Scalar.muli c2_i32_61 arg18
  let c1_i32_62 : BitVec 32 := 1#32
  let v139 : BitVec 32 := Scalar.addi v138 c1_i32_62
  let v140 : Index := Scalar.indexCast v139
  let c0_63 : Index := 0#32
  ![v140.toNat, 0]
def k0_off26 (v12 : BitVec 32) (k0_t7 : Fin (k0_t7_loop v12).trips) : Fin 3 → Nat :=
  let c0_i32_29 : BitVec 32 := 0#32
  let c1_i32_31 : BitVec 32 := 1#32
  let arg18 : BitVec 32 := Scf.iv c0_i32_29 c1_i32_31 k0_t7
  let v154 : Index := Scalar.indexCast arg18
  let c0_67 : Index := 0#32
  let c0_68 : Index := 0#32
  ![v154.toNat, 0, 0]
@[reducible] def k0_t8_loop (v12 : BitVec 32) : Scf.Loop 32 :=
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let v67 : BitVec 32 := Scalar.addi c0_i32_29 v66
  let c1_i32_32 : BitVec 32 := 1#32
  ⟨v70, v67, c1_i32_32⟩
def k0_mult14 (v12 : BitVec 32) (k0_t8 : Fin (k0_t8_loop v12).trips) : BitVec 32 :=
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg18 : BitVec 32 := Scf.iv v70 c1_i32_32 k0_t8
  let c64_i32 : BitVec 32 := 64#32
  let v126 : BitVec 32 := Scalar.muli arg18 c64_i32
  v126
def k0_off27 (i : grid0.Coords) (v12 : BitVec 32) (k0_t8 : Fin (k0_t8_loop v12).trips) : Fin 3 → Nat :=
  let arg0 : BitVec 32 := BitVec.ofNat 32 (i 0).val
  let c2_i32 : BitVec 32 := 2#32
  let v0 : BitVec 32 := Scalar.remsi arg0 c2_i32
  let v128 : Index := Scalar.indexCast v0
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg18 : BitVec 32 := Scf.iv v70 c1_i32_32 k0_t8
  let c64_i32 : BitVec 32 := 64#32
  let v126 : BitVec 32 := Scalar.muli arg18 c64_i32
  let v127 : BitVec 32 := v126
  let v129 : Index := Scalar.indexCast v127
  let c0_57 : Index := 0#32
  ![v128.toNat, v129.toNat, 0]
def k0_off28 (v12 : BitVec 32) (k0_t8 : Fin (k0_t8_loop v12).trips) : Fin 2 → Nat :=
  let c2_i32_59 : BitVec 32 := 2#32
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg18 : BitVec 32 := Scf.iv v70 c1_i32_32 k0_t8
  let v135 : BitVec 32 := Scalar.muli c2_i32_59 arg18
  let v136 : Index := Scalar.indexCast v135
  let c0_60 : Index := 0#32
  ![v136.toNat, 0]
def k0_off29 (v12 : BitVec 32) (k0_t8 : Fin (k0_t8_loop v12).trips) : Fin 2 → Nat :=
  let c2_i32_61 : BitVec 32 := 2#32
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg18 : BitVec 32 := Scf.iv v70 c1_i32_32 k0_t8
  let v138 : BitVec 32 := Scalar.muli c2_i32_61 arg18
  let c1_i32_62 : BitVec 32 := 1#32
  let v139 : BitVec 32 := Scalar.addi v138 c1_i32_62
  let v140 : Index := Scalar.indexCast v139
  let c0_63 : Index := 0#32
  ![v140.toNat, 0]
def k0_off30 (v12 : BitVec 32) (k0_t8 : Fin (k0_t8_loop v12).trips) : Fin 3 → Nat :=
  let c0_i32_29 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v66 : BitVec 32 := Scalar.subi v30 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg18 : BitVec 32 := Scf.iv v70 c1_i32_32 k0_t8
  let v154 : Index := Scalar.indexCast arg18
  let c0_67 : Index := 0#32
  let c0_68 : Index := 0#32
  ![v154.toNat, 0, 0]
@[reducible] def k0_t9_loop (v12 : BitVec 32) : Scf.Loop 32 :=
  let c0_i32_34 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v81 : BitVec 32 := Scalar.subi v30 c0_i32_34
  let c1_i32_35 : BitVec 32 := 1#32
  let v83 : BitVec 32 := Scalar.divsi v81 c1_i32_35
  let v84 : BitVec 32 := Scalar.muli v83 c1_i32_35
  let v85 : BitVec 32 := Scalar.addi c0_i32_34 v84
  let c1_i32_36 : BitVec 32 := 1#32
  ⟨c0_i32_34, v85, c1_i32_36⟩
def k0_off31 (v12 : BitVec 32) (k0_t9 : Fin (k0_t9_loop v12).trips) : Fin 3 → Nat :=
  let c0_i32_34 : BitVec 32 := 0#32
  let c1_i32_36 : BitVec 32 := 1#32
  let arg18 : BitVec 32 := Scf.iv c0_i32_34 c1_i32_36 k0_t9
  let v126 : Index := Scalar.indexCast arg18
  let c0_57 : Index := 0#32
  let c0_58 : Index := 0#32
  ![v126.toNat, 0, 0]
@[reducible] def k0_t10_loop (v12 : BitVec 32) : Scf.Loop 32 :=
  let c0_i32_34 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v81 : BitVec 32 := Scalar.subi v30 c0_i32_34
  let c1_i32_35 : BitVec 32 := 1#32
  let v83 : BitVec 32 := Scalar.divsi v81 c1_i32_35
  let v84 : BitVec 32 := Scalar.muli v83 c1_i32_35
  let v85 : BitVec 32 := Scalar.addi c0_i32_34 v84
  let v82 : BitVec 32 := Scalar.addi c0_i32_34 v81
  let c1_i32_37 : BitVec 32 := 1#32
  ⟨v85, v82, c1_i32_37⟩
def k0_off32 (v12 : BitVec 32) (k0_t10 : Fin (k0_t10_loop v12).trips) : Fin 3 → Nat :=
  let c0_i32_34 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v81 : BitVec 32 := Scalar.subi v30 c0_i32_34
  let c1_i32_35 : BitVec 32 := 1#32
  let v83 : BitVec 32 := Scalar.divsi v81 c1_i32_35
  let v84 : BitVec 32 := Scalar.muli v83 c1_i32_35
  let v85 : BitVec 32 := Scalar.addi c0_i32_34 v84
  let c1_i32_37 : BitVec 32 := 1#32
  let arg18 : BitVec 32 := Scf.iv v85 c1_i32_37 k0_t10
  let v126 : Index := Scalar.indexCast arg18
  let c0_57 : Index := 0#32
  let c0_58 : Index := 0#32
  ![v126.toNat, 0, 0]
def k0_off33 (i : grid0.Coords) : Fin 3 → Nat :=
  let c0_39 : Index := 0#32
  let arg0 : BitVec 32 := BitVec.ofNat 32 (i 0).val
  let c2_i32_2 : BitVec 32 := 2#32
  let v8 : BitVec 32 := Scalar.remsi arg0 c2_i32_2
  let v94 : Index := Scalar.indexCast v8
  let c0_40 : Index := 0#32
  ![0, v94.toNat, 0]
@[reducible] def k0_t11_loop (v12 : BitVec 32) : Scf.Loop 32 :=
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_52 : BitVec 32 := 1#32
  ⟨c0_i32_50, v115, c1_i32_52⟩
def k0_off34 (v12 : BitVec 32) (k0_t11 : Fin (k0_t11_loop v12).trips) : Fin 3 → Nat :=
  let c0_i32_50 : BitVec 32 := 0#32
  let c1_i32_52 : BitVec 32 := 1#32
  let arg18 : BitVec 32 := Scf.iv c0_i32_50 c1_i32_52 k0_t11
  let v126 : Index := Scalar.indexCast arg18
  let c0_57 : Index := 0#32
  let c0_58 : Index := 0#32
  ![v126.toNat, 0, 0]
def k0_off35 (v12 : BitVec 32) (k0_t11 : Fin (k0_t11_loop v12).trips) : Fin 2 → Nat :=
  let c2_i32_59 : BitVec 32 := 2#32
  let c0_i32_50 : BitVec 32 := 0#32
  let c1_i32_52 : BitVec 32 := 1#32
  let arg18 : BitVec 32 := Scf.iv c0_i32_50 c1_i32_52 k0_t11
  let v131 : BitVec 32 := Scalar.muli c2_i32_59 arg18
  let v132 : Index := Scalar.indexCast v131
  let c0_60 : Index := 0#32
  ![v132.toNat, 0]
def k0_off36 (v12 : BitVec 32) (k0_t11 : Fin (k0_t11_loop v12).trips) : Fin 2 → Nat :=
  let c2_i32_61 : BitVec 32 := 2#32
  let c0_i32_50 : BitVec 32 := 0#32
  let c1_i32_52 : BitVec 32 := 1#32
  let arg18 : BitVec 32 := Scf.iv c0_i32_50 c1_i32_52 k0_t11
  let v134 : BitVec 32 := Scalar.muli c2_i32_61 arg18
  let c1_i32_62 : BitVec 32 := 1#32
  let v135 : BitVec 32 := Scalar.addi v134 c1_i32_62
  let v136 : Index := Scalar.indexCast v135
  let c0_63 : Index := 0#32
  ![v136.toNat, 0]
def k0_mult15 (v12 : BitVec 32) (k0_t11 : Fin (k0_t11_loop v12).trips) : BitVec 32 :=
  let c0_i32_50 : BitVec 32 := 0#32
  let c1_i32_52 : BitVec 32 := 1#32
  let arg18 : BitVec 32 := Scf.iv c0_i32_50 c1_i32_52 k0_t11
  let c64_i32 : BitVec 32 := 64#32
  let v149 : BitVec 32 := Scalar.muli arg18 c64_i32
  v149
def k0_off37 (i : grid0.Coords) (v12 : BitVec 32) (k0_t11 : Fin (k0_t11_loop v12).trips) : Fin 3 → Nat :=
  let arg0 : BitVec 32 := BitVec.ofNat 32 (i 0).val
  let c2_i32 : BitVec 32 := 2#32
  let v0 : BitVec 32 := Scalar.remsi arg0 c2_i32
  let v151 : Index := Scalar.indexCast v0
  let c0_i32_50 : BitVec 32 := 0#32
  let c1_i32_52 : BitVec 32 := 1#32
  let arg18 : BitVec 32 := Scf.iv c0_i32_50 c1_i32_52 k0_t11
  let c64_i32 : BitVec 32 := 64#32
  let v149 : BitVec 32 := Scalar.muli arg18 c64_i32
  let v150 : BitVec 32 := v149
  let v152 : Index := Scalar.indexCast v150
  let c0_66 : Index := 0#32
  ![v151.toNat, v152.toNat, 0]
@[reducible] def k0_t12_loop (v12 : BitVec 32) : Scf.Loop 32 :=
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let v112 : BitVec 32 := Scalar.addi c0_i32_50 v111
  let c1_i32_53 : BitVec 32 := 1#32
  ⟨v115, v112, c1_i32_53⟩
def k0_off38 (v12 : BitVec 32) (k0_t12 : Fin (k0_t12_loop v12).trips) : Fin 3 → Nat :=
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_53 : BitVec 32 := 1#32
  let arg18 : BitVec 32 := Scf.iv v115 c1_i32_53 k0_t12
  let v126 : Index := Scalar.indexCast arg18
  let c0_57 : Index := 0#32
  let c0_58 : Index := 0#32
  ![v126.toNat, 0, 0]
def k0_off39 (v12 : BitVec 32) (k0_t12 : Fin (k0_t12_loop v12).trips) : Fin 2 → Nat :=
  let c2_i32_59 : BitVec 32 := 2#32
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_53 : BitVec 32 := 1#32
  let arg18 : BitVec 32 := Scf.iv v115 c1_i32_53 k0_t12
  let v131 : BitVec 32 := Scalar.muli c2_i32_59 arg18
  let v132 : Index := Scalar.indexCast v131
  let c0_60 : Index := 0#32
  ![v132.toNat, 0]
def k0_off40 (v12 : BitVec 32) (k0_t12 : Fin (k0_t12_loop v12).trips) : Fin 2 → Nat :=
  let c2_i32_61 : BitVec 32 := 2#32
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_53 : BitVec 32 := 1#32
  let arg18 : BitVec 32 := Scf.iv v115 c1_i32_53 k0_t12
  let v134 : BitVec 32 := Scalar.muli c2_i32_61 arg18
  let c1_i32_62 : BitVec 32 := 1#32
  let v135 : BitVec 32 := Scalar.addi v134 c1_i32_62
  let v136 : Index := Scalar.indexCast v135
  let c0_63 : Index := 0#32
  ![v136.toNat, 0]
def k0_mult16 (v12 : BitVec 32) (k0_t12 : Fin (k0_t12_loop v12).trips) : BitVec 32 :=
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_53 : BitVec 32 := 1#32
  let arg18 : BitVec 32 := Scf.iv v115 c1_i32_53 k0_t12
  let c64_i32 : BitVec 32 := 64#32
  let v149 : BitVec 32 := Scalar.muli arg18 c64_i32
  v149
def k0_off41 (i : grid0.Coords) (v12 : BitVec 32) (k0_t12 : Fin (k0_t12_loop v12).trips) : Fin 3 → Nat :=
  let arg0 : BitVec 32 := BitVec.ofNat 32 (i 0).val
  let c2_i32 : BitVec 32 := 2#32
  let v0 : BitVec 32 := Scalar.remsi arg0 c2_i32
  let v151 : Index := Scalar.indexCast v0
  let c0_i32_50 : BitVec 32 := 0#32
  let c255_i32 : BitVec 32 := 255#32
  let v13 : BitVec 32 := Scalar.addi v12 c255_i32
  let c0_i32_5 : BitVec 32 := 0#32
  let v15 : BitVec 1 := Scalar.cmpi .sgt v13 c0_i32_5
  let v16 : BitVec 32 := Scalar.extui v15
  let c0_i32_6 : BitVec 32 := 0#32
  let v17 : BitVec 1 := Scalar.cmpi .slt v13 c0_i32_6
  let v18 : BitVec 32 := Scalar.extui v17
  let v19 : BitVec 32 := Scalar.subi v16 v18
  let c256_i32 : BitVec 32 := 256#32
  let c0_i32_7 : BitVec 32 := 0#32
  let v20 : BitVec 1 := Scalar.cmpi .sgt c256_i32 c0_i32_7
  let v21 : BitVec 32 := Scalar.extui v20
  let c0_i32_8 : BitVec 32 := 0#32
  let v22 : BitVec 1 := Scalar.cmpi .slt c256_i32 c0_i32_8
  let v23 : BitVec 32 := Scalar.extui v22
  let v24 : BitVec 32 := Scalar.subi v21 v23
  let v25 : BitVec 1 := Scalar.cmpi .ne v19 v24
  let v26 : BitVec 32 := Scalar.remsi v13 c256_i32
  let c0_i32_9 : BitVec 32 := 0#32
  let v27 : BitVec 1 := Scalar.cmpi .ne v26 c0_i32_9
  let v28 : BitVec 1 := Scalar.andi v25 v27
  let v14 : BitVec 32 := Scalar.divsi v13 c256_i32
  let c1_i32_10 : BitVec 32 := 1#32
  let v29 : BitVec 32 := Scalar.subi v14 c1_i32_10
  let v30 : BitVec 32 := Scalar.select v28 v29 v14
  let v111 : BitVec 32 := Scalar.subi v30 c0_i32_50
  let c1_i32_51 : BitVec 32 := 1#32
  let v113 : BitVec 32 := Scalar.divsi v111 c1_i32_51
  let v114 : BitVec 32 := Scalar.muli v113 c1_i32_51
  let v115 : BitVec 32 := Scalar.addi c0_i32_50 v114
  let c1_i32_53 : BitVec 32 := 1#32
  let arg18 : BitVec 32 := Scf.iv v115 c1_i32_53 k0_t12
  let c64_i32 : BitVec 32 := 64#32
  let v149 : BitVec 32 := Scalar.muli arg18 c64_i32
  let v150 : BitVec 32 := v149
  let v152 : Index := Scalar.indexCast v150
  let c0_66 : Index := 0#32
  ![v151.toNat, v152.toNat, 0]

def k0_chk3_0 (i : grid0.Coords) (v12 : BitVec 32) : Prop :=
  ((k0_t5_loop v12).OK) ∧
  (∀ k0_t5 : Fin (k0_t5_loop v12).trips, 64 ∣ (k0_mult9 i v12 k0_t5).toNat) ∧
  (∀ k0_t5 : Fin (k0_t5_loop v12).trips, 64 ∣ (k0_mult10 v12 k0_t5).toNat) ∧
  (∀ k0_t5 : Fin (k0_t5_loop v12).trips, ∀ a, (k0_off18 i v12 k0_t5) a + S1x64x128.size a ≤ S2x896x128.size a) ∧
  (∀ k0_t5 : Fin (k0_t5_loop v12).trips, ∀ a, (k0_off19 i v12 k0_t5) a + S64x128.size a ≤ S100352x128.size a) ∧
  ((k0_t6_loop v12).OK) ∧
  (∀ k0_t6 : Fin (k0_t6_loop v12).trips, 64 ∣ (k0_mult11 i v12 k0_t6).toNat) ∧
  (∀ k0_t6 : Fin (k0_t6_loop v12).trips, 64 ∣ (k0_mult12 v12 k0_t6).toNat) ∧
  (∀ k0_t6 : Fin (k0_t6_loop v12).trips, ∀ a, (k0_off21 i v12 k0_t6) a + S1x64x128.size a ≤ S2x896x128.size a) ∧
  (∀ k0_t6 : Fin (k0_t6_loop v12).trips, ∀ a, (k0_off22 i v12 k0_t6) a + S64x128.size a ≤ S100352x128.size a) ∧
  ((k0_t7_loop v12).OK) ∧
  (∀ k0_t7 : Fin (k0_t7_loop v12).trips, 64 ∣ (k0_mult13 v12 k0_t7).toNat) ∧
  (∀ k0_t7 : Fin (k0_t7_loop v12).trips, ∀ a, (k0_off23 i v12 k0_t7) a + S1x64x128.size a ≤ S2x896x128.size a) ∧
  (∀ k0_t7 : Fin (k0_t7_loop v12).trips, ∀ a, (k0_off24 v12 k0_t7) a + S1x128.size a ≤ S32x128.size a) ∧
  (∀ k0_t7 : Fin (k0_t7_loop v12).trips, ∀ a, (k0_off25 v12 k0_t7) a + S1x128.size a ≤ S32x128.size a) ∧
  (∀ k0_t7 : Fin (k0_t7_loop v12).trips, ∀ a, (k0_off26 v12 k0_t7) a + S1x8x256.size a ≤ S14x8x256.size a) ∧
  ((k0_t8_loop v12).OK) ∧
  (∀ k0_t8 : Fin (k0_t8_loop v12).trips, 64 ∣ (k0_mult14 v12 k0_t8).toNat) ∧
  (∀ k0_t8 : Fin (k0_t8_loop v12).trips, ∀ a, (k0_off27 i v12 k0_t8) a + S1x64x128.size a ≤ S2x896x128.size a) ∧
  (∀ k0_t8 : Fin (k0_t8_loop v12).trips, ∀ a, (k0_off28 v12 k0_t8) a + S1x128.size a ≤ S32x128.size a) ∧
  (∀ k0_t8 : Fin (k0_t8_loop v12).trips, ∀ a, (k0_off29 v12 k0_t8) a + S1x128.size a ≤ S32x128.size a) ∧
  (∀ k0_t8 : Fin (k0_t8_loop v12).trips, ∀ a, (k0_off30 v12 k0_t8) a + S1x8x256.size a ≤ S14x8x256.size a) ∧
  ((k0_t9_loop v12).OK) ∧
  (∀ k0_t9 : Fin (k0_t9_loop v12).trips, ∀ a, (k0_off31 v12 k0_t9) a + S1x8x256.size a ≤ S14x8x256.size a) ∧
  ((k0_t10_loop v12).OK) ∧
  (∀ k0_t10 : Fin (k0_t10_loop v12).trips, ∀ a, (k0_off32 v12 k0_t10) a + S1x8x256.size a ≤ S14x8x256.size a) ∧
  ((k0_t11_loop v12).OK) ∧
  (∀ k0_t11 : Fin (k0_t11_loop v12).trips, ∀ a, (k0_off34 v12 k0_t11) a + S1x8x256.size a ≤ S14x8x256.size a) ∧
  (∀ k0_t11 : Fin (k0_t11_loop v12).trips, ∀ a, (k0_off35 v12 k0_t11) a + S1x128.size a ≤ S32x128.size a) ∧
  (∀ k0_t11 : Fin (k0_t11_loop v12).trips, ∀ a, (k0_off36 v12 k0_t11) a + S1x128.size a ≤ S32x128.size a) ∧
  (∀ k0_t11 : Fin (k0_t11_loop v12).trips, 64 ∣ (k0_mult15 v12 k0_t11).toNat) ∧
  (∀ k0_t11 : Fin (k0_t11_loop v12).trips, ∀ a, (k0_off37 i v12 k0_t11) a + S1x64x128.size a ≤ S2x896x128.size a)
def k0_chk3_1 (i : grid0.Coords) (v12 : BitVec 32) : Prop :=
  ((k0_t12_loop v12).OK) ∧
  (∀ k0_t12 : Fin (k0_t12_loop v12).trips, ∀ a, (k0_off38 v12 k0_t12) a + S1x8x256.size a ≤ S14x8x256.size a) ∧
  (∀ k0_t12 : Fin (k0_t12_loop v12).trips, ∀ a, (k0_off39 v12 k0_t12) a + S1x128.size a ≤ S32x128.size a) ∧
  (∀ k0_t12 : Fin (k0_t12_loop v12).trips, ∀ a, (k0_off40 v12 k0_t12) a + S1x128.size a ≤ S32x128.size a) ∧
  (∀ k0_t12 : Fin (k0_t12_loop v12).trips, 64 ∣ (k0_mult16 v12 k0_t12).toNat) ∧
  (∀ k0_t12 : Fin (k0_t12_loop v12).trips, ∀ a, (k0_off41 i v12 k0_t12) a + S1x64x128.size a ≤ S2x896x128.size a)
def k0_chk3 (i : grid0.Coords) (v12 : BitVec 32) : Prop :=
  k0_chk3_0 i v12 ∧
  k0_chk3_1 i v12
theorem k0_t5_ok : ∀ (i : grid0.Coords) (v12 : BitVec 32) (k0_hw3 : k0_chk3 i v12), (k0_t5_loop v12).OK := fun i v12 k0_hw3 => k0_hw3.1.1
theorem k0_mult9_dvd : ∀ (i : grid0.Coords) (v12 : BitVec 32) (k0_hw3 : k0_chk3 i v12) (k0_t5 : Fin (k0_t5_loop v12).trips), 64 ∣ (k0_mult9 i v12 k0_t5).toNat := fun i v12 k0_hw3 k0_t5 => k0_hw3.1.2.1 k0_t5
theorem k0_mult10_dvd : ∀ (i : grid0.Coords) (v12 : BitVec 32) (k0_hw3 : k0_chk3 i v12) (k0_t5 : Fin (k0_t5_loop v12).trips), 64 ∣ (k0_mult10 v12 k0_t5).toNat := fun i v12 k0_hw3 k0_t5 => k0_hw3.1.2.2.1 k0_t5
theorem k0_off18_inb : ∀ (i : grid0.Coords) (v12 : BitVec 32) (k0_hw3 : k0_chk3 i v12) (k0_t5 : Fin (k0_t5_loop v12).trips), ∀ a, (k0_off18 i v12 k0_t5) a + S1x64x128.size a ≤ S2x896x128.size a := fun i v12 k0_hw3 k0_t5 => k0_hw3.1.2.2.2.1 k0_t5
theorem k0_off19_inb : ∀ (i : grid0.Coords) (v12 : BitVec 32) (k0_hw3 : k0_chk3 i v12) (k0_t5 : Fin (k0_t5_loop v12).trips), ∀ a, (k0_off19 i v12 k0_t5) a + S64x128.size a ≤ S100352x128.size a := fun i v12 k0_hw3 k0_t5 => k0_hw3.1.2.2.2.2.1 k0_t5
theorem k0_t6_ok : ∀ (i : grid0.Coords) (v12 : BitVec 32) (k0_hw3 : k0_chk3 i v12), (k0_t6_loop v12).OK := fun i v12 k0_hw3 => k0_hw3.1.2.2.2.2.2.1
theorem k0_mult11_dvd : ∀ (i : grid0.Coords) (v12 : BitVec 32) (k0_hw3 : k0_chk3 i v12) (k0_t6 : Fin (k0_t6_loop v12).trips), 64 ∣ (k0_mult11 i v12 k0_t6).toNat := fun i v12 k0_hw3 k0_t6 => k0_hw3.1.2.2.2.2.2.2.1 k0_t6
theorem k0_mult12_dvd : ∀ (i : grid0.Coords) (v12 : BitVec 32) (k0_hw3 : k0_chk3 i v12) (k0_t6 : Fin (k0_t6_loop v12).trips), 64 ∣ (k0_mult12 v12 k0_t6).toNat := fun i v12 k0_hw3 k0_t6 => k0_hw3.1.2.2.2.2.2.2.2.1 k0_t6
theorem k0_off21_inb : ∀ (i : grid0.Coords) (v12 : BitVec 32) (k0_hw3 : k0_chk3 i v12) (k0_t6 : Fin (k0_t6_loop v12).trips), ∀ a, (k0_off21 i v12 k0_t6) a + S1x64x128.size a ≤ S2x896x128.size a := fun i v12 k0_hw3 k0_t6 => k0_hw3.1.2.2.2.2.2.2.2.2.1 k0_t6
theorem k0_off22_inb : ∀ (i : grid0.Coords) (v12 : BitVec 32) (k0_hw3 : k0_chk3 i v12) (k0_t6 : Fin (k0_t6_loop v12).trips), ∀ a, (k0_off22 i v12 k0_t6) a + S64x128.size a ≤ S100352x128.size a := fun i v12 k0_hw3 k0_t6 => k0_hw3.1.2.2.2.2.2.2.2.2.2.1 k0_t6
theorem k0_t7_ok : ∀ (i : grid0.Coords) (v12 : BitVec 32) (k0_hw3 : k0_chk3 i v12), (k0_t7_loop v12).OK := fun i v12 k0_hw3 => k0_hw3.1.2.2.2.2.2.2.2.2.2.2.1
theorem k0_mult13_dvd : ∀ (i : grid0.Coords) (v12 : BitVec 32) (k0_hw3 : k0_chk3 i v12) (k0_t7 : Fin (k0_t7_loop v12).trips), 64 ∣ (k0_mult13 v12 k0_t7).toNat := fun i v12 k0_hw3 k0_t7 => k0_hw3.1.2.2.2.2.2.2.2.2.2.2.2.1 k0_t7
theorem k0_off23_inb : ∀ (i : grid0.Coords) (v12 : BitVec 32) (k0_hw3 : k0_chk3 i v12) (k0_t7 : Fin (k0_t7_loop v12).trips), ∀ a, (k0_off23 i v12 k0_t7) a + S1x64x128.size a ≤ S2x896x128.size a := fun i v12 k0_hw3 k0_t7 => k0_hw3.1.2.2.2.2.2.2.2.2.2.2.2.2.1 k0_t7
theorem k0_off24_inb : ∀ (i : grid0.Coords) (v12 : BitVec 32) (k0_hw3 : k0_chk3 i v12) (k0_t7 : Fin (k0_t7_loop v12).trips), ∀ a, (k0_off24 v12 k0_t7) a + S1x128.size a ≤ S32x128.size a := fun i v12 k0_hw3 k0_t7 => k0_hw3.1.2.2.2.2.2.2.2.2.2.2.2.2.2.1 k0_t7
theorem k0_off25_inb : ∀ (i : grid0.Coords) (v12 : BitVec 32) (k0_hw3 : k0_chk3 i v12) (k0_t7 : Fin (k0_t7_loop v12).trips), ∀ a, (k0_off25 v12 k0_t7) a + S1x128.size a ≤ S32x128.size a := fun i v12 k0_hw3 k0_t7 => k0_hw3.1.2.2.2.2.2.2.2.2.2.2.2.2.2.2.1 k0_t7
theorem k0_off26_inb : ∀ (i : grid0.Coords) (v12 : BitVec 32) (k0_hw3 : k0_chk3 i v12) (k0_t7 : Fin (k0_t7_loop v12).trips), ∀ a, (k0_off26 v12 k0_t7) a + S1x8x256.size a ≤ S14x8x256.size a := fun i v12 k0_hw3 k0_t7 => k0_hw3.1.2.2.2.2.2.2.2.2.2.2.2.2.2.2.2.1 k0_t7
theorem k0_t8_ok : ∀ (i : grid0.Coords) (v12 : BitVec 32) (k0_hw3 : k0_chk3 i v12), (k0_t8_loop v12).OK := fun i v12 k0_hw3 => k0_hw3.1.2.2.2.2.2.2.2.2.2.2.2.2.2.2.2.2.1
theorem k0_mult14_dvd : ∀ (i : grid0.Coords) (v12 : BitVec 32) (k0_hw3 : k0_chk3 i v12) (k0_t8 : Fin (k0_t8_loop v12).trips), 64 ∣ (k0_mult14 v12 k0_t8).toNat := fun i v12 k0_hw3 k0_t8 => k0_hw3.1.2.2.2.2.2.2.2.2.2.2.2.2.2.2.2.2.2.1 k0_t8
theorem k0_off27_inb : ∀ (i : grid0.Coords) (v12 : BitVec 32) (k0_hw3 : k0_chk3 i v12) (k0_t8 : Fin (k0_t8_loop v12).trips), ∀ a, (k0_off27 i v12 k0_t8) a + S1x64x128.size a ≤ S2x896x128.size a := fun i v12 k0_hw3 k0_t8 => k0_hw3.1.2.2.2.2.2.2.2.2.2.2.2.2.2.2.2.2.2.2.1 k0_t8
theorem k0_off28_inb : ∀ (i : grid0.Coords) (v12 : BitVec 32) (k0_hw3 : k0_chk3 i v12) (k0_t8 : Fin (k0_t8_loop v12).trips), ∀ a, (k0_off28 v12 k0_t8) a + S1x128.size a ≤ S32x128.size a := fun i v12 k0_hw3 k0_t8 => k0_hw3.1.2.2.2.2.2.2.2.2.2.2.2.2.2.2.2.2.2.2.2.1 k0_t8
theorem k0_off29_inb : ∀ (i : grid0.Coords) (v12 : BitVec 32) (k0_hw3 : k0_chk3 i v12) (k0_t8 : Fin (k0_t8_loop v12).trips), ∀ a, (k0_off29 v12 k0_t8) a + S1x128.size a ≤ S32x128.size a := fun i v12 k0_hw3 k0_t8 => k0_hw3.1.2.2.2.2.2.2.2.2.2.2.2.2.2.2.2.2.2.2.2.2.1 k0_t8
theorem k0_off30_inb : ∀ (i : grid0.Coords) (v12 : BitVec 32) (k0_hw3 : k0_chk3 i v12) (k0_t8 : Fin (k0_t8_loop v12).trips), ∀ a, (k0_off30 v12 k0_t8) a + S1x8x256.size a ≤ S14x8x256.size a := fun i v12 k0_hw3 k0_t8 => k0_hw3.1.2.2.2.2.2.2.2.2.2.2.2.2.2.2.2.2.2.2.2.2.2.1 k0_t8
theorem k0_t9_ok : ∀ (i : grid0.Coords) (v12 : BitVec 32) (k0_hw3 : k0_chk3 i v12), (k0_t9_loop v12).OK := fun i v12 k0_hw3 => k0_hw3.1.2.2.2.2.2.2.2.2.2.2.2.2.2.2.2.2.2.2.2.2.2.2.1
theorem k0_off31_inb : ∀ (i : grid0.Coords) (v12 : BitVec 32) (k0_hw3 : k0_chk3 i v12) (k0_t9 : Fin (k0_t9_loop v12).trips), ∀ a, (k0_off31 v12 k0_t9) a + S1x8x256.size a ≤ S14x8x256.size a := fun i v12 k0_hw3 k0_t9 => k0_hw3.1.2.2.2.2.2.2.2.2.2.2.2.2.2.2.2.2.2.2.2.2.2.2.2.1 k0_t9
theorem k0_t10_ok : ∀ (i : grid0.Coords) (v12 : BitVec 32) (k0_hw3 : k0_chk3 i v12), (k0_t10_loop v12).OK := fun i v12 k0_hw3 => k0_hw3.1.2.2.2.2.2.2.2.2.2.2.2.2.2.2.2.2.2.2.2.2.2.2.2.2.1
theorem k0_off32_inb : ∀ (i : grid0.Coords) (v12 : BitVec 32) (k0_hw3 : k0_chk3 i v12) (k0_t10 : Fin (k0_t10_loop v12).trips), ∀ a, (k0_off32 v12 k0_t10) a + S1x8x256.size a ≤ S14x8x256.size a := fun i v12 k0_hw3 k0_t10 => k0_hw3.1.2.2.2.2.2.2.2.2.2.2.2.2.2.2.2.2.2.2.2.2.2.2.2.2.2.1 k0_t10
theorem k0_t11_ok : ∀ (i : grid0.Coords) (v12 : BitVec 32) (k0_hw3 : k0_chk3 i v12), (k0_t11_loop v12).OK := fun i v12 k0_hw3 => k0_hw3.1.2.2.2.2.2.2.2.2.2.2.2.2.2.2.2.2.2.2.2.2.2.2.2.2.2.2.1
theorem k0_off34_inb : ∀ (i : grid0.Coords) (v12 : BitVec 32) (k0_hw3 : k0_chk3 i v12) (k0_t11 : Fin (k0_t11_loop v12).trips), ∀ a, (k0_off34 v12 k0_t11) a + S1x8x256.size a ≤ S14x8x256.size a := fun i v12 k0_hw3 k0_t11 => k0_hw3.1.2.2.2.2.2.2.2.2.2.2.2.2.2.2.2.2.2.2.2.2.2.2.2.2.2.2.2.1 k0_t11
theorem k0_off35_inb : ∀ (i : grid0.Coords) (v12 : BitVec 32) (k0_hw3 : k0_chk3 i v12) (k0_t11 : Fin (k0_t11_loop v12).trips), ∀ a, (k0_off35 v12 k0_t11) a + S1x128.size a ≤ S32x128.size a := fun i v12 k0_hw3 k0_t11 => k0_hw3.1.2.2.2.2.2.2.2.2.2.2.2.2.2.2.2.2.2.2.2.2.2.2.2.2.2.2.2.2.1 k0_t11
theorem k0_off36_inb : ∀ (i : grid0.Coords) (v12 : BitVec 32) (k0_hw3 : k0_chk3 i v12) (k0_t11 : Fin (k0_t11_loop v12).trips), ∀ a, (k0_off36 v12 k0_t11) a + S1x128.size a ≤ S32x128.size a := fun i v12 k0_hw3 k0_t11 => k0_hw3.1.2.2.2.2.2.2.2.2.2.2.2.2.2.2.2.2.2.2.2.2.2.2.2.2.2.2.2.2.2.1 k0_t11
theorem k0_mult15_dvd : ∀ (i : grid0.Coords) (v12 : BitVec 32) (k0_hw3 : k0_chk3 i v12) (k0_t11 : Fin (k0_t11_loop v12).trips), 64 ∣ (k0_mult15 v12 k0_t11).toNat := fun i v12 k0_hw3 k0_t11 => k0_hw3.1.2.2.2.2.2.2.2.2.2.2.2.2.2.2.2.2.2.2.2.2.2.2.2.2.2.2.2.2.2.2.1 k0_t11
theorem k0_off37_inb : ∀ (i : grid0.Coords) (v12 : BitVec 32) (k0_hw3 : k0_chk3 i v12) (k0_t11 : Fin (k0_t11_loop v12).trips), ∀ a, (k0_off37 i v12 k0_t11) a + S1x64x128.size a ≤ S2x896x128.size a := fun i v12 k0_hw3 k0_t11 => k0_hw3.1.2.2.2.2.2.2.2.2.2.2.2.2.2.2.2.2.2.2.2.2.2.2.2.2.2.2.2.2.2.2.2 k0_t11
theorem k0_t12_ok : ∀ (i : grid0.Coords) (v12 : BitVec 32) (k0_hw3 : k0_chk3 i v12), (k0_t12_loop v12).OK := fun i v12 k0_hw3 => k0_hw3.2.1
theorem k0_off38_inb : ∀ (i : grid0.Coords) (v12 : BitVec 32) (k0_hw3 : k0_chk3 i v12) (k0_t12 : Fin (k0_t12_loop v12).trips), ∀ a, (k0_off38 v12 k0_t12) a + S1x8x256.size a ≤ S14x8x256.size a := fun i v12 k0_hw3 k0_t12 => k0_hw3.2.2.1 k0_t12
theorem k0_off39_inb : ∀ (i : grid0.Coords) (v12 : BitVec 32) (k0_hw3 : k0_chk3 i v12) (k0_t12 : Fin (k0_t12_loop v12).trips), ∀ a, (k0_off39 v12 k0_t12) a + S1x128.size a ≤ S32x128.size a := fun i v12 k0_hw3 k0_t12 => k0_hw3.2.2.2.1 k0_t12
theorem k0_off40_inb : ∀ (i : grid0.Coords) (v12 : BitVec 32) (k0_hw3 : k0_chk3 i v12) (k0_t12 : Fin (k0_t12_loop v12).trips), ∀ a, (k0_off40 v12 k0_t12) a + S1x128.size a ≤ S32x128.size a := fun i v12 k0_hw3 k0_t12 => k0_hw3.2.2.2.2.1 k0_t12
theorem k0_mult16_dvd : ∀ (i : grid0.Coords) (v12 : BitVec 32) (k0_hw3 : k0_chk3 i v12) (k0_t12 : Fin (k0_t12_loop v12).trips), 64 ∣ (k0_mult16 v12 k0_t12).toNat := fun i v12 k0_hw3 k0_t12 => k0_hw3.2.2.2.2.2.1 k0_t12
theorem k0_off41_inb : ∀ (i : grid0.Coords) (v12 : BitVec 32) (k0_hw3 : k0_chk3 i v12) (k0_t12 : Fin (k0_t12_loop v12).trips), ∀ a, (k0_off41 i v12 k0_t12) a + S1x64x128.size a ≤ S2x896x128.size a := fun i v12 k0_hw3 k0_t12 => k0_hw3.2.2.2.2.2.2 k0_t12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S128 : Shape := ⟨1, ![128]⟩
abbrev S112x8x128 : Shape := ⟨3, ![112, 8, 128]⟩
abbrev S56x1x2x128 : Shape := ⟨4, ![56, 1, 2, 128]⟩
abbrev S112x256x128 : Shape := ⟨3, ![112, 256, 128]⟩
abbrev S56x2x256 : Shape := ⟨3, ![56, 2, 256]⟩
abbrev S3584x128 : Shape := ⟨2, ![3584, 128]⟩
abbrev S100352x128 : Shape := ⟨2, ![100352, 128]⟩
abbrev S56x2x256x128 : Shape := ⟨4, ![56, 2, 256, 128]⟩
abbrev S4 : Shape := ⟨1, ![4]⟩
abbrev S_ : Shape := ⟨0, ![]⟩
abbrev S56x2x896x1x128 : Shape := ⟨5, ![56, 2, 896, 1, 128]⟩
abbrev S4x1 : Shape := ⟨2, ![4, 1]⟩
abbrev S1x1x1x4x1 : Shape := ⟨5, ![1, 1, 1, 4, 1]⟩
abbrev S56x2x896x4x128 : Shape := ⟨5, ![56, 2, 896, 4, 128]⟩
abbrev S56x2x3584x128 : Shape := ⟨4, ![56, 2, 3584, 128]⟩
abbrev S56x2x4096 : Shape := ⟨3, ![56, 2, 4096]⟩
abbrev S56x2x3584 : Shape := ⟨3, ![56, 2, 3584]⟩
abbrev S3584 : Shape := ⟨1, ![3584]⟩
abbrev S112 : Shape := ⟨1, ![112]⟩
abbrev S56x2 : Shape := ⟨2, ![56, 2]⟩
abbrev S56x2x1 : Shape := ⟨3, ![56, 2, 1]⟩
abbrev S1x1x3584 : Shape := ⟨3, ![1, 1, 3584]⟩
abbrev S56x2x8x128 : Shape := ⟨4, ![56, 2, 8, 128]⟩
abbrev S56x2x8x3584 : Shape := ⟨4, ![56, 2, 8, 3584]⟩
abbrev S56x2x1x3584 : Shape := ⟨4, ![56, 2, 1, 3584]⟩
abbrev S56x2x8x256 : Shape := ⟨4, ![56, 2, 8, 256]⟩
abbrev S56x2x1x256 : Shape := ⟨4, ![56, 2, 1, 256]⟩
abbrev S56x2x128 : Shape := ⟨3, ![56, 2, 128]⟩
abbrev S56x2x8 : Shape := ⟨3, ![56, 2, 8]⟩
abbrev S56x2x8x1 : Shape := ⟨4, ![56, 2, 8, 1]⟩
abbrev S56x2x1x128 : Shape := ⟨4, ![56, 2, 1, 128]⟩

abbrev nBuf : Space → Nat
  | .hbm => 154
  | .vmem => 4
  | .smem => 0
  | _ => 0

abbrev hbmTy0_0 (i : Nat) : BufTy := match i % 128 with
  | 0 => ⟨S128, .i32⟩
  | 1 => ⟨S112x8x128, .bf16⟩
  | 2 => ⟨S56x1x2x128, .bf16⟩
  | 3 => ⟨S56x1x2x128, .bf16⟩
  | 4 => ⟨S112x256x128, .fp8e4m3⟩
  | 5 => ⟨S112x256x128, .fp8e4m3⟩
  | 6 => ⟨S56x2x256, .f32⟩
  | 7 => ⟨S56x2x256, .f32⟩
  | 8 => ⟨S3584x128, .f32⟩
  | 9 => ⟨S3584x128, .f32⟩
  | 10 => ⟨S100352x128, .i32⟩
  | 11 => ⟨S100352x128, .i32⟩
  | 12 => ⟨S112x256x128, .bf16⟩
  | 13 => ⟨S112x256x128, .bf16⟩
  | 14 => ⟨S56x2x256x128, .bf16⟩
  | 15 => ⟨S56x2x256x128, .bf16⟩
  | 16 => ⟨S4, .i32⟩
  | 17 => ⟨S_, .i32⟩
  | 18 => ⟨S4, .i32⟩
  | 19 => ⟨S4, .i32⟩
  | 20 => ⟨S56x2x896x1x128, .i32⟩
  | 21 => ⟨S4x1, .i32⟩
  | 22 => ⟨S1x1x1x4x1, .i32⟩
  | 23 => ⟨S56x2x896x4x128, .i32⟩
  | 24 => ⟨S56x2x896x4x128, .i32⟩
  | 25 => ⟨S56x2x896x4x128, .i32⟩
  | 26 => ⟨S_, .i32⟩
  | 27 => ⟨S56x2x896x4x128, .i32⟩
  | 28 => ⟨S56x2x896x4x128, .i32⟩
  | 29 => ⟨S_, .i32⟩
  | 30 => ⟨S56x2x896x4x128, .i32⟩
  | 31 => ⟨S56x2x896x4x128, .i32⟩
  | 32 => ⟨S_, .i32⟩
  | 33 => ⟨S56x2x896x4x128, .i32⟩
  | 34 => ⟨S56x2x896x4x128, .i32⟩
  | 35 => ⟨S56x2x3584x128, .i32⟩
  | 36 => ⟨S56x2x3584x128, .f32⟩
  | 37 => ⟨S56x2x3584x128, .bf16⟩
  | 38 => ⟨S4, .i32⟩
  | 39 => ⟨S_, .i32⟩
  | 40 => ⟨S4, .i32⟩
  | 41 => ⟨S4, .i32⟩
  | 42 => ⟨S56x2x896x1x128, .i32⟩
  | 43 => ⟨S4x1, .i32⟩
  | 44 => ⟨S1x1x1x4x1, .i32⟩
  | 45 => ⟨S56x2x896x4x128, .i32⟩
  | 46 => ⟨S56x2x896x4x128, .i32⟩
  | 47 => ⟨S56x2x896x4x128, .i32⟩
  | 48 => ⟨S_, .i32⟩
  | 49 => ⟨S56x2x896x4x128, .i32⟩
  | 50 => ⟨S56x2x896x4x128, .i32⟩
  | 51 => ⟨S_, .i32⟩
  | 52 => ⟨S56x2x896x4x128, .i32⟩
  | 53 => ⟨S56x2x896x4x128, .i32⟩
  | 54 => ⟨S_, .i32⟩
  | 55 => ⟨S56x2x896x4x128, .i32⟩
  | 56 => ⟨S56x2x896x4x128, .i32⟩
  | 57 => ⟨S56x2x3584x128, .i32⟩
  | 58 => ⟨S56x2x3584x128, .f32⟩
  | 59 => ⟨S56x2x3584x128, .bf16⟩
  | 60 => ⟨S56x2x4096, .f32⟩
  | 61 => ⟨S56x2x3584, .f32⟩
  | 62 => ⟨S56x2x4096, .f32⟩
  | 63 => ⟨S56x2x3584, .f32⟩
  | 64 => ⟨S3584, .i32⟩
  | 65 => ⟨S112, .i32⟩
  | 66 => ⟨S56x2, .i32⟩
  | 67 => ⟨S56x2x1, .i32⟩
  | 68 => ⟨S1x1x3584, .i32⟩
  | 69 => ⟨S56x2x3584, .i32⟩
  | 70 => ⟨S56x2x3584, .i32⟩
  | 71 => ⟨S56x2x3584, .i1⟩
  | 72 => ⟨S56x2x8x128, .bf16⟩
  | 73 => ⟨S56x2x8x3584, .f32⟩
  | 74 => ⟨S56x2x1x3584, .f32⟩
  | 75 => ⟨S56x2x8x3584, .f32⟩
  | 76 => ⟨S56x2x8x3584, .f32⟩
  | 77 => ⟨S_, .f32⟩
  | 78 => ⟨S56x2x8x3584, .f32⟩
  | 79 => ⟨S56x2x8x3584, .f32⟩
  | 80 => ⟨S56x2x1x3584, .i1⟩
  | 81 => ⟨S_, .f32⟩
  | 82 => ⟨S_, .f32⟩
  | 83 => ⟨S56x2x8x3584, .i1⟩
  | 84 => ⟨S56x2x8x3584, .f32⟩
  | 85 => ⟨S56x2x8x3584, .f32⟩
  | 86 => ⟨S56x2x8x256, .f32⟩
  | 87 => ⟨S56x2x1x256, .f32⟩
  | 88 => ⟨S56x2x8x256, .f32⟩
  | 89 => ⟨S56x2x8x256, .f32⟩
  | 90 => ⟨S_, .f32⟩
  | 91 => ⟨S56x2x8x256, .f32⟩
  | 92 => ⟨S56x2x8x256, .f32⟩
  | 93 => ⟨S56x2x128, .bf16⟩
  | 94 => ⟨S56x2x8, .f32⟩
  | 95 => ⟨S_, .f32⟩
  | 96 => ⟨S56x2x8, .f32⟩
  | 97 => ⟨S56x2x8, .f32⟩
  | 98 => ⟨S_, .f32⟩
  | 99 => ⟨S56x2x8, .f32⟩
  | 100 => ⟨S_, .f32⟩
  | 101 => ⟨S56x2x8, .f32⟩
  | 102 => ⟨S56x2x8, .f32⟩
  | 103 => ⟨S56x2x8, .f32⟩
  | 104 => ⟨S56x2x8x1, .f32⟩
  | 105 => ⟨S56x2x8x3584, .f32⟩
  | 106 => ⟨S56x2x8x3584, .f32⟩
  | 107 => ⟨S56x2x8x3584, .f32⟩
  | 108 => ⟨S56x2x8x1, .f32⟩
  | 109 => ⟨S56x2x8x256, .f32⟩
  | 110 => ⟨S56x2x8x256, .f32⟩
  | 111 => ⟨S56x2x8x256, .f32⟩
  | 112 => ⟨S56x2x8, .f32⟩
  | 113 => ⟨S56x2x8, .f32⟩
  | 114 => ⟨S_, .f32⟩
  | 115 => ⟨S56x2x8, .f32⟩
  | 116 => ⟨S_, .f32⟩
  | 117 => ⟨S56x2x8, .f32⟩
  | 118 => ⟨S56x2x8, .f32⟩
  | 119 => ⟨S56x2x8, .f32⟩
  | 120 => ⟨S56x2x1x3584, .i1⟩
  | 121 => ⟨S56x2x8x1, .f32⟩
  | 122 => ⟨S56x2x8x3584, .f32⟩
  | 123 => ⟨S56x2x8x3584, .f32⟩
  | 124 => ⟨S_, .f32⟩
  | 125 => ⟨S_, .f32⟩
  | 126 => ⟨S56x2x8x3584, .i1⟩
  | 127 => ⟨S56x2x8x3584, .f32⟩
  | _ => ⟨S128, .i32⟩

abbrev hbmTy0_1 (i : Nat) : BufTy := match i % 128 with
  | 0 => ⟨S56x2x8x3584, .f32⟩
  | 1 => ⟨S56x2x8x1, .f32⟩
  | 2 => ⟨S56x2x8x256, .f32⟩
  | 3 => ⟨S56x2x8x256, .f32⟩
  | 4 => ⟨S56x2x8, .f32⟩
  | 5 => ⟨S56x2x1x3584, .f32⟩
  | 6 => ⟨S56x2x8x3584, .f32⟩
  | 7 => ⟨S56x2x8x3584, .f32⟩
  | 8 => ⟨S56x2x8x3584, .bf16⟩
  | 9 => ⟨S56x2x8x128, .f32⟩
  | 10 => ⟨S56x2x1x256, .f32⟩
  | 11 => ⟨S56x2x8x256, .f32⟩
  | 12 => ⟨S56x2x8x256, .f32⟩
  | 13 => ⟨S56x2x8x256, .bf16⟩
  | 14 => ⟨S56x2x8x128, .f32⟩
  | 15 => ⟨S56x2x8x128, .f32⟩
  | 16 => ⟨S56x2x8x1, .f32⟩
  | 17 => ⟨S56x2x128, .bf16⟩
  | 18 => ⟨S56x2x1x128, .bf16⟩
  | 19 => ⟨S56x2x1x128, .f32⟩
  | 20 => ⟨S56x2x8x128, .f32⟩
  | 21 => ⟨S56x2x8x128, .f32⟩
  | 22 => ⟨S56x2x8x128, .f32⟩
  | 23 => ⟨S56x2x8x128, .f32⟩
  | 24 => ⟨S56x2x8x128, .bf16⟩
  | 25 => ⟨S112x8x128, .bf16⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | .local _ .vmem, ⟨0, _⟩ => ⟨S112x256x128, .fp8e4m3⟩
  | .local _ .vmem, ⟨1, _⟩ => ⟨S112x256x128, .fp8e4m3⟩
  | .local _ .vmem, ⟨2, _⟩ => ⟨S112x256x128, .bf16⟩
  | .local _ .vmem, ⟨3, _⟩ => ⟨S112x256x128, .bf16⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_12 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_14 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S112x256x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x256x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Words.lean ====
/-
  Hand-written, untrusted. The words of the kernel: how many chunks of 64 rows a total asks for, that every
  loop over chunks runs that often, that each loop's remainder makes no trip, and the kernel's own checks,
  from one bound on the total read from the table.
-/
module

public import proofs.«01_k».proof.Proof.Gen.Kernel.Launch
public import proofs.«01_k».proof.Proof.Gen.Kernel.Skeleton
public import Idealize.ShloMosaic.Lib.Affine
public import Idealize.ShloMosaic.Lib.LoopRemainder
public import Idealize.ShloMosaic.Lib.WordArith

@[expose] public section

set_option maxRecDepth 16384

noncomputable section

namespace Cert.Kernel.Hand

open Cert.Kernel Cert.Kernel.Gen
open Idealize.ShloMosaic Idealize.ShloMosaic.Affine

/-- The number of chunks of 256 tokens that a total `v` covers (none when it is not positive). -/
def nOf (v : BitVec 32) : ℕ := ((v.toInt + 255) / 256).toNat

/-- A total within the budget covers at most the 14 chunks of a slot. -/
theorem nOf_le {v : BitVec 32} (h : v.toInt ≤ 3584) : nOf v ≤ 14 := by unfold nOf; omega

theorem lit (n : Nat) (h : n < 2 ^ 31 := by decide) : IsInt (BitVec.ofNat 32 n) (n : Int) := ofNat n ⟨rfl, h⟩

theorem of_isInt {x : BitVec 32} {e : Int} (h : IsInt x e) : x.toInt = e := by unfold IsInt at h; exact h
theorem to_isInt {x : BitVec 32} {e : Int} (h : x.toInt = e) : IsInt x e := by unfold IsInt; exact h

/-- The count of chunks as the kernel computes it: the floor division of `v + 255` by 256. -/
@[reducible] def chunksW (v : BitVec 32) : BitVec 32 :=
  let x : BitVec 32 := Scalar.addi v 255#32
  let s2 : BitVec 32 := Scalar.subi (Scalar.extui (Scalar.cmpi .sgt x 0#32)) (Scalar.extui (Scalar.cmpi .slt x 0#32))
  let sU : BitVec 32 := Scalar.subi (Scalar.extui (Scalar.cmpi .sgt 256#32 0#32)) (Scalar.extui (Scalar.cmpi .slt 256#32 0#32))
  let corr : BitVec 1 := Scalar.andi (Scalar.cmpi .ne s2 sU) (Scalar.cmpi .ne (Scalar.remsi x 256#32) 0#32)
  Scalar.select corr (Scalar.subi (Scalar.divsi x 256#32) 1#32) (Scalar.divsi x 256#32)

/-- Every loop over chunks, as the kernel computes its bounds, -/
@[reducible] def mainLoop (v : BitVec 32) : Scf.Loop 32 :=
  ⟨0#32, Scalar.addi 0#32 (Scalar.muli (Scalar.divsi (Scalar.subi (chunksW v) 0#32) 1#32) 1#32), 1#32⟩
/-- and its remainder. -/
@[reducible] def remLoop (v : BitVec 32) : Scf.Loop 32 :=
  ⟨Scalar.addi 0#32 (Scalar.muli (Scalar.divsi (Scalar.subi (chunksW v) 0#32) 1#32) 1#32), Scalar.addi 0#32 (Scalar.subi (chunksW v) 0#32), 1#32⟩

theorem t1_eq (v : BitVec 32) : k0_t1_loop v = mainLoop v := rfl
theorem t2_eq (v : BitVec 32) : k0_t2_loop v = remLoop v := rfl
theorem t3_eq (v : BitVec 32) : k0_t3_loop v = mainLoop v := rfl
theorem t4_eq (v : BitVec 32) : k0_t4_loop v = remLoop v := rfl
theorem t5_eq (v : BitVec 32) : k0_t5_loop v = mainLoop v := rfl
theorem t6_eq (v : BitVec 32) : k0_t6_loop v = remLoop v := rfl
theorem t7_eq (v : BitVec 32) : k0_t7_loop v = mainLoop v := rfl
theorem t8_eq (v : BitVec 32) : k0_t8_loop v = remLoop v := rfl
theorem t9_eq (v : BitVec 32) : k0_t9_loop v = mainLoop v := rfl
theorem t10_eq (v : BitVec 32) : k0_t10_loop v = remLoop v := rfl
theorem t11_eq (v : BitVec 32) : k0_t11_loop v = mainLoop v := rfl
theorem t12_eq (v : BitVec 32) : k0_t12_loop v = remLoop v := rfl

theorem chunksW_nonneg {v : BitVec 32} (h : v.toInt ≤ 3584) (h0 : 0 ≤ v.toInt + 255) :
    IsInt (chunksW v) ((v.toInt + 255) / 256) := by
  have hx : IsInt (Scalar.addi v 255#32) (v.toInt + 255) := Affine.addi (word v) (lit 255) ⟨rfl, by omega, by omega⟩
  have hU := lit 256
  have hsU : IsInt (Scalar.subi (Scalar.extui (Scalar.cmpi .sgt 256#32 0#32)) (Scalar.extui (Scalar.cmpi .slt 256#32 0#32))) 1 :=
    Affine.subi (extui_holds (sgt_holds hU (lit 0) (by omega)) rfl) (extui_fails (slt_fails hU (lit 0) (by omega)) rfl) (by decide)
  have hlt : Fails (Scalar.cmpi .slt (Scalar.addi v 255#32) 0#32) := slt_fails hx (lit 0) (by omega)
  have hd := Affine.divsi hx hU (e := (v.toInt + 255) / 256) ⟨rfl, h0, by omega⟩
  have hd1 := Affine.subi hd (lit 1) (e := (v.toInt + 255) / 256 - 1) ⟨rfl, by omega, by omega⟩
  refine select_fails ?_ hd1 hd (e := (v.toInt + 255) / 256) rfl
  by_cases hz : v.toInt + 255 = 0
  · have hrem : IsInt (Scalar.remsi (Scalar.addi v 255#32) 256#32) 0 := Affine.remsi hx hU ⟨by rw [hz]; rfl, h0, by omega⟩
    exact andi_fails_right (cmpi_term _ (word _) (word _)) (ne_fails hrem (lit 0) rfl)
  · have h2 : IsInt (Scalar.subi (Scalar.extui (Scalar.cmpi .sgt (Scalar.addi v 255#32) 0#32)) (Scalar.extui (Scalar.cmpi .slt (Scalar.addi v 255#32) 0#32))) 1 :=
      Affine.subi (extui_holds (sgt_holds hx (lit 0) (by omega)) rfl) (extui_fails hlt rfl) (by decide)
    exact andi_fails_left (ne_fails h2 hsU rfl) (cmpi_term _ (word _) (word _))

theorem chunksW_neg {v : BitVec 32} (h0 : v.toInt + 255 < 0) : (chunksW v).toInt ≤ 0 := by
  have hr := word_range v
  have hx : IsInt (Scalar.addi v 255#32) (v.toInt + 255) := Affine.addi (word v) (lit 255) ⟨rfl, by omega, by omega⟩
  have hxi : (Scalar.addi v 255#32).toInt = v.toInt + 255 := of_isInt hx
  have hcor : ¬ IntOp.SDivCorner (Scalar.addi v 255#32) 256#32 := by
    unfold IntOp.SDivCorner; rintro (h | ⟨_, h⟩) <;> revert h <;> decide
  have hdiv : (Scalar.divsi (Scalar.addi v 255#32) 256#32).toInt = (v.toInt + 255).tdiv 256 := by
    show (IntOp.divsi .scalar _ _).toInt = _
    unfold IntOp.divsi
    rw [if_neg hcor, BitVec.toInt_sdiv_of_ne_or_ne _ _ (Or.inr (by decide)), hxi]; rfl
  have hq : (v.toInt + 255).tdiv 256 ≤ 0 ∧ -8388608 ≤ (v.toInt + 255).tdiv 256 := by
    rw [show v.toInt + 255 = -(-(v.toInt + 255)) by omega, Int.neg_tdiv, Int.tdiv_eq_ediv_of_nonneg (by omega)]; omega
  have h1 : IsInt (Scalar.divsi (Scalar.addi v 255#32) 256#32) ((v.toInt + 255).tdiv 256) := to_isInt hdiv
  have h2 := Affine.subi h1 (lit 1) (e := (v.toInt + 255).tdiv 256 - 1) ⟨rfl, by omega, by omega⟩
  unfold chunksW
  dsimp only [Scalar.select]
  split
  · have : (Scalar.subi (Scalar.divsi (Scalar.addi v 255#32) 256#32) 1#32).toInt = (v.toInt + 255).tdiv 256 - 1 := of_isInt h2
    rw [this]; omega
  · rw [hdiv]; omega

theorem mainUb_eq (v : BitVec 32) : (mainLoop v).ub = chunksW v := by
  show Scalar.addi 0#32 (Scalar.muli (Scalar.divsi (Scalar.subi (chunksW v) 0#32) 1#32) 1#32) = chunksW v
  rw [Scalar.muli_divsi_one]
  generalize chunksW v = x
  simp [Scalar.addi, Scalar.subi, IntOp.addi, IntOp.subi]

/-- A loop over chunks runs once per chunk of the total, -/
theorem main_trips {v : BitVec 32} (h : v.toInt ≤ 3584) : (mainLoop v).trips = nOf v := by
  show Scf.trips 0#32 (mainLoop v).ub 1#32 = nOf v
  rw [mainUb_eq]
  unfold nOf
  rcases lt_or_ge (v.toInt + 255) 0 with h0 | h0
  · have := chunksW_neg h0
    rw [show ((v.toInt + 255) / 256).toNat = 0 by omega]
    exact Nat.le_zero.mp (trips_le (lit 0) (word (chunksW v)) (lit 1) 0 ⟨by decide, by omega⟩)
  · exact trips_eq (lit 0) (chunksW_nonneg h h0) (lit 1) _ ⟨by decide, by omega⟩

/-- has a meaning, -/
theorem main_ok {v : BitVec 32} (h : v.toInt ≤ 3584) : (mainLoop v).OK := by
  refine ⟨by show (0 : Int) < (1#32 : BitVec 32).toInt; decide, ?_⟩
  have h1 := main_trips h
  have h2 := nOf_le h
  show (0#32 : BitVec 32).toInt + ((mainLoop v).trips : Int) * (1#32 : BitVec 32).toInt < 2 ^ 31
  rw [h1, show (0#32 : BitVec 32).toInt = 0 from rfl, show (1#32 : BitVec 32).toInt = 1 from rfl]
  omega

/-- and its remainder never runs. -/
theorem rem_trips (v : BitVec 32) : (remLoop v).trips = 0 := Scf.rem_trips 0#32 (Scalar.subi (chunksW v) 0#32)
theorem rem_ok (v : BitVec 32) : (remLoop v).OK := Scf.rem_ok 0#32 (Scalar.subi (chunksW v) 0#32)
theorem rem_elim {v : BitVec 32} (k : Fin (remLoop v).trips) : False := Scf.rem_no_trip _ _ k

/-! ## Bounds and offsets at a trip -/

theorem chunksW_le (v : BitVec 32) : (chunksW v).toInt ≤ 8388608 := by
  have hcor : ¬ IntOp.SDivCorner (Scalar.addi v 255#32) 256#32 := by
    unfold IntOp.SDivCorner; rintro (h | ⟨_, h⟩) <;> revert h <;> decide
  have hr := word_range (Scalar.addi v 255#32)
  have hdiv : (Scalar.divsi (Scalar.addi v 255#32) 256#32).toInt = (Scalar.addi v 255#32).toInt.tdiv 256 := by
    show (IntOp.divsi .scalar _ _).toInt = _
    unfold IntOp.divsi
    rw [if_neg hcor, BitVec.toInt_sdiv_of_ne_or_ne _ _ (Or.inr (by decide))]; rfl
  generalize (Scalar.addi v 255#32).toInt = x at hr hdiv
  have hq : x.tdiv 256 ≤ 8388608 ∧ -8388608 ≤ x.tdiv 256 := by
    rcases lt_or_ge x 0 with h0 | h0
    · rw [show x = -(-x) by omega, Int.neg_tdiv, Int.tdiv_eq_ediv_of_nonneg (by omega)]; omega
    · rw [Int.tdiv_eq_ediv_of_nonneg h0]; omega
  have h2 := Affine.subi (to_isInt hdiv) (lit 1) (e := x.tdiv 256 - 1) ⟨rfl, by omega, by omega⟩
  have h3 := of_isInt h2
  unfold chunksW
  dsimp only [Scalar.select]
  split <;> omega

theorem trips_le (v : BitVec 32) : (mainLoop v).trips ≤ 8388608 := by
  show Scf.trips 0#32 (mainLoop v).ub 1#32 ≤ _
  rw [mainUb_eq]
  have := chunksW_le v
  exact Affine.trips_le (lit 0) (word (chunksW v)) (lit 1) _ ⟨by decide, by omega⟩

theorem iv_eq (k : ℕ) : Scf.iv 0#32 1#32 k = BitVec.ofNat 32 k := by simp [Scf.iv]

theorem iv_toNat {k : ℕ} (hk : k < 8388608) : (Scf.iv 0#32 1#32 k).toNat = k := by
  rw [iv_eq, BitVec.toNat_ofNat, Nat.mod_eq_of_lt (by omega)]

/-- `64 k`, `2 k`, `2 k + 1` and `896 p + 64 k` as words do not wrap. -/
theorem w64 {k : ℕ} (hk : k < 8388608) : (Scalar.muli (Scf.iv 0#32 1#32 k) 64#32).toNat = 64 * k := by
  rw [iv_eq]
  simp only [Scalar.muli, IntOp.muli, BitVec.toNat_mul, BitVec.toNat_ofNat]
  omega
theorem w2 {k : ℕ} (hk : k < 8388608) : (Scalar.muli 2#32 (Scf.iv 0#32 1#32 k)).toNat = 2 * k := by
  rw [iv_eq]
  simp only [Scalar.muli, IntOp.muli, BitVec.toNat_mul, BitVec.toNat_ofNat]
  omega
theorem w21 {k : ℕ} (hk : k < 8388608) : (Scalar.addi (Scalar.muli 2#32 (Scf.iv 0#32 1#32 k)) 1#32).toNat = 2 * k + 1 := by
  rw [iv_eq]
  simp only [Scalar.addi, IntOp.addi, Scalar.muli, IntOp.muli, BitVec.toNat_add, BitVec.toNat_mul, BitVec.toNat_ofNat]
  omega
theorem wsrc {p k : ℕ} (hp : p < 112) (hk : k < 8388608) :
    (Scalar.addi (Scalar.muli (BitVec.ofNat 32 p) 896#32) (Scalar.muli (Scf.iv 0#32 1#32 k) 64#32)).toNat = 896 * p + 64 * k := by
  rw [iv_eq]
  simp only [Scalar.addi, IntOp.addi, Scalar.muli, IntOp.muli, BitVec.toNat_add, BitVec.toNat_mul, BitVec.toNat_ofNat]
  omega
theorem wsrc1 {p k : ℕ} (hp : p < 112) (hk : k < 8388608) :
    (Scalar.addi (Scalar.muli (Scalar.addi (BitVec.ofNat 32 p) 1#32) 896#32) (Scalar.muli (Scf.iv 0#32 1#32 k) 64#32)).toNat = 896 * (p + 1) + 64 * k := by
  rw [iv_eq]
  simp only [Scalar.addi, IntOp.addi, Scalar.muli, IntOp.muli, BitVec.toNat_add, BitVec.toNat_mul, BitVec.toNat_ofNat]
  omega
theorem wslot (i : grid0.Coords) : (Scalar.remsi (BitVec.ofNat 32 (i 0).val) 2#32).toNat = (i 0).val % 2 := congrFun (k0_off2_eq i) 0
theorem wslot1 (i : grid0.Coords) : (Scalar.subi 1#32 (Scalar.remsi (BitVec.ofNat 32 (i 0).val) 2#32)).toNat = 1 - (i 0).val % 2 := congrFun (k0_off9_eq i) 0
theorem i_lt (i : grid0.Coords) : (i 0).val < 112 := (i 0).isLt

variable (i : grid0.Coords) (v : BitVec 32) (k : Fin (mainLoop v).trips)

theorem klt : k.val < 8388608 := lt_of_lt_of_le k.isLt (trips_le v)
theorem off3_eq : k0_off3 i v k = ![((i 0).val % 2), 64 * k.val, 0] := congrArg₂ (fun x y => (![x, y, 0] : Fin 3 → ℕ)) (wslot i) (w64 (klt v k))
instance closedOff3 : ClosedOff (k0_off3 i v k) := ⟨_, off3_eq i v k⟩
theorem off4_eq : k0_off4 i v k = ![896 * (i 0).val + 64 * k.val, 0] := congrArg (fun x => (![x, 0] : Fin 2 → ℕ)) (wsrc (i_lt i) (klt v k))
instance closedOff4 : ClosedOff (k0_off4 i v k) := ⟨_, off4_eq i v k⟩
theorem off10_eq : k0_off10 i v k = ![1 - (i 0).val % 2, 64 * k.val, 0] := congrArg₂ (fun x y => (![x, y, 0] : Fin 3 → ℕ)) (wslot1 i) (w64 (klt v k))
instance closedOff10 : ClosedOff (k0_off10 i v k) := ⟨_, off10_eq i v k⟩
theorem off11_eq : k0_off11 i v k = ![896 * ((i 0).val + 1) + 64 * k.val, 0] := congrArg (fun x => (![x, 0] : Fin 2 → ℕ)) (wsrc1 (i_lt i) (klt v k))
instance closedOff11 : ClosedOff (k0_off11 i v k) := ⟨_, off11_eq i v k⟩
theorem off18_eq : k0_off18 i v k = ![((i 0).val % 2), 64 * k.val, 0] := congrArg₂ (fun x y => (![x, y, 0] : Fin 3 → ℕ)) (wslot i) (w64 (klt v k))
instance closedOff18 : ClosedOff (k0_off18 i v k) := ⟨_, off18_eq i v k⟩
theorem off19_eq : k0_off19 i v k = ![896 * (i 0).val + 64 * k.val, 0] := congrArg (fun x => (![x, 0] : Fin 2 → ℕ)) (wsrc (i_lt i) (klt v k))
instance closedOff19 : ClosedOff (k0_off19 i v k) := ⟨_, off19_eq i v k⟩
theorem off23_eq : k0_off23 i v k = ![((i 0).val % 2), 64 * k.val, 0] := congrArg₂ (fun x y => (![x, y, 0] : Fin 3 → ℕ)) (wslot i) (w64 (klt v k))
instance closedOff23 : ClosedOff (k0_off23 i v k) := ⟨_, off23_eq i v k⟩
theorem off24_eq : k0_off24 v k = ![2 * k.val, 0] := congrArg (fun x => (![x, 0] : Fin 2 → ℕ)) (w2 (klt v k))
instance closedOff24 : ClosedOff (k0_off24 v k) := ⟨_, off24_eq v k⟩
theorem off25_eq : k0_off25 v k = ![2 * k.val + 1, 0] := congrArg (fun x => (![x, 0] : Fin 2 → ℕ)) (w21 (klt v k))
instance closedOff25 : ClosedOff (k0_off25 v k) := ⟨_, off25_eq v k⟩
theorem off26_eq : k0_off26 v k = ![k.val, 0, 0] := congrArg (fun x => (![x, 0, 0] : Fin 3 → ℕ)) (iv_toNat (klt v k))
instance closedOff26 : ClosedOff (k0_off26 v k) := ⟨_, off26_eq v k⟩
theorem off31_eq : k0_off31 v k = ![k.val, 0, 0] := congrArg (fun x => (![x, 0, 0] : Fin 3 → ℕ)) (iv_toNat (klt v k))
instance closedOff31 : ClosedOff (k0_off31 v k) := ⟨_, off31_eq v k⟩
theorem off34_eq : k0_off34 v k = ![k.val, 0, 0] := congrArg (fun x => (![x, 0, 0] : Fin 3 → ℕ)) (iv_toNat (klt v k))
instance closedOff34 : ClosedOff (k0_off34 v k) := ⟨_, off34_eq v k⟩
theorem off35_eq : k0_off35 v k = ![2 * k.val, 0] := congrArg (fun x => (![x, 0] : Fin 2 → ℕ)) (w2 (klt v k))
instance closedOff35 : ClosedOff (k0_off35 v k) := ⟨_, off35_eq v k⟩
theorem off36_eq : k0_off36 v k = ![2 * k.val + 1, 0] := congrArg (fun x => (![x, 0] : Fin 2 → ℕ)) (w21 (klt v k))
instance closedOff36 : ClosedOff (k0_off36 v k) := ⟨_, off36_eq v k⟩
theorem off37_eq : k0_off37 i v k = ![((i 0).val % 2), 64 * k.val, 0] := congrArg₂ (fun x y => (![x, y, 0] : Fin 3 → ℕ)) (wslot i) (w64 (klt v k))
instance closedOff37 : ClosedOff (k0_off37 i v k) := ⟨_, off37_eq i v k⟩

/-! ## The kernel's checks -/

variable {v} (h : v.toInt ≤ 3584)
include h

theorem klt14 : k.val < 14 := lt_of_lt_of_le k.isLt ((main_trips h).le.trans (nOf_le h))

theorem inb_dst (s : ℕ) (hs : s < 2) : ∀ a, (![s, 64 * k.val, 0] : Fin 3 → ℕ) a + S1x64x128.size a ≤ S2x896x128.size a := by
  have hk := klt14 k h
  intro a; fin_cases a
  · show s + 1 ≤ 2; omega
  · show 64 * k.val + 64 ≤ 896; omega
  · show 0 + 128 ≤ 128; omega
theorem inb_src (p : ℕ) (hp : p < 112) : ∀ a, (![896 * p + 64 * k.val, 0] : Fin 2 → ℕ) a + S64x128.size a ≤ S100352x128.size a := by
  have hk := klt14 k h
  intro a; fin_cases a
  · show 896 * p + 64 * k.val + 64 ≤ 100352; omega
  · show 0 + 128 ≤ 128; omega
theorem inb_scale (d : ℕ) (hd : d < 2) : ∀ a, (![2 * k.val + d, 0] : Fin 2 → ℕ) a + S1x128.size a ≤ S32x128.size a := by
  have hk := klt14 k h
  intro a; fin_cases a
  · show 2 * k.val + d + 1 ≤ 32; omega
  · show 0 + 128 ≤ 128; omega
theorem inb_chunk : ∀ a, (![k.val, 0, 0] : Fin 3 → ℕ) a + S1x8x256.size a ≤ S14x8x256.size a := by
  have hk := klt14 k h
  intro a; fin_cases a
  · show k.val + 1 ≤ 14; omega
  · show 0 + 8 ≤ 8; omega
  · show 0 + 256 ≤ 256; omega
omit h in
theorem dvd64 : 64 ∣ (Scalar.muli (Scf.iv 0#32 1#32 k.val) 64#32).toNat := by rw [w64 (klt v k)]; exact ⟨_, rfl⟩
omit h in
theorem dvd_src {p : ℕ} (hp : p < 112) : 64 ∣ (Scalar.addi (Scalar.muli (BitVec.ofNat 32 p) 896#32) (Scalar.muli (Scf.iv 0#32 1#32 k.val) 64#32)).toNat := by
  rw [wsrc hp (klt v k)]; omega
omit h in
theorem dvd_src1 {p : ℕ} (hp : p < 112) : 64 ∣ (Scalar.addi (Scalar.muli (Scalar.addi (BitVec.ofNat 32 p) 1#32) 896#32) (Scalar.muli (Scf.iv 0#32 1#32 k.val) 64#32)).toNat := by
  rw [wsrc1 hp (klt v k)]; omega

theorem chk1 : k0_chk1 i v := by
  refine ⟨fun _ => main_ok h, fun k _ => dvd_src k (i_lt i), fun k _ => dvd64 k, fun k _ => ?_, fun k _ => ?_,
    fun _ => rem_ok v, fun k _ => (rem_elim k).elim, fun k _ => (rem_elim k).elim, fun k _ => (rem_elim k).elim, fun k _ => (rem_elim k).elim⟩
  · rw [off3_eq i v k]; exact inb_dst k h _ (by omega)
  · rw [off4_eq i v k]; exact inb_src k h _ (i_lt i)

omit h in
theorem cond2_lt (hc : k0_cond2 i = 1#1) : (i 0).val + 1 < 112 := by revert i; decide +kernel

theorem chk2 : k0_chk2 i v := by
  refine ⟨fun _ => main_ok h, fun k _ => dvd_src1 k (i_lt i), fun k _ => dvd64 k, fun k _ => ?_, fun k hc => ?_,
    fun _ => rem_ok v, fun k _ => (rem_elim k).elim, fun k _ => (rem_elim k).elim, fun k _ => (rem_elim k).elim, fun k _ => (rem_elim k).elim⟩
  · rw [off10_eq i v k]; exact inb_dst k h _ (by omega)
  · rw [off11_eq i v k]; exact inb_src k h _ (cond2_lt i hc)

theorem chk3 : k0_chk3 i v := by
  refine ⟨⟨main_ok h, fun k => dvd_src k (i_lt i), fun k => dvd64 k, fun k => ?_, fun k => ?_,
    rem_ok v, fun k => (rem_elim k).elim, fun k => (rem_elim k).elim, fun k => (rem_elim k).elim, fun k => (rem_elim k).elim,
    main_ok h, fun k => dvd64 k, fun k => ?_, fun k => ?_, fun k => ?_, fun k => ?_,
    rem_ok v, fun k => (rem_elim k).elim, fun k => (rem_elim k).elim, fun k => (rem_elim k).elim, fun k => (rem_elim k).elim, fun k => (rem_elim k).elim,
    main_ok h, fun k => ?_, rem_ok v, fun k => (rem_elim k).elim,
    main_ok h, fun k => ?_, fun k => ?_, fun k => ?_, fun k => dvd64 k, fun k => ?_⟩,
    rem_ok v, fun k => (rem_elim k).elim, fun k => (rem_elim k).elim, fun k => (rem_elim k).elim, fun k => (rem_elim k).elim, fun k => (rem_elim k).elim⟩
  · rw [off18_eq i v k]; exact inb_dst k h _ (by omega)
  · rw [off19_eq i v k]; exact inb_src k h _ (i_lt i)
  · rw [off23_eq i v k]; exact inb_dst k h _ (by omega)
  · rw [off24_eq v k]; exact inb_scale k h 0 (by omega)
  · rw [off25_eq v k]; exact inb_scale k h 1 (by omega)
  · rw [off26_eq v k]; exact inb_chunk k h
  · rw [off31_eq v k]; exact inb_chunk k h
  · rw [off34_eq v k]; exact inb_chunk k h
  · rw [off35_eq v k]; exact inb_scale k h 0 (by omega)
  · rw [off36_eq v k]; exact inb_scale k h 1 (by omega)
  · rw [off37_eq i v k]; exact inb_dst k h _ (by omega)

end Cert.Kernel.Hand

end
-- ==== Proof.Kernel.Blocks.lean ====
/-
  Hand-written, untrusted. What the kernel's transfers move: the blocks of 64 rows of a slot of each staging
  buffer and of a pair's rows in each gathered array, what a slot holds when a pair's rows have landed, what
  each transfer of a batch hands back, and a buffer as the blocks it is made of.
-/
module

public import proofs.«01_k».proof.Proof.Kernel.Words
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks -/

/-- The two staging buffers and the two arrays of gathered rows. -/
abbrev kBuf : Memref sig .tc .vmem S2x896x128 .i32 := Memref.whole cc0_scratch0
abbrev vBuf : Memref sig .tc .vmem S2x896x128 .i32 := Memref.whole cc0_scratch1
abbrev koArr : Memref sig .tc .hbm S100352x128 .i32 := Memref.whole main_arg10
abbrev voArr : Memref sig .tc .hbm S100352x128 .i32 := Memref.whole main_arg11

/-- A block of 64 rows of one slot of a staging buffer, and of a gathered array, as the kernel spells them. -/
def blkOf (b : Memref sig .tc .vmem S2x896x128 .i32) (o : Fin 3 → ℕ) (h : ∀ a, o a + S1x64x128.size a ≤ S2x896x128.size a) :
    Memref sig .tc .vmem S64x128 .i32 :=
  (b.slice (Rect.unit (s := S2x896x128) o S1x64x128.size h) (fun _ => rfl)).squeeze S64x128 squeezes_S1x64x128_S64x128
def srcOf (b : Memref sig .tc .hbm S100352x128 .i32) (o : Fin 2 → ℕ) (h : ∀ a, o a + S64x128.size a ≤ S100352x128.size a) :
    Memref sig .tc .hbm S64x128 .i32 :=
  b.slice (Rect.unit (s := S100352x128) o S64x128.size h) (fun _ => rfl)
/-- The semaphore of a slot. -/
def semOf (o : Fin 1 → ℕ) (h : ∀ a, o a + S1.size a ≤ S2.size a) : DmaSem sig :=
  ((cc0_scratch3.slice (Rect.unit (s := S2) o S1.size h)).squeeze S_ squeezes_S1_S_).sem

theorem inbD (s : Fin 2) (b : Fin 14) : ∀ a, (![s.val, 64 * b.val, 0] : Fin 3 → ℕ) a + S1x64x128.size a ≤ S2x896x128.size a := by
  intro a; fin_cases a
  · show s.val + 1 ≤ 2; omega
  · show 64 * b.val + 64 ≤ 896; omega
  · show 0 + 128 ≤ 128; omega
theorem inbS (p : Fin 112) (b : Fin 14) : ∀ a, (![896 * p.val + 64 * b.val, 0] : Fin 2 → ℕ) a + S64x128.size a ≤ S100352x128.size a := by
  intro a; fin_cases a
  · show 896 * p.val + 64 * b.val + 64 ≤ 100352; omega
  · show 0 + 128 ≤ 128; omega
theorem inbC (s : Fin 2) : ∀ a, (![s.val] : Fin 1 → ℕ) a + S1.size a ≤ S2.size a := by
  intro a; fin_cases a
  show s.val + 1 ≤ 2; omega

/-- Block `b` of slot `s` of each staging buffer, block `b` of pair `p`'s rows of each gathered array, and
    slot `s`'s semaphore. -/
def kBlk (s : Fin 2) (b : Fin 14) : Memref sig .tc .vmem S64x128 .i32 := blkOf kBuf ![s.val, 64 * b.val, 0] (inbD s b)
def vBlk (s : Fin 2) (b : Fin 14) : Memref sig .tc .vmem S64x128 .i32 := blkOf vBuf ![s.val, 64 * b.val, 0] (inbD s b)
def koBlk (p : Fin 112) (b : Fin 14) : Memref sig .tc .hbm S64x128 .i32 := srcOf koArr ![896 * p.val + 64 * b.val, 0] (inbS p b)
def voBlk (p : Fin 112) (b : Fin 14) : Memref sig .tc .hbm S64x128 .i32 := srcOf voArr ![896 * p.val + 64 * b.val, 0] (inbS p b)
def cell (s : Fin 2) : DmaSem sig := semOf ![s.val] (inbC s)

/-! ## Which elements a block is -/

/-- The elements of block `b` of slot `s`: those at slot `s` whose row is one of the block's 64. -/
def dSet (s : Fin 2) (b : Fin 14) : Finset S2x896x128.Idx := (Rect.unit (s := S2x896x128) ![s.val, 64 * b.val, 0] S1x64x128.size (inbD s b)).set
def sSet (p : Fin 112) (b : Fin 14) : Finset S100352x128.Idx := (Rect.unit (s := S100352x128) ![896 * p.val + 64 * b.val, 0] S64x128.size (inbS p b)).set

theorem kBlk_set (s : Fin 2) (b : Fin 14) : (kBlk s b).view.set = dSet s b := by
  unfold kBlk blkOf; exact (View.set_reshape _ _).trans (View.set_slice_whole _ _)
theorem vBlk_set (s : Fin 2) (b : Fin 14) : (vBlk s b).view.set = dSet s b := by
  unfold vBlk blkOf; exact (View.set_reshape _ _).trans (View.set_slice_whole _ _)
theorem koBlk_set (p : Fin 112) (b : Fin 14) : (koBlk p b).view.set = sSet p b := by
  unfold koBlk srcOf; exact View.set_slice_whole _ _
theorem voBlk_set (p : Fin 112) (b : Fin 14) : (voBlk p b).view.set = sSet p b := by
  unfold voBlk srcOf; exact View.set_slice_whole _ _

theorem mem_dSet (s : Fin 2) (b : Fin 14) (y : S2x896x128.Idx) :
    y ∈ dSet s b ↔ (y 0).val = s.val ∧ 64 * b.val ≤ (y 1).val ∧ (y 1).val < 64 * b.val + 64 := by
  unfold dSet
  rw [Rect.mem_set_unit]
  have h2 : (y 2).val < 128 := (y 2).isLt
  constructor
  · intro H
    have a0 : s.val ≤ (y 0).val ∧ (y 0).val < s.val + 1 := H 0
    have a1 : 64 * b.val ≤ (y 1).val ∧ (y 1).val < 64 * b.val + 64 := H 1
    omega
  · intro H a; fin_cases a
    · show s.val ≤ (y 0).val ∧ (y 0).val < s.val + 1; omega
    · show 64 * b.val ≤ (y 1).val ∧ (y 1).val < 64 * b.val + 64; omega
    · show 0 ≤ (y 2).val ∧ (y 2).val < 0 + 128; omega
theorem mem_sSet (p : Fin 112) (b : Fin 14) (y : S100352x128.Idx) :
    y ∈ sSet p b ↔ 896 * p.val + 64 * b.val ≤ (y 0).val ∧ (y 0).val < 896 * p.val + 64 * b.val + 64 := by
  unfold sSet
  rw [Rect.mem_set_unit]
  have h2 : (y 1).val < 128 := (y 1).isLt
  constructor
  · intro H; exact H 0
  · intro H a; fin_cases a
    · exact H
    · show 0 ≤ (y 1).val ∧ (y 1).val < 0 + 128; omega

/-- The blocks by slot (pair) and number, together: they are apart and are the whole buffer (array). -/
def dSet2 (x : Fin 2 × Fin 14) : Finset S2x896x128.Idx := dSet x.1 x.2
def sSet2 (x : Fin 112 × Fin 14) : Finset S100352x128.Idx := sSet x.1 x.2
theorem dSet2_disjoint : ∀ x y : Fin 2 × Fin 14, x ≠ y → Disjoint (dSet2 x) (dSet2 y) := fun x y hne => by
  rw [Finset.disjoint_left]; intro z hx hy
  unfold dSet2 at hx hy
  rw [mem_dSet] at hx hy
  exact hne (Prod.ext (Fin.ext (by omega)) (Fin.ext (by omega)))
theorem dSet2_cover : Finset.univ.biUnion dSet2 = Finset.univ := by
  ext y
  have h0 : (y 0).val < 2 := (y 0).isLt
  have h1 : (y 1).val < 896 := (y 1).isLt
  simp only [Finset.mem_biUnion, Finset.mem_univ, true_and, iff_true]
  refine ⟨(⟨(y 0).val, h0⟩, ⟨(y 1).val / 64, by omega⟩), ?_⟩
  unfold dSet2; rw [mem_dSet]
  refine ⟨rfl, ?_, ?_⟩
  · show 64 * ((y 1).val / 64) ≤ _; omega
  · show _ < 64 * ((y 1).val / 64) + 64; omega
theorem sSet2_disjoint : ∀ x y : Fin 112 × Fin 14, x ≠ y → Disjoint (sSet2 x) (sSet2 y) := fun x y hne => by
  rw [Finset.disjoint_left]; intro z hx hy
  unfold sSet2 at hx hy
  rw [mem_sSet] at hx hy
  have := x.2.isLt; have := y.2.isLt
  exact hne (Prod.ext (Fin.ext (by omega)) (Fin.ext (by omega)))
theorem sSet2_cover : Finset.univ.biUnion sSet2 = Finset.univ := by
  ext y
  have h0 : (y 0).val < 100352 := (y 0).isLt
  simp only [Finset.mem_biUnion, Finset.mem_univ, true_and, iff_true]
  refine ⟨(⟨(y 0).val / 896, by omega⟩, ⟨(y 0).val % 896 / 64, by omega⟩), ?_⟩
  unfold sSet2; rw [mem_sSet]
  refine ⟨?_, ?_⟩
  · show 896 * ((y 0).val / 896) + 64 * ((y 0).val % 896 / 64) ≤ _; omega
  · show _ < 896 * ((y 0).val / 896) + 64 * ((y 0).val % 896 / 64) + 64; omega

/-! ## What a slot holds when a pair's rows have landed -/

/-- Row `r`, lane `l` of a slot is row `896 p + r`, lane `l` of the array. -/
def rowIdx (p : Fin 112) (x : S2x896x128.Idx) : S100352x128.Idx :=
  fun a => match a with
    | ⟨0, _⟩ => (⟨896 * p.val + (x 1).val, by have h : (x 1).val < 896 := (x 1).isLt; show _ < 100352; omega⟩ : Fin 100352)
    | ⟨1, _⟩ => (⟨(x 2).val, (x 2).isLt⟩ : Fin 128)
/-- A staging buffer's contents that hold pair `p`'s rows of `ko` in either slot. -/
def landedOf (ko : S100352x128.Idx → Elt F .i32) (p : Fin 112) : S2x896x128.Idx → Elt F .i32 := fun x => ko (rowIdx p x)

theorem blk_write_aux (s : Fin 2) (p : Fin 112) (c : Fin 14) (y : S64x128.Idx) :
    rowIdx p ((Rect.unit (s := S2x896x128) ![s.val, 64 * c.val, 0] S1x64x128.size (inbD s c)).emb (Shape.reshapeEquiv squeezes_S1x64x128_S64x128.numel_eq y))
      = (Rect.unit (s := S100352x128) ![896 * p.val + 64 * c.val, 0] S64x128.size (inbS p c)).emb y := by
  have hy : Shape.reshapeEquiv squeezes_S1x64x128_S64x128.numel_eq y = ix3 0 (y 0) (y 1) := by
    rw [show y = ix2 (y 0) (y 1) by funext a; fin_cases a <;> rfl]
    exact reshapeEquiv_ix2_1ab _ _ _
  rw [hy]
  funext a
  fin_cases a
  · apply Fin.ext
    show 896 * p.val + (64 * c.val + 1 * (y 0).val) = 896 * p.val + 64 * c.val + 1 * (y 0).val
    omega
  · apply Fin.ext
    show 0 + 1 * (y 1).val = 0 + 1 * (y 1).val
    rfl

/-- What a transfer of block `b` leaves on that block, whatever was there: the rows of the pair. -/
def kWr (ko : S100352x128.Idx → Elt F .i32) (s : Fin 2) (p : Fin 112) (b : Fin 14) (g : S2x896x128.Idx → Elt F .i32) : S2x896x128.Idx → Elt F .i32 :=
  (kBlk s b).view.write (Elt F) g ((koBlk p b).view.read (Elt F) ko) Finset.univ
theorem kBlk_landed (ko : S100352x128.Idx → Elt F .i32) (s : Fin 2) (p : Fin 112) (b : Fin 14) (g : S2x896x128.Idx → Elt F .i32) :
    ∀ x ∈ dSet s b, kWr ko s p b g x = landedOf ko p x := by
  intro x hx
  rw [← kBlk_set] at hx
  obtain ⟨y, -, rfl⟩ := Finset.mem_map.mp hx
  exact (View.write_emb_of_mem (v := (kBlk s b).view) (Val := Elt F) g ((koBlk p b).view.read (Elt F) ko) (Finset.mem_univ y)).trans
    (congrArg ko (blk_write_aux s p b y).symm)
def vWr (vo : S100352x128.Idx → Elt F .i32) (s : Fin 2) (p : Fin 112) (b : Fin 14) (g : S2x896x128.Idx → Elt F .i32) : S2x896x128.Idx → Elt F .i32 :=
  (vBlk s b).view.write (Elt F) g ((voBlk p b).view.read (Elt F) vo) Finset.univ
theorem vBlk_landed (vo : S100352x128.Idx → Elt F .i32) (s : Fin 2) (p : Fin 112) (b : Fin 14) (g : S2x896x128.Idx → Elt F .i32) :
    ∀ x ∈ dSet s b, vWr vo s p b g x = landedOf vo p x := by
  intro x hx
  rw [← vBlk_set] at hx
  obtain ⟨y, -, rfl⟩ := Finset.mem_map.mp hx
  exact (View.write_emb_of_mem (v := (vBlk s b).view) (Val := Elt F) g ((voBlk p b).view.read (Elt F) vo) (Finset.mem_univ y)).trans
    (congrArg vo (blk_write_aux s p b y).symm)

/-! ## What is held -/

section Held

variable (c : Dev nD) (ko vo : S100352x128.Idx → Elt F .i32)

/-- A block of a staging buffer, held at contents `g` of the buffer (of which only the block's elements count). -/
abbrev kAt (s : Fin 2) (g : S2x896x128.Idx → Elt F .i32) (b : Fin 14) : sProp 𝕄 := (c : Thread nD τ).loc cc0_scratch0 ↦[dSet s b]{fullShare} g
abbrev vAt (s : Fin 2) (g : S2x896x128.Idx → Elt F .i32) (b : Fin 14) : sProp 𝕄 := (c : Thread nD τ).loc cc0_scratch1 ↦[dSet s b]{fullShare} g
/-- The blocks of a staging pair held at some contents. -/
abbrev free (s : Fin 2) (b : Fin 14) : sProp 𝕄 := iprop((∃ g, kAt c s g b) ∗ ∃ g, vAt c s g b)
/-- The same, holding pair `p`'s rows. -/
abbrev full (s : Fin 2) (p : Fin 112) (b : Fin 14) : sProp 𝕄 := iprop(kAt c s (landedOf ko p) b ∗ vAt c s (landedOf vo p) b)
/-- A block of the gathered arrays. -/
abbrev koAt (p : Fin 112) (b : Fin 14) : sProp 𝕄 := (c : Thread nD τ).loc main_arg10 ↦[sSet p b]{fullShare} ko
abbrev voAt (p : Fin 112) (b : Fin 14) : sProp 𝕄 := (c : Thread nD τ).loc main_arg11 ↦[sSet p b]{fullShare} vo
abbrev home (p : Fin 112) (b : Fin 14) : sProp 𝕄 := iprop(koAt c ko p b ∗ voAt c vo p b)

/-- What transfers `2 i` and `2 i + 1` of a batch hand back: block `i` landed, and the block it was read from. -/
def dK (s : Fin 2) (p : Fin 112) (i : ℕ) : sProp 𝕄 := if hb : i < 14 then iprop(kAt c s (landedOf ko p) ⟨i, hb⟩ ∗ koAt c ko p ⟨i, hb⟩) else emp
def dV (s : Fin 2) (p : Fin 112) (i : ℕ) : sProp 𝕄 := if hb : i < 14 then iprop(vAt c s (landedOf vo p) ⟨i, hb⟩ ∗ voAt c vo p ⟨i, hb⟩) else emp
instance dK_storable (s : Fin 2) (p : Fin 112) (i : ℕ) : BI.Storable (upEmb : UEmb _ 𝕄) (dK c ko s p i) := by
  unfold dK; split <;> infer_instance
instance dV_storable (s : Fin 2) (p : Fin 112) (i : ℕ) : BI.Storable (upEmb : UEmb _ 𝕄) (dV c vo s p i) := by
  unfold dV; split <;> infer_instance
abbrev dAll (s : Fin 2) (p : Fin 112) (n : ℕ) : Fin (2 * n) → sProp 𝕄 := Ring.interleaved n (dK c ko s p) (dV c vo s p)

/-- The credit of one block, the same for every block of either buffer. -/
def NN : ℕ := (kBlk 0 0).view.dmaCredit
theorem NN_pos : 0 < NN := View.dmaCredit_pos _ (by decide)
theorem kBlk_credit (s : Fin 2) (b : Fin 14) : (kBlk s b).view.dmaCredit = NN := rfl
theorem vBlk_credit (s : Fin 2) (b : Fin 14) : (vBlk s b).view.dmaCredit = NN := rfl

/-- The batch on slot `s`'s semaphore that brings `n` blocks of pair `p`: `j` transfers issued, `u` units consumed. -/
abbrev batch (s : Fin 2) (p : Fin 112) (n j u : ℕ) : sProp 𝕄 :=
  Transfers.Batch (countersEmb (U := Pipeline.UD sig nD τ)) (c : Thread nD τ) (.dma (cell s)) () NN (dAll c ko vo s p n) j u
abbrev cell0 (s : Fin 2) : sProp 𝕄 := semVal ((c : Thread nD τ), SemLoc.dma (cell s)) 0

/-- A slot free; a pair's rows at home; a slot with `n` of pair `p`'s blocks on their way; a slot with them landed. -/
def slotFree (s : Fin 2) : sProp 𝕄 := bigSep Finset.univ (free c s)
def pairHome (p : Fin 112) : sProp 𝕄 := bigSep Finset.univ (home c ko vo p)
def inFlight (s : Fin 2) (p : Fin 112) (n : ℕ) : sProp 𝕄 :=
  iprop(batch c ko vo s p n (2 * n) 0 ∗ bigSep (Ring.rangeSet 14 n 14) (free c s) ∗ bigSep (Ring.rangeSet 14 n 14) (home c ko vo p))
def landed (s : Fin 2) (p : Fin 112) (n : ℕ) : sProp 𝕄 :=
  iprop(cell0 c s ∗ bigSep (Ring.rangeSet 14 0 n) (full c ko vo s p) ∗ bigSep (Ring.rangeSet 14 n 14) (free c s) ∗ pairHome c ko vo p)

end Held

/-! ## The buffers and arrays as their blocks -/

section Split

variable (c : Dev nD) (ko vo : S100352x128.Idx → Elt F .i32)

theorem fin2_split (Φ : Fin 2 → sProp 𝕄) : bigSep Finset.univ Φ = iprop(Φ 0 ∗ Φ 1) := BI.bigSep_univ_two Φ

theorem free_intro (gk gv : S2x896x128.Idx → Elt F .i32) (s : Fin 2) (b : Fin 14) :
    iprop(kAt c s gk b ∗ vAt c s gv b) ⊢ free c s b := by
  iintro ⟨HK, HV⟩
  isplitl [HK]
  · iexists gk; iexact HK
  · iexists gv; iexact HV

/-- The two staging buffers held whole are two free slots, -/
theorem slots_split (gk gv : S2x896x128.Idx → Elt F .i32) :
    iprop(((c : Thread nD τ).loc cc0_scratch0 ↦{fullShare} gk) ∗ ((c : Thread nD τ).loc cc0_scratch1 ↦{fullShare} gv))
      ⊢ iprop(slotFree c 0 ∗ slotFree c 1 : sProp 𝕄) := by
  rw [Ring.pointsTo_blocks (ℓ := (c : Thread nD τ).loc cc0_scratch0) (q := fullShare) dSet2 dSet2_disjoint dSet2_cover gk,
    Ring.pointsTo_blocks (ℓ := (c : Thread nD τ).loc cc0_scratch1) (q := fullShare) dSet2 dSet2_disjoint dSet2_cover gv,
    ← BI.bigSep_sep', ← fin2_split (fun s => slotFree (F := F) c s)]
  unfold slotFree
  rw [BI.bigSep_univ_prod]
  refine BI.bigSep_mono fun s _ => BI.bigSep_mono fun b _ => ?_
  exact free_intro c gk gv s b

/-- and back, at some contents. -/
theorem slots_join [∀ e, Nonempty (Elt F e)] :
    iprop(slotFree c 0 ∗ slotFree c 1 : sProp 𝕄)
      ⊢ iprop((∃ gk, (c : Thread nD τ).loc cc0_scratch0 ↦{fullShare} gk) ∗ ∃ gv, (c : Thread nD τ).loc cc0_scratch1 ↦{fullShare} gv) := by
  rw [← fin2_split (fun s => slotFree (F := F) c s)]
  unfold slotFree
  rw [← BI.bigSep_univ_prod (Φ := fun x : Fin 2 × Fin 14 => free (F := F) c x.1 x.2)]
  refine (Entails.of_eq (BI.bigSep_sep' _ _ _)).trans (BI.sep_mono ?_ ?_)
  · exact Ring.pointsTo_blocks_join_exists (ℓ := (c : Thread nD τ).loc cc0_scratch0) (q := fullShare) dSet2 dSet2_disjoint dSet2_cover
      (Memref.whole cc0_scratch0 : Memref sig .tc .vmem S2x896x128 .i32).view.junk
  · exact Ring.pointsTo_blocks_join_exists (ℓ := (c : Thread nD τ).loc cc0_scratch1) (q := fullShare) dSet2 dSet2_disjoint dSet2_cover
      (Memref.whole cc0_scratch1 : Memref sig .tc .vmem S2x896x128 .i32).view.junk

/-- The two gathered arrays held whole are every pair's rows at home. -/
theorem homes_eq :
    iprop(((c : Thread nD τ).loc main_arg10 ↦{fullShare} ko) ∗ ((c : Thread nD τ).loc main_arg11 ↦{fullShare} vo))
      = (bigSep Finset.univ (pairHome c ko vo) : sProp 𝕄) := by
  rw [Ring.pointsTo_blocks (ℓ := (c : Thread nD τ).loc main_arg10) (q := fullShare) sSet2 sSet2_disjoint sSet2_cover ko,
    Ring.pointsTo_blocks (ℓ := (c : Thread nD τ).loc main_arg11) (q := fullShare) sSet2 sSet2_disjoint sSet2_cover vo,
    ← BI.bigSep_sep']
  unfold pairHome
  rw [← BI.bigSep_univ_prod (Φ := fun x : Fin 112 × Fin 14 => home (F := F) c ko vo x.1 x.2)]
  rfl

/-- What a slot and a pair's rows hand back as ranges. -/
theorem range_all (Φ : Fin 14 → sProp 𝕄) (n : ℕ) (h : n ≤ 14) :
    bigSep Finset.univ Φ = iprop(bigSep (Ring.rangeSet 14 0 n) Φ ∗ bigSep (Ring.rangeSet 14 n 14) Φ) := by
  rw [← Ring.rangeSet_univ, Ring.bigSep_rangeSet_split (Nat.zero_le _) h]

/-- Every transfer of a batch handed back: the blocks landed and the blocks they came from. -/
theorem deliveries_split (s : Fin 2) (p : Fin 112) (n : ℕ) (h : n ≤ 14) :
    (bigSep Finset.univ (dAll c ko vo s p n) : sProp 𝕄)
      ⊢ iprop(bigSep (Ring.rangeSet 14 0 n) (full c ko vo s p) ∗ bigSep (Ring.rangeSet 14 0 n) (home c ko vo p)) := by
  rw [Ring.bigSep_interleaved]
  have hK : bigSep (Finset.range n) (dK c ko s p)
      = (bigSep (Ring.rangeSet 14 0 n) (fun b => iprop(kAt c s (landedOf ko p) b ∗ koAt c ko p b)) : sProp 𝕄) := by
    rw [Ring.bigSep_rangeSet_eq_range (NB := 14) (lo := 0) (hi := n) h (dK c ko s p) (fun k hk => by
      unfold dK; rw [dif_pos (by omega)]; simp only [Nat.zero_add]), Nat.sub_zero]
  have hV : bigSep (Finset.range n) (dV c vo s p)
      = (bigSep (Ring.rangeSet 14 0 n) (fun b => iprop(vAt c s (landedOf vo p) b ∗ voAt c vo p b)) : sProp 𝕄) := by
    rw [Ring.bigSep_rangeSet_eq_range (NB := 14) (lo := 0) (hi := n) h (dV c vo s p) (fun k hk => by
      unfold dV; rw [dif_pos (by omega)]; simp only [Nat.zero_add]), Nat.sub_zero]
  rw [hK, hV]
  rw [BI.bigSep_sep', BI.bigSep_sep', BI.bigSep_sep', BI.bigSep_sep']
  iintro ⟨⟨H1, H2⟩, H3, H4⟩
  isplitl [H1 H3]
  · isplitl [H1] <;> iassumption
  · isplitl [H2] <;> iassumption

end Split

end Cert.Kernel.Hand

end
-- ==== Proof.Kernel.Issue.lean ====
/-
  Hand-written, untrusted. The loop that asks for a pair's rows: one transfer into each staging buffer per
  trip, on one slot's semaphore, each trip taking a free block of the slot and a block of the pair's rows; and
  the loop that waits for them.
-/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- A program of the kernel's body. -/
abbrev PR (F : FTy → Type) (α : Type) := Prog (TpuEff nD τ sig (Elt F) Λ₀ .tc) α

/-! ## The programs -/

/-- One trip of the loop that asks for rows, and of the loop that waits for them, at any offsets. -/
def issueGen (o2 : Fin 1 → ℕ) (h2 : ∀ a, o2 a + S1.size a ≤ S2.size a) (o3 : Fin 3 → ℕ) (h3 : ∀ a, o3 a + S1x64x128.size a ≤ S2x896x128.size a)
    (o4 : Fin 2 → ℕ) (h4 : ∀ a, o4 a + S64x128.size a ≤ S100352x128.size a) : PR F (BitVec 32) := do
  Prog.lift (.enqueueDma (srcOf koArr o4 h4) (.here (blkOf kBuf o3 h3)) (.dma (semOf o2 h2)) (View.wordExact_bits rfl) ((View.wordExact_bits rfl).reshape _ _) ⟨Or.inl rfl, trivial⟩)
  Prog.lift (.enqueueDma (srcOf voArr o4 h4) (.here (blkOf vBuf o3 h3)) (.dma (semOf o2 h2)) (View.wordExact_bits rfl) ((View.wordExact_bits rfl).reshape _ _) ⟨Or.inl rfl, trivial⟩)
  pure 0#32
def waitGen (o2 : Fin 1 → ℕ) (h2 : ∀ a, o2 a + S1.size a ≤ S2.size a) (o3 : Fin 3 → ℕ) (h3 : ∀ a, o3 a + S1x64x128.size a ≤ S2x896x128.size a)
    (o4 : Fin 2 → ℕ) (h4 : ∀ a, o4 a + S64x128.size a ≤ S100352x128.size a) : PR F (BitVec 32) := do
  Prog.lift (.waitDma2 (semOf o2 h2) (srcOf koArr o4 h4) (blkOf kBuf o3 h3) (View.wordExact_bits rfl) ((View.wordExact_bits rfl).reshape _ _))
  Prog.lift (.waitDma2 (semOf o2 h2) (srcOf voArr o4 h4) (blkOf vBuf o3 h3) (View.wordExact_bits rfl) ((View.wordExact_bits rfl).reshape _ _))
  pure 0#32

def issueProg (s : Fin 2) (p : Fin 112) (b : Fin 14) : PR F (BitVec 32) :=
  issueGen ![s.val] (inbC s) ![s.val, 64 * b.val, 0] (inbD s b) ![896 * p.val + 64 * b.val, 0] (inbS p b)
def waitProg (s : Fin 2) (p : Fin 112) (b : Fin 14) : PR F (BitVec 32) :=
  waitGen ![s.val] (inbC s) ![s.val, 64 * b.val, 0] (inbD s b) ![896 * p.val + 64 * b.val, 0] (inbS p b)

theorem issueGen_eq {o2 h2 o3 h3 o4 h4} (s : Fin 2) (p : Fin 112) (b : Fin 14) (e2 : o2 = ![s.val]) (e3 : o3 = ![s.val, 64 * b.val, 0])
    (e4 : o4 = ![896 * p.val + 64 * b.val, 0]) : issueGen (F := F) o2 h2 o3 h3 o4 h4 = issueProg s p b := by
  subst e2 e3 e4; rfl
theorem waitGen_eq {o2 h2 o3 h3 o4 h4} (s : Fin 2) (p : Fin 112) (b : Fin 14) (e2 : o2 = ![s.val]) (e3 : o3 = ![s.val, 64 * b.val, 0])
    (e4 : o4 = ![896 * p.val + 64 * b.val, 0]) : waitGen (F := F) o2 h2 o3 h3 o4 h4 = waitProg s p b := by
  subst e2 e3 e4; rfl

theorem issueProg_eq (s : Fin 2) (p : Fin 112) (b : Fin 14) : issueProg (F := F) s p b =
    (Prog.lift (.enqueueDma (koBlk p b) (.here (kBlk s b)) (.dma (cell s)) (View.wordExact_bits rfl) ((View.wordExact_bits rfl).reshape _ _) ⟨Or.inl rfl, trivial⟩) >>= fun _ =>
      Prog.lift (.enqueueDma (voBlk p b) (.here (vBlk s b)) (.dma (cell s)) (View.wordExact_bits rfl) ((View.wordExact_bits rfl).reshape _ _) ⟨Or.inl rfl, trivial⟩) >>= fun _ => Prog.ret 0#32) := rfl
theorem waitProg_eq (s : Fin 2) (p : Fin 112) (b : Fin 14) : waitProg (F := F) s p b =
    (Prog.op (.waitDma2 (cell s) (koBlk p b) (kBlk s b) (View.wordExact_bits rfl) ((View.wordExact_bits rfl).reshape _ _)) fun _ =>
      Prog.op (.waitDma2 (cell s) (voBlk p b) (vBlk s b) (View.wordExact_bits rfl) ((View.wordExact_bits rfl).reshape _ _)) fun _ => Prog.ret 0#32) := rfl

/-! ## One trip -/

section Steps

variable (c : Dev nD) (ko vo : S100352x128.Idx → Elt F .i32) (s : Fin 2) (p : Fin 112) (n : ℕ) (hn : n ≤ 14)

/-- Before trip `k`: `2 k` transfers issued; the blocks from `k` on still in hand. -/
def issueInv (k : ℕ) (_ : BitVec 32) : sProp 𝕄 :=
  iprop(batch c ko vo s p n (2 * k) 0 ∗ bigSep (Ring.rangeSet 14 k 14) (free c s) ∗ bigSep (Ring.rangeSet 14 k 14) (home c ko vo p))

theorem dmaK {α : Type} {Q : α → sProp 𝕄} (b : Fin 14) (hb : b.val < n) (g : S2x896x128.Idx → Elt F .i32) (k : PUnit.{1} → PR F α) {h1 h2 h3} :
    iprop(koAt c ko p b ∗ kAt c s g b ∗ batch c ko vo s p n (2 * b.val) 0)
      ⊢ iprop((batch c ko vo s p n (2 * b.val + 1) 0 -∗ (wp frame (wpE (defs₀ (F := F)) Variants.none (c : Thread nD τ) none) Set.univ) (k ⟨⟩) Q)
        -∗ (wp frame (wpE (defs₀ (F := F)) Variants.none (c : Thread nD τ) none) Set.univ) (Prog.lift (.enqueueDma (koBlk p b) (.here (kBlk s b)) (.dma (cell s)) h1 h2 h3) >>= k) Q) := by
  have hD : iprop(((c : Thread nD τ).loc cc0_scratch0 ↦[dSet s b]{fullShare} kWr ko s p b g) ∗ koAt c ko p b) ⊢ dAll c ko vo s p n ⟨2 * b.val, by omega⟩ := by
    rw [pointsTo_congr (kBlk_landed ko s p b g)]
    rw [show dAll c ko vo s p n ⟨2 * b.val, by omega⟩ = dK c ko s p b.val from Ring.interleaved_even _ _ _ _ _]
    unfold dK; rw [dif_pos b.isLt]
  have := Transfers.wp_dmaBatch (defs := defs₀ (F := F)) (countersEmb (U := Pipeline.UD sig nD τ)) Variants.none (c : Thread nD τ) none (Q := Q) (q := fullShare)
    (src := koBlk p b) (dst := kBlk s b) (via := .same) (sm := .dma (cell s)) (hsrc := h1) (hdst := h2) (hsem := h3) (k := k) (fs := ko) (fd := g)
    (Sd := dSet s b) (D := dAll c ko vo s p n) (j := 2 * b.val) (u := 0) () NN (kBlk_credit s b) (kBlk_set s b).subset (by omega) (Nat.zero_le _)
    (by rw [koBlk_set]; exact hD)
  rw [koBlk_set] at this
  exact this
theorem dmaV {α : Type} {Q : α → sProp 𝕄} (b : Fin 14) (hb : b.val < n) (g : S2x896x128.Idx → Elt F .i32) (k : PUnit.{1} → PR F α) {h1 h2 h3} :
    iprop(voAt c vo p b ∗ vAt c s g b ∗ batch c ko vo s p n (2 * b.val + 1) 0)
      ⊢ iprop((batch c ko vo s p n (2 * (b.val + 1)) 0 -∗ (wp frame (wpE (defs₀ (F := F)) Variants.none (c : Thread nD τ) none) Set.univ) (k ⟨⟩) Q)
        -∗ (wp frame (wpE (defs₀ (F := F)) Variants.none (c : Thread nD τ) none) Set.univ) (Prog.lift (.enqueueDma (voBlk p b) (.here (vBlk s b)) (.dma (cell s)) h1 h2 h3) >>= k) Q) := by
  have hD : iprop(((c : Thread nD τ).loc cc0_scratch1 ↦[dSet s b]{fullShare} vWr vo s p b g) ∗ voAt c vo p b) ⊢ dAll c ko vo s p n ⟨2 * b.val + 1, by omega⟩ := by
    rw [pointsTo_congr (vBlk_landed vo s p b g)]
    rw [show dAll c ko vo s p n ⟨2 * b.val + 1, by omega⟩ = dV c vo s p b.val from Ring.interleaved_odd _ _ _ _ _]
    unfold dV; rw [dif_pos b.isLt]
  have := Transfers.wp_dmaBatch (defs := defs₀ (F := F)) (countersEmb (U := Pipeline.UD sig nD τ)) Variants.none (c : Thread nD τ) none (Q := Q) (q := fullShare)
    (src := voBlk p b) (dst := vBlk s b) (via := .same) (sm := .dma (cell s)) (hsrc := h1) (hdst := h2) (hsem := h3) (k := k) (fs := vo) (fd := g)
    (Sd := dSet s b) (D := dAll c ko vo s p n) (j := 2 * b.val + 1) (u := 0) () NN (vBlk_credit s b) (vBlk_set s b).subset (by omega) (Nat.zero_le _)
    (by rw [voBlk_set]; exact hD)
  rw [voBlk_set] at this
  exact this

theorem wp_issueProg (b : Fin 14) (hb : b.val < n) (acc : BitVec 32) :
    issueInv c ko vo s p n b.val acc ⊢ (wp frame (wpE (defs₀ (F := F)) Variants.none (c : Thread nD τ) none) Set.univ) (issueProg s p b) (issueInv c ko vo s p n (b.val + 1)) := by
  have h14 := b.isLt
  unfold issueInv
  rw [Ring.bigSep_rangeSet_head (Φ := free c s) (lo := b.val) (by omega) (by omega),
    Ring.bigSep_rangeSet_head (Φ := home c ko vo p) (lo := b.val) (by omega) (by omega)]
  iintro ⟨HB, ⟨⟨⟨%gk, HK⟩, ⟨%gv, HV⟩⟩, HF⟩, ⟨HKO, HVO⟩, HH⟩
  rw [issueProg_eq]
  iapply (dmaK c ko vo s p n b hb gk _) $$ [HB HK HKO]
  · isplitl [HKO]; · iexact HKO
    isplitl [HK]; · iexact HK
    iexact HB
  iintro HB
  iapply (dmaV c ko vo s p n b hb gv _) $$ [HB HV HVO]
  · isplitl [HVO]; · iexact HVO
    isplitl [HV]; · iexact HV
    iexact HB
  iintro HB
  sl_step
  isplitl [HB]; · iexact HB
  isplitl [HF]; · iexact HF
  iexact HH

theorem wait_room0 {n k : ℕ} (h : k < n) : 2 * k * NN + 1 * NN ≤ NN * (2 * n) := by
  rw [← Nat.add_mul, Nat.mul_comm NN]; exact Nat.mul_le_mul_right _ (by omega)
theorem wait_room1 {n k : ℕ} (h : k < n) : 2 * k * NN + 1 * NN + 1 * NN ≤ NN * (2 * n) := by
  rw [← Nat.add_mul, ← Nat.add_mul, Nat.mul_comm NN]; exact Nat.mul_le_mul_right _ (by omega)
theorem wait_next (k : ℕ) : 2 * (k + 1) * NN = 2 * k * NN + 1 * NN + 1 * NN := by
  rw [← Nat.add_mul, ← Nat.add_mul]; congr 1

/-- Before trip `k` of the loop that waits: every transfer issued, `2 k` of them consumed. -/
def waitInv (k : ℕ) (_ : BitVec 32) : sProp 𝕄 :=
  iprop(batch c ko vo s p n (2 * n) (2 * k * NN) ∗ ∃ W, owes (c : Thread nD τ) 0 W)

theorem waitK {α : Type} {Q : α → sProp 𝕄} (b : Fin 14) (u : ℕ) (hu : u + 1 * NN ≤ NN * (2 * n)) (W : Waits sig Unit) (k : PUnit.{1} → PR F α) {h1 h2} :
    iprop(batch c ko vo s p n (2 * n) u ∗ owes (c : Thread nD τ) 0 W)
      ⊢ iprop((batch c ko vo s p n (2 * n) (u + 1 * NN) ∗ owes (c : Thread nD τ) 0 (insert (SemLoc.dma (cell s), ()) W) -∗ (wp frame (wpE (defs₀ (F := F)) Variants.none (c : Thread nD τ) none) Set.univ) (k ⟨⟩) Q)
        -∗ (wp frame (wpE (defs₀ (F := F)) Variants.none (c : Thread nD τ) none) Set.univ) (Prog.op (.waitDma2 (cell s) (koBlk p b) (kBlk s b) h1 h2) k) Q) :=
  Transfers.wp_waitBatchMul (countersEmb (U := Pipeline.UD sig nD τ)) Variants.none (c : Thread nD τ) none () (N := NN) 1
    ((kBlk_credit s b).trans (Nat.one_mul _).symm) hu
theorem waitV {α : Type} {Q : α → sProp 𝕄} (b : Fin 14) (u : ℕ) (hu : u + 1 * NN ≤ NN * (2 * n)) (W : Waits sig Unit) (k : PUnit.{1} → PR F α) {h1 h2} :
    iprop(batch c ko vo s p n (2 * n) u ∗ owes (c : Thread nD τ) 0 W)
      ⊢ iprop((batch c ko vo s p n (2 * n) (u + 1 * NN) ∗ owes (c : Thread nD τ) 0 (insert (SemLoc.dma (cell s), ()) W) -∗ (wp frame (wpE (defs₀ (F := F)) Variants.none (c : Thread nD τ) none) Set.univ) (k ⟨⟩) Q)
        -∗ (wp frame (wpE (defs₀ (F := F)) Variants.none (c : Thread nD τ) none) Set.univ) (Prog.op (.waitDma2 (cell s) (voBlk p b) (vBlk s b) h1 h2) k) Q) :=
  Transfers.wp_waitBatchMul (countersEmb (U := Pipeline.UD sig nD τ)) Variants.none (c : Thread nD τ) none () (N := NN) 1
    ((vBlk_credit s b).trans (Nat.one_mul _).symm) hu
theorem wp_waitProg (b : Fin 14) (hb : b.val < n) (acc : BitVec 32) :
    waitInv c ko vo s p n b.val acc ⊢ (wp frame (wpE (defs₀ (F := F)) Variants.none (c : Thread nD τ) none) Set.univ) (waitProg s p b) (waitInv c ko vo s p n (b.val + 1)) := by
  unfold waitInv
  iintro ⟨HB, %W, HW⟩
  rw [waitProg_eq]
  iapply (waitK c ko vo s p n b _ (wait_room0 hb) W _ (h1 := View.wordExact_bits rfl) (h2 := (View.wordExact_bits rfl).reshape _ _)) $$ [HB HW]
  · isplitl [HB]; · iexact HB
    iexact HW
  iintro ⟨HB, HW⟩
  iapply (waitV c ko vo s p n b _ (wait_room1 hb) _ _ (h1 := View.wordExact_bits rfl) (h2 := (View.wordExact_bits rfl).reshape _ _)) $$ [HB HW]
  · isplitl [HB]; · iexact HB
    iexact HW
  iintro ⟨HB, HW⟩
  sl_step
  isplitl [HB]
  · rw [show 2 * (b.val + 1) * NN = 2 * b.val * NN + 1 * NN + 1 * NN from wait_next b.val]; iexact HB
  iexists _; iexact HW

end Steps

end Cert.Kernel.Hand

end
-- ==== Proof.Kernel.Stages.lean ====
/-
  Hand-written, untrusted. The stages of a grid point: what is held between two points, the loop that asks for
  a pair's rows, the loop that waits for them, and the books of which slot and which pair's rows are where.
-/
module

public import proofs.«01_k».proof.Proof.Kernel.Issue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of pair `t`, and the other one. -/
def slotOf (t : Fin 112) : Fin 2 := ⟨t.val % 2, Nat.mod_lt _ (by decide)⟩
def oth (t : Fin 112) : Fin 2 := ⟨1 - t.val % 2, by omega⟩

/-- The total of pair `t` in the table. -/
def totAt (tb : S128.Idx → Elt F .i32) (t : Fin 112) : BitVec 32 := tb (fun a => match a with | ⟨0, _⟩ => (⟨t.val, by have := t.isLt; show _ < 128; omega⟩ : Fin 128))
/-- Every total within the budget. -/
def Fits (tb : S128.Idx → Elt F .i32) : Prop := ∀ t : Fin 112, (totAt tb t).toInt ≤ 3584

section Loops

variable (c : Dev nD) (ko vo : S100352x128.Idx → Elt F .i32)

/-- A loop's remainder runs no trip. -/
theorem rem_loop {v : BitVec 32} {α σ : Type} {Q : α → sProp 𝕄} {P : sProp 𝕄} (ok : (remLoop v).OK) (a : σ)
    (body : Fin (remLoop v).trips → σ → PR F σ) (kk : σ → PR F α) (h : P ⊢ (wp frame (wpE (defs₀ (F := F)) Variants.none (c : Thread nD τ) none) Set.univ) (kk a) Q) :
    P ⊢ (wp frame (wpE (defs₀ (F := F)) Variants.none (c : Thread nD τ) none) Set.univ) (Scf.Loop.for (remLoop v) ok a body >>= kk) Q := by
  iintro HP
  iapply (Scf.wp_for_bind frame (wpE (defs₀ (F := F)) Variants.none (c : Thread nD τ) none) Set.univ
    (remLoop v).lb (remLoop v).ub (remLoop v).st ok a body (fun _ x => iprop(⌜x = a⌝)) (fun k _ => (rem_elim (v := v) k).elim) (kk := kk)) $$ []
  · ipureintro; rfl
  iintro %x %hx
  subst hx
  iapply h $$ HP

/-- The loop that asks for pair `p`'s rows into slot `s`, with its remainder. -/
theorem issue_loop (s : Fin 2) (p : Fin 112) {v : BitVec 32} (hv : v.toInt ≤ 3584) {α : Type} {Q : α → sProp 𝕄}
    (ok : (mainLoop v).OK) (ok' : (remLoop v).OK) (body : Fin (mainLoop v).trips → BitVec 32 → PR F (BitVec 32))
    (hbody : ∀ k acc, body k acc = issueProg s p ⟨k.val, klt14 k hv⟩) (body' : Fin (remLoop v).trips → BitVec 32 → PR F (BitVec 32)) (kk : PR F α) :
    iprop(cell0 c s ∗ slotFree c s ∗ pairHome c ko vo p)
      ⊢ iprop((inFlight c ko vo s p (nOf v) -∗ (wp frame (wpE (defs₀ (F := F)) Variants.none (c : Thread nD τ) none) Set.univ) kk Q)
        -∗ (wp frame (wpE (defs₀ (F := F)) Variants.none (c : Thread nD τ) none) Set.univ) (Scf.Loop.for (mainLoop v) ok 0#32 body >>= fun a => Scf.Loop.for (remLoop v) ok' a body' >>= fun _ => kk) Q) := by
  have ht := main_trips hv
  have hn := nOf_le hv
  iintro ⟨Hc, HF, HP⟩ HK
  imod (Transfers.batch_alloc' (Lvl := ℕ) (countersEmb (U := Pipeline.UD sig nD τ)) (c : Thread nD τ) () NN (dAll c ko vo s p (nOf v)) (sm := .dma (cell s)) (E := Set.univ)) $$ Hc with HB
  iapply (Scf.wp_for_bind frame (wpE (defs₀ (F := F)) Variants.none (c : Thread nD τ) none) Set.univ
    (mainLoop v).lb (mainLoop v).ub (mainLoop v).st ok 0#32 body (issueInv c ko vo s p (nOf v)) (fun k acc => by
      rw [hbody]; exact wp_issueProg c ko vo s p (nOf v) ⟨k.val, klt14 k hv⟩ (by rw [← ht]; exact k.isLt) acc)) $$ [HB HF HP]
  · unfold issueInv slotFree pairHome
    rw [Nat.mul_zero, Ring.rangeSet_univ]
    isplitl [HB]; · iexact HB
    isplitl [HF]; · iexact HF
    iexact HP
  iintro %acc HI
  iapply (rem_loop c ok' acc body' (fun _ => kk) .rfl)
  iapply HK
  rw [show Scf.trips (mainLoop v).lb (mainLoop v).ub (mainLoop v).st = nOf v from ht]
  unfold issueInv inFlight
  iexact HI

/-- The loop that waits for them, with its remainder. -/
theorem drain_loop (s : Fin 2) (p : Fin 112) {v : BitVec 32} (hv : v.toInt ≤ 3584) {α : Type} {Q : α → sProp 𝕄}
    (ok : (mainLoop v).OK) (ok' : (remLoop v).OK) (body : Fin (mainLoop v).trips → BitVec 32 → PR F (BitVec 32))
    (hbody : ∀ k acc, body k acc = waitProg s p ⟨k.val, klt14 k hv⟩) (body' : Fin (remLoop v).trips → BitVec 32 → PR F (BitVec 32)) (kk : PR F α) :
    iprop(inFlight c ko vo s p (nOf v) ∗ ∃ W, owes (c : Thread nD τ) 0 W)
      ⊢ iprop((landed c ko vo s p (nOf v) ∗ (∃ W, owes (c : Thread nD τ) 0 W) -∗ (wp frame (wpE (defs₀ (F := F)) Variants.none (c : Thread nD τ) none) Set.univ) kk Q)
        -∗ (wp frame (wpE (defs₀ (F := F)) Variants.none (c : Thread nD τ) none) Set.univ) (Scf.Loop.for (mainLoop v) ok 0#32 body >>= fun a => Scf.Loop.for (remLoop v) ok' a body' >>= fun _ => kk) Q) := by
  have ht := main_trips hv
  have hn := nOf_le hv
  unfold inFlight
  iintro ⟨⟨HB, HF, HP⟩, HW⟩ HK
  iapply (Scf.wp_for_bind frame (wpE (defs₀ (F := F)) Variants.none (c : Thread nD τ) none) Set.univ
    (mainLoop v).lb (mainLoop v).ub (mainLoop v).st ok 0#32 body (waitInv c ko vo s p (nOf v)) (fun k acc => by
      rw [hbody]; exact wp_waitProg c ko vo s p (nOf v) ⟨k.val, klt14 k hv⟩ (by rw [← ht]; exact k.isLt) acc)) $$ [HB HW]
  · unfold waitInv
    rw [Nat.mul_zero, Nat.zero_mul]
    isplitl [HB]; · iexact HB
    iexact HW
  iintro %acc HI
  rw [show Scf.trips (mainLoop v).lb (mainLoop v).ub (mainLoop v).st = nOf v from ht]
  unfold waitInv
  icases HI with ⟨HB, HW⟩
  rw [Nat.mul_comm (2 * nOf v) NN]
  imod (Transfers.batch_collect' (countersEmb (U := Pipeline.UD sig nD τ)) (c : Thread nD τ) NN_pos) $$ HB with ⟨HD, Hc⟩
  ihave HD := (deliveries_split c ko vo s p (nOf v) hn) $$ HD
  icases HD with ⟨HD, HH⟩
  iapply (rem_loop c ok' acc body' (fun _ => kk) .rfl)
  iapply HK
  isplitr [HW]
  · unfold landed pairHome
    rw [range_all (home c ko vo p) (nOf v) hn]
    isplitl [Hc]; · iexact Hc
    isplitl [HD]; · iexact HD
    isplitl [HF]; · iexact HF
    isplitl [HH]; · iexact HH
    iexact HP
  iexact HW

end Loops

/-! ## The books -/

section Books

variable (c : Dev nD) (ko vo : S100352x128.Idx → Elt F .i32) (tb : S128.Idx → Elt F .i32)

/-- Nothing on its way. -/
def idle : sProp 𝕄 := iprop(slotFree c 0 ∗ slotFree c 1 ∗ cell0 c 0 ∗ cell0 c 1 ∗ bigSep Finset.univ (pairHome c ko vo))
/-- Pair `t`'s rows on their way into its slot, the other slot free, every other pair's rows at home. -/
def flying (t : Fin 112) : sProp 𝕄 :=
  iprop(inFlight c ko vo (slotOf t) t (nOf (totAt tb t)) ∗ slotFree c (oth t) ∗ cell0 c (oth t) ∗ bigSep (Finset.univ.erase t) (pairHome c ko vo))
/-- What is held before point `t`: pair `t`'s rows on their way, but at the first point and after the last. -/
def between (t : ℕ) : sProp 𝕄 := if h : 0 < t ∧ t < 112 then flying c ko vo tb ⟨t, h.2⟩ else idle c ko vo
/-- Beside pair `t`'s slot and rows: the next pair's rows on their way, if there is one. -/
def beside (t : Fin 112) : sProp 𝕄 :=
  if h : t.val + 1 < 112 then
    iprop(inFlight c ko vo (oth t) ⟨t.val + 1, h⟩ (nOf (totAt tb ⟨t.val + 1, h⟩)) ∗ bigSep ((Finset.univ.erase t).erase ⟨t.val + 1, h⟩) (pairHome c ko vo))
  else iprop(slotFree c (oth t) ∗ cell0 c (oth t) ∗ bigSep (Finset.univ.erase t) (pairHome c ko vo))

theorem full_free (s : Fin 2) (p : Fin 112) (n : ℕ) : bigSep (Ring.rangeSet 14 0 n) (full c ko vo s p) ⊢ bigSep (Ring.rangeSet 14 0 n) (free c s) :=
  BI.bigSep_mono fun b _ => free_intro c _ _ s b

theorem erase_split {I : Type} [DecidableEq I] {s : Finset I} {i : I} (h : i ∈ s) {Φ : I → sProp 𝕄} : bigSep s Φ = iprop(Φ i ∗ bigSep (s.erase i) Φ) :=
  BI.bigSep_erase h

/-- A slot whose rows have landed is free again. -/
theorem landed_free (s : Fin 2) (p : Fin 112) (n : ℕ) (hn : n ≤ 14) :
    landed c ko vo s p n ⊢ iprop(cell0 c s ∗ slotFree c s ∗ pairHome c ko vo p) := by
  unfold landed slotFree
  rw [range_all (free c s) n hn]
  iintro ⟨Hc, HD, HF, HH⟩
  isplitl [Hc]; · iexact Hc
  isplitr [HH]
  · isplitl [HD]
    · iapply (full_free c ko vo s p n) $$ HD
    iexact HF
  iexact HH

/-- The books turn from a point to the next. -/
theorem turn (t : Fin 112) (n : ℕ) (hn : n ≤ 14) :
    iprop(landed c ko vo (slotOf t) t n ∗ beside c ko vo tb t) ⊢ between c ko vo tb (t.val + 1) := by
  have hL := landed_free c ko vo (slotOf t) t n hn
  unfold beside between
  by_cases h : t.val + 1 < 112
  · rw [dif_pos h, dif_pos ⟨Nat.succ_pos _, h⟩]
    unfold flying
    have hne : (⟨t.val + 1, h⟩ : Fin 112) ≠ t := fun e => by have := congrArg Fin.val e; simp at this
    rw [show slotOf ⟨t.val + 1, h⟩ = oth t from Fin.ext (show (t.val + 1) % 2 = 1 - t.val % 2 by omega),
      show oth ⟨t.val + 1, h⟩ = slotOf t from Fin.ext (show 1 - (t.val + 1) % 2 = t.val % 2 by omega),
      erase_split (s := Finset.univ.erase (⟨t.val + 1, h⟩ : Fin 112)) (i := t) (Finset.mem_erase.mpr ⟨hne.symm, Finset.mem_univ _⟩), Finset.erase_right_comm]
    iintro ⟨HL, HI, HR⟩
    ihave HL := hL $$ HL
    icases HL with ⟨Hc, HF, HH⟩
    isplitl [HI]; · iexact HI
    isplitl [HF]; · iexact HF
    isplitl [Hc]; · iexact Hc
    isplitl [HH]; · iexact HH
    iexact HR
  · have ht : t = ⟨111, by decide⟩ := Fin.ext (by have := t.isLt; show t.val = 111; omega)
    rw [dif_neg h, dif_neg (fun e => h e.2)]
    unfold idle
    rw [BI.bigSep_univ_at (pairHome c ko vo) t]
    subst ht
    rw [show slotOf ⟨111, by decide⟩ = 1 from rfl] at hL ⊢
    rw [show oth ⟨111, by decide⟩ = 0 from rfl]
    iintro ⟨HL, HF0, Hc0, HR⟩
    ihave HL := hL $$ HL
    icases HL with ⟨Hc, HF, HH⟩
    isplitl [HF0]; · iexact HF0
    isplitl [HF]; · iexact HF
    isplitl [Hc0]; · iexact Hc0
    isplitl [Hc]; · iexact Hc
    isplitl [HH]; · iexact HH
    iexact HR

/-- The first point's slot and rows, taken out of what is held before it. -/
theorem open_first : between c ko vo tb 0 ⊢ iprop((cell0 c 0 ∗ slotFree c 0 ∗ pairHome c ko vo 0)
    ∗ (inFlight c ko vo 0 0 (nOf (totAt tb 0)) -∗ flying c ko vo tb 0)) := by
  unfold between
  rw [dif_neg (by omega)]
  unfold idle flying
  rw [BI.bigSep_univ_at (pairHome c ko vo) 0]
  iintro ⟨HF0, HF1, Hc0, Hc1, HH, HR⟩
  isplitl [HF0 Hc0 HH]
  · isplitl [Hc0]; · iexact Hc0
    isplitl [HF0]; · iexact HF0
    iexact HH
  iintro HI
  isplitl [HI]; · iexact HI
  isplitl [HF1]; · iexact HF1
  isplitl [Hc1]; · iexact Hc1
  iexact HR

/-- The next pair's slot and rows, taken out while pair `t`'s are on their way. -/
theorem open_next (t : Fin 112) (h : t.val + 1 < 112) :
    flying c ko vo tb t ⊢ iprop(inFlight c ko vo (slotOf t) t (nOf (totAt tb t)) ∗ (cell0 c (oth t) ∗ slotFree c (oth t) ∗ pairHome c ko vo ⟨t.val + 1, h⟩)
      ∗ (inFlight c ko vo (oth t) ⟨t.val + 1, h⟩ (nOf (totAt tb ⟨t.val + 1, h⟩)) -∗ beside c ko vo tb t)) := by
  have hne : (⟨t.val + 1, h⟩ : Fin 112) ≠ t := fun e => by have := congrArg Fin.val e; simp at this
  unfold flying beside
  rw [dif_pos h, erase_split (s := Finset.univ.erase t) (i := (⟨t.val + 1, h⟩ : Fin 112)) (Finset.mem_erase.mpr ⟨hne, Finset.mem_univ _⟩)]
  iintro ⟨HI, HF, Hc, HH, HR⟩
  isplitl [HI]; · iexact HI
  isplitl [HF Hc HH]
  · isplitl [Hc]; · iexact Hc
    isplitl [HF]; · iexact HF
    iexact HH
  iintro HJ
  isplitl [HJ]; · iexact HJ
  iexact HR
theorem open_last (t : Fin 112) (h : ¬ t.val + 1 < 112) :
    flying c ko vo tb t ⊢ iprop(inFlight c ko vo (slotOf t) t (nOf (totAt tb t)) ∗ beside c ko vo tb t) := by
  unfold flying beside
  rw [dif_neg h]

end Books

end Cert.Kernel.Hand

end
-- ==== Proof.KernelIdeal.Words.lean ====
/-
  Hand-written, untrusted. The words of the kernel: how many chunks of 64 rows a total asks for, that every
  loop over chunks runs that often, that each loop's remainder makes no trip, and the kernel's own checks,
  from one bound on the total read from the table.
-/
module

public import proofs.«01_k».proof.Proof.Gen.KernelIdeal.Launch
public import proofs.«01_k».proof.Proof.Gen.KernelIdeal.Skeleton
public import Idealize.ShloMosaic.Lib.Affine
public import Idealize.ShloMosaic.Lib.LoopRemainder
public import Idealize.ShloMosaic.Lib.WordArith

@[expose] public section

set_option maxRecDepth 16384

noncomputable section

namespace Cert.KernelIdeal.Hand

open Cert.KernelIdeal Cert.KernelIdeal.Gen
open Idealize.ShloMosaic Idealize.ShloMosaic.Affine

/-- The number of chunks of 256 tokens that a total `v` covers (none when it is not positive). -/
def nOf (v : BitVec 32) : ℕ := ((v.toInt + 255) / 256).toNat

/-- A total within the budget covers at most the 14 chunks of a slot. -/
theorem nOf_le {v : BitVec 32} (h : v.toInt ≤ 3584) : nOf v ≤ 14 := by unfold nOf; omega

theorem lit (n : Nat) (h : n < 2 ^ 31 := by decide) : IsInt (BitVec.ofNat 32 n) (n : Int) := ofNat n ⟨rfl, h⟩

theorem of_isInt {x : BitVec 32} {e : Int} (h : IsInt x e) : x.toInt = e := by unfold IsInt at h; exact h
theorem to_isInt {x : BitVec 32} {e : Int} (h : x.toInt = e) : IsInt x e := by unfold IsInt; exact h

/-- The count of chunks as the kernel computes it: the floor division of `v + 255` by 256. -/
@[reducible] def chunksW (v : BitVec 32) : BitVec 32 :=
  let x : BitVec 32 := Scalar.addi v 255#32
  let s2 : BitVec 32 := Scalar.subi (Scalar.extui (Scalar.cmpi .sgt x 0#32)) (Scalar.extui (Scalar.cmpi .slt x 0#32))
  let sU : BitVec 32 := Scalar.subi (Scalar.extui (Scalar.cmpi .sgt 256#32 0#32)) (Scalar.extui (Scalar.cmpi .slt 256#32 0#32))
  let corr : BitVec 1 := Scalar.andi (Scalar.cmpi .ne s2 sU) (Scalar.cmpi .ne (Scalar.remsi x 256#32) 0#32)
  Scalar.select corr (Scalar.subi (Scalar.divsi x 256#32) 1#32) (Scalar.divsi x 256#32)

/-- Every loop over chunks, as the kernel computes its bounds, -/
@[reducible] def mainLoop (v : BitVec 32) : Scf.Loop 32 :=
  ⟨0#32, Scalar.addi 0#32 (Scalar.muli (Scalar.divsi (Scalar.subi (chunksW v) 0#32) 1#32) 1#32), 1#32⟩
/-- and its remainder. -/
@[reducible] def remLoop (v : BitVec 32) : Scf.Loop 32 :=
  ⟨Scalar.addi 0#32 (Scalar.muli (Scalar.divsi (Scalar.subi (chunksW v) 0#32) 1#32) 1#32), Scalar.addi 0#32 (Scalar.subi (chunksW v) 0#32), 1#32⟩

theorem t1_eq (v : BitVec 32) : k0_t1_loop v = mainLoop v := rfl
theorem t2_eq (v : BitVec 32) : k0_t2_loop v = remLoop v := rfl
theorem t3_eq (v : BitVec 32) : k0_t3_loop v = mainLoop v := rfl
theorem t4_eq (v : BitVec 32) : k0_t4_loop v = remLoop v := rfl
theorem t5_eq (v : BitVec 32) : k0_t5_loop v = mainLoop v := rfl
theorem t6_eq (v : BitVec 32) : k0_t6_loop v = remLoop v := rfl
theorem t7_eq (v : BitVec 32) : k0_t7_loop v = mainLoop v := rfl
theorem t8_eq (v : BitVec 32) : k0_t8_loop v = remLoop v := rfl
theorem t9_eq (v : BitVec 32) : k0_t9_loop v = mainLoop v := rfl
theorem t10_eq (v : BitVec 32) : k0_t10_loop v = remLoop v := rfl
theorem t11_eq (v : BitVec 32) : k0_t11_loop v = mainLoop v := rfl
theorem t12_eq (v : BitVec 32) : k0_t12_loop v = remLoop v := rfl

theorem chunksW_nonneg {v : BitVec 32} (h : v.toInt ≤ 3584) (h0 : 0 ≤ v.toInt + 255) :
    IsInt (chunksW v) ((v.toInt + 255) / 256) := by
  have hx : IsInt (Scalar.addi v 255#32) (v.toInt + 255) := Affine.addi (word v) (lit 255) ⟨rfl, by omega, by omega⟩
  have hU := lit 256
  have hsU : IsInt (Scalar.subi (Scalar.extui (Scalar.cmpi .sgt 256#32 0#32)) (Scalar.extui (Scalar.cmpi .slt 256#32 0#32))) 1 :=
    Affine.subi (extui_holds (sgt_holds hU (lit 0) (by omega)) rfl) (extui_fails (slt_fails hU (lit 0) (by omega)) rfl) (by decide)
  have hlt : Fails (Scalar.cmpi .slt (Scalar.addi v 255#32) 0#32) := slt_fails hx (lit 0) (by omega)
  have hd := Affine.divsi hx hU (e := (v.toInt + 255) / 256) ⟨rfl, h0, by omega⟩
  have hd1 := Affine.subi hd (lit 1) (e := (v.toInt + 255) / 256 - 1) ⟨rfl, by omega, by omega⟩
  refine select_fails ?_ hd1 hd (e := (v.toInt + 255) / 256) rfl
  by_cases hz : v.toInt + 255 = 0
  · have hrem : IsInt (Scalar.remsi (Scalar.addi v 255#32) 256#32) 0 := Affine.remsi hx hU ⟨by rw [hz]; rfl, h0, by omega⟩
    exact andi_fails_right (cmpi_term _ (word _) (word _)) (ne_fails hrem (lit 0) rfl)
  · have h2 : IsInt (Scalar.subi (Scalar.extui (Scalar.cmpi .sgt (Scalar.addi v 255#32) 0#32)) (Scalar.extui (Scalar.cmpi .slt (Scalar.addi v 255#32) 0#32))) 1 :=
      Affine.subi (extui_holds (sgt_holds hx (lit 0) (by omega)) rfl) (extui_fails hlt rfl) (by decide)
    exact andi_fails_left (ne_fails h2 hsU rfl) (cmpi_term _ (word _) (word _))

theorem chunksW_neg {v : BitVec 32} (h0 : v.toInt + 255 < 0) : (chunksW v).toInt ≤ 0 := by
  have hr := word_range v
  have hx : IsInt (Scalar.addi v 255#32) (v.toInt + 255) := Affine.addi (word v) (lit 255) ⟨rfl, by omega, by omega⟩
  have hxi : (Scalar.addi v 255#32).toInt = v.toInt + 255 := of_isInt hx
  have hcor : ¬ IntOp.SDivCorner (Scalar.addi v 255#32) 256#32 := by
    unfold IntOp.SDivCorner; rintro (h | ⟨_, h⟩) <;> revert h <;> decide
  have hdiv : (Scalar.divsi (Scalar.addi v 255#32) 256#32).toInt = (v.toInt + 255).tdiv 256 := by
    show (IntOp.divsi .scalar _ _).toInt = _
    unfold IntOp.divsi
    rw [if_neg hcor, BitVec.toInt_sdiv_of_ne_or_ne _ _ (Or.inr (by decide)), hxi]; rfl
  have hq : (v.toInt + 255).tdiv 256 ≤ 0 ∧ -8388608 ≤ (v.toInt + 255).tdiv 256 := by
    rw [show v.toInt + 255 = -(-(v.toInt + 255)) by omega, Int.neg_tdiv, Int.tdiv_eq_ediv_of_nonneg (by omega)]; omega
  have h1 : IsInt (Scalar.divsi (Scalar.addi v 255#32) 256#32) ((v.toInt + 255).tdiv 256) := to_isInt hdiv
  have h2 := Affine.subi h1 (lit 1) (e := (v.toInt + 255).tdiv 256 - 1) ⟨rfl, by omega, by omega⟩
  unfold chunksW
  dsimp only [Scalar.select]
  split
  · have : (Scalar.subi (Scalar.divsi (Scalar.addi v 255#32) 256#32) 1#32).toInt = (v.toInt + 255).tdiv 256 - 1 := of_isInt h2
    rw [this]; omega
  · rw [hdiv]; omega

theorem mainUb_eq (v : BitVec 32) : (mainLoop v).ub = chunksW v := by
  show Scalar.addi 0#32 (Scalar.muli (Scalar.divsi (Scalar.subi (chunksW v) 0#32) 1#32) 1#32) = chunksW v
  rw [Scalar.muli_divsi_one]
  generalize chunksW v = x
  simp [Scalar.addi, Scalar.subi, IntOp.addi, IntOp.subi]

/-- A loop over chunks runs once per chunk of the total, -/
theorem main_trips {v : BitVec 32} (h : v.toInt ≤ 3584) : (mainLoop v).trips = nOf v := by
  show Scf.trips 0#32 (mainLoop v).ub 1#32 = nOf v
  rw [mainUb_eq]
  unfold nOf
  rcases lt_or_ge (v.toInt + 255) 0 with h0 | h0
  · have := chunksW_neg h0
    rw [show ((v.toInt + 255) / 256).toNat = 0 by omega]
    exact Nat.le_zero.mp (trips_le (lit 0) (word (chunksW v)) (lit 1) 0 ⟨by decide, by omega⟩)
  · exact trips_eq (lit 0) (chunksW_nonneg h h0) (lit 1) _ ⟨by decide, by omega⟩

/-- has a meaning, -/
theorem main_ok {v : BitVec 32} (h : v.toInt ≤ 3584) : (mainLoop v).OK := by
  refine ⟨by show (0 : Int) < (1#32 : BitVec 32).toInt; decide, ?_⟩
  have h1 := main_trips h
  have h2 := nOf_le h
  show (0#32 : BitVec 32).toInt + ((mainLoop v).trips : Int) * (1#32 : BitVec 32).toInt < 2 ^ 31
  rw [h1, show (0#32 : BitVec 32).toInt = 0 from rfl, show (1#32 : BitVec 32).toInt = 1 from rfl]
  omega

/-- and its remainder never runs. -/
theorem rem_trips (v : BitVec 32) : (remLoop v).trips = 0 := Scf.rem_trips 0#32 (Scalar.subi (chunksW v) 0#32)
theorem rem_ok (v : BitVec 32) : (remLoop v).OK := Scf.rem_ok 0#32 (Scalar.subi (chunksW v) 0#32)
theorem rem_elim {v : BitVec 32} (k : Fin (remLoop v).trips) : False := Scf.rem_no_trip _ _ k

/-! ## Bounds and offsets at a trip -/

theorem chunksW_le (v : BitVec 32) : (chunksW v).toInt ≤ 8388608 := by
  have hcor : ¬ IntOp.SDivCorner (Scalar.addi v 255#32) 256#32 := by
    unfold IntOp.SDivCorner; rintro (h | ⟨_, h⟩) <;> revert h <;> decide
  have hr := word_range (Scalar.addi v 255#32)
  have hdiv : (Scalar.divsi (Scalar.addi v 255#32) 256#32).toInt = (Scalar.addi v 255#32).toInt.tdiv 256 := by
    show (IntOp.divsi .scalar _ _).toInt = _
    unfold IntOp.divsi
    rw [if_neg hcor, BitVec.toInt_sdiv_of_ne_or_ne _ _ (Or.inr (by decide))]; rfl
  generalize (Scalar.addi v 255#32).toInt = x at hr hdiv
  have hq : x.tdiv 256 ≤ 8388608 ∧ -8388608 ≤ x.tdiv 256 := by
    rcases lt_or_ge x 0 with h0 | h0
    · rw [show x = -(-x) by omega, Int.neg_tdiv, Int.tdiv_eq_ediv_of_nonneg (by omega)]; omega
    · rw [Int.tdiv_eq_ediv_of_nonneg h0]; omega
  have h2 := Affine.subi (to_isInt hdiv) (lit 1) (e := x.tdiv 256 - 1) ⟨rfl, by omega, by omega⟩
  have h3 := of_isInt h2
  unfold chunksW
  dsimp only [Scalar.select]
  split <;> omega

theorem trips_le (v : BitVec 32) : (mainLoop v).trips ≤ 8388608 := by
  show Scf.trips 0#32 (mainLoop v).ub 1#32 ≤ _
  rw [mainUb_eq]
  have := chunksW_le v
  exact Affine.trips_le (lit 0) (word (chunksW v)) (lit 1) _ ⟨by decide, by omega⟩

theorem iv_eq (k : ℕ) : Scf.iv 0#32 1#32 k = BitVec.ofNat 32 k := by simp [Scf.iv]

theorem iv_toNat {k : ℕ} (hk : k < 8388608) : (Scf.iv 0#32 1#32 k).toNat = k := by
  rw [iv_eq, BitVec.toNat_ofNat, Nat.mod_eq_of_lt (by omega)]

/-- `64 k`, `2 k`, `2 k + 1` and `896 p + 64 k` as words do not wrap. -/
theorem w64 {k : ℕ} (hk : k < 8388608) : (Scalar.muli (Scf.iv 0#32 1#32 k) 64#32).toNat = 64 * k := by
  rw [iv_eq]
  simp only [Scalar.muli, IntOp.muli, BitVec.toNat_mul, BitVec.toNat_ofNat]
  omega
theorem w2 {k : ℕ} (hk : k < 8388608) : (Scalar.muli 2#32 (Scf.iv 0#32 1#32 k)).toNat = 2 * k := by
  rw [iv_eq]
  simp only [Scalar.muli, IntOp.muli, BitVec.toNat_mul, BitVec.toNat_ofNat]
  omega
theorem w21 {k : ℕ} (hk : k < 8388608) : (Scalar.addi (Scalar.muli 2#32 (Scf.iv 0#32 1#32 k)) 1#32).toNat = 2 * k + 1 := by
  rw [iv_eq]
  simp only [Scalar.addi, IntOp.addi, Scalar.muli, IntOp.muli, BitVec.toNat_add, BitVec.toNat_mul, BitVec.toNat_ofNat]
  omega
theorem wsrc {p k : ℕ} (hp : p < 112) (hk : k < 8388608) :
    (Scalar.addi (Scalar.muli (BitVec.ofNat 32 p) 896#32) (Scalar.muli (Scf.iv 0#32 1#32 k) 64#32)).toNat = 896 * p + 64 * k := by
  rw [iv_eq]
  simp only [Scalar.addi, IntOp.addi, Scalar.muli, IntOp.muli, BitVec.toNat_add, BitVec.toNat_mul, BitVec.toNat_ofNat]
  omega
theorem wsrc1 {p k : ℕ} (hp : p < 112) (hk : k < 8388608) :
    (Scalar.addi (Scalar.muli (Scalar.addi (BitVec.ofNat 32 p) 1#32) 896#32) (Scalar.muli (Scf.iv 0#32 1#32 k) 64#32)).toNat = 896 * (p + 1) + 64 * k := by
  rw [iv_eq]
  simp only [Scalar.addi, IntOp.addi, Scalar.muli, IntOp.muli, BitVec.toNat_add, BitVec.toNat_mul, BitVec.toNat_ofNat]
  omega
theorem wslot (i : grid0.Coords) : (Scalar.remsi (BitVec.ofNat 32 (i 0).val) 2#32).toNat = (i 0).val % 2 := congrFun (k0_off2_eq i) 0
theorem wslot1 (i : grid0.Coords) : (Scalar.subi 1#32 (Scalar.remsi (BitVec.ofNat 32 (i 0).val) 2#32)).toNat = 1 - (i 0).val % 2 := congrFun (k0_off9_eq i) 0
theorem i_lt (i : grid0.Coords) : (i 0).val < 112 := (i 0).isLt

variable (i : grid0.Coords) (v : BitVec 32) (k : Fin (mainLoop v).trips)

theorem klt : k.val < 8388608 := lt_of_lt_of_le k.isLt (trips_le v)
theorem off3_eq : k0_off3 i v k = ![((i 0).val % 2), 64 * k.val, 0] := congrArg₂ (fun x y => (![x, y, 0] : Fin 3 → ℕ)) (wslot i) (w64 (klt v k))
instance closedOff3 : ClosedOff (k0_off3 i v k) := ⟨_, off3_eq i v k⟩
theorem off4_eq : k0_off4 i v k = ![896 * (i 0).val + 64 * k.val, 0] := congrArg (fun x => (![x, 0] : Fin 2 → ℕ)) (wsrc (i_lt i) (klt v k))
instance closedOff4 : ClosedOff (k0_off4 i v k) := ⟨_, off4_eq i v k⟩
theorem off10_eq : k0_off10 i v k = ![1 - (i 0).val % 2, 64 * k.val, 0] := congrArg₂ (fun x y => (![x, y, 0] : Fin 3 → ℕ)) (wslot1 i) (w64 (klt v k))
instance closedOff10 : ClosedOff (k0_off10 i v k) := ⟨_, off10_eq i v k⟩
theorem off11_eq : k0_off11 i v k = ![896 * ((i 0).val + 1) + 64 * k.val, 0] := congrArg (fun x => (![x, 0] : Fin 2 → ℕ)) (wsrc1 (i_lt i) (klt v k))
instance closedOff11 : ClosedOff (k0_off11 i v k) := ⟨_, off11_eq i v k⟩
theorem off18_eq : k0_off18 i v k = ![((i 0).val % 2), 64 * k.val, 0] := congrArg₂ (fun x y => (![x, y, 0] : Fin 3 → ℕ)) (wslot i) (w64 (klt v k))
instance closedOff18 : ClosedOff (k0_off18 i v k) := ⟨_, off18_eq i v k⟩
theorem off19_eq : k0_off19 i v k = ![896 * (i 0).val + 64 * k.val, 0] := congrArg (fun x => (![x, 0] : Fin 2 → ℕ)) (wsrc (i_lt i) (klt v k))
instance closedOff19 : ClosedOff (k0_off19 i v k) := ⟨_, off19_eq i v k⟩
theorem off23_eq : k0_off23 i v k = ![((i 0).val % 2), 64 * k.val, 0] := congrArg₂ (fun x y => (![x, y, 0] : Fin 3 → ℕ)) (wslot i) (w64 (klt v k))
instance closedOff23 : ClosedOff (k0_off23 i v k) := ⟨_, off23_eq i v k⟩
theorem off24_eq : k0_off24 v k = ![2 * k.val, 0] := congrArg (fun x => (![x, 0] : Fin 2 → ℕ)) (w2 (klt v k))
instance closedOff24 : ClosedOff (k0_off24 v k) := ⟨_, off24_eq v k⟩
theorem off25_eq : k0_off25 v k = ![2 * k.val + 1, 0] := congrArg (fun x => (![x, 0] : Fin 2 → ℕ)) (w21 (klt v k))
instance closedOff25 : ClosedOff (k0_off25 v k) := ⟨_, off25_eq v k⟩
theorem off26_eq : k0_off26 v k = ![k.val, 0, 0] := congrArg (fun x => (![x, 0, 0] : Fin 3 → ℕ)) (iv_toNat (klt v k))
instance closedOff26 : ClosedOff (k0_off26 v k) := ⟨_, off26_eq v k⟩
theorem off31_eq : k0_off31 v k = ![k.val, 0, 0] := congrArg (fun x => (![x, 0, 0] : Fin 3 → ℕ)) (iv_toNat (klt v k))
instance closedOff31 : ClosedOff (k0_off31 v k) := ⟨_, off31_eq v k⟩
theorem off34_eq : k0_off34 v k = ![k.val, 0, 0] := congrArg (fun x => (![x, 0, 0] : Fin 3 → ℕ)) (iv_toNat (klt v k))
instance closedOff34 : ClosedOff (k0_off34 v k) := ⟨_, off34_eq v k⟩
theorem off35_eq : k0_off35 v k = ![2 * k.val, 0] := congrArg (fun x => (![x, 0] : Fin 2 → ℕ)) (w2 (klt v k))
instance closedOff35 : ClosedOff (k0_off35 v k) := ⟨_, off35_eq v k⟩
theorem off36_eq : k0_off36 v k = ![2 * k.val + 1, 0] := congrArg (fun x => (![x, 0] : Fin 2 → ℕ)) (w21 (klt v k))
instance closedOff36 : ClosedOff (k0_off36 v k) := ⟨_, off36_eq v k⟩
theorem off37_eq : k0_off37 i v k = ![((i 0).val % 2), 64 * k.val, 0] := congrArg₂ (fun x y => (![x, y, 0] : Fin 3 → ℕ)) (wslot i) (w64 (klt v k))
instance closedOff37 : ClosedOff (k0_off37 i v k) := ⟨_, off37_eq i v k⟩

/-! ## The kernel's checks -/

variable {v} (h : v.toInt ≤ 3584)
include h

theorem klt14 : k.val < 14 := lt_of_lt_of_le k.isLt ((main_trips h).le.trans (nOf_le h))

theorem inb_dst (s : ℕ) (hs : s < 2) : ∀ a, (![s, 64 * k.val, 0] : Fin 3 → ℕ) a + S1x64x128.size a ≤ S2x896x128.size a := by
  have hk := klt14 k h
  intro a; fin_cases a
  · show s + 1 ≤ 2; omega
  · show 64 * k.val + 64 ≤ 896; omega
  · show 0 + 128 ≤ 128; omega
theorem inb_src (p : ℕ) (hp : p < 112) : ∀ a, (![896 * p + 64 * k.val, 0] : Fin 2 → ℕ) a + S64x128.size a ≤ S100352x128.size a := by
  have hk := klt14 k h
  intro a; fin_cases a
  · show 896 * p + 64 * k.val + 64 ≤ 100352; omega
  · show 0 + 128 ≤ 128; omega
theorem inb_scale (d : ℕ) (hd : d < 2) : ∀ a, (![2 * k.val + d, 0] : Fin 2 → ℕ) a + S1x128.size a ≤ S32x128.size a := by
  have hk := klt14 k h
  intro a; fin_cases a
  · show 2 * k.val + d + 1 ≤ 32; omega
  · show 0 + 128 ≤ 128; omega
theorem inb_chunk : ∀ a, (![k.val, 0, 0] : Fin 3 → ℕ) a + S1x8x256.size a ≤ S14x8x256.size a := by
  have hk := klt14 k h
  intro a; fin_cases a
  · show k.val + 1 ≤ 14; omega
  · show 0 + 8 ≤ 8; omega
  · show 0 + 256 ≤ 256; omega
omit h in
theorem dvd64 : 64 ∣ (Scalar.muli (Scf.iv 0#32 1#32 k.val) 64#32).toNat := by rw [w64 (klt v k)]; exact ⟨_, rfl⟩
omit h in
theorem dvd_src {p : ℕ} (hp : p < 112) : 64 ∣ (Scalar.addi (Scalar.muli (BitVec.ofNat 32 p) 896#32) (Scalar.muli (Scf.iv 0#32 1#32 k.val) 64#32)).toNat := by
  rw [wsrc hp (klt v k)]; omega
omit h in
theorem dvd_src1 {p : ℕ} (hp : p < 112) : 64 ∣ (Scalar.addi (Scalar.muli (Scalar.addi (BitVec.ofNat 32 p) 1#32) 896#32) (Scalar.muli (Scf.iv 0#32 1#32 k.val) 64#32)).toNat := by
  rw [wsrc1 hp (klt v k)]; omega

theorem chk1 : k0_chk1 i v := by
  refine ⟨fun _ => main_ok h, fun k _ => dvd_src k (i_lt i), fun k _ => dvd64 k, fun k _ => ?_, fun k _ => ?_,
    fun _ => rem_ok v, fun k _ => (rem_elim k).elim, fun k _ => (rem_elim k).elim, fun k _ => (rem_elim k).elim, fun k _ => (rem_elim k).elim⟩
  · rw [off3_eq i v k]; exact inb_dst k h _ (by omega)
  · rw [off4_eq i v k]; exact inb_src k h _ (i_lt i)

omit h in
theorem cond2_lt (hc : k0_cond2 i = 1#1) : (i 0).val + 1 < 112 := by revert i; decide +kernel

theorem chk2 : k0_chk2 i v := by
  refine ⟨fun _ => main_ok h, fun k _ => dvd_src1 k (i_lt i), fun k _ => dvd64 k, fun k _ => ?_, fun k hc => ?_,
    fun _ => rem_ok v, fun k _ => (rem_elim k).elim, fun k _ => (rem_elim k).elim, fun k _ => (rem_elim k).elim, fun k _ => (rem_elim k).elim⟩
  · rw [off10_eq i v k]; exact inb_dst k h _ (by omega)
  · rw [off11_eq i v k]; exact inb_src k h _ (cond2_lt i hc)

theorem chk3 : k0_chk3 i v := by
  refine ⟨⟨main_ok h, fun k => dvd_src k (i_lt i), fun k => dvd64 k, fun k => ?_, fun k => ?_,
    rem_ok v, fun k => (rem_elim k).elim, fun k => (rem_elim k).elim, fun k => (rem_elim k).elim, fun k => (rem_elim k).elim,
    main_ok h, fun k => dvd64 k, fun k => ?_, fun k => ?_, fun k => ?_, fun k => ?_,
    rem_ok v, fun k => (rem_elim k).elim, fun k => (rem_elim k).elim, fun k => (rem_elim k).elim, fun k => (rem_elim k).elim, fun k => (rem_elim k).elim,
    main_ok h, fun k => ?_, rem_ok v, fun k => (rem_elim k).elim,
    main_ok h, fun k => ?_, fun k => ?_, fun k => ?_, fun k => dvd64 k, fun k => ?_⟩,
    rem_ok v, fun k => (rem_elim k).elim, fun k => (rem_elim k).elim, fun k => (rem_elim k).elim, fun k => (rem_elim k).elim, fun k => (rem_elim k).elim⟩
  · rw [off18_eq i v k]; exact inb_dst k h _ (by omega)
  · rw [off19_eq i v k]; exact inb_src k h _ (i_lt i)
  · rw [off23_eq i v k]; exact inb_dst k h _ (by omega)
  · rw [off24_eq v k]; exact inb_scale k h 0 (by omega)
  · rw [off25_eq v k]; exact inb_scale k h 1 (by omega)
  · rw [off26_eq v k]; exact inb_chunk k h
  · rw [off31_eq v k]; exact inb_chunk k h
  · rw [off34_eq v k]; exact inb_chunk k h
  · rw [off35_eq v k]; exact inb_scale k h 0 (by omega)
  · rw [off36_eq v k]; exact inb_scale k h 1 (by omega)
  · rw [off37_eq i v k]; exact inb_dst k h _ (by omega)

end Cert.KernelIdeal.Hand

end
-- ==== Proof.KernelIdeal.Blocks.lean ====
/-
  Hand-written, untrusted. What the kernel's transfers move: the blocks of 64 rows of a slot of each staging
  buffer and of a pair's rows in each gathered array, what a slot holds when a pair's rows have landed, what
  each transfer of a batch hands back, and a buffer as the blocks it is made of.
-/
module

public import proofs.«01_k».proof.Proof.KernelIdeal.Words
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks -/

/-- The two staging buffers and the two arrays of gathered rows. -/
abbrev kBuf : Memref sig .tc .vmem S2x896x128 .i32 := Memref.whole cc0_scratch0
abbrev vBuf : Memref sig .tc .vmem S2x896x128 .i32 := Memref.whole cc0_scratch1
abbrev koArr : Memref sig .tc .hbm S100352x128 .i32 := Memref.whole main_arg10
abbrev voArr : Memref sig .tc .hbm S100352x128 .i32 := Memref.whole main_arg11

/-- A block of 64 rows of one slot of a staging buffer, and of a gathered array, as the kernel spells them. -/
def blkOf (b : Memref sig .tc .vmem S2x896x128 .i32) (o : Fin 3 → ℕ) (h : ∀ a, o a + S1x64x128.size a ≤ S2x896x128.size a) :
    Memref sig .tc .vmem S64x128 .i32 :=
  (b.slice (Rect.unit (s := S2x896x128) o S1x64x128.size h) (fun _ => rfl)).squeeze S64x128 squeezes_S1x64x128_S64x128
def srcOf (b : Memref sig .tc .hbm S100352x128 .i32) (o : Fin 2 → ℕ) (h : ∀ a, o a + S64x128.size a ≤ S100352x128.size a) :
    Memref sig .tc .hbm S64x128 .i32 :=
  b.slice (Rect.unit (s := S100352x128) o S64x128.size h) (fun _ => rfl)
/-- The semaphore of a slot. -/
def semOf (o : Fin 1 → ℕ) (h : ∀ a, o a + S1.size a ≤ S2.size a) : DmaSem sig :=
  ((cc0_scratch3.slice (Rect.unit (s := S2) o S1.size h)).squeeze S_ squeezes_S1_S_).sem

theorem inbD (s : Fin 2) (b : Fin 14) : ∀ a, (![s.val, 64 * b.val, 0] : Fin 3 → ℕ) a + S1x64x128.size a ≤ S2x896x128.size a := by
  intro a; fin_cases a
  · show s.val + 1 ≤ 2; omega
  · show 64 * b.val + 64 ≤ 896; omega
  · show 0 + 128 ≤ 128; omega
theorem inbS (p : Fin 112) (b : Fin 14) : ∀ a, (![896 * p.val + 64 * b.val, 0] : Fin 2 → ℕ) a + S64x128.size a ≤ S100352x128.size a := by
  intro a; fin_cases a
  · show 896 * p.val + 64 * b.val + 64 ≤ 100352; omega
  · show 0 + 128 ≤ 128; omega
theorem inbC (s : Fin 2) : ∀ a, (![s.val] : Fin 1 → ℕ) a + S1.size a ≤ S2.size a := by
  intro a; fin_cases a
  show s.val + 1 ≤ 2; omega

/-- Block `b` of slot `s` of each staging buffer, block `b` of pair `p`'s rows of each gathered array, and
    slot `s`'s semaphore. -/
def kBlk (s : Fin 2) (b : Fin 14) : Memref sig .tc .vmem S64x128 .i32 := blkOf kBuf ![s.val, 64 * b.val, 0] (inbD s b)
def vBlk (s : Fin 2) (b : Fin 14) : Memref sig .tc .vmem S64x128 .i32 := blkOf vBuf ![s.val, 64 * b.val, 0] (inbD s b)
def koBlk (p : Fin 112) (b : Fin 14) : Memref sig .tc .hbm S64x128 .i32 := srcOf koArr ![896 * p.val + 64 * b.val, 0] (inbS p b)
def voBlk (p : Fin 112) (b : Fin 14) : Memref sig .tc .hbm S64x128 .i32 := srcOf voArr ![896 * p.val + 64 * b.val, 0] (inbS p b)
def cell (s : Fin 2) : DmaSem sig := semOf ![s.val] (inbC s)

/-! ## Which elements a block is -/

/-- The elements of block `b` of slot `s`: those at slot `s` whose row is one of the block's 64. -/
def dSet (s : Fin 2) (b : Fin 14) : Finset S2x896x128.Idx := (Rect.unit (s := S2x896x128) ![s.val, 64 * b.val, 0] S1x64x128.size (inbD s b)).set
def sSet (p : Fin 112) (b : Fin 14) : Finset S100352x128.Idx := (Rect.unit (s := S100352x128) ![896 * p.val + 64 * b.val, 0] S64x128.size (inbS p b)).set

theorem kBlk_set (s : Fin 2) (b : Fin 14) : (kBlk s b).view.set = dSet s b := by
  unfold kBlk blkOf; exact (View.set_reshape _ _).trans (View.set_slice_whole _ _)
theorem vBlk_set (s : Fin 2) (b : Fin 14) : (vBlk s b).view.set = dSet s b := by
  unfold vBlk blkOf; exact (View.set_reshape _ _).trans (View.set_slice_whole _ _)
theorem koBlk_set (p : Fin 112) (b : Fin 14) : (koBlk p b).view.set = sSet p b := by
  unfold koBlk srcOf; exact View.set_slice_whole _ _
theorem voBlk_set (p : Fin 112) (b : Fin 14) : (voBlk p b).view.set = sSet p b := by
  unfold voBlk srcOf; exact View.set_slice_whole _ _

theorem mem_dSet (s : Fin 2) (b : Fin 14) (y : S2x896x128.Idx) :
    y ∈ dSet s b ↔ (y 0).val = s.val ∧ 64 * b.val ≤ (y 1).val ∧ (y 1).val < 64 * b.val + 64 := by
  unfold dSet
  rw [Rect.mem_set_unit]
  have h2 : (y 2).val < 128 := (y 2).isLt
  constructor
  · intro H
    have a0 : s.val ≤ (y 0).val ∧ (y 0).val < s.val + 1 := H 0
    have a1 : 64 * b.val ≤ (y 1).val ∧ (y 1).val < 64 * b.val + 64 := H 1
    omega
  · intro H a; fin_cases a
    · show s.val ≤ (y 0).val ∧ (y 0).val < s.val + 1; omega
    · show 64 * b.val ≤ (y 1).val ∧ (y 1).val < 64 * b.val + 64; omega
    · show 0 ≤ (y 2).val ∧ (y 2).val < 0 + 128; omega
theorem mem_sSet (p : Fin 112) (b : Fin 14) (y : S100352x128.Idx) :
    y ∈ sSet p b ↔ 896 * p.val + 64 * b.val ≤ (y 0).val ∧ (y 0).val < 896 * p.val + 64 * b.val + 64 := by
  unfold sSet
  rw [Rect.mem_set_unit]
  have h2 : (y 1).val < 128 := (y 1).isLt
  constructor
  · intro H; exact H 0
  · intro H a; fin_cases a
    · exact H
    · show 0 ≤ (y 1).val ∧ (y 1).val < 0 + 128; omega

/-- The blocks by slot (pair) and number, together: they are apart and are the whole buffer (array). -/
def dSet2 (x : Fin 2 × Fin 14) : Finset S2x896x128.Idx := dSet x.1 x.2
def sSet2 (x : Fin 112 × Fin 14) : Finset S100352x128.Idx := sSet x.1 x.2
theorem dSet2_disjoint : ∀ x y : Fin 2 × Fin 14, x ≠ y → Disjoint (dSet2 x) (dSet2 y) := fun x y hne => by
  rw [Finset.disjoint_left]; intro z hx hy
  unfold dSet2 at hx hy
  rw [mem_dSet] at hx hy
  exact hne (Prod.ext (Fin.ext (by omega)) (Fin.ext (by omega)))
theorem dSet2_cover : Finset.univ.biUnion dSet2 = Finset.univ := by
  ext y
  have h0 : (y 0).val < 2 := (y 0).isLt
  have h1 : (y 1).val < 896 := (y 1).isLt
  simp only [Finset.mem_biUnion, Finset.mem_univ, true_and, iff_true]
  refine ⟨(⟨(y 0).val, h0⟩, ⟨(y 1).val / 64, by omega⟩), ?_⟩
  unfold dSet2; rw [mem_dSet]
  refine ⟨rfl, ?_, ?_⟩
  · show 64 * ((y 1).val / 64) ≤ _; omega
  · show _ < 64 * ((y 1).val / 64) + 64; omega
theorem sSet2_disjoint : ∀ x y : Fin 112 × Fin 14, x ≠ y → Disjoint (sSet2 x) (sSet2 y) := fun x y hne => by
  rw [Finset.disjoint_left]; intro z hx hy
  unfold sSet2 at hx hy
  rw [mem_sSet] at hx hy
  have := x.2.isLt; have := y.2.isLt
  exact hne (Prod.ext (Fin.ext (by omega)) (Fin.ext (by omega)))
theorem sSet2_cover : Finset.univ.biUnion sSet2 = Finset.univ := by
  ext y
  have h0 : (y 0).val < 100352 := (y 0).isLt
  simp only [Finset.mem_biUnion, Finset.mem_univ, true_and, iff_true]
  refine ⟨(⟨(y 0).val / 896, by omega⟩, ⟨(y 0).val % 896 / 64, by omega⟩), ?_⟩
  unfold sSet2; rw [mem_sSet]
  refine ⟨?_, ?_⟩
  · show 896 * ((y 0).val / 896) + 64 * ((y 0).val % 896 / 64) ≤ _; omega
  · show _ < 896 * ((y 0).val / 896) + 64 * ((y 0).val % 896 / 64) + 64; omega

/-! ## What a slot holds when a pair's rows have landed -/

/-- Row `r`, lane `l` of a slot is row `896 p + r`, lane `l` of the array. -/
def rowIdx (p : Fin 112) (x : S2x896x128.Idx) : S100352x128.Idx :=
  fun a => match a with
    | ⟨0, _⟩ => (⟨896 * p.val + (x 1).val, by have h : (x 1).val < 896 := (x 1).isLt; show _ < 100352; omega⟩ : Fin 100352)
    | ⟨1, _⟩ => (⟨(x 2).val, (x 2).isLt⟩ : Fin 128)
/-- A staging buffer's contents that hold pair `p`'s rows of `ko` in either slot. -/
def landedOf (ko : S100352x128.Idx → Elt F .i32) (p : Fin 112) : S2x896x128.Idx → Elt F .i32 := fun x => ko (rowIdx p x)

theorem blk_write_aux (s : Fin 2) (p : Fin 112) (c : Fin 14) (y : S64x128.Idx) :
    rowIdx p ((Rect.unit (s := S2x896x128) ![s.val, 64 * c.val, 0] S1x64x128.size (inbD s c)).emb (Shape.reshapeEquiv squeezes_S1x64x128_S64x128.numel_eq y))
      = (Rect.unit (s := S100352x128) ![896 * p.val + 64 * c.val, 0] S64x128.size (inbS p c)).emb y := by
  have hy : Shape.reshapeEquiv squeezes_S1x64x128_S64x128.numel_eq y = ix3 0 (y 0) (y 1) := by
    rw [show y = ix2 (y 0) (y 1) by funext a; fin_cases a <;> rfl]
    exact reshapeEquiv_ix2_1ab _ _ _
  rw [hy]
  funext a
  fin_cases a
  · apply Fin.ext
    show 896 * p.val + (64 * c.val + 1 * (y 0).val) = 896 * p.val + 64 * c.val + 1 * (y 0).val
    omega
  · apply Fin.ext
    show 0 + 1 * (y 1).val = 0 + 1 * (y 1).val
    rfl

/-- What a transfer of block `b` leaves on that block, whatever was there: the rows of the pair. -/
def kWr (ko : S100352x128.Idx → Elt F .i32) (s : Fin 2) (p : Fin 112) (b : Fin 14) (g : S2x896x128.Idx → Elt F .i32) : S2x896x128.Idx → Elt F .i32 :=
  (kBlk s b).view.write (Elt F) g ((koBlk p b).view.read (Elt F) ko) Finset.univ
theorem kBlk_landed (ko : S100352x128.Idx → Elt F .i32) (s : Fin 2) (p : Fin 112) (b : Fin 14) (g : S2x896x128.Idx → Elt F .i32) :
    ∀ x ∈ dSet s b, kWr ko s p b g x = landedOf ko p x := by
  intro x hx
  rw [← kBlk_set] at hx
  obtain ⟨y, -, rfl⟩ := Finset.mem_map.mp hx
  exact (View.write_emb_of_mem (v := (kBlk s b).view) (Val := Elt F) g ((koBlk p b).view.read (Elt F) ko) (Finset.mem_univ y)).trans
    (congrArg ko (blk_write_aux s p b y).symm)
def vWr (vo : S100352x128.Idx → Elt F .i32) (s : Fin 2) (p : Fin 112) (b : Fin 14) (g : S2x896x128.Idx → Elt F .i32) : S2x896x128.Idx → Elt F .i32 :=
  (vBlk s b).view.write (Elt F) g ((voBlk p b).view.read (Elt F) vo) Finset.univ
theorem vBlk_landed (vo : S100352x128.Idx → Elt F .i32) (s : Fin 2) (p : Fin 112) (b : Fin 14) (g : S2x896x128.Idx → Elt F .i32) :
    ∀ x ∈ dSet s b, vWr vo s p b g x = landedOf vo p x := by
  intro x hx
  rw [← vBlk_set] at hx
  obtain ⟨y, -, rfl⟩ := Finset.mem_map.mp hx
  exact (View.write_emb_of_mem (v := (vBlk s b).view) (Val := Elt F) g ((voBlk p b).view.read (Elt F) vo) (Finset.mem_univ y)).trans
    (congrArg vo (blk_write_aux s p b y).symm)

/-! ## What is held -/

section Held

variable (c : Dev nD) (ko vo : S100352x128.Idx → Elt F .i32)

/-- A block of a staging buffer, held at contents `g` of the buffer (of which only the block's elements count). -/
abbrev kAt (s : Fin 2) (g : S2x896x128.Idx → Elt F .i32) (b : Fin 14) : sProp 𝕄 := (c : Thread nD τ).loc cc0_scratch0 ↦[dSet s b]{fullShare} g
abbrev vAt (s : Fin 2) (g : S2x896x128.Idx → Elt F .i32) (b : Fin 14) : sProp 𝕄 := (c : Thread nD τ).loc cc0_scratch1 ↦[dSet s b]{fullShare} g
/-- The blocks of a staging pair held at some contents. -/
abbrev free (s : Fin 2) (b : Fin 14) : sProp 𝕄 := iprop((∃ g, kAt c s g b) ∗ ∃ g, vAt c s g b)
/-- The same, holding pair `p`'s rows. -/
abbrev full (s : Fin 2) (p : Fin 112) (b : Fin 14) : sProp 𝕄 := iprop(kAt c s (landedOf ko p) b ∗ vAt c s (landedOf vo p) b)
/-- A block of the gathered arrays. -/
abbrev koAt (p : Fin 112) (b : Fin 14) : sProp 𝕄 := (c : Thread nD τ).loc main_arg10 ↦[sSet p b]{fullShare} ko
abbrev voAt (p : Fin 112) (b : Fin 14) : sProp 𝕄 := (c : Thread nD τ).loc main_arg11 ↦[sSet p b]{fullShare} vo
abbrev home (p : Fin 112) (b : Fin 14) : sProp 𝕄 := iprop(koAt c ko p b ∗ voAt c vo p b)

/-- What transfers `2 i` and `2 i + 1` of a batch hand back: block `i` landed, and the block it was read from. -/
def dK (s : Fin 2) (p : Fin 112) (i : ℕ) : sProp 𝕄 := if hb : i < 14 then iprop(kAt c s (landedOf ko p) ⟨i, hb⟩ ∗ koAt c ko p ⟨i, hb⟩) else emp
def dV (s : Fin 2) (p : Fin 112) (i : ℕ) : sProp 𝕄 := if hb : i < 14 then iprop(vAt c s (landedOf vo p) ⟨i, hb⟩ ∗ voAt c vo p ⟨i, hb⟩) else emp
instance dK_storable (s : Fin 2) (p : Fin 112) (i : ℕ) : BI.Storable (upEmb : UEmb _ 𝕄) (dK c ko s p i) := by
  unfold dK; split <;> infer_instance
instance dV_storable (s : Fin 2) (p : Fin 112) (i : ℕ) : BI.Storable (upEmb : UEmb _ 𝕄) (dV c vo s p i) := by
  unfold dV; split <;> infer_instance
abbrev dAll (s : Fin 2) (p : Fin 112) (n : ℕ) : Fin (2 * n) → sProp 𝕄 := Ring.interleaved n (dK c ko s p) (dV c vo s p)

/-- The credit of one block, the same for every block of either buffer. -/
def NN : ℕ := (kBlk 0 0).view.dmaCredit
theorem NN_pos : 0 < NN := View.dmaCredit_pos _ (by decide)
theorem kBlk_credit (s : Fin 2) (b : Fin 14) : (kBlk s b).view.dmaCredit = NN := rfl
theorem vBlk_credit (s : Fin 2) (b : Fin 14) : (vBlk s b).view.dmaCredit = NN := rfl

/-- The batch on slot `s`'s semaphore that brings `n` blocks of pair `p`: `j` transfers issued, `u` units consumed. -/
abbrev batch (s : Fin 2) (p : Fin 112) (n j u : ℕ) : sProp 𝕄 :=
  Transfers.Batch (countersEmb (U := Pipeline.UD sig nD τ)) (c : Thread nD τ) (.dma (cell s)) () NN (dAll c ko vo s p n) j u
abbrev cell0 (s : Fin 2) : sProp 𝕄 := semVal ((c : Thread nD τ), SemLoc.dma (cell s)) 0

/-- A slot free; a pair's rows at home; a slot with `n` of pair `p`'s blocks on their way; a slot with them landed. -/
def slotFree (s : Fin 2) : sProp 𝕄 := bigSep Finset.univ (free c s)
def pairHome (p : Fin 112) : sProp 𝕄 := bigSep Finset.univ (home c ko vo p)
def inFlight (s : Fin 2) (p : Fin 112) (n : ℕ) : sProp 𝕄 :=
  iprop(batch c ko vo s p n (2 * n) 0 ∗ bigSep (Ring.rangeSet 14 n 14) (free c s) ∗ bigSep (Ring.rangeSet 14 n 14) (home c ko vo p))
def landed (s : Fin 2) (p : Fin 112) (n : ℕ) : sProp 𝕄 :=
  iprop(cell0 c s ∗ bigSep (Ring.rangeSet 14 0 n) (full c ko vo s p) ∗ bigSep (Ring.rangeSet 14 n 14) (free c s) ∗ pairHome c ko vo p)

end Held

/-! ## The buffers and arrays as their blocks -/

section Split

variable (c : Dev nD) (ko vo : S100352x128.Idx → Elt F .i32)

theorem fin2_split (Φ : Fin 2 → sProp 𝕄) : bigSep Finset.univ Φ = iprop(Φ 0 ∗ Φ 1) := BI.bigSep_univ_two Φ

theorem free_intro (gk gv : S2x896x128.Idx → Elt F .i32) (s : Fin 2) (b : Fin 14) :
    iprop(kAt c s gk b ∗ vAt c s gv b) ⊢ free c s b := by
  iintro ⟨HK, HV⟩
  isplitl [HK]
  · iexists gk; iexact HK
  · iexists gv; iexact HV

/-- The two staging buffers held whole are two free slots, -/
theorem slots_split (gk gv : S2x896x128.Idx → Elt F .i32) :
    iprop(((c : Thread nD τ).loc cc0_scratch0 ↦{fullShare} gk) ∗ ((c : Thread nD τ).loc cc0_scratch1 ↦{fullShare} gv))
      ⊢ iprop(slotFree c 0 ∗ slotFree c 1 : sProp 𝕄) := by
  rw [Ring.pointsTo_blocks (ℓ := (c : Thread nD τ).loc cc0_scratch0) (q := fullShare) dSet2 dSet2_disjoint dSet2_cover gk,
    Ring.pointsTo_blocks (ℓ := (c : Thread nD τ).loc cc0_scratch1) (q := fullShare) dSet2 dSet2_disjoint dSet2_cover gv,
    ← BI.bigSep_sep', ← fin2_split (fun s => slotFree (F := F) c s)]
  unfold slotFree
  rw [BI.bigSep_univ_prod]
  refine BI.bigSep_mono fun s _ => BI.bigSep_mono fun b _ => ?_
  exact free_intro c gk gv s b

/-- and back, at some contents. -/
theorem slots_join [∀ e, Nonempty (Elt F e)] :
    iprop(slotFree c 0 ∗ slotFree c 1 : sProp 𝕄)
      ⊢ iprop((∃ gk, (c : Thread nD τ).loc cc0_scratch0 ↦{fullShare} gk) ∗ ∃ gv, (c : Thread nD τ).loc cc0_scratch1 ↦{fullShare} gv) := by
  rw [← fin2_split (fun s => slotFree (F := F) c s)]
  unfold slotFree
  rw [← BI.bigSep_univ_prod (Φ := fun x : Fin 2 × Fin 14 => free (F := F) c x.1 x.2)]
  refine (Entails.of_eq (BI.bigSep_sep' _ _ _)).trans (BI.sep_mono ?_ ?_)
  · exact Ring.pointsTo_blocks_join_exists (ℓ := (c : Thread nD τ).loc cc0_scratch0) (q := fullShare) dSet2 dSet2_disjoint dSet2_cover
      (Memref.whole cc0_scratch0 : Memref sig .tc .vmem S2x896x128 .i32).view.junk
  · exact Ring.pointsTo_blocks_join_exists (ℓ := (c : Thread nD τ).loc cc0_scratch1) (q := fullShare) dSet2 dSet2_disjoint dSet2_cover
      (Memref.whole cc0_scratch1 : Memref sig .tc .vmem S2x896x128 .i32).view.junk

/-- The two gathered arrays held whole are every pair's rows at home. -/
theorem homes_eq :
    iprop(((c : Thread nD τ).loc main_arg10 ↦{fullShare} ko) ∗ ((c : Thread nD τ).loc main_arg11 ↦{fullShare} vo))
      = (bigSep Finset.univ (pairHome c ko vo) : sProp 𝕄) := by
  rw [Ring.pointsTo_blocks (ℓ := (c : Thread nD τ).loc main_arg10) (q := fullShare) sSet2 sSet2_disjoint sSet2_cover ko,
    Ring.pointsTo_blocks (ℓ := (c : Thread nD τ).loc main_arg11) (q := fullShare) sSet2 sSet2_disjoint sSet2_cover vo,
    ← BI.bigSep_sep']
  unfold pairHome
  rw [← BI.bigSep_univ_prod (Φ := fun x : Fin 112 × Fin 14 => home (F := F) c ko vo x.1 x.2)]
  rfl

/-- What a slot and a pair's rows hand back as ranges. -/
theorem range_all (Φ : Fin 14 → sProp 𝕄) (n : ℕ) (h : n ≤ 14) :
    bigSep Finset.univ Φ = iprop(bigSep (Ring.rangeSet 14 0 n) Φ ∗ bigSep (Ring.rangeSet 14 n 14) Φ) := by
  rw [← Ring.rangeSet_univ, Ring.bigSep_rangeSet_split (Nat.zero_le _) h]

/-- Every transfer of a batch handed back: the blocks landed and the blocks they came from. -/
theorem deliveries_split (s : Fin 2) (p : Fin 112) (n : ℕ) (h : n ≤ 14) :
    (bigSep Finset.univ (dAll c ko vo s p n) : sProp 𝕄)
      ⊢ iprop(bigSep (Ring.rangeSet 14 0 n) (full c ko vo s p) ∗ bigSep (Ring.rangeSet 14 0 n) (home c ko vo p)) := by
  rw [Ring.bigSep_interleaved]
  have hK : bigSep (Finset.range n) (dK c ko s p)
      = (bigSep (Ring.rangeSet 14 0 n) (fun b => iprop(kAt c s (landedOf ko p) b ∗ koAt c ko p b)) : sProp 𝕄) := by
    rw [Ring.bigSep_rangeSet_eq_range (NB := 14) (lo := 0) (hi := n) h (dK c ko s p) (fun k hk => by
      unfold dK; rw [dif_pos (by omega)]; simp only [Nat.zero_add]), Nat.sub_zero]
  have hV : bigSep (Finset.range n) (dV c vo s p)
      = (bigSep (Ring.rangeSet 14 0 n) (fun b => iprop(vAt c s (landedOf vo p) b ∗ voAt c vo p b)) : sProp 𝕄) := by
    rw [Ring.bigSep_rangeSet_eq_range (NB := 14) (lo := 0) (hi := n) h (dV c vo s p) (fun k hk => by
      unfold dV; rw [dif_pos (by omega)]; simp only [Nat.zero_add]), Nat.sub_zero]
  rw [hK, hV]
  rw [BI.bigSep_sep', BI.bigSep_sep', BI.bigSep_sep', BI.bigSep_sep']
  iintro ⟨⟨H1, H2⟩, H3, H4⟩
  isplitl [H1 H3]
  · isplitl [H1] <;> iassumption
  · isplitl [H2] <;> iassumption

end Split

end Cert.KernelIdeal.Hand

end
-- ==== Proof.KernelIdeal.Issue.lean ====
/-
  Hand-written, untrusted. The loop that asks for a pair's rows: one transfer into each staging buffer per
  trip, on one slot's semaphore, each trip taking a free block of the slot and a block of the pair's rows; and
  the loop that waits for them.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- A program of the kernel's body. -/
abbrev PR (F : FTy → Type) (α : Type) := Prog (TpuEff nD τ sig (Elt F) Λ₀ .tc) α

/-! ## The programs -/

/-- One trip of the loop that asks for rows, and of the loop that waits for them, at any offsets. -/
def issueGen (o2 : Fin 1 → ℕ) (h2 : ∀ a, o2 a + S1.size a ≤ S2.size a) (o3 : Fin 3 → ℕ) (h3 : ∀ a, o3 a + S1x64x128.size a ≤ S2x896x128.size a)
    (o4 : Fin 2 → ℕ) (h4 : ∀ a, o4 a + S64x128.size a ≤ S100352x128.size a) : PR F (BitVec 32) := do
  Prog.lift (.enqueueDma (srcOf koArr o4 h4) (.here (blkOf kBuf o3 h3)) (.dma (semOf o2 h2)) (View.wordExact_bits rfl) ((View.wordExact_bits rfl).reshape _ _) ⟨Or.inl rfl, trivial⟩)
  Prog.lift (.enqueueDma (srcOf voArr o4 h4) (.here (blkOf vBuf o3 h3)) (.dma (semOf o2 h2)) (View.wordExact_bits rfl) ((View.wordExact_bits rfl).reshape _ _) ⟨Or.inl rfl, trivial⟩)
  pure 0#32
def waitGen (o2 : Fin 1 → ℕ) (h2 : ∀ a, o2 a + S1.size a ≤ S2.size a) (o3 : Fin 3 → ℕ) (h3 : ∀ a, o3 a + S1x64x128.size a ≤ S2x896x128.size a)
    (o4 : Fin 2 → ℕ) (h4 : ∀ a, o4 a + S64x128.size a ≤ S100352x128.size a) : PR F (BitVec 32) := do
  Prog.lift (.waitDma2 (semOf o2 h2) (srcOf koArr o4 h4) (blkOf kBuf o3 h3) (View.wordExact_bits rfl) ((View.wordExact_bits rfl).reshape _ _))
  Prog.lift (.waitDma2 (semOf o2 h2) (srcOf voArr o4 h4) (blkOf vBuf o3 h3) (View.wordExact_bits rfl) ((View.wordExact_bits rfl).reshape _ _))
  pure 0#32

def issueProg (s : Fin 2) (p : Fin 112) (b : Fin 14) : PR F (BitVec 32) :=
  issueGen ![s.val] (inbC s) ![s.val, 64 * b.val, 0] (inbD s b) ![896 * p.val + 64 * b.val, 0] (inbS p b)
def waitProg (s : Fin 2) (p : Fin 112) (b : Fin 14) : PR F (BitVec 32) :=
  waitGen ![s.val] (inbC s) ![s.val, 64 * b.val, 0] (inbD s b) ![896 * p.val + 64 * b.val, 0] (inbS p b)

theorem issueGen_eq {o2 h2 o3 h3 o4 h4} (s : Fin 2) (p : Fin 112) (b : Fin 14) (e2 : o2 = ![s.val]) (e3 : o3 = ![s.val, 64 * b.val, 0])
    (e4 : o4 = ![896 * p.val + 64 * b.val, 0]) : issueGen (F := F) o2 h2 o3 h3 o4 h4 = issueProg s p b := by
  subst e2 e3 e4; rfl
theorem waitGen_eq {o2 h2 o3 h3 o4 h4} (s : Fin 2) (p : Fin 112) (b : Fin 14) (e2 : o2 = ![s.val]) (e3 : o3 = ![s.val, 64 * b.val, 0])
    (e4 : o4 = ![896 * p.val + 64 * b.val, 0]) : waitGen (F := F) o2 h2 o3 h3 o4 h4 = waitProg s p b := by
  subst e2 e3 e4; rfl

theorem issueProg_eq (s : Fin 2) (p : Fin 112) (b : Fin 14) : issueProg (F := F) s p b =
    (Prog.lift (.enqueueDma (koBlk p b) (.here (kBlk s b)) (.dma (cell s)) (View.wordExact_bits rfl) ((View.wordExact_bits rfl).reshape _ _) ⟨Or.inl rfl, trivial⟩) >>= fun _ =>
      Prog.lift (.enqueueDma (voBlk p b) (.here (vBlk s b)) (.dma (cell s)) (View.wordExact_bits rfl) ((View.wordExact_bits rfl).reshape _ _) ⟨Or.inl rfl, trivial⟩) >>= fun _ => Prog.ret 0#32) := rfl
theorem waitProg_eq (s : Fin 2) (p : Fin 112) (b : Fin 14) : waitProg (F := F) s p b =
    (Prog.op (.waitDma2 (cell s) (koBlk p b) (kBlk s b) (View.wordExact_bits rfl) ((View.wordExact_bits rfl).reshape _ _)) fun _ =>
      Prog.op (.waitDma2 (cell s) (voBlk p b) (vBlk s b) (View.wordExact_bits rfl) ((View.wordExact_bits rfl).reshape _ _)) fun _ => Prog.ret 0#32) := rfl

/-! ## One trip -/

section Steps

variable (c : Dev nD) (ko vo : S100352x128.Idx → Elt F .i32) (s : Fin 2) (p : Fin 112) (n : ℕ) (hn : n ≤ 14)

/-- Before trip `k`: `2 k` transfers issued; the blocks from `k` on still in hand. -/
def issueInv (k : ℕ) (_ : BitVec 32) : sProp 𝕄 :=
  iprop(batch c ko vo s p n (2 * k) 0 ∗ bigSep (Ring.rangeSet 14 k 14) (free c s) ∗ bigSep (Ring.rangeSet 14 k 14) (home c ko vo p))

theorem dmaK {α : Type} {Q : α → sProp 𝕄} (b : Fin 14) (hb : b.val < n) (g : S2x896x128.Idx → Elt F .i32) (k : PUnit.{1} → PR F α) {h1 h2 h3} :
    iprop(koAt c ko p b ∗ kAt c s g b ∗ batch c ko vo s p n (2 * b.val) 0)
      ⊢ iprop((batch c ko vo s p n (2 * b.val + 1) 0 -∗ (wp frame (wpE (defs₀ (F := F)) Variants.none (c : Thread nD τ) none) Set.univ) (k ⟨⟩) Q)
        -∗ (wp frame (wpE (defs₀ (F := F)) Variants.none (c : Thread nD τ) none) Set.univ) (Prog.lift (.enqueueDma (koBlk p b) (.here (kBlk s b)) (.dma (cell s)) h1 h2 h3) >>= k) Q) := by
  have hD : iprop(((c : Thread nD τ).loc cc0_scratch0 ↦[dSet s b]{fullShare} kWr ko s p b g) ∗ koAt c ko p b) ⊢ dAll c ko vo s p n ⟨2 * b.val, by omega⟩ := by
    rw [pointsTo_congr (kBlk_landed ko s p b g)]
    rw [show dAll c ko vo s p n ⟨2 * b.val, by omega⟩ = dK c ko s p b.val from Ring.interleaved_even _ _ _ _ _]
    unfold dK; rw [dif_pos b.isLt]
  have := Transfers.wp_dmaBatch (defs := defs₀ (F := F)) (countersEmb (U := Pipeline.UD sig nD τ)) Variants.none (c : Thread nD τ) none (Q := Q) (q := fullShare)
    (src := koBlk p b) (dst := kBlk s b) (via := .same) (sm := .dma (cell s)) (hsrc := h1) (hdst := h2) (hsem := h3) (k := k) (fs := ko) (fd := g)
    (Sd := dSet s b) (D := dAll c ko vo s p n) (j := 2 * b.val) (u := 0) () NN (kBlk_credit s b) (kBlk_set s b).subset (by omega) (Nat.zero_le _)
    (by rw [koBlk_set]; exact hD)
  rw [koBlk_set] at this
  exact this
theorem dmaV {α : Type} {Q : α → sProp 𝕄} (b : Fin 14) (hb : b.val < n) (g : S2x896x128.Idx → Elt F .i32) (k : PUnit.{1} → PR F α) {h1 h2 h3} :
    iprop(voAt c vo p b ∗ vAt c s g b ∗ batch c ko vo s p n (2 * b.val + 1) 0)
      ⊢ iprop((batch c ko vo s p n (2 * (b.val + 1)) 0 -∗ (wp frame (wpE (defs₀ (F := F)) Variants.none (c : Thread nD τ) none) Set.univ) (k ⟨⟩) Q)
        -∗ (wp frame (wpE (defs₀ (F := F)) Variants.none (c : Thread nD τ) none) Set.univ) (Prog.lift (.enqueueDma (voBlk p b) (.here (vBlk s b)) (.dma (cell s)) h1 h2 h3) >>= k) Q) := by
  have hD : iprop(((c : Thread nD τ).loc cc0_scratch1 ↦[dSet s b]{fullShare} vWr vo s p b g) ∗ voAt c vo p b) ⊢ dAll c ko vo s p n ⟨2 * b.val + 1, by omega⟩ := by
    rw [pointsTo_congr (vBlk_landed vo s p b g)]
    rw [show dAll c ko vo s p n ⟨2 * b.val + 1, by omega⟩ = dV c vo s p b.val from Ring.interleaved_odd _ _ _ _ _]
    unfold dV; rw [dif_pos b.isLt]
  have := Transfers.wp_dmaBatch (defs := defs₀ (F := F)) (countersEmb (U := Pipeline.UD sig nD τ)) Variants.none (c : Thread nD τ) none (Q := Q) (q := fullShare)
    (src := voBlk p b) (dst := vBlk s b) (via := .same) (sm := .dma (cell s)) (hsrc := h1) (hdst := h2) (hsem := h3) (k := k) (fs := vo) (fd := g)
    (Sd := dSet s b) (D := dAll c ko vo s p n) (j := 2 * b.val + 1) (u := 0) () NN (vBlk_credit s b) (vBlk_set s b).subset (by omega) (Nat.zero_le _)
    (by rw [voBlk_set]; exact hD)
  rw [voBlk_set] at this
  exact this

theorem wp_issueProg (b : Fin 14) (hb : b.val < n) (acc : BitVec 32) :
    issueInv c ko vo s p n b.val acc ⊢ (wp frame (wpE (defs₀ (F := F)) Variants.none (c : Thread nD τ) none) Set.univ) (issueProg s p b) (issueInv c ko vo s p n (b.val + 1)) := by
  have h14 := b.isLt
  unfold issueInv
  rw [Ring.bigSep_rangeSet_head (Φ := free c s) (lo := b.val) (by omega) (by omega),
    Ring.bigSep_rangeSet_head (Φ := home c ko vo p) (lo := b.val) (by omega) (by omega)]
  iintro ⟨HB, ⟨⟨⟨%gk, HK⟩, ⟨%gv, HV⟩⟩, HF⟩, ⟨HKO, HVO⟩, HH⟩
  rw [issueProg_eq]
  iapply (dmaK c ko vo s p n b hb gk _) $$ [HB HK HKO]
  · isplitl [HKO]; · iexact HKO
    isplitl [HK]; · iexact HK
    iexact HB
  iintro HB
  iapply (dmaV c ko vo s p n b hb gv _) $$ [HB HV HVO]
  · isplitl [HVO]; · iexact HVO
    isplitl [HV]; · iexact HV
    iexact HB
  iintro HB
  sl_step
  isplitl [HB]; · iexact HB
  isplitl [HF]; · iexact HF
  iexact HH

theorem wait_room0 {n k : ℕ} (h : k < n) : 2 * k * NN + 1 * NN ≤ NN * (2 * n) := by
  rw [← Nat.add_mul, Nat.mul_comm NN]; exact Nat.mul_le_mul_right _ (by omega)
theorem wait_room1 {n k : ℕ} (h : k < n) : 2 * k * NN + 1 * NN + 1 * NN ≤ NN * (2 * n) := by
  rw [← Nat.add_mul, ← Nat.add_mul, Nat.mul_comm NN]; exact Nat.mul_le_mul_right _ (by omega)
theorem wait_next (k : ℕ) : 2 * (k + 1) * NN = 2 * k * NN + 1 * NN + 1 * NN := by
  rw [← Nat.add_mul, ← Nat.add_mul]; congr 1

/-- Before trip `k` of the loop that waits: every transfer issued, `2 k` of them consumed. -/
def waitInv (k : ℕ) (_ : BitVec 32) : sProp 𝕄 :=
  iprop(batch c ko vo s p n (2 * n) (2 * k * NN) ∗ ∃ W, owes (c : Thread nD τ) 0 W)

theorem waitK {α : Type} {Q : α → sProp 𝕄} (b : Fin 14) (u : ℕ) (hu : u + 1 * NN ≤ NN * (2 * n)) (W : Waits sig Unit) (k : PUnit.{1} → PR F α) {h1 h2} :
    iprop(batch c ko vo s p n (2 * n) u ∗ owes (c : Thread nD τ) 0 W)
      ⊢ iprop((batch c ko vo s p n (2 * n) (u + 1 * NN) ∗ owes (c : Thread nD τ) 0 (insert (SemLoc.dma (cell s), ()) W) -∗ (wp frame (wpE (defs₀ (F := F)) Variants.none (c : Thread nD τ) none) Set.univ) (k ⟨⟩) Q)
        -∗ (wp frame (wpE (defs₀ (F := F)) Variants.none (c : Thread nD τ) none) Set.univ) (Prog.op (.waitDma2 (cell s) (koBlk p b) (kBlk s b) h1 h2) k) Q) :=
  Transfers.wp_waitBatchMul (countersEmb (U := Pipeline.UD sig nD τ)) Variants.none (c : Thread nD τ) none () (N := NN) 1
    ((kBlk_credit s b).trans (Nat.one_mul _).symm) hu
theorem waitV {α : Type} {Q : α → sProp 𝕄} (b : Fin 14) (u : ℕ) (hu : u + 1 * NN ≤ NN * (2 * n)) (W : Waits sig Unit) (k : PUnit.{1} → PR F α) {h1 h2} :
    iprop(batch c ko vo s p n (2 * n) u ∗ owes (c : Thread nD τ) 0 W)
      ⊢ iprop((batch c ko vo s p n (2 * n) (u + 1 * NN) ∗ owes (c : Thread nD τ) 0 (insert (SemLoc.dma (cell s), ()) W) -∗ (wp frame (wpE (defs₀ (F := F)) Variants.none (c : Thread nD τ) none) Set.univ) (k ⟨⟩) Q)
        -∗ (wp frame (wpE (defs₀ (F := F)) Variants.none (c : Thread nD τ) none) Set.univ) (Prog.op (.waitDma2 (cell s) (voBlk p b) (vBlk s b) h1 h2) k) Q) :=
  Transfers.wp_waitBatchMul (countersEmb (U := Pipeline.UD sig nD τ)) Variants.none (c : Thread nD τ) none () (N := NN) 1
    ((vBlk_credit s b).trans (Nat.one_mul _).symm) hu
theorem wp_waitProg (b : Fin 14) (hb : b.val < n) (acc : BitVec 32) :
    waitInv c ko vo s p n b.val acc ⊢ (wp frame (wpE (defs₀ (F := F)) Variants.none (c : Thread nD τ) none) Set.univ) (waitProg s p b) (waitInv c ko vo s p n (b.val + 1)) := by
  unfold waitInv
  iintro ⟨HB, %W, HW⟩
  rw [waitProg_eq]
  iapply (waitK c ko vo s p n b _ (wait_room0 hb) W _ (h1 := View.wordExact_bits rfl) (h2 := (View.wordExact_bits rfl).reshape _ _)) $$ [HB HW]
  · isplitl [HB]; · iexact HB
    iexact HW
  iintro ⟨HB, HW⟩
  iapply (waitV c ko vo s p n b _ (wait_room1 hb) _ _ (h1 := View.wordExact_bits rfl) (h2 := (View.wordExact_bits rfl).reshape _ _)) $$ [HB HW]
  · isplitl [HB]; · iexact HB
    iexact HW
  iintro ⟨HB, HW⟩
  sl_step
  isplitl [HB]
  · rw [show 2 * (b.val + 1) * NN = 2 * b.val * NN + 1 * NN + 1 * NN from wait_next b.val]; iexact HB
  iexists _; iexact HW

end Steps

end Cert.KernelIdeal.Hand

end
-- ==== Proof.KernelIdeal.Stages.lean ====
/-
  Hand-written, untrusted. The stages of a grid point: what is held between two points, the loop that asks for
  a pair's rows, the loop that waits for them, and the books of which slot and which pair's rows are where.
-/
module

public import proofs.«01_k».proof.Proof.KernelIdeal.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot of pair `t`, and the other one. -/
def slotOf (t : Fin 112) : Fin 2 := ⟨t.val % 2, Nat.mod_lt _ (by decide)⟩
def oth (t : Fin 112) : Fin 2 := ⟨1 - t.val % 2, by omega⟩

/-- The total of pair `t` in the table. -/
def totAt (tb : S128.Idx → Elt F .i32) (t : Fin 112) : BitVec 32 := tb (fun a => match a with | ⟨0, _⟩ => (⟨t.val, by have := t.isLt; show _ < 128; omega⟩ : Fin 128))
/-- Every total within the budget. -/
def Fits (tb : S128.Idx → Elt F .i32) : Prop := ∀ t : Fin 112, (totAt tb t).toInt ≤ 3584

section Loops

variable (c : Dev nD) (ko vo : S100352x128.Idx → Elt F .i32)

/-- A loop's remainder runs no trip. -/
theorem rem_loop {v : BitVec 32} {α σ : Type} {Q : α → sProp 𝕄} {P : sProp 𝕄} (ok : (remLoop v).OK) (a : σ)
    (body : Fin (remLoop v).trips → σ → PR F σ) (kk : σ → PR F α) (h : P ⊢ (wp frame (wpE (defs₀ (F := F)) Variants.none (c : Thread nD τ) none) Set.univ) (kk a) Q) :
    P ⊢ (wp frame (wpE (defs₀ (F := F)) Variants.none (c : Thread nD τ) none) Set.univ) (Scf.Loop.for (remLoop v) ok a body >>= kk) Q := by
  iintro HP
  iapply (Scf.wp_for_bind frame (wpE (defs₀ (F := F)) Variants.none (c : Thread nD τ) none) Set.univ
    (remLoop v).lb (remLoop v).ub (remLoop v).st ok a body (fun _ x => iprop(⌜x = a⌝)) (fun k _ => (rem_elim (v := v) k).elim) (kk := kk)) $$ []
  · ipureintro; rfl
  iintro %x %hx
  subst hx
  iapply h $$ HP

/-- The loop that asks for pair `p`'s rows into slot `s`, with its remainder. -/
theorem issue_loop (s : Fin 2) (p : Fin 112) {v : BitVec 32} (hv : v.toInt ≤ 3584) {α : Type} {Q : α → sProp 𝕄}
    (ok : (mainLoop v).OK) (ok' : (remLoop v).OK) (body : Fin (mainLoop v).trips → BitVec 32 → PR F (BitVec 32))
    (hbody : ∀ k acc, body k acc = issueProg s p ⟨k.val, klt14 k hv⟩) (body' : Fin (remLoop v).trips → BitVec 32 → PR F (BitVec 32)) (kk : PR F α) :
    iprop(cell0 c s ∗ slotFree c s ∗ pairHome c ko vo p)
      ⊢ iprop((inFlight c ko vo s p (nOf v) -∗ (wp frame (wpE (defs₀ (F := F)) Variants.none (c : Thread nD τ) none) Set.univ) kk Q)
        -∗ (wp frame (wpE (defs₀ (F := F)) Variants.none (c : Thread nD τ) none) Set.univ) (Scf.Loop.for (mainLoop v) ok 0#32 body >>= fun a => Scf.Loop.for (remLoop v) ok' a body' >>= fun _ => kk) Q) := by
  have ht := main_trips hv
  have hn := nOf_le hv
  iintro ⟨Hc, HF, HP⟩ HK
  imod (Transfers.batch_alloc' (Lvl := ℕ) (countersEmb (U := Pipeline.UD sig nD τ)) (c : Thread nD τ) () NN (dAll c ko vo s p (nOf v)) (sm := .dma (cell s)) (E := Set.univ)) $$ Hc with HB
  iapply (Scf.wp_for_bind frame (wpE (defs₀ (F := F)) Variants.none (c : Thread nD τ) none) Set.univ
    (mainLoop v).lb (mainLoop v).ub (mainLoop v).st ok 0#32 body (issueInv c ko vo s p (nOf v)) (fun k acc => by
      rw [hbody]; exact wp_issueProg c ko vo s p (nOf v) ⟨k.val, klt14 k hv⟩ (by rw [← ht]; exact k.isLt) acc)) $$ [HB HF HP]
  · unfold issueInv slotFree pairHome
    rw [Nat.mul_zero, Ring.rangeSet_univ]
    isplitl [HB]; · iexact HB
    isplitl [HF]; · iexact HF
    iexact HP
  iintro %acc HI
  iapply (rem_loop c ok' acc body' (fun _ => kk) .rfl)
  iapply HK
  rw [show Scf.trips (mainLoop v).lb (mainLoop v).ub (mainLoop v).st = nOf v from ht]
  unfold issueInv inFlight
  iexact HI

/-- The loop that waits for them, with its remainder. -/
theorem drain_loop (s : Fin 2) (p : Fin 112) {v : BitVec 32} (hv : v.toInt ≤ 3584) {α : Type} {Q : α → sProp 𝕄}
    (ok : (mainLoop v).OK) (ok' : (remLoop v).OK) (body : Fin (mainLoop v).trips → BitVec 32 → PR F (BitVec 32))
    (hbody : ∀ k acc, body k acc = waitProg s p ⟨k.val, klt14 k hv⟩) (body' : Fin (remLoop v).trips → BitVec 32 → PR F (BitVec 32)) (kk : PR F α) :
    iprop(inFlight c ko vo s p (nOf v) ∗ ∃ W, owes (c : Thread nD τ) 0 W)
      ⊢ iprop((landed c ko vo s p (nOf v) ∗ (∃ W, owes (c : Thread nD τ) 0 W) -∗ (wp frame (wpE (defs₀ (F := F)) Variants.none (c : Thread nD τ) none) Set.univ) kk Q)
        -∗ (wp frame (wpE (defs₀ (F := F)) Variants.none (c : Thread nD τ) none) Set.univ) (Scf.Loop.for (mainLoop v) ok 0#32 body >>= fun a => Scf.Loop.for (remLoop v) ok' a body' >>= fun _ => kk) Q) := by
  have ht := main_trips hv
  have hn := nOf_le hv
  unfold inFlight
  iintro ⟨⟨HB, HF, HP⟩, HW⟩ HK
  iapply (Scf.wp_for_bind frame (wpE (defs₀ (F := F)) Variants.none (c : Thread nD τ) none) Set.univ
    (mainLoop v).lb (mainLoop v).ub (mainLoop v).st ok 0#32 body (waitInv c ko vo s p (nOf v)) (fun k acc => by
      rw [hbody]; exact wp_waitProg c ko vo s p (nOf v) ⟨k.val, klt14 k hv⟩ (by rw [← ht]; exact k.isLt) acc)) $$ [HB HW]
  · unfold waitInv
    rw [Nat.mul_zero, Nat.zero_mul]
    isplitl [HB]; · iexact HB
    iexact HW
  iintro %acc HI
  rw [show Scf.trips (mainLoop v).lb (mainLoop v).ub (mainLoop v).st = nOf v from ht]
  unfold waitInv
  icases HI with ⟨HB, HW⟩
  rw [Nat.mul_comm (2 * nOf v) NN]
  imod (Transfers.batch_collect' (countersEmb (U := Pipeline.UD sig nD τ)) (c : Thread nD τ) NN_pos) $$ HB with ⟨HD, Hc⟩
  ihave HD := (deliveries_split c ko vo s p (nOf v) hn) $$ HD
  icases HD with ⟨HD, HH⟩
  iapply (rem_loop c ok' acc body' (fun _ => kk) .rfl)
  iapply HK
  isplitr [HW]
  · unfold landed pairHome
    rw [range_all (home c ko vo p) (nOf v) hn]
    isplitl [Hc]; · iexact Hc
    isplitl [HD]; · iexact HD
    isplitl [HF]; · iexact HF
    isplitl [HH]; · iexact HH
    iexact HP
  iexact HW

end Loops

/-! ## The books -/

section Books

variable (c : Dev nD) (ko vo : S100352x128.Idx → Elt F .i32) (tb : S128.Idx → Elt F .i32)

/-- Nothing on its way. -/
def idle : sProp 𝕄 := iprop(slotFree c 0 ∗ slotFree c 1 ∗ cell0 c 0 ∗ cell0 c 1 ∗ bigSep Finset.univ (pairHome c ko vo))
/-- Pair `t`'s rows on their way into its slot, the other slot free, every other pair's rows at home. -/
def flying (t : Fin 112) : sProp 𝕄 :=
  iprop(inFlight c ko vo (slotOf t) t (nOf (totAt tb t)) ∗ slotFree c (oth t) ∗ cell0 c (oth t) ∗ bigSep (Finset.univ.erase t) (pairHome c ko vo))
/-- What is held before point `t`: pair `t`'s rows on their way, but at the first point and after the last. -/
def between (t : ℕ) : sProp 𝕄 := if h : 0 < t ∧ t < 112 then flying c ko vo tb ⟨t, h.2⟩ else idle c ko vo
/-- Beside pair `t`'s slot and rows: the next pair's rows on their way, if there is one. -/
def beside (t : Fin 112) : sProp 𝕄 :=
  if h : t.val + 1 < 112 then
    iprop(inFlight c ko vo (oth t) ⟨t.val + 1, h⟩ (nOf (totAt tb ⟨t.val + 1, h⟩)) ∗ bigSep ((Finset.univ.erase t).erase ⟨t.val + 1, h⟩) (pairHome c ko vo))
  else iprop(slotFree c (oth t) ∗ cell0 c (oth t) ∗ bigSep (Finset.univ.erase t) (pairHome c ko vo))

theorem full_free (s : Fin 2) (p : Fin 112) (n : ℕ) : bigSep (Ring.rangeSet 14 0 n) (full c ko vo s p) ⊢ bigSep (Ring.rangeSet 14 0 n) (free c s) :=
  BI.bigSep_mono fun b _ => free_intro c _ _ s b

theorem erase_split {I : Type} [DecidableEq I] {s : Finset I} {i : I} (h : i ∈ s) {Φ : I → sProp 𝕄} : bigSep s Φ = iprop(Φ i ∗ bigSep (s.erase i) Φ) :=
  BI.bigSep_erase h

/-- A slot whose rows have landed is free again. -/
theorem landed_free (s : Fin 2) (p : Fin 112) (n : ℕ) (hn : n ≤ 14) :
    landed c ko vo s p n ⊢ iprop(cell0 c s ∗ slotFree c s ∗ pairHome c ko vo p) := by
  unfold landed slotFree
  rw [range_all (free c s) n hn]
  iintro ⟨Hc, HD, HF, HH⟩
  isplitl [Hc]; · iexact Hc
  isplitr [HH]
  · isplitl [HD]
    · iapply (full_free c ko vo s p n) $$ HD
    iexact HF
  iexact HH

/-- The books turn from a point to the next. -/
theorem turn (t : Fin 112) (n : ℕ) (hn : n ≤ 14) :
    iprop(landed c ko vo (slotOf t) t n ∗ beside c ko vo tb t) ⊢ between c ko vo tb (t.val + 1) := by
  have hL := landed_free c ko vo (slotOf t) t n hn
  unfold beside between
  by_cases h : t.val + 1 < 112
  · rw [dif_pos h, dif_pos ⟨Nat.succ_pos _, h⟩]
    unfold flying
    have hne : (⟨t.val + 1, h⟩ : Fin 112) ≠ t := fun e => by have := congrArg Fin.val e; simp at this
    rw [show slotOf ⟨t.val + 1, h⟩ = oth t from Fin.ext (show (t.val + 1) % 2 = 1 - t.val % 2 by omega),
      show oth ⟨t.val + 1, h⟩ = slotOf t from Fin.ext (show 1 - (t.val + 1) % 2 = t.val % 2 by omega),
      erase_split (s := Finset.univ.erase (⟨t.val + 1, h⟩ : Fin 112)) (i := t) (Finset.mem_erase.mpr ⟨hne.symm, Finset.mem_univ _⟩), Finset.erase_right_comm]
    iintro ⟨HL, HI, HR⟩
    ihave HL := hL $$ HL
    icases HL with ⟨Hc, HF, HH⟩
    isplitl [HI]; · iexact HI
    isplitl [HF]; · iexact HF
    isplitl [Hc]; · iexact Hc
    isplitl [HH]; · iexact HH
    iexact HR
  · have ht : t = ⟨111, by decide⟩ := Fin.ext (by have := t.isLt; show t.val = 111; omega)
    rw [dif_neg h, dif_neg (fun e => h e.2)]
    unfold idle
    rw [BI.bigSep_univ_at (pairHome c ko vo) t]
    subst ht
    rw [show slotOf ⟨111, by decide⟩ = 1 from rfl] at hL ⊢
    rw [show oth ⟨111, by decide⟩ = 0 from rfl]
    iintro ⟨HL, HF0, Hc0, HR⟩
    ihave HL := hL $$ HL
    icases HL with ⟨Hc, HF, HH⟩
    isplitl [HF0]; · iexact HF0
    isplitl [HF]; · iexact HF
    isplitl [Hc0]; · iexact Hc0
    isplitl [Hc]; · iexact Hc
    isplitl [HH]; · iexact HH
    iexact HR

/-- The first point's slot and rows, taken out of what is held before it. -/
theorem open_first : between c ko vo tb 0 ⊢ iprop((cell0 c 0 ∗ slotFree c 0 ∗ pairHome c ko vo 0)
    ∗ (inFlight c ko vo 0 0 (nOf (totAt tb 0)) -∗ flying c ko vo tb 0)) := by
  unfold between
  rw [dif_neg (by omega)]
  unfold idle flying
  rw [BI.bigSep_univ_at (pairHome c ko vo) 0]
  iintro ⟨HF0, HF1, Hc0, Hc1, HH, HR⟩
  isplitl [HF0 Hc0 HH]
  · isplitl [Hc0]; · iexact Hc0
    isplitl [HF0]; · iexact HF0
    iexact HH
  iintro HI
  isplitl [HI]; · iexact HI
  isplitl [HF1]; · iexact HF1
  isplitl [Hc1]; · iexact Hc1
  iexact HR

/-- The next pair's slot and rows, taken out while pair `t`'s are on their way. -/
theorem open_next (t : Fin 112) (h : t.val + 1 < 112) :
    flying c ko vo tb t ⊢ iprop(inFlight c ko vo (slotOf t) t (nOf (totAt tb t)) ∗ (cell0 c (oth t) ∗ slotFree c (oth t) ∗ pairHome c ko vo ⟨t.val + 1, h⟩)
      ∗ (inFlight c ko vo (oth t) ⟨t.val + 1, h⟩ (nOf (totAt tb ⟨t.val + 1, h⟩)) -∗ beside c ko vo tb t)) := by
  have hne : (⟨t.val + 1, h⟩ : Fin 112) ≠ t := fun e => by have := congrArg Fin.val e; simp at this
  unfold flying beside
  rw [dif_pos h, erase_split (s := Finset.univ.erase t) (i := (⟨t.val + 1, h⟩ : Fin 112)) (Finset.mem_erase.mpr ⟨hne, Finset.mem_univ _⟩)]
  iintro ⟨HI, HF, Hc, HH, HR⟩
  isplitl [HI]; · iexact HI
  isplitl [HF Hc HH]
  · isplitl [Hc]; · iexact Hc
    isplitl [HF]; · iexact HF
    iexact HH
  iintro HJ
  isplitl [HJ]; · iexact HJ
  iexact HR
theorem open_last (t : Fin 112) (h : ¬ t.val + 1 < 112) :
    flying c ko vo tb t ⊢ iprop(inFlight c ko vo (slotOf t) t (nOf (totAt tb t)) ∗ beside c ko vo tb t) := by
  unfold flying beside
  rw [dif_neg h]

end Books

end Cert.KernelIdeal.Hand

end
-- ==== Proof.Totals.lean ====
/-
  Hand-written, untrusted. What the precondition says: no pair's total exceeds the budget of 3584 rows.
-/
module

public import proofs.«01_k».proof.Defs
public import proofs.«01_k».proof.Proof.Gen.Pre_fits
public import proofs.«01_k».proof.Proof.Kernel.Stages
public import proofs.«01_k».proof.Proof.KernelIdeal.Stages
public import Idealize.ShloMosaic.Lib.ReduceAll

@[expose] public section

set_option maxRecDepth 16384

noncomputable section

namespace Cert.Proof

open Idealize.ShloMosaic Idealize.ShloMosaic.TcCoe

/-- The printed precondition, read at one pair. -/
theorem total_le {F : FTy → Type} [FloatOps F] {a0 : IVec Cert.Pre_fits.S128 32} {a1 a2 a3 a4 a5 a6 a7 a8 a9 a10 a11}
    (h : Cert.Pre_fits.fn (F := F) a0 a1 a2 a3 a4 a5 a6 a7 a8 a9 a10 a11 = fun _ => 1#1) (i : Cert.Pre_fits.S112.Idx) :
    (extractStridedSlice Cert.Pre_fits.S112 ![0] a0 Cert.Pre_fits.Gen.slices_S128_S112_0 i).toInt ≤ 3584 :=
  IntOp.cmpi_sle.1 (Host.reduce_andi_all _ _ _ _ _ (congrFun h (fun a => a.elim0)) i)

theorem fits_kernel {m : (ℓ : Loc Cert.Kernel.nD Cert.Kernel.τ Cert.Kernel.sig) → Buf (Elt Bits) ℓ} (h : Cert.Pre_Kernel m)
    (c : Dev Cert.Kernel.nD) : Cert.Kernel.Hand.Fits (F := Bits) (m ((c.tc : Thread Cert.Kernel.nD Cert.Kernel.τ).loc Cert.Kernel.main_arg0)) := fun t => by
  have e := total_le (h c) (fun a => match a with | ⟨0, _⟩ => (t : Fin 112))
  unfold extractStridedSlice at e
  unfold Cert.Kernel.Hand.totAt
  refine le_of_eq_of_le (congrArg (fun x => BitVec.toInt (m ((c.tc : Thread Cert.Kernel.nD Cert.Kernel.τ).loc Cert.Kernel.main_arg0) x)) ?_) e
  funext a; fin_cases a; exact Fin.ext (Nat.zero_add _).symm

theorem fits_kernelIdeal {m : (ℓ : Loc Cert.KernelIdeal.nD Cert.KernelIdeal.τ Cert.KernelIdeal.sig) → Buf (Elt Ideal) ℓ} (h : Cert.Pre_KernelIdeal m)
    (c : Dev Cert.KernelIdeal.nD) : Cert.KernelIdeal.Hand.Fits (F := Ideal) (m ((c.tc : Thread Cert.KernelIdeal.nD Cert.KernelIdeal.τ).loc Cert.KernelIdeal.main_arg0)) := fun t => by
  have e := total_le (h c) (fun a => match a with | ⟨0, _⟩ => (t : Fin 112))
  unfold extractStridedSlice at e
  unfold Cert.KernelIdeal.Hand.totAt
  refine le_of_eq_of_le (congrArg (fun x => BitVec.toInt (m ((c.tc : Thread Cert.KernelIdeal.nD Cert.KernelIdeal.τ).loc Cert.KernelIdeal.main_arg0) x)) ?_) e
  funext a; fin_cases a; exact Fin.ext (Nat.zero_add _).symm

end Cert.Proof

end
-- ==== Proof.Kernel.Values.lean ====
/-
  Hand-written, untrusted. What a grid point computes, as functions of what it is given: the scores of each
  block of rows, their running maximum, the weights, their total, the weighted sum, the output block.
-/
module

public import proofs.«01_k».proof.Proof.Kernel.Stages

@[expose] public section

set_option maxRecDepth 16384

noncomputable section

namespace Cert.Kernel.Hand

open Cert.Kernel Cert.Kernel.Gen
open Idealize.ShloMosaic Idealize.ShloMosaic.ValueIdx

variable {F : FTy → Type} [FloatOps F]

/-- The scores of 256 tokens against a pair's eight heads, from 64 rows of words and two rows of scales: tokens
    from the total on get the least value. -/
def scoreAt (v10 : FVec F S8x128 .bf16) (v32 : Elt F .i32) (k : ℕ) (v130 : Vec F S1x64x128 .i32) (v137 : Vec F S1x128 .f32) (v141 : Vec F S1x128 .f32) : FVec F S8x256 .f32 :=
  have v58 : IVec S8x256 32 := iota .tc S8x256 32 [1] iota_S8x256_d1_w32
  let arg18 : BitVec 32 := Scf.iv 0#32 1#32 k
  have v131 : IVec S64x128 32 := shapeCast S64x128 v130 shapeCasts_S1x64x128_S64x128
  have v132 : IVec S256x128 8 := bitcast S256x128 8 v131 bitcasts_S64x128_w32_S256x128_w8
  have v133 : FVec F S256x128 .bf16 := sitofp .bf16 v132
  have cst_58 : FVec F S8x256 .f32 := constant S8x256 .f32 0x00000000#32
  have v134 : FVec F S8x256 .f32 := matmul dot_S8x128_S256x128_S8x256_1_1_0_0_n_n none v10 v133 cst_58
  have v142 : FVec F S1x256 .f32 := concatenate S1x256 1 [⟨S1x128, v137⟩, ⟨S1x128, v141⟩] concatenates_S1x128_S1x128_S1x256_d1
  have v143 : FVec F S8x256 .f32 := broadcastTo S8x256 v142 broadcasts_S1x256_S8x256
  have v144 : FVec F S8x256 .f32 := mulf v134 v143
  have cst_64 : F .f32 := Scalar.ofBits .f32 0x3DB504F3#32
  have v145 : FVec F S8x256 .f32 := broadcast S8x256 cst_64
  have v146 : FVec F S8x256 .f32 := mulf v144 v145
  let v147 : BitVec 32 := Scalar.muli arg18 256#32
  have v148 : IVec S8x256 32 := broadcast S8x256 v147
  have v149 : IVec S8x256 32 := addi v58 v148
  have v150 : IVec S8x256 32 := broadcast S8x256 v32
  have v151 : IVec S8x256 1 := cmpi .slt v149 v150
  have cst_66 : F .f32 := Scalar.ofBits .f32 0xFF800000#32
  have v152 : FVec F S8x256 .f32 := broadcast S8x256 cst_66
  have v153 : FVec F S8x256 .f32 := select v151 v146 v152
  v153

theorem pay8_eq (v10 : FVec F S8x128 .bf16) (v12 v32 : Elt F .i32) (k : Fin (k0_t7_loop v12).trips) (w : Vec F S1x64x128 .i32) (s0 s1 : Vec F S1x128 .f32) :
    k0_pay8 v10 v12 v32 k w s0 s1 = scoreAt v10 v32 k.val w s0 s1 := rfl

/-- The weighted sum over 256 more tokens. -/
def outAt (v32 : Elt F .i32) (v90 : FVec F S8x1 .f32) (k : ℕ) (arg19 : FVec F S8x128 .f32) (v127 : Vec F S1x8x256 .f32) (v133 : Vec F S1x128 .f32) (v137 : Vec F S1x128 .f32) (v153 : Vec F S1x64x128 .i32) : FVec F S8x128 .f32 :=
  have v58 : IVec S8x256 32 := iota .tc S8x256 32 [1] iota_S8x256_d1_w32
  let arg18 : BitVec 32 := Scf.iv 0#32 1#32 k
  have v128 : FVec F S8x256 .f32 := shapeCast S8x256 v127 shapeCasts_S1x8x256_S8x256
  have v129 : FVec F S8x256 .f32 := broadcastTo S8x256 v90 broadcasts_S8x1_S8x256
  have v130 : FVec F S8x256 .f32 := divf v128 v129
  have v138 : FVec F S1x256 .f32 := concatenate S1x256 1 [⟨S1x128, v133⟩, ⟨S1x128, v137⟩] concatenates_S1x128_S1x128_S1x256_d1
  have v139 : FVec F S8x256 .f32 := broadcastTo S8x256 v138 broadcasts_S1x256_S8x256
  have v140 : FVec F S8x256 .f32 := mulf v130 v139
  let v141 : BitVec 32 := Scalar.muli arg18 256#32
  have v142 : IVec S8x256 32 := broadcast S8x256 v141
  have v143 : IVec S8x256 32 := addi v58 v142
  have v144 : IVec S8x256 32 := broadcast S8x256 v32
  have v145 : IVec S8x256 1 := cmpi .slt v143 v144
  have cst_65 : F .f32 := Scalar.ofBits .f32 0x00000000#32
  have v146 : FVec F S8x256 .f32 := broadcast S8x256 cst_65
  have v147 : FVec F S8x256 .f32 := select v145 v140 v146
  have v148 : FVec F S8x256 .bf16 := truncf .bf16 v147 bitsLt_bf16_f32
  have v154 : IVec S64x128 32 := shapeCast S64x128 v153 shapeCasts_S1x64x128_S64x128
  have v155 : IVec S256x128 8 := bitcast S256x128 8 v154 bitcasts_S64x128_w32_S256x128_w8
  have v156 : FVec F S256x128 .bf16 := sitofp .bf16 v155
  have cst_67 : FVec F S8x128 .f32 := constant S8x128 .f32 0x00000000#32
  have v157 : FVec F S8x128 .f32 := matmul dot_S8x256_S256x128_S8x128_1_0_0_1_n_n none v148 v156 cst_67
  have v158 : FVec F S8x128 .f32 := addf arg19 v157
  v158

theorem pay1_eq (v12 v32 : Elt F .i32) (v90 : FVec F S8x1 .f32) (k : Fin (k0_t11_loop v12).trips) (acc : FVec F S8x128 .f32) (p : Vec F S1x8x256 .f32) (s0 s1 : Vec F S1x128 .f32) (w : Vec F S1x64x128 .i32) :
    k0_pay1 v12 v32 (iota .tc S8x256 32 [1] iota_S8x256_d1_w32) v90 0#32 k acc p s0 s1 w = outAt v32 v90 k.val acc p s0 s1 w := rfl

/-- 64 rows of pair `p`'s words from row `64 k`; a row of a block of scales; a head's scales of the recent tokens. -/
def rowsOf (ko : S100352x128.Idx → Elt F .i32) (p : Fin 112) (k : ℕ) : Vec F S1x64x128 .i32 :=
  fun y => ko (ix2 (⟨(896 * p.val + 64 * k + (y 1).val) % 100352, Nat.mod_lt _ (by decide)⟩ : Fin 100352) (⟨(y 2).val, (y 2).isLt⟩ : Fin 128))
def scaleRow (X : S32x128.Idx → Elt F .f32) (r : ℕ) : Vec F S1x128 .f32 :=
  fun y => X (ix2 (⟨r % 32, Nat.mod_lt _ (by decide)⟩ : Fin 32) (⟨(y 1).val, (y 1).isLt⟩ : Fin 128))
def gRow (X : S1x2x256.Idx → Elt F .f32) (g : ℕ) : Vec F S1x1x256 .f32 :=
  fun y => X (ix3 (0 : Fin 1) (⟨g % 2, Nat.mod_lt _ (by decide)⟩ : Fin 2) (⟨(y 2).val, (y 2).isLt⟩ : Fin 256))

/-- What a grid point is given: its blocks, the gathered words, its total and its number. -/
structure PtIn (F : FTy → Type) where
  q : Vec F S1x8x128 .bf16
  kn : Vec F S1x1x2x128 .bf16
  vn : Vec F S1x1x2x128 .bf16
  rk : Vec F S1x256x128 .fp8e4m3
  rv : Vec F S1x256x128 .fp8e4m3
  rks : Vec F S1x2x256 .f32
  rvs : Vec F S1x2x256 .f32
  ks : Vec F S32x128 .f32
  vs : Vec F S32x128 .f32
  ko : S100352x128.Idx → Elt F .i32
  vo : S100352x128.Idx → Elt F .i32
  v : Elt F .i32
  t : Fin 112

namespace PtIn

variable (P : PtIn F)

/-- The pair's second coordinate, as the word the kernel computes. -/
def par : BitVec 32 := Scalar.remsi (BitVec.ofNat 32 P.t.val) 2#32
/-- The queries; the scores of the recent tokens, of the new one, of block `k` of the gathered ones. -/
def qv : FVec F S8x128 .bf16 := k0_pay4 P.q
def sRec : FVec F S8x256 .f32 := k0_pay6 P.qv (k0_pay5 (gRow P.rks P.t.val)) P.rk
def sNew : FVec F S8x1 .f32 := k0_pay7 P.par P.qv P.kn
def score (k : ℕ) : FVec F S8x256 .f32 := scoreAt P.qv P.v k (rowsOf P.ko P.t k) (scaleRow P.ks (2 * k)) (scaleRow P.ks (2 * k + 1))
/-- The running maximum, elementwise, over the first `k` blocks; each head's. -/
def mxAt : ℕ → FVec F S8x256 .f32
  | 0 => P.sRec
  | k + 1 => maximumf (mxAt k) (P.score k)
def mRow : FVec F S8 .f32 := k0_pay14 (P.mxAt (nOf P.v))
/-- A block's scores, then its weights, as the scratch buffer holds them. -/
def sBlk (k : ℕ) : Vec F S1x8x256 .f32 := shapeCast S1x8x256 (P.score k) shapeCasts_S8x256_S1x8x256
def eBlk (k : ℕ) : Vec F S1x8x256 .f32 := k0_pay19 P.sNew P.mRow (P.sBlk k)
/-- The running sum of the weights, elementwise; each head's. -/
def denAt : ℕ → FVec F S8x256 .f32
  | 0 => k0_pay16 P.sRec P.sNew P.mRow
  | k + 1 => k0_pay20 P.sNew P.mRow (denAt k) (P.sBlk k)
def den : FVec F S8x256 .f32 := P.denAt (nOf P.v)
def dTot : FVec F S8x1 .f32 := k0_pay24 P.sNew P.mRow P.den
/-- The weighted sum over the recent tokens and the first `k` blocks. -/
def oAt : ℕ → FVec F S8x128 .f32
  | 0 => k0_pay27 P.sRec P.sNew P.mRow P.den (gRow P.rvs P.t.val) P.rv
  | k + 1 => outAt P.v P.dTot k (oAt k) (P.eBlk k) (scaleRow P.vs (2 * k)) (scaleRow P.vs (2 * k + 1)) (rowsOf P.vo P.t k)
/-- The output block. -/
def out : FVec F S1x8x128 .bf16 := k0_pay3 (k0_pay25 P.sNew P.mRow P.den) (k0_pay26 P.par P.vn) (P.oAt (nOf P.v))

end PtIn

end Cert.Kernel.Hand

end
-- ==== Proof.Kernel.Steps.lean ====
/-
  Hand-written, untrusted. The reads and writes of a grid point's computation: a read of a block held whole, of
  64 rows of a slot, of a block of the scratch buffer, of a total; a write of a block of the scratch buffer and
  of the output block.
-/
module

public import proofs.«01_k».proof.Proof.Kernel.Values

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffer of scores and weights, and the table of totals. -/
abbrev sBuf : Memref sig .tc .vmem S14x8x256 .f32 := Memref.whole cc0_scratch2
abbrev tabM : Memref sig .tc .smem S128 .i32 := Memref.whole main_arg0

section Own

variable (c : Dev nD)

/-- A read of a rectangle of a memref held whole. -/
theorem load_own {s : Shape} {e : EltTy} (M : Memref sig .tc .vmem s e) (X : s.Idx → Elt F e) (r : Rect s) (hl : M.view.LoadsAt r)
    (Y : r.shape.Idx → Elt F e) (hY : ∀ x, X (r.emb x) = Y x) {α : Type} {Q : α → sProp 𝕄} (k : (r.shape.Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k Y) Q) -∗ (wp frame (wpE (defs₀ (F := F)) Variants.none (c : Thread nD τ) none) Set.univ) (Prog.lift (.load M r hl) >>= k) Q) := by
  unfold owns
  iintro ⟨%f, %hf, H⟩ HK
  have hr : (M.access r).read (Elt F) f = Y := by
    funext x
    rw [← hY, ← hf]; rfl
  rw [show (Prog.lift (.load M r hl) >>= k : PR F α) = .op (.load M r hl) k from rfl]
  iapply (show (M.view.loc (c : Thread nD τ) ↦[M.view.set]{fullShare} f)
      ⊢ iprop(((M.view.loc (c : Thread nD τ) ↦[M.view.set]{fullShare} f) -∗ (wp frame (wpE (defs₀ (F := F)) Variants.none (c : Thread nD τ) none) Set.univ) (k ((M.access r).read (Elt F) f)) Q) -∗ (wp frame (wpE (defs₀ (F := F)) Variants.none (c : Thread nD τ) none) Set.univ) (.op (.load M r hl) k) Q) from
    wp_load_rect (defs := defs₀ (F := F)) Variants.none (c : Thread nD τ) none Set.univ (m := M) (r := r) (hl := hl) (k := k) (q := fullShare) (f := f)
    (S := M.view.set) (by rw [show (M.access r).set = M.view.setOn r.set from View.set_slice _ _]; exact Finset.map_subset_map.mpr (Finset.subset_univ _))) $$ H
  iintro H
  rw [hr]
  iapply HK
  iexists f
  isplitr; · ipureintro; exact hf
  iexact H

/-- A write of a whole block. -/
theorem store_own {s : Shape} {e : EltTy} (M : Memref sig .tc .vmem s e) (X : s.Idx → Elt F e) (r : Rect s) (w : r.shape.Idx → Elt F e) (hx) (hm)
    (Y : s.Idx → Elt F e) (hY : ∀ y, ∃ x, r.emb x = y ∧ w x = Y y) {α : Type} {Q : α → sProp 𝕄} (k : PUnit → PR F α) :
    (owns (c : Thread nD τ) M fullShare X : sProp 𝕄)
      ⊢ iprop((owns (c : Thread nD τ) M fullShare Y -∗ (wp frame (wpE (defs₀ (F := F)) Variants.none (c : Thread nD τ) none) Set.univ) (k ⟨⟩) Q) -∗ (wp frame (wpE (defs₀ (F := F)) Variants.none (c : Thread nD τ) none) Set.univ) (Prog.lift (.store M r w Finset.univ hx hm) >>= k) Q) := by
  unfold owns
  iintro ⟨%f, %hf, H⟩ HK
  have hr : M.view.read (Elt F) ((M.access r).write (Elt F) f w Finset.univ) = Y := by
    funext y
    obtain ⟨x, rfl, hw⟩ := hY y
    rw [← hw]
    exact View.read_slice_write_emb (v := M.view) (Val := Elt F) r f w (Finset.mem_univ x)
  rw [show (Prog.lift (.store M r w Finset.univ hx hm) >>= k : PR F α) = .op (.store M r w Finset.univ hx hm) k from rfl]
  iapply (show (M.view.loc (c : Thread nD τ) ↦[M.view.set]{fullShare} f)
      ⊢ iprop(((M.view.loc (c : Thread nD τ) ↦[M.view.set]{fullShare} ((M.access r).write (Elt F) f w Finset.univ)) -∗ (wp frame (wpE (defs₀ (F := F)) Variants.none (c : Thread nD τ) none) Set.univ) (k ⟨⟩) Q) -∗ (wp frame (wpE (defs₀ (F := F)) Variants.none (c : Thread nD τ) none) Set.univ) (.op (.store M r w Finset.univ hx hm) k) Q) from
    wp_store (defs := defs₀ (F := F)) Variants.none (c : Thread nD τ) none Set.univ (m := M) (r := r) (w := w) (Mk := Finset.univ) (hx := hx) (hm := hm) (k := k) (f := f)
    (S := M.view.set) (by rw [show (M.access r).setOn Finset.univ = M.view.setOn r.set from View.set_slice _ _]; exact Finset.map_subset_map.mpr (Finset.subset_univ _))) $$ H
  iintro H
  iapply HK
  iexists _
  isplitr; · ipureintro; exact hr
  iexact H

end Own

section Whole

variable (c : Dev nD)

theorem rows_idx (s : Fin 2) (p : Fin 112) (b : Fin 14) (x : S1x64x128.Idx) :
    rowIdx p ((Rect.unit (s := S2x896x128) ![s.val, 64 * b.val, 0] S1x64x128.size (inbD s b)).emb x)
      = ix2 (⟨(896 * p.val + 64 * b.val + (x 1).val) % 100352, Nat.mod_lt _ (by decide)⟩ : Fin 100352) (⟨(x 2).val, (x 2).isLt⟩ : Fin 128) := by
  have h1 : (x 1).val < 64 := (x 1).isLt
  funext a
  fin_cases a
  · apply Fin.ext
    show 896 * p.val + (64 * b.val + 1 * (x 1).val) = (896 * p.val + 64 * b.val + (x 1).val) % 100352
    rw [Nat.mod_eq_of_lt (by omega)]; omega
  · apply Fin.ext
    show 0 + 1 * (x 2).val = (x 2).val
    omega

/-- A read of 64 rows of a slot of the first staging buffer, -/
theorem load_k (s : Fin 2) (p : Fin 112) (b : Fin 14) (ko : S100352x128.Idx → Elt F .i32) {o : Fin 3 → ℕ} {h} {hl} (e : o = ![s.val, 64 * b.val, 0])
    {α : Type} {Q : α → sProp 𝕄} (k : Vec F S1x64x128 .i32 → PR F α) :
    kAt c s (landedOf ko p) b
      ⊢ iprop((kAt c s (landedOf ko p) b -∗ (wp frame (wpE (defs₀ (F := F)) Variants.none (c : Thread nD τ) none) Set.univ) (k (rowsOf ko p b.val)) Q)
        -∗ (wp frame (wpE (defs₀ (F := F)) Variants.none (c : Thread nD τ) none) Set.univ) (Prog.lift (.load kBuf (Rect.unit (s := S2x896x128) o S1x64x128.size h).toLoadRect hl) >>= k) Q) := by
  subst e
  have hr : (kBuf.access (Rect.unit (s := S2x896x128) ![s.val, 64 * b.val, 0] S1x64x128.size (inbD s b))).read (Elt F) (landedOf ko p) = rowsOf ko p b.val :=
    funext fun x => congrArg ko (rows_idx s p b x)
  iintro H HK
  rw [show ∀ op, (Prog.lift op >>= k : PR F α) = .op op k from fun _ => rfl]
  iapply (wp_load_rect (defs := defs₀ (F := F)) Variants.none (c : Thread nD τ) none Set.univ (k := k) (q := fullShare) (f := landedOf ko p)
    (m := kBuf) (r := Rect.unit (s := S2x896x128) ![s.val, 64 * b.val, 0] S1x64x128.size h) (S := dSet s b) (View.set_slice_whole _ _).subset) $$ H
  iintro H
  rw [hr]
  iapply HK $$ H
/-- and of the second. -/
theorem load_v (s : Fin 2) (p : Fin 112) (b : Fin 14) (vo : S100352x128.Idx → Elt F .i32) {o : Fin 3 → ℕ} {h} {hl} (e : o = ![s.val, 64 * b.val, 0])
    {α : Type} {Q : α → sProp 𝕄} (k : Vec F S1x64x128 .i32 → PR F α) :
    vAt c s (landedOf vo p) b
      ⊢ iprop((vAt c s (landedOf vo p) b -∗ (wp frame (wpE (defs₀ (F := F)) Variants.none (c : Thread nD τ) none) Set.univ) (k (rowsOf vo p b.val)) Q)
        -∗ (wp frame (wpE (defs₀ (F := F)) Variants.none (c : Thread nD τ) none) Set.univ) (Prog.lift (.load vBuf (Rect.unit (s := S2x896x128) o S1x64x128.size h).toLoadRect hl) >>= k) Q) := by
  subst e
  have hr : (vBuf.access (Rect.unit (s := S2x896x128) ![s.val, 64 * b.val, 0] S1x64x128.size (inbD s b))).read (Elt F) (landedOf vo p) = rowsOf vo p b.val :=
    funext fun x => congrArg vo (rows_idx s p b x)
  iintro H HK
  rw [show ∀ op, (Prog.lift op >>= k : PR F α) = .op op k from fun _ => rfl]
  iapply (wp_load_rect (defs := defs₀ (F := F)) Variants.none (c : Thread nD τ) none Set.univ (k := k) (q := fullShare) (f := landedOf vo p)
    (m := vBuf) (r := Rect.unit (s := S2x896x128) ![s.val, 64 * b.val, 0] S1x64x128.size h) (S := dSet s b) (View.set_slice_whole _ _).subset) $$ H
  iintro H
  rw [hr]
  iapply HK $$ H

/-- A read of a row of scales; of a head's scales of the recent tokens. -/
theorem load_scale (M : Memref sig .tc .vmem S32x128 .f32) (X : S32x128.Idx → Elt F .f32) (r : ℕ) (hr : r < 32) {o : Fin 2 → ℕ} {h} {hl} (e : o = ![r, 0])
    {α : Type} {Q : α → sProp 𝕄} (k : Vec F S1x128 .f32 → PR F α) :
    (owns (c : Thread nD τ) M fullShare X : sProp 𝕄)
      ⊢ iprop((owns (c : Thread nD τ) M fullShare X -∗ (wp frame (wpE (defs₀ (F := F)) Variants.none (c : Thread nD τ) none) Set.univ) (k (scaleRow X r)) Q)
        -∗ (wp frame (wpE (defs₀ (F := F)) Variants.none (c : Thread nD τ) none) Set.univ) (Prog.lift (.load M (Rect.unit (s := S32x128) o S1x128.size h).toLoadRect hl) >>= k) Q) := by
  subst e
  refine load_own c M X (Rect.unit (s := S32x128) ![r, 0] S1x128.size h) hl (scaleRow X r) (fun x => congrArg X ?_) k
  have h0 : (x 0).val < 1 := (x 0).isLt
  funext a
  fin_cases a
  · apply Fin.ext
    show r + 1 * (x 0).val = r % 32
    rw [Nat.mod_eq_of_lt hr]; omega
  · apply Fin.ext
    show 0 + 1 * (x 1).val = (x 1).val
    omega
theorem load_gRow (M : Memref sig .tc .vmem S1x2x256 .f32) (X : S1x2x256.Idx → Elt F .f32) (g : ℕ) {o : Fin 3 → ℕ} {h} {hl} (e : o = ![0, g % 2, 0])
    {α : Type} {Q : α → sProp 𝕄} (k : Vec F S1x1x256 .f32 → PR F α) :
    (owns (c : Thread nD τ) M fullShare X : sProp 𝕄)
      ⊢ iprop((owns (c : Thread nD τ) M fullShare X -∗ (wp frame (wpE (defs₀ (F := F)) Variants.none (c : Thread nD τ) none) Set.univ) (k (gRow X g)) Q)
        -∗ (wp frame (wpE (defs₀ (F := F)) Variants.none (c : Thread nD τ) none) Set.univ) (Prog.lift (.load M (Rect.unit (s := S1x2x256) o S1x1x256.size h).toLoadRect hl) >>= k) Q) := by
  subst e
  refine load_own c M X (Rect.unit (s := S1x2x256) ![0, g % 2, 0] S1x1x256.size h) hl (gRow X g) (fun x => congrArg X ?_) k
  have h0 : (x 0).val < 1 := (x 0).isLt
  have h1 : (x 1).val < 1 := (x 1).isLt
  funext a
  fin_cases a
  · apply Fin.ext
    show 0 + 1 * (x 0).val = 0
    omega
  · apply Fin.ext
    show g % 2 + 1 * (x 1).val = g % 2
    omega
  · apply Fin.ext
    show 0 + 1 * (x 2).val = (x 2).val
    omega
/-- A read of a whole block of rank three, of rank four; a write of one. -/
theorem load_all3 {a b d : ℕ} {e : EltTy} (M : Memref sig .tc .vmem ⟨3, ![a, b, d]⟩ e) (X : (⟨3, ![a, b, d]⟩ : Shape).Idx → Elt F e) {h} {hl}
    {α : Type} {Q : α → sProp 𝕄} (k : ((⟨3, ![a, b, d]⟩ : Shape).Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k X) Q)
        -∗ (wp frame (wpE (defs₀ (F := F)) Variants.none (c : Thread nD τ) none) Set.univ) (Prog.lift (.load M (Rect.unit (s := ⟨3, ![a, b, d]⟩) ![0, 0, 0] (⟨3, ![a, b, d]⟩ : Shape).size h).toLoadRect hl) >>= k) Q) := by
  refine load_own c M X (Rect.unit (s := ⟨3, ![a, b, d]⟩) ![0, 0, 0] (⟨3, ![a, b, d]⟩ : Shape).size h) hl X (fun x => congrArg X ?_) k
  funext i
  fin_cases i <;> apply Fin.ext
  · show 0 + 1 * (x 0).val = (x 0).val; omega
  · show 0 + 1 * (x 1).val = (x 1).val; omega
  · show 0 + 1 * (x 2).val = (x 2).val; omega
theorem load_all4 {a b d f : ℕ} {e : EltTy} (M : Memref sig .tc .vmem ⟨4, ![a, b, d, f]⟩ e) (X : (⟨4, ![a, b, d, f]⟩ : Shape).Idx → Elt F e) {h} {hl}
    {α : Type} {Q : α → sProp 𝕄} (k : ((⟨4, ![a, b, d, f]⟩ : Shape).Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k X) Q)
        -∗ (wp frame (wpE (defs₀ (F := F)) Variants.none (c : Thread nD τ) none) Set.univ) (Prog.lift (.load M (Rect.unit (s := ⟨4, ![a, b, d, f]⟩) ![0, 0, 0, 0] (⟨4, ![a, b, d, f]⟩ : Shape).size h).toLoadRect hl) >>= k) Q) := by
  refine load_own c M X (Rect.unit (s := ⟨4, ![a, b, d, f]⟩) ![0, 0, 0, 0] (⟨4, ![a, b, d, f]⟩ : Shape).size h) hl X (fun x => congrArg X ?_) k
  funext i
  fin_cases i <;> apply Fin.ext
  · show 0 + 1 * (x 0).val = (x 0).val; omega
  · show 0 + 1 * (x 1).val = (x 1).val; omega
  · show 0 + 1 * (x 2).val = (x 2).val; omega
  · show 0 + 1 * (x 3).val = (x 3).val; omega
theorem store_all3 {a b d : ℕ} {e : EltTy} (M : Memref sig .tc .vmem ⟨3, ![a, b, d]⟩ e) (X w : (⟨3, ![a, b, d]⟩ : Shape).Idx → Elt F e) {h} {hx} {hm}
    {α : Type} {Q : α → sProp 𝕄} (k : PUnit → PR F α) :
    (owns (c : Thread nD τ) M fullShare X : sProp 𝕄)
      ⊢ iprop((owns (c : Thread nD τ) M fullShare w -∗ (wp frame (wpE (defs₀ (F := F)) Variants.none (c : Thread nD τ) none) Set.univ) (k ⟨⟩) Q)
        -∗ (wp frame (wpE (defs₀ (F := F)) Variants.none (c : Thread nD τ) none) Set.univ) (Prog.lift (.store M (Rect.unit (s := ⟨3, ![a, b, d]⟩) ![0, 0, 0] (⟨3, ![a, b, d]⟩ : Shape).size h) w Finset.univ hx hm) >>= k) Q) := by
  refine store_own c M X (Rect.unit (s := ⟨3, ![a, b, d]⟩) ![0, 0, 0] (⟨3, ![a, b, d]⟩ : Shape).size h) w hx hm w (fun y => ⟨y, ?_, rfl⟩) k
  funext i
  fin_cases i <;> apply Fin.ext
  · show 0 + 1 * (y 0).val = (y 0).val; omega
  · show 0 + 1 * (y 1).val = (y 1).val; omega
  · show 0 + 1 * (y 2).val = (y 2).val; omega

/-! ## The scratch buffer -/

abbrev sPt (g : S14x8x256.Idx → Elt F .f32) : sProp 𝕄 := (c : Thread nD τ).loc cc0_scratch2 ↦{fullShare} g
/-- Block `k` of the scratch buffer. -/
def chunkIdx (k : Fin 14) (y : S1x8x256.Idx) : S14x8x256.Idx := ix3 k (⟨(y 1).val, (y 1).isLt⟩ : Fin 8) (⟨(y 2).val, (y 2).isLt⟩ : Fin 256)
def chunkOf (g : S14x8x256.Idx → Elt F .f32) (k : Fin 14) : Vec F S1x8x256 .f32 := fun y => g (chunkIdx k y)

theorem chunk_emb (b : Fin 14) (h) (x : S1x8x256.Idx) :
    (Rect.unit (s := S14x8x256) ![b.val, 0, 0] S1x8x256.size h).emb x = chunkIdx b x := by
  have h0 : (x 0).val < 1 := (x 0).isLt
  funext a
  fin_cases a <;> apply Fin.ext
  · show b.val + 1 * (x 0).val = b.val; omega
  · show 0 + 1 * (x 1).val = (x 1).val; omega
  · show 0 + 1 * (x 2).val = (x 2).val; omega

theorem load_s (g : S14x8x256.Idx → Elt F .f32) (b : Fin 14) {o : Fin 3 → ℕ} {h} {hl} (e : o = ![b.val, 0, 0])
    {α : Type} {Q : α → sProp 𝕄} (k : Vec F S1x8x256 .f32 → PR F α) :
    sPt c g
      ⊢ iprop((sPt c g -∗ (wp frame (wpE (defs₀ (F := F)) Variants.none (c : Thread nD τ) none) Set.univ) (k (chunkOf g b)) Q)
        -∗ (wp frame (wpE (defs₀ (F := F)) Variants.none (c : Thread nD τ) none) Set.univ) (Prog.lift (.load sBuf (Rect.unit (s := S14x8x256) o S1x8x256.size h).toLoadRect hl) >>= k) Q) := by
  subst e
  have hr : (sBuf.access (Rect.unit (s := S14x8x256) ![b.val, 0, 0] S1x8x256.size h)).read (Elt F) g = chunkOf g b :=
    funext fun x => congrArg g (chunk_emb b h x)
  iintro H HK
  rw [show ∀ op, (Prog.lift op >>= k : PR F α) = .op op k from fun _ => rfl]
  iapply (wp_load_rect (defs := defs₀ (F := F)) Variants.none (c : Thread nD τ) none Set.univ (k := k) (q := fullShare) (f := g)
    (m := sBuf) (r := Rect.unit (s := S14x8x256) ![b.val, 0, 0] S1x8x256.size h) (S := Finset.univ) (Finset.subset_univ _)) $$ H
  iintro H
  rw [hr]
  iapply HK $$ H

/-- The scratch buffer with block `b` at `w`, -/
def setChunk (g : S14x8x256.Idx → Elt F .f32) (b : Fin 14) (w : Vec F S1x8x256 .f32) : S14x8x256.Idx → Elt F .f32 :=
  fun x => if (x 0).val = b.val then w (ix3 (0 : Fin 1) (⟨(x 1).val, (x 1).isLt⟩ : Fin 8) (⟨(x 2).val, (x 2).isLt⟩ : Fin 256)) else g x
theorem chunkOf_setChunk (g : S14x8x256.Idx → Elt F .f32) (b j : Fin 14) (w : Vec F S1x8x256 .f32) :
    chunkOf (setChunk g b w) j = if j = b then w else chunkOf g j := by
  by_cases hj : j = b
  · subst hj
    rw [if_pos rfl]
    funext y
    have h0 : (y 0).val < 1 := (y 0).isLt
    unfold chunkOf setChunk
    rw [if_pos (show (chunkIdx j y 0).val = j.val from rfl)]
    refine congrArg w ?_
    funext a
    fin_cases a <;> apply Fin.ext
    · show 0 = (y 0).val; omega
    · rfl
    · rfl
  · rw [if_neg hj]
    funext y
    unfold chunkOf setChunk
    rw [if_neg (fun e : (chunkIdx j y 0).val = b.val => hj (Fin.ext e))]
/-- which a write of that block leaves. -/
theorem store_s (g : S14x8x256.Idx → Elt F .f32) (b : Fin 14) (w : Vec F S1x8x256 .f32) {o : Fin 3 → ℕ} {h} {hx} {hm} (e : o = ![b.val, 0, 0])
    {α : Type} {Q : α → sProp 𝕄} (k : PUnit → PR F α) :
    sPt c g
      ⊢ iprop((sPt c (setChunk g b w) -∗ (wp frame (wpE (defs₀ (F := F)) Variants.none (c : Thread nD τ) none) Set.univ) (k ⟨⟩) Q)
        -∗ (wp frame (wpE (defs₀ (F := F)) Variants.none (c : Thread nD τ) none) Set.univ) (Prog.lift (.store sBuf (Rect.unit (s := S14x8x256) o S1x8x256.size h) w Finset.univ hx hm) >>= k) Q) := by
  subst e
  have hr : (sBuf.access (Rect.unit (s := S14x8x256) ![b.val, 0, 0] S1x8x256.size h)).write (Elt F) g w Finset.univ = setChunk g b w := by
    funext x
    by_cases hxb : (x 0).val = b.val
    · have hxe : x = (sBuf.access (Rect.unit (s := S14x8x256) ![b.val, 0, 0] S1x8x256.size h)).emb (ix3 (0 : Fin 1) (⟨(x 1).val, (x 1).isLt⟩ : Fin 8) (⟨(x 2).val, (x 2).isLt⟩ : Fin 256)) := by
        refine Eq.trans ?_ (chunk_emb b h _).symm
        funext a
        fin_cases a <;> apply Fin.ext
        · exact hxb
        · rfl
        · rfl
      unfold setChunk
      rw [if_pos hxb]
      conv_lhs => rw [hxe]
      exact (View.write_emb_of_mem (v := (sBuf.access (Rect.unit (s := S14x8x256) ![b.val, 0, 0] S1x8x256.size h))) (Val := Elt F) g w (Finset.mem_univ _))
    · unfold setChunk
      rw [if_neg hxb]
      refine View.write_of_not_mem _ _ _ (fun hm => hxb ?_)
      obtain ⟨y, -, hy⟩ := Finset.mem_map.mp hm
      rw [← hy]
      exact congrArg (fun z : S14x8x256.Idx => (z 0).val) (chunk_emb b h y)
  iintro H HK
  rw [show ∀ op, (Prog.lift op >>= k : PR F α) = .op op k from fun _ => rfl]
  iapply (wp_store (defs := defs₀ (F := F)) Variants.none (c : Thread nD τ) none Set.univ (k := k) (f := g)
    (m := sBuf) (r := Rect.unit (s := S14x8x256) ![b.val, 0, 0] S1x8x256.size h) (S := Finset.univ) (Finset.subset_univ _)) $$ H
  iintro H
  rw [hr]
  iapply HK $$ H

/-! ## The table -/

abbrev tPt (tb : S128.Idx → Elt F .i32) : sProp 𝕄 := (c : Thread nD τ).loc main_arg0 ↦{fullShare.right} tb

/-- A read of pair `p`'s total. -/
theorem load_tot (tb : S128.Idx → Elt F .i32) (p : Fin 112) {o : Fin 1 → ℕ} {h} {h1} {h2} (e : o = ![p.val])
    {α : Type} {Q : α → sProp 𝕄} (k : Elt F .i32 → PR F α) :
    tPt c tb
      ⊢ iprop((tPt c tb -∗ (wp frame (wpE (defs₀ (F := F)) Variants.none (c : Thread nD τ) none) Set.univ) (k (totAt tb p)) Q)
        -∗ (wp frame (wpE (defs₀ (F := F)) Variants.none (c : Thread nD τ) none) Set.univ) (smemLoad tabM (Rect.unit (s := S128) o S1.size h) h1 h2 >>= k) Q) := by
  subst e
  have hr : ∀ x, (tabM.access (Rect.unit (s := S128) ![p.val] S1.size h)).read (Elt F) tb x = totAt tb p := by
    intro x
    have h0 : (x 0).val < 1 := (x 0).isLt
    refine congrArg tb ?_
    funext a
    fin_cases a
    apply Fin.ext
    show p.val + 1 * (x 0).val = p.val
    omega
  iintro H HK
  rw [show (smemLoad tabM (Rect.unit (s := S128) ![p.val] S1.size h) h1 h2 >>= k : PR F α)
    = smemLoadElt tabM (Rect.unit (s := S128) ![p.val] S1.size h) (View.loads_smem_one h2 h1) (Shape.Idx.first (h1.symm ▸ Nat.one_pos)) k from rfl]
  iapply (wp_smemLoadElt (defs := defs₀ (F := F)) Variants.none (c : Thread nD τ) none Set.univ (k := k) (q := fullShare.right) (f := tb)
    (m := tabM) (r := Rect.unit (s := S128) ![p.val] S1.size h) (S := Finset.univ) (Finset.subset_univ _)) $$ H
  iintro H
  rw [hr]
  iapply HK $$ H

/-- A check that holds. -/
theorem assume_ok {P : Prop} {d : Decidable P} (hP : P) {α : Type} {Q : α → sProp 𝕄} (k : PLift P → PR F α) :
    (wp frame (wpE (defs₀ (F := F)) Variants.none (c : Thread nD τ) none) Set.univ) (k ⟨hP⟩) Q ⊢ (wp frame (wpE (defs₀ (F := F)) Variants.none (c : Thread nD τ) none) Set.univ) (Prog.lift (TpuEff.assume P d) >>= k) Q :=
  wp_assume (defs := defs₀ (F := F)) Variants.none (c : Thread nD τ) none Set.univ hP

end Whole

end Cert.Kernel.Hand

end
-- ==== Proof.Kernel.Loops.lean ====
/-
  Hand-written, untrusted. The three loops of a grid point's computation: the scores of each block and their
  running maximum, the weights and their running sum, the weighted sum.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Loops

variable (c : Dev nD)

/-- A loop over chunks with its remainder, by an invariant. -/
theorem two_loops {v : BitVec 32} (hv : v.toInt ≤ 3584) {α σ : Type} {Q : α → sProp 𝕄} (I : ℕ → σ → sProp 𝕄) (ok : (mainLoop v).OK) (ok' : (remLoop v).OK) (a : σ)
    (body : Fin (mainLoop v).trips → σ → PR F σ) (body' : Fin (remLoop v).trips → σ → PR F σ) (kk : σ → PR F α)
    (hbody : ∀ k acc, I k.val acc ⊢ (wp frame (wpE (defs₀ (F := F)) Variants.none (c : Thread nD τ) none) Set.univ) (body k acc) (I (k.val + 1))) :
    I 0 a ⊢ iprop((∀ acc, I (nOf v) acc -∗ (wp frame (wpE (defs₀ (F := F)) Variants.none (c : Thread nD τ) none) Set.univ) (kk acc) Q)
        -∗ (wp frame (wpE (defs₀ (F := F)) Variants.none (c : Thread nD τ) none) Set.univ) (Scf.Loop.for (mainLoop v) ok a body >>= fun x => Scf.Loop.for (remLoop v) ok' x body' >>= kk) Q) := by
  have ht := main_trips hv
  iintro HI HK
  iapply (Scf.wp_for_bind frame (wpE (defs₀ (F := F)) Variants.none (c : Thread nD τ) none) Set.univ
    (mainLoop v).lb (mainLoop v).ub (mainLoop v).st ok a body I hbody) $$ HI
  iintro %acc HI
  rw [show Scf.trips (mainLoop v).lb (mainLoop v).ub (mainLoop v).st = nOf v from ht]
  iapply (rem_loop c ok' acc body' kk .rfl)
  iapply HK $$ HI

variable (P : PtIn F)

abbrev rows : sProp 𝕄 := bigSep (Ring.rangeSet 14 0 (nOf P.v)) (full c P.ko P.vo (slotOf P.t) P.t)

/-- Before block `k` is scored: the running maximum; the blocks before it in the scratch buffer. -/
def scoreInv (M : Memref sig .tc .vmem S32x128 .f32) (k : ℕ) (acc : FVec F S8x256 .f32) : sProp 𝕄 :=
  iprop(⌜acc = P.mxAt k⌝ ∗ owns (c : Thread nD τ) M fullShare P.ks ∗ rows c P
    ∗ ∃ g, ⌜∀ j : Fin 14, j.val < k → chunkOf g j = P.sBlk j.val⌝ ∗ sPt c g)
/-- Before block `k` is weighted: the running sum; the blocks before it weighted. -/
def expInv (k : ℕ) (acc : FVec F S8x256 .f32) : sProp 𝕄 :=
  iprop(⌜acc = P.denAt k⌝ ∗ ∃ g, ⌜∀ j : Fin 14, j.val < nOf P.v → chunkOf g j = if j.val < k then P.eBlk j.val else P.sBlk j.val⌝ ∗ sPt c g)
/-- Before block `k` is summed. -/
def outInv (M : Memref sig .tc .vmem S32x128 .f32) (k : ℕ) (acc : FVec F S8x128 .f32) : sProp 𝕄 :=
  iprop(⌜acc = P.oAt k⌝ ∗ owns (c : Thread nD τ) M fullShare P.vs ∗ rows c P
    ∗ ∃ g, ⌜∀ j : Fin 14, j.val < nOf P.v → chunkOf g j = P.eBlk j.val⌝ ∗ sPt c g)

theorem rows_take (b : Fin 14) (hb : b.val < nOf P.v) :
    rows c P = iprop((kAt c (slotOf P.t) (landedOf P.ko P.t) b ∗ vAt c (slotOf P.t) (landedOf P.vo P.t) b)
      ∗ bigSep ((Ring.rangeSet 14 0 (nOf P.v)).erase b) (full c P.ko P.vo (slotOf P.t) P.t) : sProp 𝕄) :=
  erase_split (by unfold Ring.rangeSet; exact Finset.mem_filter.mpr ⟨Finset.mem_univ _, Nat.zero_le _, hb⟩)

variable (i : grid0.Coords) (hi : (i 0).val = P.t.val) (hv : P.v.toInt ≤ 3584)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)
include hi hv

theorem score_step (arg0 v0 v8 : BitVec 32) (hw : k0_chk3 i P.v) (v30 : BitVec 32) (v35 : FVec F S1x256 .f32) (k : Fin (mainLoop P.v).trips) (acc : FVec F S8x256 .f32) :
    scoreInv c P M9 k.val acc
      ⊢ (wp frame (wpE (defs₀ (F := F)) Variants.none (c : Thread nD τ) none) Set.univ) (k0_t7_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 arg0 v0 v8 P.qv P.v hw v30 P.v v35 k acc) (scoreInv c P M9 (k.val + 1)) := by
  have hk := klt14 k hv
  have hkn : k.val < nOf P.v := by rw [← main_trips hv]; exact k.isLt
  unfold scoreInv
  rw [rows_take c P ⟨k.val, hk⟩ hkn]
  iintro ⟨%hacc, HM, ⟨⟨HK, HV⟩, HR⟩, %g, %hg, HS⟩
  subst hacc
  unfold k0_t7_body
  iapply (load_k c (slotOf P.t) P.t ⟨k.val, hk⟩ P.ko ((off23_eq i P.v k).trans (by rw [hi]; rfl)) _) $$ HK
  iintro HK
  iapply (load_scale c M9 P.ks (2 * k.val) (by omega) (off24_eq P.v k) _) $$ HM
  iintro HM
  iapply (load_scale c M9 P.ks (2 * k.val + 1) (by omega) (off25_eq P.v k) _) $$ HM
  iintro HM
  iapply (load_s c g ⟨k.val, hk⟩ (off26_eq P.v k) _) $$ HS
  iintro HS
  iapply (store_s c g ⟨k.val, hk⟩ _ (off26_eq P.v k) _) $$ HS
  iintro HS
  sl_step
  isplitr; · ipureintro; rfl
  isplitl [HM]; · iexact HM
  isplitl [HK HV HR]
  · isplitr [HR]
    · isplitl [HK]; · iexact HK
      iexact HV
    iexact HR
  iexists _
  isplitr
  · ipureintro
    intro j hj
    rw [chunkOf_setChunk]
    by_cases hjk : j = ⟨k.val, hk⟩
    · rw [if_pos hjk, hjk]
    · rw [if_neg hjk]
      exact hg j (by have : j.val ≠ k.val := fun e => hjk (Fin.ext e); omega)
  iexact HS

theorem exp_step (v8 : BitVec 32) (hw : k0_chk3 i P.v) (v30 : BitVec 32) (k : Fin (mainLoop P.v).trips) (acc : FVec F S8x256 .f32) :
    expInv c P k.val acc
      ⊢ (wp frame (wpE (defs₀ (F := F)) Variants.none (c : Thread nD τ) none) Set.univ) (k0_t9_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 v8 P.v hw v30 P.sRec P.sNew P.mRow k acc) (expInv c P (k.val + 1)) := by
  have hk := klt14 k hv
  have hkn : k.val < nOf P.v := by rw [← main_trips hv]; exact k.isLt
  unfold expInv
  iintro ⟨%hacc, %g, %hg, HS⟩
  subst hacc
  have hgk : chunkOf g ⟨k.val, hk⟩ = P.sBlk k.val := (hg ⟨k.val, hk⟩ hkn).trans (if_neg (lt_irrefl _))
  unfold k0_t9_body
  iapply (load_s c g ⟨k.val, hk⟩ (off31_eq P.v k) _) $$ HS
  iintro HS
  iapply (load_s c g ⟨k.val, hk⟩ (off31_eq P.v k) _) $$ HS
  iintro HS
  iapply (store_s c g ⟨k.val, hk⟩ _ (off31_eq P.v k) _) $$ HS
  iintro HS
  sl_step
  rw [hgk]
  isplitr; · ipureintro; rfl
  iexists _
  isplitr
  · ipureintro
    intro j hj
    rw [chunkOf_setChunk]
    by_cases hjk : j = ⟨k.val, hk⟩
    · rw [if_pos hjk, hjk, if_pos (Nat.lt_succ_self _)]
    · rw [if_neg hjk, hg j hj]
      have : j.val ≠ k.val := fun e => hjk (Fin.ext e)
      by_cases h1 : j.val < k.val
      · rw [if_pos h1, if_pos (by omega)]
      · rw [if_neg h1, if_neg (by omega)]
  iexact HS

theorem out_step (hw : k0_chk3 i P.v) (k : Fin (mainLoop P.v).trips) (acc : FVec F S8x128 .f32) :
    outInv c P M10 k.val acc
      ⊢ (wp frame (wpE (defs₀ (F := F)) Variants.none (c : Thread nD τ) none) Set.univ) (k0_t11_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 P.v hw P.v (iota .tc S8x256 32 [1] iota_S8x256_d1_w32) P.dTot 0#32 k acc) (outInv c P M10 (k.val + 1)) := by
  have hk := klt14 k hv
  have hkn : k.val < nOf P.v := by rw [← main_trips hv]; exact k.isLt
  unfold outInv
  rw [rows_take c P ⟨k.val, hk⟩ hkn]
  iintro ⟨%hacc, HM, ⟨⟨HK, HV⟩, HR⟩, %g, %hg, HS⟩
  subst hacc
  have hgk : chunkOf g ⟨k.val, hk⟩ = P.eBlk k.val := hg ⟨k.val, hk⟩ hkn
  unfold k0_t11_body
  iapply (load_s c g ⟨k.val, hk⟩ (off34_eq P.v k) _) $$ HS
  iintro HS
  iapply (load_scale c M10 P.vs (2 * k.val) (by omega) (off35_eq P.v k) _) $$ HM
  iintro HM
  iapply (load_scale c M10 P.vs (2 * k.val + 1) (by omega) (off36_eq P.v k) _) $$ HM
  iintro HM
  iapply (load_v c (slotOf P.t) P.t ⟨k.val, hk⟩ P.vo ((off37_eq i P.v k).trans (by rw [hi]; rfl)) _) $$ HV
  iintro HV
  sl_step
  rw [hgk]
  isplitr; · ipureintro; rfl
  isplitl [HM]; · iexact HM
  isplitl [HK HV HR]
  · isplitr [HR]
    · isplitl [HK]; · iexact HK
      iexact HV
    iexact HR
  iexists g
  isplitr
  · ipureintro; exact hg
  iexact HS

end Loops

end Cert.Kernel.Hand

end
-- ==== Proof.Kernel.Part1.lean ====
/-
  Hand-written, untrusted. The first part of a grid point: the first point asks for its own rows, every point but
  the last for the next one's, and then its queries, its total and its scales are read.
-/
module

public import proofs.«01_k».proof.Proof.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Programs

variable (i : grid0.Coords)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

/-- The reads that end the part. -/
def tailProg : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v9 : Vec F S1x8x128 .bf16 ← Prog.lift (.load M2 (Rect.unit (s := S1x8x128) ![0, 0, 0] S1x8x128.size inb_S1x8x128_S1x8x128_0_0_0).toLoadRect (View.loadsAt_vmem h_S1x8x128))
  let v12 : Elt F .i32 ← smemLoad tabM (Rect.unit (s := S128) (k0_off15 i) S1.size (k0_off15_inb i)) numel1_S1 rfl
  have k0_hw3 : k0_chk3 i v12 := (← Prog.lift (TpuEff.assume (k0_chk3 i v12) (k0_chk3.dec i v12))).down
  let v32 : Elt F .i32 ← smemLoad tabM (Rect.unit (s := S128) (k0_off15 i) S1.size (k0_off15_inb i)) numel1_S1 rfl
  let v34 : Vec F S1x1x256 .f32 ← Prog.lift (.load M7 (Rect.unit (s := S1x2x256) (k0_off16 i) S1x1x256.size (k0_off16_inb i)).toLoadRect (View.loadsAt_vmem h_S1x1x256))
  pure ⟨BitVec.ofNat 32 (i 0).val, Scalar.remsi (BitVec.ofNat 32 (i 0).val) 2#32, Scalar.remsi (BitVec.ofNat 32 (i 0).val) 2#32, k0_pay4 v9, v12, k0_hw3, chunksW v12, v32, k0_pay5 v34⟩

/-- The next pair's rows asked for, then the reads. -/
def nextProg (k0_h2 : k0_cond2 i = 1#1) : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v129 : Elt F .i32 ← smemLoad tabM (Rect.unit (s := S128) (k0_off8 i) S1.size (k0_off8_inb i k0_h2)) numel1_S1 rfl
  have k0_hw2 : k0_chk2 i v129 := (← Prog.lift (TpuEff.assume (k0_chk2 i v129) (k0_chk2.dec i v129))).down
  let v153 : BitVec 32 ← Scf.Loop.for (k0_t3_loop v129) (k0_t3_ok i v129 k0_hw2 k0_h2) 0#32 (k0_t3_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h2 v129 k0_hw2)
  let v154 : BitVec 32 ← Scf.Loop.for (k0_t4_loop v129) (k0_t4_ok i v129 k0_hw2 k0_h2) v153 (k0_t4_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h2 v129 k0_hw2)
  tailProg i M2 M7
def midProg : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) :=
  if h : k0_cond2 i = 1#1 then nextProg i M2 w2 M3 w3 M4 w4 M5 w5 M6 w6 M7 w7 M8 w8 M9 w9 M10 w10 M13 w13 h else tailProg i M2 M7

/-- This pair's rows asked for, then the next one's, then the reads. -/
def firstProg (k0_h1 : k0_cond1 i = 1#1) : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v127 : Elt F .i32 ← smemLoad tabM (Rect.unit (s := S128) (k0_off1 i) S1.size (k0_off1_inb i k0_h1)) numel1_S1 rfl
  have k0_hw1 : k0_chk1 i v127 := (← Prog.lift (TpuEff.assume (k0_chk1 i v127) (k0_chk1.dec i v127))).down
  let v151 : BitVec 32 ← Scf.Loop.for (k0_t1_loop v127) (k0_t1_ok i v127 k0_hw1 k0_h1) 0#32 (k0_t1_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h1 v127 k0_hw1)
  let v152 : BitVec 32 ← Scf.Loop.for (k0_t2_loop v127) (k0_t2_ok i v127 k0_hw1 k0_h1) v151 (k0_t2_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h1 v127 k0_hw1)
  midProg i M2 w2 M3 w3 M4 w4 M5 w5 M6 w6 M7 w7 M8 w8 M9 w9 M10 w10 M13 w13

theorem part1_eq : k0_part1 (F := F) i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 =
    if h : k0_cond1 i = 1#1 then firstProg i M2 w2 M3 w3 M4 w4 M5 w5 M6 w6 M7 w7 M8 w8 M9 w9 M10 w10 M13 w13 h else midProg i M2 w2 M3 w3 M4 w4 M5 w5 M6 w6 M7 w7 M8 w8 M9 w9 M10 w10 M13 w13 :=
  by rw [k0_part1_eq_skeleton]; rfl

end Programs

section Run

variable (c : Dev nD)

/-- A read of pair `p`'s total, known. -/
theorem load_tot' (tb : S128.Idx → Elt F .i32) (p : Fin 112) (v : Elt F .i32) (ev : totAt tb p = v) {o : Fin 1 → ℕ} {h} {h1} {h2} (e : o = ![p.val])
    {α : Type} {Q : α → sProp 𝕄} (k : Elt F .i32 → PR F α) :
    tPt c tb ⊢ iprop((tPt c tb -∗ (wp frame (wpE (defs₀ (F := F)) Variants.none (c : Thread nD τ) none) Set.univ) (k v) Q) -∗ (wp frame (wpE (defs₀ (F := F)) Variants.none (c : Thread nD τ) none) Set.univ) (smemLoad tabM (Rect.unit (s := S128) o S1.size h) h1 h2 >>= k) Q) := by
  subst ev; exact load_tot c tb p e k

variable (P : PtIn F) (tb : S128.Idx → Elt F .i32) (hfit : Fits tb) (hP : totAt tb P.t = P.v)
variable (i : grid0.Coords) (hi : (i 0).val = P.t.val)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

theorem hv_of (hfit : Fits tb) (hP : totAt tb P.t = P.v) : P.v.toInt ≤ 3584 := by rw [← hP]; exact hfit P.t

/-- What the part ends with. -/
def part1Res (hv : P.v.toInt ≤ 3584) : Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32 :=
  ⟨BitVec.ofNat 32 (i 0).val, Scalar.remsi (BitVec.ofNat 32 (i 0).val) 2#32, Scalar.remsi (BitVec.ofNat 32 (i 0).val) 2#32, P.qv, P.v, chk3 i hv, chunksW P.v, P.v, k0_pay5 (gRow P.rks P.t.val)⟩

/-- What the reads use. -/
def readRes : sProp 𝕄 := iprop(tPt c tb ∗ owns (c : Thread nD τ) M2 fullShare P.q ∗ owns (c : Thread nD τ) M7 fullShare P.rks)

theorem cond1_iff (i : grid0.Coords) : k0_cond1 i = 1#1 ↔ (i 0).val = 0 := by revert i; decide +kernel
theorem cond2_iff (i : grid0.Coords) : k0_cond2 i = 1#1 ↔ (i 0).val + 1 < 112 := by revert i; decide +kernel

include hi in
theorem wp_tail (hv : P.v.toInt ≤ 3584) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    readRes c P tb M2 M7 ⊢ iprop((readRes c P tb M2 M7 -∗ Q (part1Res P i hv)) -∗ (wp frame (wpE (defs₀ (F := F)) Variants.none (c : Thread nD τ) none) Set.univ) (tailProg i M2 M7) Q) := by
  unfold readRes tailProg part1Res PtIn.qv
  iintro ⟨HT, HQ, HS⟩ HK
  iapply (load_all3 c M2 P.q _) $$ HQ
  iintro HQ
  iapply (load_tot' c tb P.t P.v hP ((k0_off15_eq i).trans (by rw [hi])) _) $$ HT
  iintro HT
  iapply (assume_ok c (chk3 i hv) _)
  iapply (load_tot' c tb P.t P.v hP ((k0_off15_eq i).trans (by rw [hi])) _) $$ HT
  iintro HT
  iapply (load_gRow c M7 P.rks P.t.val ((k0_off16_eq i).trans (by rw [hi])) _) $$ HS
  iintro HS
  sl_step
  iapply HK
  isplitl [HT]; · iexact HT
  isplitl [HQ]; · iexact HQ
  iexact HS

variable (ko vo : S100352x128.Idx → Elt F .i32)

include hi in
/-- The rows of pair `t` on their way, and before the reads the next pair's too. -/
theorem wp_mid (hfit : Fits tb) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    iprop(flying c ko vo tb P.t ∗ readRes c P tb M2 M7)
      ⊢ iprop((inFlight c ko vo (slotOf P.t) P.t (nOf (totAt tb P.t)) ∗ beside c ko vo tb P.t ∗ readRes c P tb M2 M7 -∗ Q (part1Res P i (hv_of P tb hfit hP)))
        -∗ (wp frame (wpE (defs₀ (F := F)) Variants.none (c : Thread nD τ) none) Set.univ) (midProg i M2 w2 M3 w3 M4 w4 M5 w5 M6 w6 M7 w7 M8 w8 M9 w9 M10 w10 M13 w13) Q) := by
  have hv := hv_of P tb hfit hP
  unfold midProg
  by_cases h2 : k0_cond2 i = 1#1
  · have hlt : P.t.val + 1 < 112 := by rw [← hi]; exact (cond2_iff i).mp h2
    rw [dif_pos h2]
    have hv2 := hfit ⟨P.t.val + 1, hlt⟩
    unfold nextProg readRes
    iintro ⟨HF, HT, HQ, HS⟩ HK
    iapply (load_tot' c tb ⟨P.t.val + 1, hlt⟩ _ rfl ((k0_off8_eq i).trans (by rw [hi])) _) $$ HT
    iintro HT
    iapply (assume_ok c (chk2 i hv2) _)
    ihave HF := (open_next c ko vo tb P.t hlt) $$ HF
    icases HF with ⟨HI, HN, HB⟩
    iapply (issue_loop c ko vo (oth P.t) ⟨P.t.val + 1, hlt⟩ hv2 _ _ _ (fun k acc => issueGen_eq (oth P.t) ⟨P.t.val + 1, hlt⟩ ⟨k.val, klt14 k hv2⟩
      ((k0_off9_eq i).trans (by rw [hi]; rfl)) ((off10_eq i _ k).trans (by rw [hi]; rfl)) ((off11_eq i _ k).trans (by rw [hi]))) _ _) $$ HN
    iintro HN
    ihave HB := HB $$ HN
    iapply (wp_tail c P tb i hi M2 M7 hv hP) $$ [HT HQ HS]
    · unfold readRes
      isplitl [HT]; · iexact HT
      isplitl [HQ]; · iexact HQ
      iexact HS
    iintro HR
    iapply HK
    isplitl [HI]; · iexact HI
    isplitl [HB]; · iexact HB
    unfold readRes
    iexact HR
  · have hlt : ¬ P.t.val + 1 < 112 := by rw [← hi]; exact fun h => h2 ((cond2_iff i).mpr h)
    rw [dif_neg h2]
    iintro ⟨HF, HR⟩ HK
    ihave HF := (open_last c ko vo tb P.t hlt) $$ HF
    icases HF with ⟨HI, HB⟩
    iapply (wp_tail c P tb i hi M2 M7 hv hP) $$ HR
    iintro HR
    iapply HK
    isplitl [HI]; · iexact HI
    isplitl [HB]; · iexact HB
    iexact HR

include hi in
theorem wp_part1 (hfit : Fits tb) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    iprop(between c ko vo tb P.t.val ∗ readRes c P tb M2 M7)
      ⊢ iprop((inFlight c ko vo (slotOf P.t) P.t (nOf (totAt tb P.t)) ∗ beside c ko vo tb P.t ∗ readRes c P tb M2 M7 -∗ Q (part1Res P i (hv_of P tb hfit hP)))
        -∗ (wp frame (wpE (defs₀ (F := F)) Variants.none (c : Thread nD τ) none) Set.univ) (k0_part1 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3) Q) := by
  rw [part1_eq]
  by_cases h1 : k0_cond1 i = 1#1
  · have h0 : P.t.val = 0 := by rw [← hi]; exact (cond1_iff i).mp h1
    have ht : P.t = 0 := Fin.ext h0
    have hv0 := hfit 0
    rw [dif_pos h1]
    rw [h0]
    unfold firstProg
    conv_lhs => unfold readRes
    iintro ⟨HF, HT, HQ, HS⟩ HK
    iapply (load_tot' c tb 0 _ rfl ((k0_off1_eq i).trans (by rw [hi, h0]; rfl)) _) $$ HT
    iintro HT
    iapply (assume_ok c (chk1 i hv0) _)
    ihave HF := (open_first c ko vo tb) $$ HF
    icases HF with ⟨HN, HB⟩
    iapply (issue_loop c ko vo 0 0 hv0 _ _ _ (fun k acc => issueGen_eq 0 0 ⟨k.val, klt14 k hv0⟩
      ((k0_off2_eq i).trans (by rw [hi, h0]; rfl)) ((off3_eq i _ k).trans (by rw [hi, h0]; rfl)) ((off4_eq i _ k).trans (by rw [hi, h0]; rfl))) _ _) $$ HN
    iintro HN
    ihave HB := HB $$ HN
    rw [← ht]
    iapply (wp_mid c P tb i hi M2 w2 M3 w3 M4 w4 M5 w5 M6 w6 M7 w7 M8 w8 M9 w9 M10 w10 M13 w13 ko vo hfit hP) $$ [HB HT HQ HS]
    · isplitl [HB]; · iexact HB
      unfold readRes
      isplitl [HT]; · iexact HT
      isplitl [HQ]; · iexact HQ
      iexact HS
    iexact HK
  · have h0 : 0 < P.t.val := by rw [← hi]; exact Nat.pos_of_ne_zero fun h => h1 ((cond1_iff i).mpr h)
    rw [dif_neg h1, show between c ko vo tb P.t.val = flying c ko vo tb P.t from dif_pos ⟨h0, P.t.isLt⟩]
    exact wp_mid c P tb i hi M2 w2 M3 w3 M4 w4 M5 w5 M6 w6 M7 w7 M8 w8 M9 w9 M10 w10 M13 w13 ko vo hfit hP

end Run

end Cert.Kernel.Hand

end
-- ==== Proof.Kernel.Body.lean ====
/-
  Hand-written, untrusted. A grid point: its rows are waited for, its blocks are scored, weighted and summed, and
  its output block is written.
-/
module

public import proofs.«01_k».proof.Proof.Kernel.Part1

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Run

variable (c : Dev nD)

variable (P : PtIn F) (tb : S128.Idx → Elt F .i32)
variable (i : grid0.Coords) (hi : (i 0).val = P.t.val) (hv : P.v.toInt ≤ 3584)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

/-- What the second part holds: the pair's rows, the scores in the scratch buffer. -/
def scored : sProp 𝕄 :=
  iprop(landed c P.ko P.vo (slotOf P.t) P.t (nOf P.v) ∗ (∃ W, owes (c : Thread nD τ) 0 W)
    ∗ (owns (c : Thread nD τ) M5 fullShare P.rk ∗ owns (c : Thread nD τ) M3 fullShare P.kn ∗ owns (c : Thread nD τ) M9 fullShare P.ks)
    ∗ ∃ g, ⌜∀ j : Fin 14, j.val < nOf P.v → chunkOf g j = P.sBlk j.val⌝ ∗ sPt c g)

include hi hv in
theorem wp_part2 (arg0 v0 v8 : BitVec 32) (h8 : v8 = P.par) (hw : k0_chk3 i P.v) (v30 : BitVec 32) {Q : (Σ' (v43 : FVec F S8x256 .f32) (v57 : FVec F S8x1 .f32) (v58 : IVec S8x256 32), FVec F S8 .f32) → sProp 𝕄} :
    iprop(inFlight c P.ko P.vo (slotOf P.t) P.t (nOf P.v) ∗ (∃ W, owes (c : Thread nD τ) 0 W)
      ∗ (owns (c : Thread nD τ) M5 fullShare P.rk ∗ owns (c : Thread nD τ) M3 fullShare P.kn ∗ owns (c : Thread nD τ) M9 fullShare P.ks) ∗ ∃ g, sPt c g)
      ⊢ iprop((scored c P M3 M5 M9 -∗ Q ⟨P.sRec, P.sNew, (iota .tc S8x256 32 [1] iota_S8x256_d1_w32), P.mRow⟩)
        -∗ (wp frame (wpE (defs₀ (F := F)) Variants.none (c : Thread nD τ) none) Set.univ) (k0_part2 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 arg0 v0 v8 P.qv P.v hw v30 P.v (k0_pay5 (gRow P.rks P.t.val))) Q) := by
  rw [k0_part2_eq_skeleton]
  subst h8
  unfold k0_part2_skel
  iintro ⟨HI, HW, ⟨H5, H3, H9⟩, %g, HS⟩ HK
  iapply (load_all3 c M5 P.rk _) $$ H5
  iintro H5
  iapply (load_all4 c M3 P.kn _) $$ H3
  iintro H3
  iapply (drain_loop c P.ko P.vo (slotOf P.t) P.t hv _ _ _ (fun k acc => waitGen_eq (slotOf P.t) P.t ⟨k.val, klt14 k hv⟩
      ((k0_off17_eq i).trans (by rw [hi]; rfl)) ((off18_eq i _ k).trans (by rw [hi]; rfl)) ((off19_eq i _ k).trans (by rw [hi]))) _ _) $$ [HI HW]
  · isplitl [HI]; · iexact HI
    iexact HW
  iintro ⟨HL, HW⟩
  unfold landed
  icases HL with ⟨Hc, HF, HR, HH⟩
  iapply (two_loops c hv (scoreInv c P M9) _ _ P.sRec _ _ _ (fun k acc => score_step c P i hi hv M2 w2 M3 w3 M4 w4 M5 w5 M6 w6 M7 w7 M8 w8 M9 w9 M10 w10 M13 w13 arg0 v0 P.par hw v30 (k0_pay5 (gRow P.rks P.t.val)) k acc)) $$ [H9 HF HS]
  · unfold scoreInv
    isplitr; · ipureintro; rfl
    isplitl [H9]; · iexact H9
    isplitl [HF]; · iexact HF
    iexists g
    isplitr; · ipureintro; intro j hj; exact absurd hj (Nat.not_lt_zero _)
    iexact HS
  iintro %acc HI
  unfold scoreInv
  icases HI with ⟨%hacc, H9, HF, HS⟩
  subst hacc
  sl_step
  rw [show (⟨k0_pay6 P.qv (k0_pay5 (gRow P.rks P.t.val)) P.rk, k0_pay7 P.par P.qv P.kn, (iota .tc S8x256 32 [1] iota_S8x256_d1_w32), k0_pay14 (P.mxAt (nOf P.v))⟩ : Σ' (v43 : FVec F S8x256 .f32) (v57 : FVec F S8x1 .f32) (v58 : IVec S8x256 32), FVec F S8 .f32)
    = ⟨P.sRec, P.sNew, (iota .tc S8x256 32 [1] iota_S8x256_d1_w32), P.mRow⟩ from rfl]
  iapply HK
  unfold scored landed
  isplitl [Hc HF HR HH]
  · isplitl [Hc]; · iexact Hc
    isplitl [HF]; · iexact HF
    isplitl [HR]; · iexact HR
    iexact HH
  isplitl [HW]; · iexact HW
  isplitr [HS]
  · isplitl [H5]; · iexact H5
    isplitl [H3]; · iexact H3
    iexact H9
  iexact HS

/-- What the third part ends with: the weights in the scratch buffer. -/
def weighted : sProp 𝕄 :=
  iprop((owns (c : Thread nD τ) M8 fullShare P.rvs ∗ owns (c : Thread nD τ) M4 fullShare P.vn ∗ owns (c : Thread nD τ) M6 fullShare P.rv)
    ∗ ∃ g, ⌜∀ j : Fin 14, j.val < nOf P.v → chunkOf g j = P.eBlk j.val⌝ ∗ sPt c g)

include hi hv in
theorem wp_part3 (v8 : BitVec 32) (h8 : v8 = P.par) (hw : k0_chk3 i P.v) (v30 : BitVec 32) {Q : (Σ' (v90 : FVec F S8x1 .f32) (v93 : FVec F S8x1 .f32) (v103 : FVec F S1x128 .f32) (v110 : FVec F S8x128 .f32) (c0_i32_50 : BitVec 32), BitVec 32) → sProp 𝕄} :
    iprop((owns (c : Thread nD τ) M8 fullShare P.rvs ∗ owns (c : Thread nD τ) M4 fullShare P.vn ∗ owns (c : Thread nD τ) M6 fullShare P.rv)
      ∗ ∃ g, ⌜∀ j : Fin 14, j.val < nOf P.v → chunkOf g j = P.sBlk j.val⌝ ∗ sPt c g)
      ⊢ iprop((∀ v115, weighted c P M4 M6 M8 -∗ Q ⟨P.dTot, k0_pay25 P.sNew P.mRow P.den, k0_pay26 P.par P.vn, P.oAt 0, 0#32, v115⟩)
        -∗ (wp frame (wpE (defs₀ (F := F)) Variants.none (c : Thread nD τ) none) Set.univ) (k0_part3 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 v8 P.v hw v30 P.sRec P.sNew P.mRow) Q) := by
  rw [k0_part3_eq_skeleton]
  subst h8
  unfold k0_part3_skel
  iintro ⟨⟨H8, H4, H6⟩, %g, %hg, HS⟩ HK
  iapply (two_loops c hv (expInv c P) _ _ (k0_pay16 P.sRec P.sNew P.mRow) _ _ _ (fun k acc => exp_step c P i hi hv M2 w2 M3 w3 M4 w4 M5 w5 M6 w6 M7 w7 M8 w8 M9 w9 M10 w10 M13 w13 P.par hw v30 k acc)) $$ [HS]
  · unfold expInv
    isplitr; · ipureintro; rfl
    iexists g
    isplitr
    · ipureintro; intro j hj
      rw [if_neg (Nat.not_lt_zero _)]; exact hg j hj
    iexact HS
  iintro %acc HI
  unfold expInv
  icases HI with ⟨%hacc, %g', %hg', HS⟩
  subst hacc
  iapply (load_gRow c M8 P.rvs P.t.val ((k0_off33_eq i).trans (by rw [hi])) _) $$ H8
  iintro H8
  iapply (load_all4 c M4 P.vn _) $$ H4
  iintro H4
  iapply (load_all3 c M6 P.rv _) $$ H6
  iintro H6
  dsimp only
  sl_step
  rw [show ∀ x : BitVec 32, (⟨k0_pay24 P.sNew P.mRow (P.denAt (nOf P.v)), k0_pay25 P.sNew P.mRow (P.denAt (nOf P.v)), k0_pay26 P.par P.vn,
      k0_pay27 P.sRec P.sNew P.mRow (P.denAt (nOf P.v)) (gRow P.rvs P.t.val) P.rv, 0#32, x⟩ : Σ' (v90 : FVec F S8x1 .f32) (v93 : FVec F S8x1 .f32) (v103 : FVec F S1x128 .f32) (v110 : FVec F S8x128 .f32) (c0_i32_50 : BitVec 32), BitVec 32)
    = ⟨P.dTot, k0_pay25 P.sNew P.mRow P.den, k0_pay26 P.par P.vn, P.oAt 0, 0#32, x⟩ from fun _ => rfl]
  iapply HK
  unfold weighted
  isplitl [H8 H4 H6]
  · isplitl [H8]; · iexact H8
    isplitl [H4]; · iexact H4
    iexact H6
  iexists g'
  isplitr
  · ipureintro; intro j hj
    exact (hg' j hj).trans (if_pos hj)
  iexact HS

/-- The blocks a point is given. -/
def inBlocks : sProp 𝕄 :=
  iprop(owns (c : Thread nD τ) M2 fullShare P.q ∗ owns (c : Thread nD τ) M3 fullShare P.kn ∗ owns (c : Thread nD τ) M4 fullShare P.vn
    ∗ owns (c : Thread nD τ) M5 fullShare P.rk ∗ owns (c : Thread nD τ) M6 fullShare P.rv ∗ owns (c : Thread nD τ) M7 fullShare P.rks
    ∗ owns (c : Thread nD τ) M8 fullShare P.rvs ∗ owns (c : Thread nD τ) M9 fullShare P.ks ∗ owns (c : Thread nD τ) M10 fullShare P.vs)

/-- What is held before point `t` beside its blocks. -/
def books (ko vo : S100352x128.Idx → Elt F .i32) (t : ℕ) : sProp 𝕄 :=
  iprop(between c ko vo tb t ∗ tPt c tb ∗ ∃ g, sPt (F := F) c g)

include hi in
/-- A grid point, run. -/
theorem wp_point (hfit : Fits tb) (hP : totAt tb P.t = P.v) (X : S1x8x128.Idx → Elt F .bf16) :
    iprop(books c tb P.ko P.vo P.t.val ∗ (∃ W, owes (c : Thread nD τ) 0 W) ∗ inBlocks c P M2 M3 M4 M5 M6 M7 M8 M9 M10 ∗ owns (c : Thread nD τ) M13 fullShare X)
      ⊢ (wp frame (wpE (defs₀ (F := F)) Variants.none (c : Thread nD τ) none) Set.univ) (cc0_tc_attend i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3) (fun _ => iprop(books c tb P.ko P.vo (P.t.val + 1) ∗ (∃ W, owes (c : Thread nD τ) 0 W)
        ∗ inBlocks c P M2 M3 M4 M5 M6 M7 M8 M9 M10 ∗ owns (c : Thread nD τ) M13 fullShare P.out)) := by
  have hv := hv_of P tb hfit hP
  have h8 : Scalar.remsi (BitVec.ofNat 32 (i 0).val) 2#32 = P.par := by rw [hi]; rfl
  rw [cc0_tc_attend_eq_skeleton]
  unfold cc0_tc_attend_skel books inBlocks
  iintro ⟨⟨HB, HT, HS⟩, HW, ⟨H2, H3, H4, H5, H6, H7, H8, H9, H10⟩, H13⟩
  rw [wp_bind]
  iapply (wp_part1 c P tb i hi M2 w2 M3 w3 M4 w4 M5 w5 M6 w6 M7 w7 M8 w8 M9 w9 M10 w10 M13 w13 P.ko P.vo hfit hP) $$ [HB HT H2 H7]
  · unfold readRes
    isplitl [HB]; · iexact HB
    isplitl [HT]; · iexact HT
    isplitl [H2]; · iexact H2
    iexact H7
  rw [hP]
  unfold readRes part1Res
  iintro ⟨HI, HB, HT, H2, H7⟩
  dsimp only
  rw [wp_bind]
  iapply (wp_part2 c P i hi hv M2 w2 M3 w3 M4 w4 M5 w5 M6 w6 M7 w7 M8 w8 M9 w9 M10 w10 M13 w13 _ _ _ h8 _ _) $$ [HI HW H5 H3 H9 HS]
  · isplitl [HI]; · iexact HI
    isplitl [HW]; · iexact HW
    isplitr [HS]
    · isplitl [H5]; · iexact H5
      isplitl [H3]; · iexact H3
      iexact H9
    iexact HS
  unfold scored
  iintro ⟨HL, HW, ⟨H5, H3, H9⟩, HS⟩
  dsimp only
  rw [wp_bind]
  iapply (wp_part3 c P i hi hv M2 w2 M3 w3 M4 w4 M5 w5 M6 w6 M7 w7 M8 w8 M9 w9 M10 w10 M13 w13 _ h8 _ _) $$ [H8 H4 H6 HS]
  · isplitr [HS]
    · isplitl [H8]; · iexact H8
      isplitl [H4]; · iexact H4
      iexact H6
    iexact HS
  iintro %v115
  unfold weighted
  iintro ⟨⟨H8, H4, H6⟩, HS⟩
  dsimp only
  unfold landed
  icases HL with ⟨Hc, HF, HR, HH⟩
  iapply (two_loops c hv (outInv c P M10) _ _ (P.oAt 0) _ _ _ (fun k acc => out_step c P i hi hv M2 w2 M3 w3 M4 w4 M5 w5 M6 w6 M7 w7 M8 w8 M9 w9 M10 w10 M13 w13 _ k acc)) $$ [H10 HF HS]
  · unfold outInv
    isplitr; · ipureintro; rfl
    isplitl [H10]; · iexact H10
    isplitl [HF]; · iexact HF
    iexact HS
  iintro %acc HI
  unfold outInv
  icases HI with ⟨%hacc, H10, HF, %g, %hg, HS⟩
  subst hacc
  iapply (load_all3 c M13 X _) $$ H13
  iintro H13
  iapply (store_all3 c M13 X _ _) $$ H13
  iintro H13
  sl_step
  isplitl [HB HT HS Hc HF HR HH]
  · isplitl [HB Hc HF HR HH]
    · iapply (turn c P.ko P.vo tb P.t (nOf P.v) (nOf_le hv)) $$ [HB Hc HF HR HH]
      isplitr [HB]
      · unfold landed
        isplitl [Hc]; · iexact Hc
        isplitl [HF]; · iexact HF
        isplitl [HR]; · iexact HR
        iexact HH
      iexact HB
    isplitl [HT]; · iexact HT
    iexists g
    iexact HS
  isplitl [HW]; · iexact HW
  isplitr [H13]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  unfold PtIn.out
  iexact H13

end Run

end Cert.Kernel.Hand

end
-- ==== Proof.Kernel.Frame.lean ====
/-
  Hand-written, untrusted. The kernel's run: every grid point runs from what the one before left, so the program
  ends, its output array holds each point's output block, its arguments are unchanged and its semaphores are zero.
-/
module

public import proofs.«01_k».proof.Proof.Kernel.Body
public import proofs.«01_k».proof.Proof.Gen.Kernel.Launch

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (Pipeline.UD sig nD τ) ℕ

variable (m : (ℓ : Loc nD τ sig) → Buf (Elt F) ℓ)

/-! ## The proof data -/

/-- A buffer's contents at launch. -/
abbrev V (c : Dev nD) (b : Ref sig .tc) : Buf (Elt F) ((c : Thread nD τ).loc b) := m ((c : Thread nD τ).loc b)
/-- The table of totals as launched, its side condition empty. -/
def adm : (pcfg0 (F := F)).Adm := ⟨fun k => V m 0 (pre0.ref k), trivial⟩
abbrev cfgA : Pipeline.Cfg sig Λ₀ := cfg0 (adm m)
/-- The table, the gathered words. -/
abbrev tbV (c : Dev nD) : S128.Idx → Elt F .i32 := V m c main_arg0
abbrev koV (c : Dev nD) : S100352x128.Idx → Elt F .i32 := V m c main_arg10
abbrev voV (c : Dev nD) : S100352x128.Idx → Elt F .i32 := V m c main_arg11

/-- Window `w`'s block of its array as launched. -/
def iblk (c : Dev nD) (w : Fin 10) (t : Fin (cfgA m).N) : ((cfgA m).win w).block.Idx → Elt F ((cfgA m).win w).elt :=
  (((cfgA m).win w).blk t).view.read (Elt F) (V m c (Pipeline.arrRef spec0 w))

/-- The pair of a grid point. -/
def pairOf (t : Fin (cfgA m).N) : Fin 112 := ⟨t.val, Nat.lt_of_lt_of_eq t.isLt N_0⟩

/-- What a grid point is given. -/
def ptIn (c : Dev nD) (t : Fin (cfgA m).N) : PtIn F where
  q := iblk m c 0 t
  kn := iblk m c 1 t
  vn := iblk m c 2 t
  rk := iblk m c 3 t
  rv := iblk m c 4 t
  rks := iblk m c 5 t
  rvs := iblk m c 6 t
  ks := iblk m c 7 t
  vs := iblk m c 8 t
  ko := koV m c
  vo := voV m c
  v := totAt (tbV m c) (pairOf m t)
  t := pairOf m t

/-- Each window after a point: an input as found, the output the point's block. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (ptIn m c t).out
    | ⟨_ + 10, h⟩ => absurd h (Nat.not_lt.2 (Nat.le_add_left _ _))
  Φ t := iprop(books c (tbV m c) (koV m c) (voV m c) t.val ∗ ∃ r, prngReg c r)
  q _ := fullShare
  owed _ := 0

theorem A_eq (c : Dev nD) (w : Fin 10) : (dats m 0 c).A w = V m c (Pipeline.arrRef spec0 w) := by dsimp only [dats]
theorem before_0 (c : Dev nD) (t d) : (dats m 0 c).before 0 t d = (ptIn m c t).q :=
  ((dats m 0 c).before_in_eq_fetched 0 rfl (fun _ => rfl) (fun _ _ _ => rfl)
      (fun t => by rw [show (dats m 0 c).after 0 t = iblk m c 0 t from rfl]; unfold Dat.blockOf iblk; rw [A_eq]; try rfl) t d).trans
    (by unfold Dat.fetched Dat.blockOf ptIn iblk; rw [A_eq]; try rfl)
theorem before_1 (c : Dev nD) (t d) : (dats m 0 c).before 1 t d = (ptIn m c t).kn :=
  ((dats m 0 c).before_in_eq_fetched 1 rfl (fun _ => rfl) (fun _ _ _ => rfl)
      (fun t => by rw [show (dats m 0 c).after 1 t = iblk m c 1 t from rfl]; unfold Dat.blockOf iblk; rw [A_eq]; try rfl) t d).trans
    (by unfold Dat.fetched Dat.blockOf ptIn iblk; rw [A_eq]; try rfl)
theorem before_2 (c : Dev nD) (t d) : (dats m 0 c).before 2 t d = (ptIn m c t).vn :=
  ((dats m 0 c).before_in_eq_fetched 2 rfl (fun _ => rfl) (fun _ _ _ => rfl)
      (fun t => by rw [show (dats m 0 c).after 2 t = iblk m c 2 t from rfl]; unfold Dat.blockOf iblk; rw [A_eq]; try rfl) t d).trans
    (by unfold Dat.fetched Dat.blockOf ptIn iblk; rw [A_eq]; try rfl)
theorem before_3 (c : Dev nD) (t d) : (dats m 0 c).before 3 t d = (ptIn m c t).rk :=
  ((dats m 0 c).before_in_eq_fetched 3 rfl (fun _ => rfl) (fun _ _ _ => rfl)
      (fun t => by rw [show (dats m 0 c).after 3 t = iblk m c 3 t from rfl]; unfold Dat.blockOf iblk; rw [A_eq]; try rfl) t d).trans
    (by unfold Dat.fetched Dat.blockOf ptIn iblk; rw [A_eq]; try rfl)
theorem before_4 (c : Dev nD) (t d) : (dats m 0 c).before 4 t d = (ptIn m c t).rv :=
  ((dats m 0 c).before_in_eq_fetched 4 rfl (fun _ => rfl) (fun _ _ _ => rfl)
      (fun t => by rw [show (dats m 0 c).after 4 t = iblk m c 4 t from rfl]; unfold Dat.blockOf iblk; rw [A_eq]; try rfl) t d).trans
    (by unfold Dat.fetched Dat.blockOf ptIn iblk; rw [A_eq]; try rfl)
theorem before_5 (c : Dev nD) (t d) : (dats m 0 c).before 5 t d = (ptIn m c t).rks :=
  ((dats m 0 c).before_in_eq_fetched 5 rfl (fun _ => rfl) (fun _ _ _ => rfl)
      (fun t => by rw [show (dats m 0 c).after 5 t = iblk m c 5 t from rfl]; unfold Dat.blockOf iblk; rw [A_eq]; try rfl) t d).trans
    (by unfold Dat.fetched Dat.blockOf ptIn iblk; rw [A_eq]; try rfl)
theorem before_6 (c : Dev nD) (t d) : (dats m 0 c).before 6 t d = (ptIn m c t).rvs :=
  ((dats m 0 c).before_in_eq_fetched 6 rfl (fun _ => rfl) (fun _ _ _ => rfl)
      (fun t => by rw [show (dats m 0 c).after 6 t = iblk m c 6 t from rfl]; unfold Dat.blockOf iblk; rw [A_eq]; try rfl) t d).trans
    (by unfold Dat.fetched Dat.blockOf ptIn iblk; rw [A_eq]; try rfl)
theorem before_7 (c : Dev nD) (t d) : (dats m 0 c).before 7 t d = (ptIn m c t).ks :=
  ((dats m 0 c).before_in_eq_fetched 7 rfl (fun _ => rfl) (fun _ _ _ => rfl)
      (fun t => by rw [show (dats m 0 c).after 7 t = iblk m c 7 t from rfl]; unfold Dat.blockOf iblk; rw [A_eq]; try rfl) t d).trans
    (by unfold Dat.fetched Dat.blockOf ptIn iblk; rw [A_eq]; try rfl)
theorem before_8 (c : Dev nD) (t d) : (dats m 0 c).before 8 t d = (ptIn m c t).vs :=
  ((dats m 0 c).before_in_eq_fetched 8 rfl (fun _ => rfl) (fun _ _ _ => rfl)
      (fun t => by rw [show (dats m 0 c).after 8 t = iblk m c 8 t from rfl]; unfold Dat.blockOf iblk; rw [A_eq]; try rfl) t d).trans
    (by unfold Dat.fetched Dat.blockOf ptIn iblk; rw [A_eq]; try rfl)

/-- The body at a point, on its staging buffers. -/
abbrev st (w : Fin 10) (t : Fin (cfgA m).N) := ((cfgA m).win w).stage ((cfgA m).slots t w)

abbrev bodyAt (t : Fin (cfgA m).N) : Prog (TpuEff nD τ sig (Elt F) Λ₀ .tc) PUnit :=
  cc0_tc_attend (grid0.coords t) tabM (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    koArr (Memref.isWhole_whole _) voArr (Memref.isWhole_whole _)
    (spec0_9.stage ((cfgA m).slots t 9)) (hstage0_9 (((cfgA m).slots t 9).cast nbuf0_9))
    kBuf (Memref.isWhole_whole _) vBuf (Memref.isWhole_whole _) sBuf (Memref.isWhole_whole _) cc0_scratch3

theorem defs₀_row (t : Fin (cfgA m).N) : defs₀ (F := F) .tc (cfgA m).body ((cfgA m).bodyArgs t ((cfgA m).slots t)) = bodyAt m t := by
  unfold defs₀; rw [Defs.onTc_tc]

theorem coords_val (t : Fin (cfgA m).N) : ((grid0.coords t) 0).val = (pairOf m t).val := by
  exact (by decide : ∀ t : Fin grid0.N, ((grid0.coords t) 0).val = t.val) t

/-- What is held before a point's body, and after it. -/
def bodyPre (c : Dev nD) (t : Fin (cfgA m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d)))
def bodyPost (c : Dev nD) (t : Fin (cfgA m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t))

theorem sound_body (hfit : ∀ c, Fits (tbV m c)) (c : Dev nD) (t : Fin (cfgA m).N) :
    bodyPre m c t ⊢ wp frame (wpE (defs₀ (F := F)) Variants.none (c : Thread nD τ) none) Set.univ (bodyAt m t) (fun _ => bodyPost m c t) := by
  unfold bodyPre bodyPost bodyAt
  simp only [before_0, before_1, before_2, before_3, before_4, before_5, before_6, before_7, before_8]
  unfold Dat.owesAt Pipeline.owesWithin
  rw [show (dats m 0 c).owed t.castSucc = 0 from rfl, show (dats m 0 c).owed t.succ = 0 from rfl,
    show (dats m 0 c).Φ t.castSucc = iprop(books c (tbV m c) (koV m c) (voV m c) t.val ∗ ∃ r, prngReg c r) from rfl,
    show (dats m 0 c).Φ t.succ = iprop(books c (tbV m c) (koV m c) (voV m c) (t.val + 1) ∗ ∃ r, prngReg c r) from rfl]
  iintro ⟨⟨HB, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := (wp_point c (ptIn m c t) (tbV m c) (grid0.coords t) (coords_val m t)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    (spec0_9.stage ((cfgA m).slots t 9)) (hstage0_9 (((cfgA m).slots t 9).cast nbuf0_9))
    (hfit c) rfl ((dats m 0 c).before 9 t d9)) $$ [HB HW H0 H1 H2 H3 H4 H5 H6 H7 H8 H9]
  · unfold inBlocks
    isplitl [HB]; · iexact HB
    isplitl [HW]; · iexists W; iexact HW
    isplitr [H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9
  iapply (wp_wand frame (wpE (defs₀ (F := F)) Variants.none (c : Thread nD τ) none) Set.univ) $$ HP
  iintro %_
  unfold inBlocks
  iintro ⟨HB, ⟨%W', HW⟩, ⟨H0, H1, H2, H3, H4, H5, H6, H7, H8⟩, H9⟩
  isplitl [HB Hr]
  · isplitl [HB]; · iexact HB
    iexact Hr
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (hfit : ∀ c, Fits (tbV m c)) (c : Dev nD) : BodyObligation (dats m 0 c) defs₀ Variants.none () Set.univ := fun t => by
  rw [bigSep_W0, bigSep_W0, defs₀_row]
  exact triple_restated (sound_body m hfit c t) rfl .rfl fun _ => .rfl

end Cert.Kernel.Hand

end
-- ==== Proof.Kernel.Run.lean ====
/-
  Hand-written, untrusted. The launch: what the region hands the kernel makes up what is held before the first
  point, what is held after the last makes up what the region takes back, and the frame follows.
-/
module

public import proofs.«01_k».proof.Proof.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (Pipeline.UD sig nD τ) ℕ

variable (m : (ℓ : Loc nD τ sig) → Buf (Elt F) ℓ)

/-- The kernel's own semaphores, and the buffers it reads itself. -/
def osem0 : Fin 2 → SemLoc sig := ![SemLoc.dma (cell 0), SemLoc.dma (cell 1)]
theorem ownSemFacts0 : Pipeline.OwnSemFacts spec0 osem0 := by decide
def H0 : Finset (Ref sig .tc) := {main_arg10, main_arg11}
theorem H0_sub : H0 ⊆ Pipeline.restRefsP sig pre0 spec0 := by decide

theorem ownSems0_eq' (c : Dev nD) :
    (Pipeline.ownSems0 (Ix := Unit) (Name := ℕ) (U := Pipeline.UD sig nD τ) (Lvl := ℕ) (Val := Elt F) (τ := τ) osem0 c : sProp 𝕄)
      = iprop(cell0 c 0 ∗ cell0 c 1) := by
  rw [Pipeline.ownSems0_eq_of_list c osem0 [0, 1] (by decide) (by decide)]; rfl

theorem H0_eq (c : Dev nD) :
    (bigSep H0 (fun b => ((c : Thread nD τ).loc b) ↦{fullShare} V m c b) : sProp 𝕄)
      = iprop(((c : Thread nD τ).loc main_arg10 ↦{fullShare} koV m c) ∗ ((c : Thread nD τ).loc main_arg11 ↦{fullShare} voV m c)) := by
  rw [BI.bigSep_eq_bigSepL_of_eq [main_arg10, main_arg11] (by decide) (by decide)]; rfl

theorem table_eq (v : pre0.Contents (Elt F)) (c : Dev nD) :
    (Pipeline.prefHeld pre0 c (fun _ => fullShare.right) v : sProp 𝕄) = tPt c (v 0) := by
  unfold Pipeline.prefHeld
  rw [show (Finset.univ : Finset (Fin 1)) = {0} from by decide, bigSep_singleton]
  rfl

theorem hin (c : Dev nD) :
    iprop(Pipeline.ΦD osem0 spec0 H0 (V m) c ∗ Pipeline.ΦT pre0 (adm m).1 c) ⊢ (dats m 0 c).Φ 0 := by
  obtain rfl : c = 0 := Subsingleton.elim _ _
  rw [Pipeline.ΦD_eq, scopedRest0_eq, ownSems0_eq', H0_eq, homes_eq,
    show (dats m 0 0).Φ 0 = iprop(books 0 (tbV m 0) (koV m 0) (voV m 0) 0 ∗ ∃ r, prngReg 0 r) from rfl]
  unfold Pipeline.ΦT
  rw [table_eq, show (adm m).1 0 = tbV m 0 from rfl]
  unfold books between
  rw [dif_neg (by omega)]
  unfold idle
  iintro ⟨⟨⟨⟨%gk, HK⟩, ⟨%gv, HV⟩, HS⟩, Hr, ⟨Hc0, Hc1⟩, HH⟩, HT⟩
  ihave HF := (slots_split 0 gk gv) $$ [HK HV]
  · isplitl [HK]; · iexact HK
    iexact HV
  icases HF with ⟨HF0, HF1⟩
  isplitr [Hr]
  · isplitr [HT HS]
    · isplitl [HF0]; · iexact HF0
      isplitl [HF1]; · iexact HF1
      isplitl [Hc0]; · iexact Hc0
      isplitl [Hc1]; · iexact Hc1
      iexact HH
    isplitl [HT]; · iexact HT
    iexact HS
  iexact Hr

theorem hout (c : Dev nD) : (dats m 0 c).Φ (Fin.last (cfgA m).N) ⊢ Pipeline.ΦD osem0 spec0 H0 (V m) c := by
  rw [Pipeline.ΦD_eq, scopedRest0_eq, ownSems0_eq', H0_eq, homes_eq,
    show (dats m 0 c).Φ (Fin.last (cfgA m).N) = iprop(books c (tbV m c) (koV m c) (voV m c) grid0.N ∗ ∃ r, prngReg c r) from rfl, N_0]
  unfold books between
  rw [dif_neg (by omega)]
  unfold idle
  iintro ⟨⟨⟨HF0, HF1, Hc0, Hc1, HH⟩, HT, HS⟩, Hr⟩
  ihave HF := (slots_join c) $$ [HF0 HF1]
  · isplitl [HF0]; · iexact HF0
    iexact HF1
  icases HF with ⟨HK, HV⟩
  isplitl [HK HV HS]
  · isplitl [HK]; · iexact HK
    isplitl [HV]; · iexact HV
    iexact HS
  isplitl [Hr]; · iexact Hr
  isplitl [Hc0 Hc1]
  · isplitl [Hc0]; · iexact Hc0
    iexact Hc1
  iexact HH

/-- The launch's post: every staged array at its contents after the last point, every other buffer at what it was
    launched with, every semaphore at zero. -/
abbrev Ends (r : PUnit × MemSt nD τ sig (Elt F)) : Prop :=
  FramePost (Pipeline.pin pcfgs fun _ => adm m) (dats m) 0 (V m) r ∧ r.2.sem = fun _ => 0

set_option backward.isDefEq.respectTransparency.types false in
theorem run_main (ρ : Dev nD → PrngReg) (hfit : ∀ c, Fits (tbV m c)) :
    θ_run defs (onTc (main (F := F))) ⟨m, fun _ => 0, ρ⟩ (Ends m) :=
  Pipeline.θ_run_frameP_dma (Q' := _) pcfgs (fun _ => adm m) (dats m) (0 : Fin 1) launch0 osem0 defs₀ Variants.none ownSemFacts0 H0 H0_sub m ρ main
    (hbody := fun c => (body_obligation m hfit c).loose) (hshare := fun c => (dats m 0 c).share_full fun _ => rfl)
    (howed := fun _ _ => rfl) (V := V m)
    (hmain := Pipeline.hmainP_region pcfgs 0 defs₀ Variants.none m main (fun c => (main_chain c).trans rfl)) (hA := A_eq m)
    (hpf := fun c k => by obtain rfl : c = 0 := Subsingleton.elim _ _; rfl)
    (hin := hin m) (hout := hout m)

/-- A device's arguments as launched. -/
def ArgsKept (mem : (ℓ : Loc nD τ sig) → Buf (Elt F) ℓ) (c : Dev nD) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8)
    ∧ mem ((c : Thread nD τ).loc main_arg9) = m ((c : Thread nD τ).loc main_arg9)
    ∧ mem ((c : Thread nD τ).loc main_arg10) = m ((c : Thread nD τ).loc main_arg10)
    ∧ mem ((c : Thread nD τ).loc main_arg11) = m ((c : Thread nD τ).loc main_arg11)

/-- The output array after the last point. -/
def outArr (c : Dev nD) : Buf (Elt F) ((c : Thread nD τ).loc main_v0) := (dats m 0 c).arrAt 9 (cfgA m).N

set_option backward.isDefEq.respectTransparency.types false in
theorem kept_of {r : PUnit × MemSt nD τ sig (Elt F)} (h : Ends m r) (c : Dev nD) : ArgsKept m r.2.mem c :=
  have hw (w : Fin 10) (hin : (spec0 w).isOut = false) := ((h.1 c).1 w).trans (((dats m 0 c).arrAt_in w hin _).trans (A_eq m c w))
  have hr (b : Ref sig .tc) (hs : b.isScoped = false) (ha : ∀ w, (spec0 w).arr.view.ref ≠ b) := (h.1 c).2 b (Pipeline.mem_restRefs_of b hs ha)
  ⟨hr main_arg0 (by decide) (by decide), hw 0 rfl, hw 1 rfl, hw 2 rfl, hw 3 rfl, hw 4 rfl, hw 5 rfl, hw 6 rfl, hw 7 rfl, hw 8 rfl,
    hr main_arg10 (by decide) (by decide), hr main_arg11 (by decide) (by decide)⟩

/-- The frame: the arguments are as launched and every semaphore is at zero. -/
theorem frame_run (ρ : Dev nD → PrngReg) (hfit : ∀ c, Fits (tbV m c)) :
    θ_run defs (onTc (main (F := F))) ⟨m, fun _ => 0, ρ⟩ (fun r => (∀ c : Dev nD, ArgsKept m r.2.mem c) ∧ r.2.sem = fun _ => 0) :=
  (θ_run defs _ _).mono (fun r h => ⟨fun c => kept_of m h c, h.2⟩) (run_main m ρ hfit)

/-- The output beside the arguments. -/
theorem value_run (ρ : Dev nD → PrngReg) (hfit : ∀ c, Fits (tbV m c)) :
    θ_run defs (onTc (main (F := F))) ⟨m, fun _ => 0, ρ⟩ (fun r => ∀ c : Dev nD, r.2.mem ((c : Thread nD τ).loc main_v0) = outArr m c ∧ ArgsKept m r.2.mem c) :=
  (θ_run defs _ _).mono (fun r h c => ⟨(h.1 c).1 9, kept_of m h c⟩) (run_main m ρ hfit)

end Cert.Kernel.Hand

end
-- ==== Proof.KernelIdeal.Values.lean ====
/-
  Hand-written, untrusted. What a grid point computes, as functions of what it is given: the scores of each
  block of rows, their running maximum, the weights, their total, the weighted sum, the output block.
-/
module

public import proofs.«01_k».proof.Proof.KernelIdeal.Stages

@[expose] public section

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- The scores of 256 tokens against a pair's eight heads, from 64 rows of words and two rows of scales: tokens
    from the total on get the least value. -/
def scoreAt (v10 : FVec F S8x128 .bf16) (v32 : Elt F .i32) (k : ℕ) (v130 : Vec F S1x64x128 .i32) (v137 : Vec F S1x128 .f32) (v141 : Vec F S1x128 .f32) : FVec F S8x256 .f32 :=
  have v58 : IVec S8x256 32 := iota .tc S8x256 32 [1] iota_S8x256_d1_w32
  let arg18 : BitVec 32 := Scf.iv 0#32 1#32 k
  have v131 : IVec S64x128 32 := shapeCast S64x128 v130 shapeCasts_S1x64x128_S64x128
  have v132 : IVec S256x128 8 := bitcast S256x128 8 v131 bitcasts_S64x128_w32_S256x128_w8
  have v133 : FVec F S256x128 .bf16 := sitofp .bf16 v132
  have cst_58 : FVec F S8x256 .f32 := constant S8x256 .f32 0x00000000#32
  have v134 : FVec F S8x256 .f32 := matmul dot_S8x128_S256x128_S8x256_1_1_0_0_n_n none v10 v133 cst_58
  have v142 : FVec F S1x256 .f32 := concatenate S1x256 1 [⟨S1x128, v137⟩, ⟨S1x128, v141⟩] concatenates_S1x128_S1x128_S1x256_d1
  have v143 : FVec F S8x256 .f32 := broadcastTo S8x256 v142 broadcasts_S1x256_S8x256
  have v144 : FVec F S8x256 .f32 := mulf v134 v143
  have cst_64 : F .f32 := Scalar.ofBits .f32 0x3DB504F3#32
  have v145 : FVec F S8x256 .f32 := broadcast S8x256 cst_64
  have v146 : FVec F S8x256 .f32 := mulf v144 v145
  let v147 : BitVec 32 := Scalar.muli arg18 256#32
  have v148 : IVec S8x256 32 := broadcast S8x256 v147
  have v149 : IVec S8x256 32 := addi v58 v148
  have v150 : IVec S8x256 32 := broadcast S8x256 v32
  have v151 : IVec S8x256 1 := cmpi .slt v149 v150
  have cst_66 : F .f32 := Scalar.ofBits .f32 0xFF800000#32
  have v152 : FVec F S8x256 .f32 := broadcast S8x256 cst_66
  have v153 : FVec F S8x256 .f32 := select v151 v146 v152
  v153

theorem pay8_eq (v10 : FVec F S8x128 .bf16) (v12 v32 : Elt F .i32) (k : Fin (k0_t7_loop v12).trips) (w : Vec F S1x64x128 .i32) (s0 s1 : Vec F S1x128 .f32) :
    k0_pay8 v10 v12 v32 k w s0 s1 = scoreAt v10 v32 k.val w s0 s1 := rfl

/-- The weighted sum over 256 more tokens. -/
def outAt (v32 : Elt F .i32) (v90 : FVec F S8x1 .f32) (k : ℕ) (arg19 : FVec F S8x128 .f32) (v127 : Vec F S1x8x256 .f32) (v133 : Vec F S1x128 .f32) (v137 : Vec F S1x128 .f32) (v153 : Vec F S1x64x128 .i32) : FVec F S8x128 .f32 :=
  have v58 : IVec S8x256 32 := iota .tc S8x256 32 [1] iota_S8x256_d1_w32
  let arg18 : BitVec 32 := Scf.iv 0#32 1#32 k
  have v128 : FVec F S8x256 .f32 := shapeCast S8x256 v127 shapeCasts_S1x8x256_S8x256
  have v129 : FVec F S8x256 .f32 := broadcastTo S8x256 v90 broadcasts_S8x1_S8x256
  have v130 : FVec F S8x256 .f32 := divf v128 v129
  have v138 : FVec F S1x256 .f32 := concatenate S1x256 1 [⟨S1x128, v133⟩, ⟨S1x128, v137⟩] concatenates_S1x128_S1x128_S1x256_d1
  have v139 : FVec F S8x256 .f32 := broadcastTo S8x256 v138 broadcasts_S1x256_S8x256
  have v140 : FVec F S8x256 .f32 := mulf v130 v139
  let v141 : BitVec 32 := Scalar.muli arg18 256#32
  have v142 : IVec S8x256 32 := broadcast S8x256 v141
  have v143 : IVec S8x256 32 := addi v58 v142
  have v144 : IVec S8x256 32 := broadcast S8x256 v32
  have v145 : IVec S8x256 1 := cmpi .slt v143 v144
  have cst_65 : F .f32 := Scalar.ofBits .f32 0x00000000#32
  have v146 : FVec F S8x256 .f32 := broadcast S8x256 cst_65
  have v147 : FVec F S8x256 .f32 := select v145 v140 v146
  have v148 : FVec F S8x256 .bf16 := truncf .bf16 v147 bitsLt_bf16_f32
  have v154 : IVec S64x128 32 := shapeCast S64x128 v153 shapeCasts_S1x64x128_S64x128
  have v155 : IVec S256x128 8 := bitcast S256x128 8 v154 bitcasts_S64x128_w32_S256x128_w8
  have v156 : FVec F S256x128 .bf16 := sitofp .bf16 v155
  have cst_67 : FVec F S8x128 .f32 := constant S8x128 .f32 0x00000000#32
  have v157 : FVec F S8x128 .f32 := matmul dot_S8x256_S256x128_S8x128_1_0_0_1_n_n none v148 v156 cst_67
  have v158 : FVec F S8x128 .f32 := addf arg19 v157
  v158

theorem pay1_eq (v12 v32 : Elt F .i32) (v90 : FVec F S8x1 .f32) (k : Fin (k0_t11_loop v12).trips) (acc : FVec F S8x128 .f32) (p : Vec F S1x8x256 .f32) (s0 s1 : Vec F S1x128 .f32) (w : Vec F S1x64x128 .i32) :
    k0_pay1 v12 v32 (iota .tc S8x256 32 [1] iota_S8x256_d1_w32) v90 0#32 k acc p s0 s1 w = outAt v32 v90 k.val acc p s0 s1 w := rfl

/-- 64 rows of pair `p`'s words from row `64 k`; a row of a block of scales; a head's scales of the recent tokens. -/
def rowsOf (ko : S100352x128.Idx → Elt F .i32) (p : Fin 112) (k : ℕ) : Vec F S1x64x128 .i32 :=
  fun y => ko (ix2 (⟨(896 * p.val + 64 * k + (y 1).val) % 100352, Nat.mod_lt _ (by decide)⟩ : Fin 100352) (⟨(y 2).val, (y 2).isLt⟩ : Fin 128))
def scaleRow (X : S32x128.Idx → Elt F .f32) (r : ℕ) : Vec F S1x128 .f32 :=
  fun y => X (ix2 (⟨r % 32, Nat.mod_lt _ (by decide)⟩ : Fin 32) (⟨(y 1).val, (y 1).isLt⟩ : Fin 128))
def gRow (X : S1x2x256.Idx → Elt F .f32) (g : ℕ) : Vec F S1x1x256 .f32 :=
  fun y => X (ix3 (0 : Fin 1) (⟨g % 2, Nat.mod_lt _ (by decide)⟩ : Fin 2) (⟨(y 2).val, (y 2).isLt⟩ : Fin 256))

/-- What a grid point is given: its blocks, the gathered words, its total and its number. -/
structure PtIn (F : FTy → Type) where
  q : Vec F S1x8x128 .bf16
  kn : Vec F S1x1x2x128 .bf16
  vn : Vec F S1x1x2x128 .bf16
  rk : Vec F S1x256x128 .fp8e4m3
  rv : Vec F S1x256x128 .fp8e4m3
  rks : Vec F S1x2x256 .f32
  rvs : Vec F S1x2x256 .f32
  ks : Vec F S32x128 .f32
  vs : Vec F S32x128 .f32
  ko : S100352x128.Idx → Elt F .i32
  vo : S100352x128.Idx → Elt F .i32
  v : Elt F .i32
  t : Fin 112

namespace PtIn

variable (P : PtIn F)

/-- The pair's second coordinate, as the word the kernel computes. -/
def par : BitVec 32 := Scalar.remsi (BitVec.ofNat 32 P.t.val) 2#32
/-- The queries; the scores of the recent tokens, of the new one, of block `k` of the gathered ones. -/
def qv : FVec F S8x128 .bf16 := k0_pay4 P.q
def sRec : FVec F S8x256 .f32 := k0_pay6 P.qv (k0_pay5 (gRow P.rks P.t.val)) P.rk
def sNew : FVec F S8x1 .f32 := k0_pay7 P.par P.qv P.kn
def score (k : ℕ) : FVec F S8x256 .f32 := scoreAt P.qv P.v k (rowsOf P.ko P.t k) (scaleRow P.ks (2 * k)) (scaleRow P.ks (2 * k + 1))
/-- The running maximum, elementwise, over the first `k` blocks; each head's. -/
def mxAt : ℕ → FVec F S8x256 .f32
  | 0 => P.sRec
  | k + 1 => maximumf (mxAt k) (P.score k)
def mRow : FVec F S8 .f32 := k0_pay14 (P.mxAt (nOf P.v))
/-- A block's scores, then its weights, as the scratch buffer holds them. -/
def sBlk (k : ℕ) : Vec F S1x8x256 .f32 := shapeCast S1x8x256 (P.score k) shapeCasts_S8x256_S1x8x256
def eBlk (k : ℕ) : Vec F S1x8x256 .f32 := k0_pay19 P.sNew P.mRow (P.sBlk k)
/-- The running sum of the weights, elementwise; each head's. -/
def denAt : ℕ → FVec F S8x256 .f32
  | 0 => k0_pay16 P.sRec P.sNew P.mRow
  | k + 1 => k0_pay20 P.sNew P.mRow (denAt k) (P.sBlk k)
def den : FVec F S8x256 .f32 := P.denAt (nOf P.v)
def dTot : FVec F S8x1 .f32 := k0_pay24 P.sNew P.mRow P.den
/-- The weighted sum over the recent tokens and the first `k` blocks. -/
def oAt : ℕ → FVec F S8x128 .f32
  | 0 => k0_pay27 P.sRec P.sNew P.mRow P.den (gRow P.rvs P.t.val) P.rv
  | k + 1 => outAt P.v P.dTot k (oAt k) (P.eBlk k) (scaleRow P.vs (2 * k)) (scaleRow P.vs (2 * k + 1)) (rowsOf P.vo P.t k)
/-- The output block. -/
def out : FVec F S1x8x128 .bf16 := k0_pay3 (k0_pay25 P.sNew P.mRow P.den) (k0_pay26 P.par P.vn) (P.oAt (nOf P.v))

end PtIn

end Cert.KernelIdeal.Hand

end
-- ==== Proof.KernelIdeal.Steps.lean ====
/-
  Hand-written, untrusted. The reads and writes of a grid point's computation: a read of a block held whole, of
  64 rows of a slot, of a block of the scratch buffer, of a total; a write of a block of the scratch buffer and
  of the output block.
-/
module

public import proofs.«01_k».proof.Proof.KernelIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffer of scores and weights, and the table of totals. -/
abbrev sBuf : Memref sig .tc .vmem S14x8x256 .f32 := Memref.whole cc0_scratch2
abbrev tabM : Memref sig .tc .smem S128 .i32 := Memref.whole main_arg0

section Own

variable (c : Dev nD)

/-- A read of a rectangle of a memref held whole. -/
theorem load_own {s : Shape} {e : EltTy} (M : Memref sig .tc .vmem s e) (X : s.Idx → Elt F e) (r : Rect s) (hl : M.view.LoadsAt r)
    (Y : r.shape.Idx → Elt F e) (hY : ∀ x, X (r.emb x) = Y x) {α : Type} {Q : α → sProp 𝕄} (k : (r.shape.Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k Y) Q) -∗ (wp frame (wpE (defs₀ (F := F)) Variants.none (c : Thread nD τ) none) Set.univ) (Prog.lift (.load M r hl) >>= k) Q) := by
  unfold owns
  iintro ⟨%f, %hf, H⟩ HK
  have hr : (M.access r).read (Elt F) f = Y := by
    funext x
    rw [← hY, ← hf]; rfl
  rw [show (Prog.lift (.load M r hl) >>= k : PR F α) = .op (.load M r hl) k from rfl]
  iapply (show (M.view.loc (c : Thread nD τ) ↦[M.view.set]{fullShare} f)
      ⊢ iprop(((M.view.loc (c : Thread nD τ) ↦[M.view.set]{fullShare} f) -∗ (wp frame (wpE (defs₀ (F := F)) Variants.none (c : Thread nD τ) none) Set.univ) (k ((M.access r).read (Elt F) f)) Q) -∗ (wp frame (wpE (defs₀ (F := F)) Variants.none (c : Thread nD τ) none) Set.univ) (.op (.load M r hl) k) Q) from
    wp_load_rect (defs := defs₀ (F := F)) Variants.none (c : Thread nD τ) none Set.univ (m := M) (r := r) (hl := hl) (k := k) (q := fullShare) (f := f)
    (S := M.view.set) (by rw [show (M.access r).set = M.view.setOn r.set from View.set_slice _ _]; exact Finset.map_subset_map.mpr (Finset.subset_univ _))) $$ H
  iintro H
  rw [hr]
  iapply HK
  iexists f
  isplitr; · ipureintro; exact hf
  iexact H

/-- A write of a whole block. -/
theorem store_own {s : Shape} {e : EltTy} (M : Memref sig .tc .vmem s e) (X : s.Idx → Elt F e) (r : Rect s) (w : r.shape.Idx → Elt F e) (hx) (hm)
    (Y : s.Idx → Elt F e) (hY : ∀ y, ∃ x, r.emb x = y ∧ w x = Y y) {α : Type} {Q : α → sProp 𝕄} (k : PUnit → PR F α) :
    (owns (c : Thread nD τ) M fullShare X : sProp 𝕄)
      ⊢ iprop((owns (c : Thread nD τ) M fullShare Y -∗ (wp frame (wpE (defs₀ (F := F)) Variants.none (c : Thread nD τ) none) Set.univ) (k ⟨⟩) Q) -∗ (wp frame (wpE (defs₀ (F := F)) Variants.none (c : Thread nD τ) none) Set.univ) (Prog.lift (.store M r w Finset.univ hx hm) >>= k) Q) := by
  unfold owns
  iintro ⟨%f, %hf, H⟩ HK
  have hr : M.view.read (Elt F) ((M.access r).write (Elt F) f w Finset.univ) = Y := by
    funext y
    obtain ⟨x, rfl, hw⟩ := hY y
    rw [← hw]
    exact View.read_slice_write_emb (v := M.view) (Val := Elt F) r f w (Finset.mem_univ x)
  rw [show (Prog.lift (.store M r w Finset.univ hx hm) >>= k : PR F α) = .op (.store M r w Finset.univ hx hm) k from rfl]
  iapply (show (M.view.loc (c : Thread nD τ) ↦[M.view.set]{fullShare} f)
      ⊢ iprop(((M.view.loc (c : Thread nD τ) ↦[M.view.set]{fullShare} ((M.access r).write (Elt F) f w Finset.univ)) -∗ (wp frame (wpE (defs₀ (F := F)) Variants.none (c : Thread nD τ) none) Set.univ) (k ⟨⟩) Q) -∗ (wp frame (wpE (defs₀ (F := F)) Variants.none (c : Thread nD τ) none) Set.univ) (.op (.store M r w Finset.univ hx hm) k) Q) from
    wp_store (defs := defs₀ (F := F)) Variants.none (c : Thread nD τ) none Set.univ (m := M) (r := r) (w := w) (Mk := Finset.univ) (hx := hx) (hm := hm) (k := k) (f := f)
    (S := M.view.set) (by rw [show (M.access r).setOn Finset.univ = M.view.setOn r.set from View.set_slice _ _]; exact Finset.map_subset_map.mpr (Finset.subset_univ _))) $$ H
  iintro H
  iapply HK
  iexists _
  isplitr; · ipureintro; exact hr
  iexact H

end Own

section Whole

variable (c : Dev nD)

theorem rows_idx (s : Fin 2) (p : Fin 112) (b : Fin 14) (x : S1x64x128.Idx) :
    rowIdx p ((Rect.unit (s := S2x896x128) ![s.val, 64 * b.val, 0] S1x64x128.size (inbD s b)).emb x)
      = ix2 (⟨(896 * p.val + 64 * b.val + (x 1).val) % 100352, Nat.mod_lt _ (by decide)⟩ : Fin 100352) (⟨(x 2).val, (x 2).isLt⟩ : Fin 128) := by
  have h1 : (x 1).val < 64 := (x 1).isLt
  funext a
  fin_cases a
  · apply Fin.ext
    show 896 * p.val + (64 * b.val + 1 * (x 1).val) = (896 * p.val + 64 * b.val + (x 1).val) % 100352
    rw [Nat.mod_eq_of_lt (by omega)]; omega
  · apply Fin.ext
    show 0 + 1 * (x 2).val = (x 2).val
    omega

/-- A read of 64 rows of a slot of the first staging buffer, -/
theorem load_k (s : Fin 2) (p : Fin 112) (b : Fin 14) (ko : S100352x128.Idx → Elt F .i32) {o : Fin 3 → ℕ} {h} {hl} (e : o = ![s.val, 64 * b.val, 0])
    {α : Type} {Q : α → sProp 𝕄} (k : Vec F S1x64x128 .i32 → PR F α) :
    kAt c s (landedOf ko p) b
      ⊢ iprop((kAt c s (landedOf ko p) b -∗ (wp frame (wpE (defs₀ (F := F)) Variants.none (c : Thread nD τ) none) Set.univ) (k (rowsOf ko p b.val)) Q)
        -∗ (wp frame (wpE (defs₀ (F := F)) Variants.none (c : Thread nD τ) none) Set.univ) (Prog.lift (.load kBuf (Rect.unit (s := S2x896x128) o S1x64x128.size h).toLoadRect hl) >>= k) Q) := by
  subst e
  have hr : (kBuf.access (Rect.unit (s := S2x896x128) ![s.val, 64 * b.val, 0] S1x64x128.size (inbD s b))).read (Elt F) (landedOf ko p) = rowsOf ko p b.val :=
    funext fun x => congrArg ko (rows_idx s p b x)
  iintro H HK
  rw [show ∀ op, (Prog.lift op >>= k : PR F α) = .op op k from fun _ => rfl]
  iapply (wp_load_rect (defs := defs₀ (F := F)) Variants.none (c : Thread nD τ) none Set.univ (k := k) (q := fullShare) (f := landedOf ko p)
    (m := kBuf) (r := Rect.unit (s := S2x896x128) ![s.val, 64 * b.val, 0] S1x64x128.size h) (S := dSet s b) (View.set_slice_whole _ _).subset) $$ H
  iintro H
  rw [hr]
  iapply HK $$ H
/-- and of the second. -/
theorem load_v (s : Fin 2) (p : Fin 112) (b : Fin 14) (vo : S100352x128.Idx → Elt F .i32) {o : Fin 3 → ℕ} {h} {hl} (e : o = ![s.val, 64 * b.val, 0])
    {α : Type} {Q : α → sProp 𝕄} (k : Vec F S1x64x128 .i32 → PR F α) :
    vAt c s (landedOf vo p) b
      ⊢ iprop((vAt c s (landedOf vo p) b -∗ (wp frame (wpE (defs₀ (F := F)) Variants.none (c : Thread nD τ) none) Set.univ) (k (rowsOf vo p b.val)) Q)
        -∗ (wp frame (wpE (defs₀ (F := F)) Variants.none (c : Thread nD τ) none) Set.univ) (Prog.lift (.load vBuf (Rect.unit (s := S2x896x128) o S1x64x128.size h).toLoadRect hl) >>= k) Q) := by
  subst e
  have hr : (vBuf.access (Rect.unit (s := S2x896x128) ![s.val, 64 * b.val, 0] S1x64x128.size (inbD s b))).read (Elt F) (landedOf vo p) = rowsOf vo p b.val :=
    funext fun x => congrArg vo (rows_idx s p b x)
  iintro H HK
  rw [show ∀ op, (Prog.lift op >>= k : PR F α) = .op op k from fun _ => rfl]
  iapply (wp_load_rect (defs := defs₀ (F := F)) Variants.none (c : Thread nD τ) none Set.univ (k := k) (q := fullShare) (f := landedOf vo p)
    (m := vBuf) (r := Rect.unit (s := S2x896x128) ![s.val, 64 * b.val, 0] S1x64x128.size h) (S := dSet s b) (View.set_slice_whole _ _).subset) $$ H
  iintro H
  rw [hr]
  iapply HK $$ H

/-- A read of a row of scales; of a head's scales of the recent tokens. -/
theorem load_scale (M : Memref sig .tc .vmem S32x128 .f32) (X : S32x128.Idx → Elt F .f32) (r : ℕ) (hr : r < 32) {o : Fin 2 → ℕ} {h} {hl} (e : o = ![r, 0])
    {α : Type} {Q : α → sProp 𝕄} (k : Vec F S1x128 .f32 → PR F α) :
    (owns (c : Thread nD τ) M fullShare X : sProp 𝕄)
      ⊢ iprop((owns (c : Thread nD τ) M fullShare X -∗ (wp frame (wpE (defs₀ (F := F)) Variants.none (c : Thread nD τ) none) Set.univ) (k (scaleRow X r)) Q)
        -∗ (wp frame (wpE (defs₀ (F := F)) Variants.none (c : Thread nD τ) none) Set.univ) (Prog.lift (.load M (Rect.unit (s := S32x128) o S1x128.size h).toLoadRect hl) >>= k) Q) := by
  subst e
  refine load_own c M X (Rect.unit (s := S32x128) ![r, 0] S1x128.size h) hl (scaleRow X r) (fun x => congrArg X ?_) k
  have h0 : (x 0).val < 1 := (x 0).isLt
  funext a
  fin_cases a
  · apply Fin.ext
    show r + 1 * (x 0).val = r % 32
    rw [Nat.mod_eq_of_lt hr]; omega
  · apply Fin.ext
    show 0 + 1 * (x 1).val = (x 1).val
    omega
theorem load_gRow (M : Memref sig .tc .vmem S1x2x256 .f32) (X : S1x2x256.Idx → Elt F .f32) (g : ℕ) {o : Fin 3 → ℕ} {h} {hl} (e : o = ![0, g % 2, 0])
    {α : Type} {Q : α → sProp 𝕄} (k : Vec F S1x1x256 .f32 → PR F α) :
    (owns (c : Thread nD τ) M fullShare X : sProp 𝕄)
      ⊢ iprop((owns (c : Thread nD τ) M fullShare X -∗ (wp frame (wpE (defs₀ (F := F)) Variants.none (c : Thread nD τ) none) Set.univ) (k (gRow X g)) Q)
        -∗ (wp frame (wpE (defs₀ (F := F)) Variants.none (c : Thread nD τ) none) Set.univ) (Prog.lift (.load M (Rect.unit (s := S1x2x256) o S1x1x256.size h).toLoadRect hl) >>= k) Q) := by
  subst e
  refine load_own c M X (Rect.unit (s := S1x2x256) ![0, g % 2, 0] S1x1x256.size h) hl (gRow X g) (fun x => congrArg X ?_) k
  have h0 : (x 0).val < 1 := (x 0).isLt
  have h1 : (x 1).val < 1 := (x 1).isLt
  funext a
  fin_cases a
  · apply Fin.ext
    show 0 + 1 * (x 0).val = 0
    omega
  · apply Fin.ext
    show g % 2 + 1 * (x 1).val = g % 2
    omega
  · apply Fin.ext
    show 0 + 1 * (x 2).val = (x 2).val
    omega
/-- A read of a whole block of rank three, of rank four; a write of one. -/
theorem load_all3 {a b d : ℕ} {e : EltTy} (M : Memref sig .tc .vmem ⟨3, ![a, b, d]⟩ e) (X : (⟨3, ![a, b, d]⟩ : Shape).Idx → Elt F e) {h} {hl}
    {α : Type} {Q : α → sProp 𝕄} (k : ((⟨3, ![a, b, d]⟩ : Shape).Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k X) Q)
        -∗ (wp frame (wpE (defs₀ (F := F)) Variants.none (c : Thread nD τ) none) Set.univ) (Prog.lift (.load M (Rect.unit (s := ⟨3, ![a, b, d]⟩) ![0, 0, 0] (⟨3, ![a, b, d]⟩ : Shape).size h).toLoadRect hl) >>= k) Q) := by
  refine load_own c M X (Rect.unit (s := ⟨3, ![a, b, d]⟩) ![0, 0, 0] (⟨3, ![a, b, d]⟩ : Shape).size h) hl X (fun x => congrArg X ?_) k
  funext i
  fin_cases i <;> apply Fin.ext
  · show 0 + 1 * (x 0).val = (x 0).val; omega
  · show 0 + 1 * (x 1).val = (x 1).val; omega
  · show 0 + 1 * (x 2).val = (x 2).val; omega
theorem load_all4 {a b d f : ℕ} {e : EltTy} (M : Memref sig .tc .vmem ⟨4, ![a, b, d, f]⟩ e) (X : (⟨4, ![a, b, d, f]⟩ : Shape).Idx → Elt F e) {h} {hl}
    {α : Type} {Q : α → sProp 𝕄} (k : ((⟨4, ![a, b, d, f]⟩ : Shape).Idx → Elt F e) → PR F α) :
    (owns (c : Thread nD τ) M fullShare X : sProp 𝕄)
      ⊢ iprop((owns (c : Thread nD τ) M fullShare X -∗ (wp frame (wpE (defs₀ (F := F)) Variants.none (c : Thread nD τ) none) Set.univ) (k X) Q)
        -∗ (wp frame (wpE (defs₀ (F := F)) Variants.none (c : Thread nD τ) none) Set.univ) (Prog.lift (.load M (Rect.unit (s := ⟨4, ![a, b, d, f]⟩) ![0, 0, 0, 0] (⟨4, ![a, b, d, f]⟩ : Shape).size h).toLoadRect hl) >>= k) Q) := by
  refine load_own c M X (Rect.unit (s := ⟨4, ![a, b, d, f]⟩) ![0, 0, 0, 0] (⟨4, ![a, b, d, f]⟩ : Shape).size h) hl X (fun x => congrArg X ?_) k
  funext i
  fin_cases i <;> apply Fin.ext
  · show 0 + 1 * (x 0).val = (x 0).val; omega
  · show 0 + 1 * (x 1).val = (x 1).val; omega
  · show 0 + 1 * (x 2).val = (x 2).val; omega
  · show 0 + 1 * (x 3).val = (x 3).val; omega
theorem store_all3 {a b d : ℕ} {e : EltTy} (M : Memref sig .tc .vmem ⟨3, ![a, b, d]⟩ e) (X w : (⟨3, ![a, b, d]⟩ : Shape).Idx → Elt F e) {h} {hx} {hm}
    {α : Type} {Q : α → sProp 𝕄} (k : PUnit → PR F α) :
    (owns (c : Thread nD τ) M fullShare X : sProp 𝕄)
      ⊢ iprop((owns (c : Thread nD τ) M fullShare w -∗ (wp frame (wpE (defs₀ (F := F)) Variants.none (c : Thread nD τ) none) Set.univ) (k ⟨⟩) Q)
        -∗ (wp frame (wpE (defs₀ (F := F)) Variants.none (c : Thread nD τ) none) Set.univ) (Prog.lift (.store M (Rect.unit (s := ⟨3, ![a, b, d]⟩) ![0, 0, 0] (⟨3, ![a, b, d]⟩ : Shape).size h) w Finset.univ hx hm) >>= k) Q) := by
  refine store_own c M X (Rect.unit (s := ⟨3, ![a, b, d]⟩) ![0, 0, 0] (⟨3, ![a, b, d]⟩ : Shape).size h) w hx hm w (fun y => ⟨y, ?_, rfl⟩) k
  funext i
  fin_cases i <;> apply Fin.ext
  · show 0 + 1 * (y 0).val = (y 0).val; omega
  · show 0 + 1 * (y 1).val = (y 1).val; omega
  · show 0 + 1 * (y 2).val = (y 2).val; omega

/-! ## The scratch buffer -/

abbrev sPt (g : S14x8x256.Idx → Elt F .f32) : sProp 𝕄 := (c : Thread nD τ).loc cc0_scratch2 ↦{fullShare} g
/-- Block `k` of the scratch buffer. -/
def chunkIdx (k : Fin 14) (y : S1x8x256.Idx) : S14x8x256.Idx := ix3 k (⟨(y 1).val, (y 1).isLt⟩ : Fin 8) (⟨(y 2).val, (y 2).isLt⟩ : Fin 256)
def chunkOf (g : S14x8x256.Idx → Elt F .f32) (k : Fin 14) : Vec F S1x8x256 .f32 := fun y => g (chunkIdx k y)

theorem chunk_emb (b : Fin 14) (h) (x : S1x8x256.Idx) :
    (Rect.unit (s := S14x8x256) ![b.val, 0, 0] S1x8x256.size h).emb x = chunkIdx b x := by
  have h0 : (x 0).val < 1 := (x 0).isLt
  funext a
  fin_cases a <;> apply Fin.ext
  · show b.val + 1 * (x 0).val = b.val; omega
  · show 0 + 1 * (x 1).val = (x 1).val; omega
  · show 0 + 1 * (x 2).val = (x 2).val; omega

theorem load_s (g : S14x8x256.Idx → Elt F .f32) (b : Fin 14) {o : Fin 3 → ℕ} {h} {hl} (e : o = ![b.val, 0, 0])
    {α : Type} {Q : α → sProp 𝕄} (k : Vec F S1x8x256 .f32 → PR F α) :
    sPt c g
      ⊢ iprop((sPt c g -∗ (wp frame (wpE (defs₀ (F := F)) Variants.none (c : Thread nD τ) none) Set.univ) (k (chunkOf g b)) Q)
        -∗ (wp frame (wpE (defs₀ (F := F)) Variants.none (c : Thread nD τ) none) Set.univ) (Prog.lift (.load sBuf (Rect.unit (s := S14x8x256) o S1x8x256.size h).toLoadRect hl) >>= k) Q) := by
  subst e
  have hr : (sBuf.access (Rect.unit (s := S14x8x256) ![b.val, 0, 0] S1x8x256.size h)).read (Elt F) g = chunkOf g b :=
    funext fun x => congrArg g (chunk_emb b h x)
  iintro H HK
  rw [show ∀ op, (Prog.lift op >>= k : PR F α) = .op op k from fun _ => rfl]
  iapply (wp_load_rect (defs := defs₀ (F := F)) Variants.none (c : Thread nD τ) none Set.univ (k := k) (q := fullShare) (f := g)
    (m := sBuf) (r := Rect.unit (s := S14x8x256) ![b.val, 0, 0] S1x8x256.size h) (S := Finset.univ) (Finset.subset_univ _)) $$ H
  iintro H
  rw [hr]
  iapply HK $$ H

/-- The scratch buffer with block `b` at `w`, -/
def setChunk (g : S14x8x256.Idx → Elt F .f32) (b : Fin 14) (w : Vec F S1x8x256 .f32) : S14x8x256.Idx → Elt F .f32 :=
  fun x => if (x 0).val = b.val then w (ix3 (0 : Fin 1) (⟨(x 1).val, (x 1).isLt⟩ : Fin 8) (⟨(x 2).val, (x 2).isLt⟩ : Fin 256)) else g x
theorem chunkOf_setChunk (g : S14x8x256.Idx → Elt F .f32) (b j : Fin 14) (w : Vec F S1x8x256 .f32) :
    chunkOf (setChunk g b w) j = if j = b then w else chunkOf g j := by
  by_cases hj : j = b
  · subst hj
    rw [if_pos rfl]
    funext y
    have h0 : (y 0).val < 1 := (y 0).isLt
    unfold chunkOf setChunk
    rw [if_pos (show (chunkIdx j y 0).val = j.val from rfl)]
    refine congrArg w ?_
    funext a
    fin_cases a <;> apply Fin.ext
    · show 0 = (y 0).val; omega
    · rfl
    · rfl
  · rw [if_neg hj]
    funext y
    unfold chunkOf setChunk
    rw [if_neg (fun e : (chunkIdx j y 0).val = b.val => hj (Fin.ext e))]
/-- which a write of that block leaves. -/
theorem store_s (g : S14x8x256.Idx → Elt F .f32) (b : Fin 14) (w : Vec F S1x8x256 .f32) {o : Fin 3 → ℕ} {h} {hx} {hm} (e : o = ![b.val, 0, 0])
    {α : Type} {Q : α → sProp 𝕄} (k : PUnit → PR F α) :
    sPt c g
      ⊢ iprop((sPt c (setChunk g b w) -∗ (wp frame (wpE (defs₀ (F := F)) Variants.none (c : Thread nD τ) none) Set.univ) (k ⟨⟩) Q)
        -∗ (wp frame (wpE (defs₀ (F := F)) Variants.none (c : Thread nD τ) none) Set.univ) (Prog.lift (.store sBuf (Rect.unit (s := S14x8x256) o S1x8x256.size h) w Finset.univ hx hm) >>= k) Q) := by
  subst e
  have hr : (sBuf.access (Rect.unit (s := S14x8x256) ![b.val, 0, 0] S1x8x256.size h)).write (Elt F) g w Finset.univ = setChunk g b w := by
    funext x
    by_cases hxb : (x 0).val = b.val
    · have hxe : x = (sBuf.access (Rect.unit (s := S14x8x256) ![b.val, 0, 0] S1x8x256.size h)).emb (ix3 (0 : Fin 1) (⟨(x 1).val, (x 1).isLt⟩ : Fin 8) (⟨(x 2).val, (x 2).isLt⟩ : Fin 256)) := by
        refine Eq.trans ?_ (chunk_emb b h _).symm
        funext a
        fin_cases a <;> apply Fin.ext
        · exact hxb
        · rfl
        · rfl
      unfold setChunk
      rw [if_pos hxb]
      conv_lhs => rw [hxe]
      exact (View.write_emb_of_mem (v := (sBuf.access (Rect.unit (s := S14x8x256) ![b.val, 0, 0] S1x8x256.size h))) (Val := Elt F) g w (Finset.mem_univ _))
    · unfold setChunk
      rw [if_neg hxb]
      refine View.write_of_not_mem _ _ _ (fun hm => hxb ?_)
      obtain ⟨y, -, hy⟩ := Finset.mem_map.mp hm
      rw [← hy]
      exact congrArg (fun z : S14x8x256.Idx => (z 0).val) (chunk_emb b h y)
  iintro H HK
  rw [show ∀ op, (Prog.lift op >>= k : PR F α) = .op op k from fun _ => rfl]
  iapply (wp_store (defs := defs₀ (F := F)) Variants.none (c : Thread nD τ) none Set.univ (k := k) (f := g)
    (m := sBuf) (r := Rect.unit (s := S14x8x256) ![b.val, 0, 0] S1x8x256.size h) (S := Finset.univ) (Finset.subset_univ _)) $$ H
  iintro H
  rw [hr]
  iapply HK $$ H

/-! ## The table -/

abbrev tPt (tb : S128.Idx → Elt F .i32) : sProp 𝕄 := (c : Thread nD τ).loc main_arg0 ↦{fullShare.right} tb

/-- A read of pair `p`'s total. -/
theorem load_tot (tb : S128.Idx → Elt F .i32) (p : Fin 112) {o : Fin 1 → ℕ} {h} {h1} {h2} (e : o = ![p.val])
    {α : Type} {Q : α → sProp 𝕄} (k : Elt F .i32 → PR F α) :
    tPt c tb
      ⊢ iprop((tPt c tb -∗ (wp frame (wpE (defs₀ (F := F)) Variants.none (c : Thread nD τ) none) Set.univ) (k (totAt tb p)) Q)
        -∗ (wp frame (wpE (defs₀ (F := F)) Variants.none (c : Thread nD τ) none) Set.univ) (smemLoad tabM (Rect.unit (s := S128) o S1.size h) h1 h2 >>= k) Q) := by
  subst e
  have hr : ∀ x, (tabM.access (Rect.unit (s := S128) ![p.val] S1.size h)).read (Elt F) tb x = totAt tb p := by
    intro x
    have h0 : (x 0).val < 1 := (x 0).isLt
    refine congrArg tb ?_
    funext a
    fin_cases a
    apply Fin.ext
    show p.val + 1 * (x 0).val = p.val
    omega
  iintro H HK
  rw [show (smemLoad tabM (Rect.unit (s := S128) ![p.val] S1.size h) h1 h2 >>= k : PR F α)
    = smemLoadElt tabM (Rect.unit (s := S128) ![p.val] S1.size h) (View.loads_smem_one h2 h1) (Shape.Idx.first (h1.symm ▸ Nat.one_pos)) k from rfl]
  iapply (wp_smemLoadElt (defs := defs₀ (F := F)) Variants.none (c : Thread nD τ) none Set.univ (k := k) (q := fullShare.right) (f := tb)
    (m := tabM) (r := Rect.unit (s := S128) ![p.val] S1.size h) (S := Finset.univ) (Finset.subset_univ _)) $$ H
  iintro H
  rw [hr]
  iapply HK $$ H

/-- A check that holds. -/
theorem assume_ok {P : Prop} {d : Decidable P} (hP : P) {α : Type} {Q : α → sProp 𝕄} (k : PLift P → PR F α) :
    (wp frame (wpE (defs₀ (F := F)) Variants.none (c : Thread nD τ) none) Set.univ) (k ⟨hP⟩) Q ⊢ (wp frame (wpE (defs₀ (F := F)) Variants.none (c : Thread nD τ) none) Set.univ) (Prog.lift (TpuEff.assume P d) >>= k) Q :=
  wp_assume (defs := defs₀ (F := F)) Variants.none (c : Thread nD τ) none Set.univ hP

end Whole

end Cert.KernelIdeal.Hand

end
-- ==== Proof.KernelIdeal.Loops.lean ====
/-
  Hand-written, untrusted. The three loops of a grid point's computation: the scores of each block and their
  running maximum, the weights and their running sum, the weighted sum.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Loops

variable (c : Dev nD)

/-- A loop over chunks with its remainder, by an invariant. -/
theorem two_loops {v : BitVec 32} (hv : v.toInt ≤ 3584) {α σ : Type} {Q : α → sProp 𝕄} (I : ℕ → σ → sProp 𝕄) (ok : (mainLoop v).OK) (ok' : (remLoop v).OK) (a : σ)
    (body : Fin (mainLoop v).trips → σ → PR F σ) (body' : Fin (remLoop v).trips → σ → PR F σ) (kk : σ → PR F α)
    (hbody : ∀ k acc, I k.val acc ⊢ (wp frame (wpE (defs₀ (F := F)) Variants.none (c : Thread nD τ) none) Set.univ) (body k acc) (I (k.val + 1))) :
    I 0 a ⊢ iprop((∀ acc, I (nOf v) acc -∗ (wp frame (wpE (defs₀ (F := F)) Variants.none (c : Thread nD τ) none) Set.univ) (kk acc) Q)
        -∗ (wp frame (wpE (defs₀ (F := F)) Variants.none (c : Thread nD τ) none) Set.univ) (Scf.Loop.for (mainLoop v) ok a body >>= fun x => Scf.Loop.for (remLoop v) ok' x body' >>= kk) Q) := by
  have ht := main_trips hv
  iintro HI HK
  iapply (Scf.wp_for_bind frame (wpE (defs₀ (F := F)) Variants.none (c : Thread nD τ) none) Set.univ
    (mainLoop v).lb (mainLoop v).ub (mainLoop v).st ok a body I hbody) $$ HI
  iintro %acc HI
  rw [show Scf.trips (mainLoop v).lb (mainLoop v).ub (mainLoop v).st = nOf v from ht]
  iapply (rem_loop c ok' acc body' kk .rfl)
  iapply HK $$ HI

variable (P : PtIn F)

abbrev rows : sProp 𝕄 := bigSep (Ring.rangeSet 14 0 (nOf P.v)) (full c P.ko P.vo (slotOf P.t) P.t)

/-- Before block `k` is scored: the running maximum; the blocks before it in the scratch buffer. -/
def scoreInv (M : Memref sig .tc .vmem S32x128 .f32) (k : ℕ) (acc : FVec F S8x256 .f32) : sProp 𝕄 :=
  iprop(⌜acc = P.mxAt k⌝ ∗ owns (c : Thread nD τ) M fullShare P.ks ∗ rows c P
    ∗ ∃ g, ⌜∀ j : Fin 14, j.val < k → chunkOf g j = P.sBlk j.val⌝ ∗ sPt c g)
/-- Before block `k` is weighted: the running sum; the blocks before it weighted. -/
def expInv (k : ℕ) (acc : FVec F S8x256 .f32) : sProp 𝕄 :=
  iprop(⌜acc = P.denAt k⌝ ∗ ∃ g, ⌜∀ j : Fin 14, j.val < nOf P.v → chunkOf g j = if j.val < k then P.eBlk j.val else P.sBlk j.val⌝ ∗ sPt c g)
/-- Before block `k` is summed. -/
def outInv (M : Memref sig .tc .vmem S32x128 .f32) (k : ℕ) (acc : FVec F S8x128 .f32) : sProp 𝕄 :=
  iprop(⌜acc = P.oAt k⌝ ∗ owns (c : Thread nD τ) M fullShare P.vs ∗ rows c P
    ∗ ∃ g, ⌜∀ j : Fin 14, j.val < nOf P.v → chunkOf g j = P.eBlk j.val⌝ ∗ sPt c g)

theorem rows_take (b : Fin 14) (hb : b.val < nOf P.v) :
    rows c P = iprop((kAt c (slotOf P.t) (landedOf P.ko P.t) b ∗ vAt c (slotOf P.t) (landedOf P.vo P.t) b)
      ∗ bigSep ((Ring.rangeSet 14 0 (nOf P.v)).erase b) (full c P.ko P.vo (slotOf P.t) P.t) : sProp 𝕄) :=
  erase_split (by unfold Ring.rangeSet; exact Finset.mem_filter.mpr ⟨Finset.mem_univ _, Nat.zero_le _, hb⟩)

variable (i : grid0.Coords) (hi : (i 0).val = P.t.val) (hv : P.v.toInt ≤ 3584)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)
include hi hv

theorem score_step (arg0 v0 v8 : BitVec 32) (hw : k0_chk3 i P.v) (v30 : BitVec 32) (v35 : FVec F S1x256 .f32) (k : Fin (mainLoop P.v).trips) (acc : FVec F S8x256 .f32) :
    scoreInv c P M9 k.val acc
      ⊢ (wp frame (wpE (defs₀ (F := F)) Variants.none (c : Thread nD τ) none) Set.univ) (k0_t7_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 arg0 v0 v8 P.qv P.v hw v30 P.v v35 k acc) (scoreInv c P M9 (k.val + 1)) := by
  have hk := klt14 k hv
  have hkn : k.val < nOf P.v := by rw [← main_trips hv]; exact k.isLt
  unfold scoreInv
  rw [rows_take c P ⟨k.val, hk⟩ hkn]
  iintro ⟨%hacc, HM, ⟨⟨HK, HV⟩, HR⟩, %g, %hg, HS⟩
  subst hacc
  unfold k0_t7_body
  iapply (load_k c (slotOf P.t) P.t ⟨k.val, hk⟩ P.ko ((off23_eq i P.v k).trans (by rw [hi]; rfl)) _) $$ HK
  iintro HK
  iapply (load_scale c M9 P.ks (2 * k.val) (by omega) (off24_eq P.v k) _) $$ HM
  iintro HM
  iapply (load_scale c M9 P.ks (2 * k.val + 1) (by omega) (off25_eq P.v k) _) $$ HM
  iintro HM
  iapply (load_s c g ⟨k.val, hk⟩ (off26_eq P.v k) _) $$ HS
  iintro HS
  iapply (store_s c g ⟨k.val, hk⟩ _ (off26_eq P.v k) _) $$ HS
  iintro HS
  sl_step
  isplitr; · ipureintro; rfl
  isplitl [HM]; · iexact HM
  isplitl [HK HV HR]
  · isplitr [HR]
    · isplitl [HK]; · iexact HK
      iexact HV
    iexact HR
  iexists _
  isplitr
  · ipureintro
    intro j hj
    rw [chunkOf_setChunk]
    by_cases hjk : j = ⟨k.val, hk⟩
    · rw [if_pos hjk, hjk]
    · rw [if_neg hjk]
      exact hg j (by have : j.val ≠ k.val := fun e => hjk (Fin.ext e); omega)
  iexact HS

theorem exp_step (v8 : BitVec 32) (hw : k0_chk3 i P.v) (v30 : BitVec 32) (k : Fin (mainLoop P.v).trips) (acc : FVec F S8x256 .f32) :
    expInv c P k.val acc
      ⊢ (wp frame (wpE (defs₀ (F := F)) Variants.none (c : Thread nD τ) none) Set.univ) (k0_t9_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 v8 P.v hw v30 P.sRec P.sNew P.mRow k acc) (expInv c P (k.val + 1)) := by
  have hk := klt14 k hv
  have hkn : k.val < nOf P.v := by rw [← main_trips hv]; exact k.isLt
  unfold expInv
  iintro ⟨%hacc, %g, %hg, HS⟩
  subst hacc
  have hgk : chunkOf g ⟨k.val, hk⟩ = P.sBlk k.val := (hg ⟨k.val, hk⟩ hkn).trans (if_neg (lt_irrefl _))
  unfold k0_t9_body
  iapply (load_s c g ⟨k.val, hk⟩ (off31_eq P.v k) _) $$ HS
  iintro HS
  iapply (load_s c g ⟨k.val, hk⟩ (off31_eq P.v k) _) $$ HS
  iintro HS
  iapply (store_s c g ⟨k.val, hk⟩ _ (off31_eq P.v k) _) $$ HS
  iintro HS
  sl_step
  rw [hgk]
  isplitr; · ipureintro; rfl
  iexists _
  isplitr
  · ipureintro
    intro j hj
    rw [chunkOf_setChunk]
    by_cases hjk : j = ⟨k.val, hk⟩
    · rw [if_pos hjk, hjk, if_pos (Nat.lt_succ_self _)]
    · rw [if_neg hjk, hg j hj]
      have : j.val ≠ k.val := fun e => hjk (Fin.ext e)
      by_cases h1 : j.val < k.val
      · rw [if_pos h1, if_pos (by omega)]
      · rw [if_neg h1, if_neg (by omega)]
  iexact HS

theorem out_step (hw : k0_chk3 i P.v) (k : Fin (mainLoop P.v).trips) (acc : FVec F S8x128 .f32) :
    outInv c P M10 k.val acc
      ⊢ (wp frame (wpE (defs₀ (F := F)) Variants.none (c : Thread nD τ) none) Set.univ) (k0_t11_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 P.v hw P.v (iota .tc S8x256 32 [1] iota_S8x256_d1_w32) P.dTot 0#32 k acc) (outInv c P M10 (k.val + 1)) := by
  have hk := klt14 k hv
  have hkn : k.val < nOf P.v := by rw [← main_trips hv]; exact k.isLt
  unfold outInv
  rw [rows_take c P ⟨k.val, hk⟩ hkn]
  iintro ⟨%hacc, HM, ⟨⟨HK, HV⟩, HR⟩, %g, %hg, HS⟩
  subst hacc
  have hgk : chunkOf g ⟨k.val, hk⟩ = P.eBlk k.val := hg ⟨k.val, hk⟩ hkn
  unfold k0_t11_body
  iapply (load_s c g ⟨k.val, hk⟩ (off34_eq P.v k) _) $$ HS
  iintro HS
  iapply (load_scale c M10 P.vs (2 * k.val) (by omega) (off35_eq P.v k) _) $$ HM
  iintro HM
  iapply (load_scale c M10 P.vs (2 * k.val + 1) (by omega) (off36_eq P.v k) _) $$ HM
  iintro HM
  iapply (load_v c (slotOf P.t) P.t ⟨k.val, hk⟩ P.vo ((off37_eq i P.v k).trans (by rw [hi]; rfl)) _) $$ HV
  iintro HV
  sl_step
  rw [hgk]
  isplitr; · ipureintro; rfl
  isplitl [HM]; · iexact HM
  isplitl [HK HV HR]
  · isplitr [HR]
    · isplitl [HK]; · iexact HK
      iexact HV
    iexact HR
  iexists g
  isplitr
  · ipureintro; exact hg
  iexact HS

end Loops

end Cert.KernelIdeal.Hand

end
-- ==== Proof.KernelIdeal.Part1.lean ====
/-
  Hand-written, untrusted. The first part of a grid point: the first point asks for its own rows, every point but
  the last for the next one's, and then its queries, its total and its scales are read.
-/
module

public import proofs.«01_k».proof.Proof.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Programs

variable (i : grid0.Coords)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

/-- The reads that end the part. -/
def tailProg : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v9 : Vec F S1x8x128 .bf16 ← Prog.lift (.load M2 (Rect.unit (s := S1x8x128) ![0, 0, 0] S1x8x128.size inb_S1x8x128_S1x8x128_0_0_0).toLoadRect (View.loadsAt_vmem h_S1x8x128))
  let v12 : Elt F .i32 ← smemLoad tabM (Rect.unit (s := S128) (k0_off15 i) S1.size (k0_off15_inb i)) numel1_S1 rfl
  have k0_hw3 : k0_chk3 i v12 := (← Prog.lift (TpuEff.assume (k0_chk3 i v12) (k0_chk3.dec i v12))).down
  let v32 : Elt F .i32 ← smemLoad tabM (Rect.unit (s := S128) (k0_off15 i) S1.size (k0_off15_inb i)) numel1_S1 rfl
  let v34 : Vec F S1x1x256 .f32 ← Prog.lift (.load M7 (Rect.unit (s := S1x2x256) (k0_off16 i) S1x1x256.size (k0_off16_inb i)).toLoadRect (View.loadsAt_vmem h_S1x1x256))
  pure ⟨BitVec.ofNat 32 (i 0).val, Scalar.remsi (BitVec.ofNat 32 (i 0).val) 2#32, Scalar.remsi (BitVec.ofNat 32 (i 0).val) 2#32, k0_pay4 v9, v12, k0_hw3, chunksW v12, v32, k0_pay5 v34⟩

/-- The next pair's rows asked for, then the reads. -/
def nextProg (k0_h2 : k0_cond2 i = 1#1) : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v129 : Elt F .i32 ← smemLoad tabM (Rect.unit (s := S128) (k0_off8 i) S1.size (k0_off8_inb i k0_h2)) numel1_S1 rfl
  have k0_hw2 : k0_chk2 i v129 := (← Prog.lift (TpuEff.assume (k0_chk2 i v129) (k0_chk2.dec i v129))).down
  let v153 : BitVec 32 ← Scf.Loop.for (k0_t3_loop v129) (k0_t3_ok i v129 k0_hw2 k0_h2) 0#32 (k0_t3_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h2 v129 k0_hw2)
  let v154 : BitVec 32 ← Scf.Loop.for (k0_t4_loop v129) (k0_t4_ok i v129 k0_hw2 k0_h2) v153 (k0_t4_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h2 v129 k0_hw2)
  tailProg i M2 M7
def midProg : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) :=
  if h : k0_cond2 i = 1#1 then nextProg i M2 w2 M3 w3 M4 w4 M5 w5 M6 w6 M7 w7 M8 w8 M9 w9 M10 w10 M13 w13 h else tailProg i M2 M7

/-- This pair's rows asked for, then the next one's, then the reads. -/
def firstProg (k0_h1 : k0_cond1 i = 1#1) : PR F (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) := do
  let v127 : Elt F .i32 ← smemLoad tabM (Rect.unit (s := S128) (k0_off1 i) S1.size (k0_off1_inb i k0_h1)) numel1_S1 rfl
  have k0_hw1 : k0_chk1 i v127 := (← Prog.lift (TpuEff.assume (k0_chk1 i v127) (k0_chk1.dec i v127))).down
  let v151 : BitVec 32 ← Scf.Loop.for (k0_t1_loop v127) (k0_t1_ok i v127 k0_hw1 k0_h1) 0#32 (k0_t1_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h1 v127 k0_hw1)
  let v152 : BitVec 32 ← Scf.Loop.for (k0_t2_loop v127) (k0_t2_ok i v127 k0_hw1 k0_h1) v151 (k0_t2_body i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 k0_h1 v127 k0_hw1)
  midProg i M2 w2 M3 w3 M4 w4 M5 w5 M6 w6 M7 w7 M8 w8 M9 w9 M10 w10 M13 w13

theorem part1_eq : k0_part1 (F := F) i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 =
    if h : k0_cond1 i = 1#1 then firstProg i M2 w2 M3 w3 M4 w4 M5 w5 M6 w6 M7 w7 M8 w8 M9 w9 M10 w10 M13 w13 h else midProg i M2 w2 M3 w3 M4 w4 M5 w5 M6 w6 M7 w7 M8 w8 M9 w9 M10 w10 M13 w13 :=
  by rw [k0_part1_eq_skeleton]; rfl

end Programs

section Run

variable (c : Dev nD)

/-- A read of pair `p`'s total, known. -/
theorem load_tot' (tb : S128.Idx → Elt F .i32) (p : Fin 112) (v : Elt F .i32) (ev : totAt tb p = v) {o : Fin 1 → ℕ} {h} {h1} {h2} (e : o = ![p.val])
    {α : Type} {Q : α → sProp 𝕄} (k : Elt F .i32 → PR F α) :
    tPt c tb ⊢ iprop((tPt c tb -∗ (wp frame (wpE (defs₀ (F := F)) Variants.none (c : Thread nD τ) none) Set.univ) (k v) Q) -∗ (wp frame (wpE (defs₀ (F := F)) Variants.none (c : Thread nD τ) none) Set.univ) (smemLoad tabM (Rect.unit (s := S128) o S1.size h) h1 h2 >>= k) Q) := by
  subst ev; exact load_tot c tb p e k

variable (P : PtIn F) (tb : S128.Idx → Elt F .i32) (hfit : Fits tb) (hP : totAt tb P.t = P.v)
variable (i : grid0.Coords) (hi : (i 0).val = P.t.val)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

theorem hv_of (hfit : Fits tb) (hP : totAt tb P.t = P.v) : P.v.toInt ≤ 3584 := by rw [← hP]; exact hfit P.t

/-- What the part ends with. -/
def part1Res (hv : P.v.toInt ≤ 3584) : Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32 :=
  ⟨BitVec.ofNat 32 (i 0).val, Scalar.remsi (BitVec.ofNat 32 (i 0).val) 2#32, Scalar.remsi (BitVec.ofNat 32 (i 0).val) 2#32, P.qv, P.v, chk3 i hv, chunksW P.v, P.v, k0_pay5 (gRow P.rks P.t.val)⟩

/-- What the reads use. -/
def readRes : sProp 𝕄 := iprop(tPt c tb ∗ owns (c : Thread nD τ) M2 fullShare P.q ∗ owns (c : Thread nD τ) M7 fullShare P.rks)

theorem cond1_iff (i : grid0.Coords) : k0_cond1 i = 1#1 ↔ (i 0).val = 0 := by revert i; decide +kernel
theorem cond2_iff (i : grid0.Coords) : k0_cond2 i = 1#1 ↔ (i 0).val + 1 < 112 := by revert i; decide +kernel

include hi in
theorem wp_tail (hv : P.v.toInt ≤ 3584) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    readRes c P tb M2 M7 ⊢ iprop((readRes c P tb M2 M7 -∗ Q (part1Res P i hv)) -∗ (wp frame (wpE (defs₀ (F := F)) Variants.none (c : Thread nD τ) none) Set.univ) (tailProg i M2 M7) Q) := by
  unfold readRes tailProg part1Res PtIn.qv
  iintro ⟨HT, HQ, HS⟩ HK
  iapply (load_all3 c M2 P.q _) $$ HQ
  iintro HQ
  iapply (load_tot' c tb P.t P.v hP ((k0_off15_eq i).trans (by rw [hi])) _) $$ HT
  iintro HT
  iapply (assume_ok c (chk3 i hv) _)
  iapply (load_tot' c tb P.t P.v hP ((k0_off15_eq i).trans (by rw [hi])) _) $$ HT
  iintro HT
  iapply (load_gRow c M7 P.rks P.t.val ((k0_off16_eq i).trans (by rw [hi])) _) $$ HS
  iintro HS
  sl_step
  iapply HK
  isplitl [HT]; · iexact HT
  isplitl [HQ]; · iexact HQ
  iexact HS

variable (ko vo : S100352x128.Idx → Elt F .i32)

include hi in
/-- The rows of pair `t` on their way, and before the reads the next pair's too. -/
theorem wp_mid (hfit : Fits tb) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    iprop(flying c ko vo tb P.t ∗ readRes c P tb M2 M7)
      ⊢ iprop((inFlight c ko vo (slotOf P.t) P.t (nOf (totAt tb P.t)) ∗ beside c ko vo tb P.t ∗ readRes c P tb M2 M7 -∗ Q (part1Res P i (hv_of P tb hfit hP)))
        -∗ (wp frame (wpE (defs₀ (F := F)) Variants.none (c : Thread nD τ) none) Set.univ) (midProg i M2 w2 M3 w3 M4 w4 M5 w5 M6 w6 M7 w7 M8 w8 M9 w9 M10 w10 M13 w13) Q) := by
  have hv := hv_of P tb hfit hP
  unfold midProg
  by_cases h2 : k0_cond2 i = 1#1
  · have hlt : P.t.val + 1 < 112 := by rw [← hi]; exact (cond2_iff i).mp h2
    rw [dif_pos h2]
    have hv2 := hfit ⟨P.t.val + 1, hlt⟩
    unfold nextProg readRes
    iintro ⟨HF, HT, HQ, HS⟩ HK
    iapply (load_tot' c tb ⟨P.t.val + 1, hlt⟩ _ rfl ((k0_off8_eq i).trans (by rw [hi])) _) $$ HT
    iintro HT
    iapply (assume_ok c (chk2 i hv2) _)
    ihave HF := (open_next c ko vo tb P.t hlt) $$ HF
    icases HF with ⟨HI, HN, HB⟩
    iapply (issue_loop c ko vo (oth P.t) ⟨P.t.val + 1, hlt⟩ hv2 _ _ _ (fun k acc => issueGen_eq (oth P.t) ⟨P.t.val + 1, hlt⟩ ⟨k.val, klt14 k hv2⟩
      ((k0_off9_eq i).trans (by rw [hi]; rfl)) ((off10_eq i _ k).trans (by rw [hi]; rfl)) ((off11_eq i _ k).trans (by rw [hi]))) _ _) $$ HN
    iintro HN
    ihave HB := HB $$ HN
    iapply (wp_tail c P tb i hi M2 M7 hv hP) $$ [HT HQ HS]
    · unfold readRes
      isplitl [HT]; · iexact HT
      isplitl [HQ]; · iexact HQ
      iexact HS
    iintro HR
    iapply HK
    isplitl [HI]; · iexact HI
    isplitl [HB]; · iexact HB
    unfold readRes
    iexact HR
  · have hlt : ¬ P.t.val + 1 < 112 := by rw [← hi]; exact fun h => h2 ((cond2_iff i).mpr h)
    rw [dif_neg h2]
    iintro ⟨HF, HR⟩ HK
    ihave HF := (open_last c ko vo tb P.t hlt) $$ HF
    icases HF with ⟨HI, HB⟩
    iapply (wp_tail c P tb i hi M2 M7 hv hP) $$ HR
    iintro HR
    iapply HK
    isplitl [HI]; · iexact HI
    isplitl [HB]; · iexact HB
    iexact HR

include hi in
theorem wp_part1 (hfit : Fits tb) (hP : totAt tb P.t = P.v) {Q : (Σ' (arg0 : BitVec 32) (v0 : BitVec 32) (v8 : BitVec 32) (v10 : FVec F S8x128 .bf16) (v12 : Elt F .i32) (k0_hw3 : k0_chk3 i v12) (v30 : BitVec 32) (v32 : Elt F .i32), FVec F S1x256 .f32) → sProp 𝕄} :
    iprop(between c ko vo tb P.t.val ∗ readRes c P tb M2 M7)
      ⊢ iprop((inFlight c ko vo (slotOf P.t) P.t (nOf (totAt tb P.t)) ∗ beside c ko vo tb P.t ∗ readRes c P tb M2 M7 -∗ Q (part1Res P i (hv_of P tb hfit hP)))
        -∗ (wp frame (wpE (defs₀ (F := F)) Variants.none (c : Thread nD τ) none) Set.univ) (k0_part1 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3) Q) := by
  rw [part1_eq]
  by_cases h1 : k0_cond1 i = 1#1
  · have h0 : P.t.val = 0 := by rw [← hi]; exact (cond1_iff i).mp h1
    have ht : P.t = 0 := Fin.ext h0
    have hv0 := hfit 0
    rw [dif_pos h1]
    rw [h0]
    unfold firstProg
    conv_lhs => unfold readRes
    iintro ⟨HF, HT, HQ, HS⟩ HK
    iapply (load_tot' c tb 0 _ rfl ((k0_off1_eq i).trans (by rw [hi, h0]; rfl)) _) $$ HT
    iintro HT
    iapply (assume_ok c (chk1 i hv0) _)
    ihave HF := (open_first c ko vo tb) $$ HF
    icases HF with ⟨HN, HB⟩
    iapply (issue_loop c ko vo 0 0 hv0 _ _ _ (fun k acc => issueGen_eq 0 0 ⟨k.val, klt14 k hv0⟩
      ((k0_off2_eq i).trans (by rw [hi, h0]; rfl)) ((off3_eq i _ k).trans (by rw [hi, h0]; rfl)) ((off4_eq i _ k).trans (by rw [hi, h0]; rfl))) _ _) $$ HN
    iintro HN
    ihave HB := HB $$ HN
    rw [← ht]
    iapply (wp_mid c P tb i hi M2 w2 M3 w3 M4 w4 M5 w5 M6 w6 M7 w7 M8 w8 M9 w9 M10 w10 M13 w13 ko vo hfit hP) $$ [HB HT HQ HS]
    · isplitl [HB]; · iexact HB
      unfold readRes
      isplitl [HT]; · iexact HT
      isplitl [HQ]; · iexact HQ
      iexact HS
    iexact HK
  · have h0 : 0 < P.t.val := by rw [← hi]; exact Nat.pos_of_ne_zero fun h => h1 ((cond1_iff i).mpr h)
    rw [dif_neg h1, show between c ko vo tb P.t.val = flying c ko vo tb P.t from dif_pos ⟨h0, P.t.isLt⟩]
    exact wp_mid c P tb i hi M2 w2 M3 w3 M4 w4 M5 w5 M6 w6 M7 w7 M8 w8 M9 w9 M10 w10 M13 w13 ko vo hfit hP

end Run

end Cert.KernelIdeal.Hand

end
-- ==== Proof.KernelIdeal.Body.lean ====
/-
  Hand-written, untrusted. A grid point: its rows are waited for, its blocks are scored, weighted and summed, and
  its output block is written.
-/
module

public import proofs.«01_k».proof.Proof.KernelIdeal.Part1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Run

variable (c : Dev nD)

variable (P : PtIn F) (tb : S128.Idx → Elt F .i32)
variable (i : grid0.Coords) (hi : (i 0).val = P.t.val) (hv : P.v.toInt ≤ 3584)
  (M2 : Memref sig .tc .vmem S1x8x128 .bf16) (w2 : M2.IsWhole)
  (M3 : Memref sig .tc .vmem S1x1x2x128 .bf16) (w3 : M3.IsWhole)
  (M4 : Memref sig .tc .vmem S1x1x2x128 .bf16) (w4 : M4.IsWhole)
  (M5 : Memref sig .tc .vmem S1x256x128 .fp8e4m3) (w5 : M5.IsWhole)
  (M6 : Memref sig .tc .vmem S1x256x128 .fp8e4m3) (w6 : M6.IsWhole)
  (M7 : Memref sig .tc .vmem S1x2x256 .f32) (w7 : M7.IsWhole)
  (M8 : Memref sig .tc .vmem S1x2x256 .f32) (w8 : M8.IsWhole)
  (M9 : Memref sig .tc .vmem S32x128 .f32) (w9 : M9.IsWhole)
  (M10 : Memref sig .tc .vmem S32x128 .f32) (w10 : M10.IsWhole)
  (M13 : Memref sig .tc .vmem S1x8x128 .bf16) (w13 : M13.IsWhole)

/-- What the second part holds: the pair's rows, the scores in the scratch buffer. -/
def scored : sProp 𝕄 :=
  iprop(landed c P.ko P.vo (slotOf P.t) P.t (nOf P.v) ∗ (∃ W, owes (c : Thread nD τ) 0 W)
    ∗ (owns (c : Thread nD τ) M5 fullShare P.rk ∗ owns (c : Thread nD τ) M3 fullShare P.kn ∗ owns (c : Thread nD τ) M9 fullShare P.ks)
    ∗ ∃ g, ⌜∀ j : Fin 14, j.val < nOf P.v → chunkOf g j = P.sBlk j.val⌝ ∗ sPt c g)

include hi hv in
theorem wp_part2 (arg0 v0 v8 : BitVec 32) (h8 : v8 = P.par) (hw : k0_chk3 i P.v) (v30 : BitVec 32) {Q : (Σ' (v43 : FVec F S8x256 .f32) (v57 : FVec F S8x1 .f32) (v58 : IVec S8x256 32), FVec F S8 .f32) → sProp 𝕄} :
    iprop(inFlight c P.ko P.vo (slotOf P.t) P.t (nOf P.v) ∗ (∃ W, owes (c : Thread nD τ) 0 W)
      ∗ (owns (c : Thread nD τ) M5 fullShare P.rk ∗ owns (c : Thread nD τ) M3 fullShare P.kn ∗ owns (c : Thread nD τ) M9 fullShare P.ks) ∗ ∃ g, sPt c g)
      ⊢ iprop((scored c P M3 M5 M9 -∗ Q ⟨P.sRec, P.sNew, (iota .tc S8x256 32 [1] iota_S8x256_d1_w32), P.mRow⟩)
        -∗ (wp frame (wpE (defs₀ (F := F)) Variants.none (c : Thread nD τ) none) Set.univ) (k0_part2 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 arg0 v0 v8 P.qv P.v hw v30 P.v (k0_pay5 (gRow P.rks P.t.val))) Q) := by
  rw [k0_part2_eq_skeleton]
  subst h8
  unfold k0_part2_skel
  iintro ⟨HI, HW, ⟨H5, H3, H9⟩, %g, HS⟩ HK
  iapply (load_all3 c M5 P.rk _) $$ H5
  iintro H5
  iapply (load_all4 c M3 P.kn _) $$ H3
  iintro H3
  iapply (drain_loop c P.ko P.vo (slotOf P.t) P.t hv _ _ _ (fun k acc => waitGen_eq (slotOf P.t) P.t ⟨k.val, klt14 k hv⟩
      ((k0_off17_eq i).trans (by rw [hi]; rfl)) ((off18_eq i _ k).trans (by rw [hi]; rfl)) ((off19_eq i _ k).trans (by rw [hi]))) _ _) $$ [HI HW]
  · isplitl [HI]; · iexact HI
    iexact HW
  iintro ⟨HL, HW⟩
  unfold landed
  icases HL with ⟨Hc, HF, HR, HH⟩
  iapply (two_loops c hv (scoreInv c P M9) _ _ P.sRec _ _ _ (fun k acc => score_step c P i hi hv M2 w2 M3 w3 M4 w4 M5 w5 M6 w6 M7 w7 M8 w8 M9 w9 M10 w10 M13 w13 arg0 v0 P.par hw v30 (k0_pay5 (gRow P.rks P.t.val)) k acc)) $$ [H9 HF HS]
  · unfold scoreInv
    isplitr; · ipureintro; rfl
    isplitl [H9]; · iexact H9
    isplitl [HF]; · iexact HF
    iexists g
    isplitr; · ipureintro; intro j hj; exact absurd hj (Nat.not_lt_zero _)
    iexact HS
  iintro %acc HI
  unfold scoreInv
  icases HI with ⟨%hacc, H9, HF, HS⟩
  subst hacc
  sl_step
  rw [show (⟨k0_pay6 P.qv (k0_pay5 (gRow P.rks P.t.val)) P.rk, k0_pay7 P.par P.qv P.kn, (iota .tc S8x256 32 [1] iota_S8x256_d1_w32), k0_pay14 (P.mxAt (nOf P.v))⟩ : Σ' (v43 : FVec F S8x256 .f32) (v57 : FVec F S8x1 .f32) (v58 : IVec S8x256 32), FVec F S8 .f32)
    = ⟨P.sRec, P.sNew, (iota .tc S8x256 32 [1] iota_S8x256_d1_w32), P.mRow⟩ from rfl]
  iapply HK
  unfold scored landed
  isplitl [Hc HF HR HH]
  · isplitl [Hc]; · iexact Hc
    isplitl [HF]; · iexact HF
    isplitl [HR]; · iexact HR
    iexact HH
  isplitl [HW]; · iexact HW
  isplitr [HS]
  · isplitl [H5]; · iexact H5
    isplitl [H3]; · iexact H3
    iexact H9
  iexact HS

/-- What the third part ends with: the weights in the scratch buffer. -/
def weighted : sProp 𝕄 :=
  iprop((owns (c : Thread nD τ) M8 fullShare P.rvs ∗ owns (c : Thread nD τ) M4 fullShare P.vn ∗ owns (c : Thread nD τ) M6 fullShare P.rv)
    ∗ ∃ g, ⌜∀ j : Fin 14, j.val < nOf P.v → chunkOf g j = P.eBlk j.val⌝ ∗ sPt c g)

include hi hv in
theorem wp_part3 (v8 : BitVec 32) (h8 : v8 = P.par) (hw : k0_chk3 i P.v) (v30 : BitVec 32) {Q : (Σ' (v90 : FVec F S8x1 .f32) (v93 : FVec F S8x1 .f32) (v103 : FVec F S1x128 .f32) (v110 : FVec F S8x128 .f32) (c0_i32_50 : BitVec 32), BitVec 32) → sProp 𝕄} :
    iprop((owns (c : Thread nD τ) M8 fullShare P.rvs ∗ owns (c : Thread nD τ) M4 fullShare P.vn ∗ owns (c : Thread nD τ) M6 fullShare P.rv)
      ∗ ∃ g, ⌜∀ j : Fin 14, j.val < nOf P.v → chunkOf g j = P.sBlk j.val⌝ ∗ sPt c g)
      ⊢ iprop((∀ v115, weighted c P M4 M6 M8 -∗ Q ⟨P.dTot, k0_pay25 P.sNew P.mRow P.den, k0_pay26 P.par P.vn, P.oAt 0, 0#32, v115⟩)
        -∗ (wp frame (wpE (defs₀ (F := F)) Variants.none (c : Thread nD τ) none) Set.univ) (k0_part3 i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3 v8 P.v hw v30 P.sRec P.sNew P.mRow) Q) := by
  rw [k0_part3_eq_skeleton]
  subst h8
  unfold k0_part3_skel
  iintro ⟨⟨H8, H4, H6⟩, %g, %hg, HS⟩ HK
  iapply (two_loops c hv (expInv c P) _ _ (k0_pay16 P.sRec P.sNew P.mRow) _ _ _ (fun k acc => exp_step c P i hi hv M2 w2 M3 w3 M4 w4 M5 w5 M6 w6 M7 w7 M8 w8 M9 w9 M10 w10 M13 w13 P.par hw v30 k acc)) $$ [HS]
  · unfold expInv
    isplitr; · ipureintro; rfl
    iexists g
    isplitr
    · ipureintro; intro j hj
      rw [if_neg (Nat.not_lt_zero _)]; exact hg j hj
    iexact HS
  iintro %acc HI
  unfold expInv
  icases HI with ⟨%hacc, %g', %hg', HS⟩
  subst hacc
  iapply (load_gRow c M8 P.rvs P.t.val ((k0_off33_eq i).trans (by rw [hi])) _) $$ H8
  iintro H8
  iapply (load_all4 c M4 P.vn _) $$ H4
  iintro H4
  iapply (load_all3 c M6 P.rv _) $$ H6
  iintro H6
  dsimp only
  sl_step
  rw [show ∀ x : BitVec 32, (⟨k0_pay24 P.sNew P.mRow (P.denAt (nOf P.v)), k0_pay25 P.sNew P.mRow (P.denAt (nOf P.v)), k0_pay26 P.par P.vn,
      k0_pay27 P.sRec P.sNew P.mRow (P.denAt (nOf P.v)) (gRow P.rvs P.t.val) P.rv, 0#32, x⟩ : Σ' (v90 : FVec F S8x1 .f32) (v93 : FVec F S8x1 .f32) (v103 : FVec F S1x128 .f32) (v110 : FVec F S8x128 .f32) (c0_i32_50 : BitVec 32), BitVec 32)
    = ⟨P.dTot, k0_pay25 P.sNew P.mRow P.den, k0_pay26 P.par P.vn, P.oAt 0, 0#32, x⟩ from fun _ => rfl]
  iapply HK
  unfold weighted
  isplitl [H8 H4 H6]
  · isplitl [H8]; · iexact H8
    isplitl [H4]; · iexact H4
    iexact H6
  iexists g'
  isplitr
  · ipureintro; intro j hj
    exact (hg' j hj).trans (if_pos hj)
  iexact HS

/-- The blocks a point is given. -/
def inBlocks : sProp 𝕄 :=
  iprop(owns (c : Thread nD τ) M2 fullShare P.q ∗ owns (c : Thread nD τ) M3 fullShare P.kn ∗ owns (c : Thread nD τ) M4 fullShare P.vn
    ∗ owns (c : Thread nD τ) M5 fullShare P.rk ∗ owns (c : Thread nD τ) M6 fullShare P.rv ∗ owns (c : Thread nD τ) M7 fullShare P.rks
    ∗ owns (c : Thread nD τ) M8 fullShare P.rvs ∗ owns (c : Thread nD τ) M9 fullShare P.ks ∗ owns (c : Thread nD τ) M10 fullShare P.vs)

/-- What is held before point `t` beside its blocks. -/
def books (ko vo : S100352x128.Idx → Elt F .i32) (t : ℕ) : sProp 𝕄 :=
  iprop(between c ko vo tb t ∗ tPt c tb ∗ ∃ g, sPt (F := F) c g)

include hi in
/-- A grid point, run. -/
theorem wp_point (hfit : Fits tb) (hP : totAt tb P.t = P.v) (X : S1x8x128.Idx → Elt F .bf16) :
    iprop(books c tb P.ko P.vo P.t.val ∗ (∃ W, owes (c : Thread nD τ) 0 W) ∗ inBlocks c P M2 M3 M4 M5 M6 M7 M8 M9 M10 ∗ owns (c : Thread nD τ) M13 fullShare X)
      ⊢ (wp frame (wpE (defs₀ (F := F)) Variants.none (c : Thread nD τ) none) Set.univ) (cc0_tc_attend i tabM (Memref.isWhole_whole _) M2 w2 M3 w3 M4 w4 M5 w5 M6 w6 M7 w7 M8 w8 M9 w9 M10 w10 koArr (Memref.isWhole_whole _) voArr (Memref.isWhole_whole _) M13 w13 kBuf (Memref.isWhole_whole _) vBuf (Memref.isWhole_whole _) sBuf (Memref.isWhole_whole _) cc0_scratch3) (fun _ => iprop(books c tb P.ko P.vo (P.t.val + 1) ∗ (∃ W, owes (c : Thread nD τ) 0 W)
        ∗ inBlocks c P M2 M3 M4 M5 M6 M7 M8 M9 M10 ∗ owns (c : Thread nD τ) M13 fullShare P.out)) := by
  have hv := hv_of P tb hfit hP
  have h8 : Scalar.remsi (BitVec.ofNat 32 (i 0).val) 2#32 = P.par := by rw [hi]; rfl
  rw [cc0_tc_attend_eq_skeleton]
  unfold cc0_tc_attend_skel books inBlocks
  iintro ⟨⟨HB, HT, HS⟩, HW, ⟨H2, H3, H4, H5, H6, H7, H8, H9, H10⟩, H13⟩
  rw [wp_bind]
  iapply (wp_part1 c P tb i hi M2 w2 M3 w3 M4 w4 M5 w5 M6 w6 M7 w7 M8 w8 M9 w9 M10 w10 M13 w13 P.ko P.vo hfit hP) $$ [HB HT H2 H7]
  · unfold readRes
    isplitl [HB]; · iexact HB
    isplitl [HT]; · iexact HT
    isplitl [H2]; · iexact H2
    iexact H7
  rw [hP]
  unfold readRes part1Res
  iintro ⟨HI, HB, HT, H2, H7⟩
  dsimp only
  rw [wp_bind]
  iapply (wp_part2 c P i hi hv M2 w2 M3 w3 M4 w4 M5 w5 M6 w6 M7 w7 M8 w8 M9 w9 M10 w10 M13 w13 _ _ _ h8 _ _) $$ [HI HW H5 H3 H9 HS]
  · isplitl [HI]; · iexact HI
    isplitl [HW]; · iexact HW
    isplitr [HS]
    · isplitl [H5]; · iexact H5
      isplitl [H3]; · iexact H3
      iexact H9
    iexact HS
  unfold scored
  iintro ⟨HL, HW, ⟨H5, H3, H9⟩, HS⟩
  dsimp only
  rw [wp_bind]
  iapply (wp_part3 c P i hi hv M2 w2 M3 w3 M4 w4 M5 w5 M6 w6 M7 w7 M8 w8 M9 w9 M10 w10 M13 w13 _ h8 _ _) $$ [H8 H4 H6 HS]
  · isplitr [HS]
    · isplitl [H8]; · iexact H8
      isplitl [H4]; · iexact H4
      iexact H6
    iexact HS
  iintro %v115
  unfold weighted
  iintro ⟨⟨H8, H4, H6⟩, HS⟩
  dsimp only
  unfold landed
  icases HL with ⟨Hc, HF, HR, HH⟩
  iapply (two_loops c hv (outInv c P M10) _ _ (P.oAt 0) _ _ _ (fun k acc => out_step c P i hi hv M2 w2 M3 w3 M4 w4 M5 w5 M6 w6 M7 w7 M8 w8 M9 w9 M10 w10 M13 w13 _ k acc)) $$ [H10 HF HS]
  · unfold outInv
    isplitr; · ipureintro; rfl
    isplitl [H10]; · iexact H10
    isplitl [HF]; · iexact HF
    iexact HS
  iintro %acc HI
  unfold outInv
  icases HI with ⟨%hacc, H10, HF, %g, %hg, HS⟩
  subst hacc
  iapply (load_all3 c M13 X _) $$ H13
  iintro H13
  iapply (store_all3 c M13 X _ _) $$ H13
  iintro H13
  sl_step
  isplitl [HB HT HS Hc HF HR HH]
  · isplitl [HB Hc HF HR HH]
    · iapply (turn c P.ko P.vo tb P.t (nOf P.v) (nOf_le hv)) $$ [HB Hc HF HR HH]
      isplitr [HB]
      · unfold landed
        isplitl [Hc]; · iexact Hc
        isplitl [HF]; · iexact HF
        isplitl [HR]; · iexact HR
        iexact HH
      iexact HB
    isplitl [HT]; · iexact HT
    iexists g
    iexact HS
  isplitl [HW]; · iexact HW
  isplitr [H13]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  unfold PtIn.out
  iexact H13

end Run

end Cert.KernelIdeal.Hand

end
-- ==== Proof.KernelIdeal.Frame.lean ====
/-
  Hand-written, untrusted. The kernel's run: every grid point runs from what the one before left, so the program
  ends, its output array holds each point's output block, its arguments are unchanged and its semaphores are zero.
-/
module

public import proofs.«01_k».proof.Proof.KernelIdeal.Body
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (Pipeline.UD sig nD τ) ℕ

variable (m : (ℓ : Loc nD τ sig) → Buf (Elt F) ℓ)

/-! ## The proof data -/

/-- A buffer's contents at launch. -/
abbrev V (c : Dev nD) (b : Ref sig .tc) : Buf (Elt F) ((c : Thread nD τ).loc b) := m ((c : Thread nD τ).loc b)
/-- The table of totals as launched, its side condition empty. -/
def adm : (pcfg0 (F := F)).Adm := ⟨fun k => V m 0 (pre0.ref k), trivial⟩
abbrev cfgA : Pipeline.Cfg sig Λ₀ := cfg0 (adm m)
/-- The table, the gathered words. -/
abbrev tbV (c : Dev nD) : S128.Idx → Elt F .i32 := V m c main_arg0
abbrev koV (c : Dev nD) : S100352x128.Idx → Elt F .i32 := V m c main_arg10
abbrev voV (c : Dev nD) : S100352x128.Idx → Elt F .i32 := V m c main_arg11

/-- Window `w`'s block of its array as launched. -/
def iblk (c : Dev nD) (w : Fin 10) (t : Fin (cfgA m).N) : ((cfgA m).win w).block.Idx → Elt F ((cfgA m).win w).elt :=
  (((cfgA m).win w).blk t).view.read (Elt F) (V m c (Pipeline.arrRef spec0 w))

/-- The pair of a grid point. -/
def pairOf (t : Fin (cfgA m).N) : Fin 112 := ⟨t.val, Nat.lt_of_lt_of_eq t.isLt N_0⟩

/-- What a grid point is given. -/
def ptIn (c : Dev nD) (t : Fin (cfgA m).N) : PtIn F where
  q := iblk m c 0 t
  kn := iblk m c 1 t
  vn := iblk m c 2 t
  rk := iblk m c 3 t
  rv := iblk m c 4 t
  rks := iblk m c 5 t
  rvs := iblk m c 6 t
  ks := iblk m c 7 t
  vs := iblk m c 8 t
  ko := koV m c
  vo := voV m c
  v := totAt (tbV m c) (pairOf m t)
  t := pairOf m t

/-- Each window after a point: an input as found, the output the point's block. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (ptIn m c t).out
    | ⟨_ + 10, h⟩ => absurd h (Nat.not_lt.2 (Nat.le_add_left _ _))
  Φ t := iprop(books c (tbV m c) (koV m c) (voV m c) t.val ∗ ∃ r, prngReg c r)
  q _ := fullShare
  owed _ := 0

theorem A_eq (c : Dev nD) (w : Fin 10) : (dats m 0 c).A w = V m c (Pipeline.arrRef spec0 w) := by dsimp only [dats]
theorem before_0 (c : Dev nD) (t d) : (dats m 0 c).before 0 t d = (ptIn m c t).q :=
  ((dats m 0 c).before_in_eq_fetched 0 rfl (fun _ => rfl) (fun _ _ _ => rfl)
      (fun t => by rw [show (dats m 0 c).after 0 t = iblk m c 0 t from rfl]; unfold Dat.blockOf iblk; rw [A_eq]; try rfl) t d).trans
    (by unfold Dat.fetched Dat.blockOf ptIn iblk; rw [A_eq]; try rfl)
theorem before_1 (c : Dev nD) (t d) : (dats m 0 c).before 1 t d = (ptIn m c t).kn :=
  ((dats m 0 c).before_in_eq_fetched 1 rfl (fun _ => rfl) (fun _ _ _ => rfl)
      (fun t => by rw [show (dats m 0 c).after 1 t = iblk m c 1 t from rfl]; unfold Dat.blockOf iblk; rw [A_eq]; try rfl) t d).trans
    (by unfold Dat.fetched Dat.blockOf ptIn iblk; rw [A_eq]; try rfl)
theorem before_2 (c : Dev nD) (t d) : (dats m 0 c).before 2 t d = (ptIn m c t).vn :=
  ((dats m 0 c).before_in_eq_fetched 2 rfl (fun _ => rfl) (fun _ _ _ => rfl)
      (fun t => by rw [show (dats m 0 c).after 2 t = iblk m c 2 t from rfl]; unfold Dat.blockOf iblk; rw [A_eq]; try rfl) t d).trans
    (by unfold Dat.fetched Dat.blockOf ptIn iblk; rw [A_eq]; try rfl)
theorem before_3 (c : Dev nD) (t d) : (dats m 0 c).before 3 t d = (ptIn m c t).rk :=
  ((dats m 0 c).before_in_eq_fetched 3 rfl (fun _ => rfl) (fun _ _ _ => rfl)
      (fun t => by rw [show (dats m 0 c).after 3 t = iblk m c 3 t from rfl]; unfold Dat.blockOf iblk; rw [A_eq]; try rfl) t d).trans
    (by unfold Dat.fetched Dat.blockOf ptIn iblk; rw [A_eq]; try rfl)
theorem before_4 (c : Dev nD) (t d) : (dats m 0 c).before 4 t d = (ptIn m c t).rv :=
  ((dats m 0 c).before_in_eq_fetched 4 rfl (fun _ => rfl) (fun _ _ _ => rfl)
      (fun t => by rw [show (dats m 0 c).after 4 t = iblk m c 4 t from rfl]; unfold Dat.blockOf iblk; rw [A_eq]; try rfl) t d).trans
    (by unfold Dat.fetched Dat.blockOf ptIn iblk; rw [A_eq]; try rfl)
theorem before_5 (c : Dev nD) (t d) : (dats m 0 c).before 5 t d = (ptIn m c t).rks :=
  ((dats m 0 c).before_in_eq_fetched 5 rfl (fun _ => rfl) (fun _ _ _ => rfl)
      (fun t => by rw [show (dats m 0 c).after 5 t = iblk m c 5 t from rfl]; unfold Dat.blockOf iblk; rw [A_eq]; try rfl) t d).trans
    (by unfold Dat.fetched Dat.blockOf ptIn iblk; rw [A_eq]; try rfl)
theorem before_6 (c : Dev nD) (t d) : (dats m 0 c).before 6 t d = (ptIn m c t).rvs :=
  ((dats m 0 c).before_in_eq_fetched 6 rfl (fun _ => rfl) (fun _ _ _ => rfl)
      (fun t => by rw [show (dats m 0 c).after 6 t = iblk m c 6 t from rfl]; unfold Dat.blockOf iblk; rw [A_eq]; try rfl) t d).trans
    (by unfold Dat.fetched Dat.blockOf ptIn iblk; rw [A_eq]; try rfl)
theorem before_7 (c : Dev nD) (t d) : (dats m 0 c).before 7 t d = (ptIn m c t).ks :=
  ((dats m 0 c).before_in_eq_fetched 7 rfl (fun _ => rfl) (fun _ _ _ => rfl)
      (fun t => by rw [show (dats m 0 c).after 7 t = iblk m c 7 t from rfl]; unfold Dat.blockOf iblk; rw [A_eq]; try rfl) t d).trans
    (by unfold Dat.fetched Dat.blockOf ptIn iblk; rw [A_eq]; try rfl)
theorem before_8 (c : Dev nD) (t d) : (dats m 0 c).before 8 t d = (ptIn m c t).vs :=
  ((dats m 0 c).before_in_eq_fetched 8 rfl (fun _ => rfl) (fun _ _ _ => rfl)
      (fun t => by rw [show (dats m 0 c).after 8 t = iblk m c 8 t from rfl]; unfold Dat.blockOf iblk; rw [A_eq]; try rfl) t d).trans
    (by unfold Dat.fetched Dat.blockOf ptIn iblk; rw [A_eq]; try rfl)

/-- The body at a point, on its staging buffers. -/
abbrev st (w : Fin 10) (t : Fin (cfgA m).N) := ((cfgA m).win w).stage ((cfgA m).slots t w)

abbrev bodyAt (t : Fin (cfgA m).N) : Prog (TpuEff nD τ sig (Elt F) Λ₀ .tc) PUnit :=
  cc0_tc_attend (grid0.coords t) tabM (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    koArr (Memref.isWhole_whole _) voArr (Memref.isWhole_whole _)
    (spec0_9.stage ((cfgA m).slots t 9)) (hstage0_9 (((cfgA m).slots t 9).cast nbuf0_9))
    kBuf (Memref.isWhole_whole _) vBuf (Memref.isWhole_whole _) sBuf (Memref.isWhole_whole _) cc0_scratch3

theorem defs₀_row (t : Fin (cfgA m).N) : defs₀ (F := F) .tc (cfgA m).body ((cfgA m).bodyArgs t ((cfgA m).slots t)) = bodyAt m t := by
  unfold defs₀; rw [Defs.onTc_tc]

theorem coords_val (t : Fin (cfgA m).N) : ((grid0.coords t) 0).val = (pairOf m t).val := by
  exact (by decide : ∀ t : Fin grid0.N, ((grid0.coords t) 0).val = t.val) t

/-- What is held before a point's body, and after it. -/
def bodyPre (c : Dev nD) (t : Fin (cfgA m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d)))
def bodyPost (c : Dev nD) (t : Fin (cfgA m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t))

theorem sound_body (hfit : ∀ c, Fits (tbV m c)) (c : Dev nD) (t : Fin (cfgA m).N) :
    bodyPre m c t ⊢ wp frame (wpE (defs₀ (F := F)) Variants.none (c : Thread nD τ) none) Set.univ (bodyAt m t) (fun _ => bodyPost m c t) := by
  unfold bodyPre bodyPost bodyAt
  simp only [before_0, before_1, before_2, before_3, before_4, before_5, before_6, before_7, before_8]
  unfold Dat.owesAt Pipeline.owesWithin
  rw [show (dats m 0 c).owed t.castSucc = 0 from rfl, show (dats m 0 c).owed t.succ = 0 from rfl,
    show (dats m 0 c).Φ t.castSucc = iprop(books c (tbV m c) (koV m c) (voV m c) t.val ∗ ∃ r, prngReg c r) from rfl,
    show (dats m 0 c).Φ t.succ = iprop(books c (tbV m c) (koV m c) (voV m c) (t.val + 1) ∗ ∃ r, prngReg c r) from rfl]
  iintro ⟨⟨HB, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := (wp_point c (ptIn m c t) (tbV m c) (grid0.coords t) (coords_val m t)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    (spec0_9.stage ((cfgA m).slots t 9)) (hstage0_9 (((cfgA m).slots t 9).cast nbuf0_9))
    (hfit c) rfl ((dats m 0 c).before 9 t d9)) $$ [HB HW H0 H1 H2 H3 H4 H5 H6 H7 H8 H9]
  · unfold inBlocks
    isplitl [HB]; · iexact HB
    isplitl [HW]; · iexists W; iexact HW
    isplitr [H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9
  iapply (wp_wand frame (wpE (defs₀ (F := F)) Variants.none (c : Thread nD τ) none) Set.univ) $$ HP
  iintro %_
  unfold inBlocks
  iintro ⟨HB, ⟨%W', HW⟩, ⟨H0, H1, H2, H3, H4, H5, H6, H7, H8⟩, H9⟩
  isplitl [HB Hr]
  · isplitl [HB]; · iexact HB
    iexact Hr
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (hfit : ∀ c, Fits (tbV m c)) (c : Dev nD) : BodyObligation (dats m 0 c) defs₀ Variants.none () Set.univ := fun t => by
  rw [bigSep_W0, bigSep_W0, defs₀_row]
  exact triple_restated (sound_body m hfit c t) rfl .rfl fun _ => .rfl

end Cert.KernelIdeal.Hand

end
-- ==== Proof.KernelIdeal.Run.lean ====
/-
  Hand-written, untrusted. The launch: what the region hands the kernel makes up what is held before the first
  point, what is held after the last makes up what the region takes back, and the frame follows.
-/
module

public import proofs.«01_k».proof.Proof.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (Pipeline.UD sig nD τ) ℕ

variable (m : (ℓ : Loc nD τ sig) → Buf (Elt F) ℓ)

/-- The kernel's own semaphores, and the buffers it reads itself. -/
def osem0 : Fin 2 → SemLoc sig := ![SemLoc.dma (cell 0), SemLoc.dma (cell 1)]
theorem ownSemFacts0 : Pipeline.OwnSemFacts spec0 osem0 := by decide
def H0 : Finset (Ref sig .tc) := {main_arg10, main_arg11}
theorem H0_sub : H0 ⊆ Pipeline.restRefsP sig pre0 spec0 := by decide

theorem ownSems0_eq' (c : Dev nD) :
    (Pipeline.ownSems0 (Ix := Unit) (Name := ℕ) (U := Pipeline.UD sig nD τ) (Lvl := ℕ) (Val := Elt F) (τ := τ) osem0 c : sProp 𝕄)
      = iprop(cell0 c 0 ∗ cell0 c 1) := by
  rw [Pipeline.ownSems0_eq_of_list c osem0 [0, 1] (by decide) (by decide)]; rfl

theorem H0_eq (c : Dev nD) :
    (bigSep H0 (fun b => ((c : Thread nD τ).loc b) ↦{fullShare} V m c b) : sProp 𝕄)
      = iprop(((c : Thread nD τ).loc main_arg10 ↦{fullShare} koV m c) ∗ ((c : Thread nD τ).loc main_arg11 ↦{fullShare} voV m c)) := by
  rw [BI.bigSep_eq_bigSepL_of_eq [main_arg10, main_arg11] (by decide) (by decide)]; rfl

theorem table_eq (v : pre0.Contents (Elt F)) (c : Dev nD) :
    (Pipeline.prefHeld pre0 c (fun _ => fullShare.right) v : sProp 𝕄) = tPt c (v 0) := by
  unfold Pipeline.prefHeld
  rw [show (Finset.univ : Finset (Fin 1)) = {0} from by decide, bigSep_singleton]
  rfl

theorem hin (c : Dev nD) :
    iprop(Pipeline.ΦD osem0 spec0 H0 (V m) c ∗ Pipeline.ΦT pre0 (adm m).1 c) ⊢ (dats m 0 c).Φ 0 := by
  obtain rfl : c = 0 := Subsingleton.elim _ _
  rw [Pipeline.ΦD_eq, scopedRest0_eq, ownSems0_eq', H0_eq, homes_eq,
    show (dats m 0 0).Φ 0 = iprop(books 0 (tbV m 0) (koV m 0) (voV m 0) 0 ∗ ∃ r, prngReg 0 r) from rfl]
  unfold Pipeline.ΦT
  rw [table_eq, show (adm m).1 0 = tbV m 0 from rfl]
  unfold books between
  rw [dif_neg (by omega)]
  unfold idle
  iintro ⟨⟨⟨⟨%gk, HK⟩, ⟨%gv, HV⟩, HS⟩, Hr, ⟨Hc0, Hc1⟩, HH⟩, HT⟩
  ihave HF := (slots_split 0 gk gv) $$ [HK HV]
  · isplitl [HK]; · iexact HK
    iexact HV
  icases HF with ⟨HF0, HF1⟩
  isplitr [Hr]
  · isplitr [HT HS]
    · isplitl [HF0]; · iexact HF0
      isplitl [HF1]; · iexact HF1
      isplitl [Hc0]; · iexact Hc0
      isplitl [Hc1]; · iexact Hc1
      iexact HH
    isplitl [HT]; · iexact HT
    iexact HS
  iexact Hr

theorem hout (c : Dev nD) : (dats m 0 c).Φ (Fin.last (cfgA m).N) ⊢ Pipeline.ΦD osem0 spec0 H0 (V m) c := by
  rw [Pipeline.ΦD_eq, scopedRest0_eq, ownSems0_eq', H0_eq, homes_eq,
    show (dats m 0 c).Φ (Fin.last (cfgA m).N) = iprop(books c (tbV m c) (koV m c) (voV m c) grid0.N ∗ ∃ r, prngReg c r) from rfl, N_0]
  unfold books between
  rw [dif_neg (by omega)]
  unfold idle
  iintro ⟨⟨⟨HF0, HF1, Hc0, Hc1, HH⟩, HT, HS⟩, Hr⟩
  ihave HF := (slots_join c) $$ [HF0 HF1]
  · isplitl [HF0]; · iexact HF0
    iexact HF1
  icases HF with ⟨HK, HV⟩
  isplitl [HK HV HS]
  · isplitl [HK]; · iexact HK
    isplitl [HV]; · iexact HV
    iexact HS
  isplitl [Hr]; · iexact Hr
  isplitl [Hc0 Hc1]
  · isplitl [Hc0]; · iexact Hc0
    iexact Hc1
  iexact HH

/-- The launch's post: every staged array at its contents after the last point, every other buffer at what it was
    launched with, every semaphore at zero. -/
abbrev Ends (r : PUnit × MemSt nD τ sig (Elt F)) : Prop :=
  FramePost (Pipeline.pin pcfgs fun _ => adm m) (dats m) 0 (V m) r ∧ r.2.sem = fun _ => 0

set_option backward.isDefEq.respectTransparency.types false in
theorem run_main (ρ : Dev nD → PrngReg) (hfit : ∀ c, Fits (tbV m c)) :
    θ_run defs (onTc (main (F := F))) ⟨m, fun _ => 0, ρ⟩ (Ends m) :=
  Pipeline.θ_run_frameP_dma (Q' := _) pcfgs (fun _ => adm m) (dats m) (0 : Fin 1) launch0 osem0 defs₀ Variants.none ownSemFacts0 H0 H0_sub m ρ main
    (hbody := fun c => (body_obligation m hfit c).loose) (hshare := fun c => (dats m 0 c).share_full fun _ => rfl)
    (howed := fun _ _ => rfl) (V := V m)
    (hmain := Pipeline.hmainP_region pcfgs 0 defs₀ Variants.none m main (fun c => (main_chain c).trans rfl)) (hA := A_eq m)
    (hpf := fun c k => by obtain rfl : c = 0 := Subsingleton.elim _ _; rfl)
    (hin := hin m) (hout := hout m)

/-- A device's arguments as launched. -/
def ArgsKept (mem : (ℓ : Loc nD τ sig) → Buf (Elt F) ℓ) (c : Dev nD) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)
    ∧ mem ((c : Thread nD τ).loc main_arg7) = m ((c : Thread nD τ).loc main_arg7)
    ∧ mem ((c : Thread nD τ).loc main_arg8) = m ((c : Thread nD τ).loc main_arg8)
    ∧ mem ((c : Thread nD τ).loc main_arg9) = m ((c : Thread nD τ).loc main_arg9)
    ∧ mem ((c : Thread nD τ).loc main_arg10) = m ((c : Thread nD τ).loc main_arg10)
    ∧ mem ((c : Thread nD τ).loc main_arg11) = m ((c : Thread nD τ).loc main_arg11)

/-- The output array after the last point. -/
def outArr (c : Dev nD) : Buf (Elt F) ((c : Thread nD τ).loc main_v0) := (dats m 0 c).arrAt 9 (cfgA m).N

set_option backward.isDefEq.respectTransparency.types false in
theorem kept_of {r : PUnit × MemSt nD τ sig (Elt F)} (h : Ends m r) (c : Dev nD) : ArgsKept m r.2.mem c :=
  have hw (w : Fin 10) (hin : (spec0 w).isOut = false) := ((h.1 c).1 w).trans (((dats m 0 c).arrAt_in w hin _).trans (A_eq m c w))
  have hr (b : Ref sig .tc) (hs : b.isScoped = false) (ha : ∀ w, (spec0 w).arr.view.ref ≠ b) := (h.1 c).2 b (Pipeline.mem_restRefs_of b hs ha)
  ⟨hr main_arg0 (by decide) (by decide), hw 0 rfl, hw 1 rfl, hw 2 rfl, hw 3 rfl, hw 4 rfl, hw 5 rfl, hw 6 rfl, hw 7 rfl, hw 8 rfl,
    hr main_arg10 (by decide) (by decide), hr main_arg11 (by decide) (by decide)⟩

/-- The frame: the arguments are as launched and every semaphore is at zero. -/
theorem frame_run (ρ : Dev nD → PrngReg) (hfit : ∀ c, Fits (tbV m c)) :
    θ_run defs (onTc (main (F := F))) ⟨m, fun _ => 0, ρ⟩ (fun r => (∀ c : Dev nD, ArgsKept m r.2.mem c) ∧ r.2.sem = fun _ => 0) :=
  (θ_run defs _ _).mono (fun r h => ⟨fun c => kept_of m h c, h.2⟩) (run_main m ρ hfit)

/-- The output beside the arguments. -/
theorem value_run (ρ : Dev nD → PrngReg) (hfit : ∀ c, Fits (tbV m c)) :
    θ_run defs (onTc (main (F := F))) ⟨m, fun _ => 0, ρ⟩ (fun r => ∀ c : Dev nD, r.2.mem ((c : Thread nD τ).loc main_v0) = outArr m c ∧ ArgsKept m r.2.mem c) :=
  (θ_run defs _ _).mono (fun r h c => ⟨(h.1 c).1 9, kept_of m h c⟩) (run_main m ρ hfit)

end Cert.KernelIdeal.Hand

end
-- ==== Proof.Attend.lean ====
/-
  Hand-written, untrusted. The attention of one pair over the extended reals, written once: the scores, their
  maximum, the weights, their total, the weighted sum. And the same sum taken 256 tokens at a time, which is how a
  grid point takes it, shown equal to it.
-/
module

public import Idealize.ShloMosaic.PureOps.Ideal.Laws

@[expose] public section

noncomputable section

namespace Cert.Attend

open Idealize.ShloMosaic
open scoped BigOperators

/-- The byte `k` of a word, read as a signed code. -/
def code (w : BitVec 32) (k : ℕ) : EReal := (((w.extractLsb' (8 * k) 8).toInt : ℝ) : EReal)

/-- What one pair attends to: the number of its gathered tokens, the queries of its eight heads, the new token's key and
    value, the recent tokens' and the gathered tokens' codes and scales. -/
structure Pair where
  tot : BitVec 32
  q : Fin 8 → Fin 128 → EReal
  kn : Fin 128 → EReal
  vn : Fin 128 → EReal
  rk : Fin 256 → Fin 128 → EReal
  rv : Fin 256 → Fin 128 → EReal
  rks : Fin 256 → EReal
  rvs : Fin 256 → EReal
  ks : ℕ → EReal
  vs : ℕ → EReal
  kc : ℕ → Fin 128 → EReal
  vc : ℕ → Fin 128 → EReal

/-- The scale of every score. -/
def scale : EReal := Ideal.ofBits .f32 0x3DB504F3#32

theorem negInf : Ideal.ofBits .f32 0xFF800000#32 = ⊥ := by simp [Ideal.ofBits, Ideal.ieee]

namespace Pair

variable (P : Pair) (r : Fin 8)

/-- Token `j` is one of the gathered ones. -/
def live (j : ℕ) : Prop := (BitVec.ofNat 32 j).slt P.tot = true
instance (j : ℕ) : Decidable (P.live j) := inferInstanceAs (Decidable (_ = _))

/-- The scores: of a gathered token, the least value past the total; of a recent token; of the new one. -/
def sSel (j : ℕ) : EReal := if P.live j then (∑ d, P.q r d * P.kc j d) * P.ks j * scale else ⊥
def sRec (l : Fin 256) : EReal := (∑ d, P.q r d * P.rk l d) * P.rks l * scale
def sNew : EReal := (∑ d, P.q r d * P.kn d) * scale
/-- Their maximum, a score's weight, the total weight. -/
def top : EReal := max (max (Finset.univ.sup fun j : Fin 3584 => P.sSel r j) (Finset.univ.sup fun l => P.sRec r l)) (P.sNew r)
def w (x : EReal) : EReal := Ideal.exp (x - P.top r)
def total : EReal := ∑ j : Fin 3584, P.w r (P.sSel r j) + ∑ l, P.w r (P.sRec r l) + P.w r (P.sNew r)
/-- A gathered token's share, zero past the total. -/
def pSel (j : ℕ) : EReal := if P.live j then Ideal.div (P.w r (P.sSel r j)) (P.total r) else 0
/-- The attention's output. -/
def out (d : Fin 128) : EReal :=
  ∑ j : Fin 3584, P.pSel r j * P.vs j * P.vc j d + ∑ l, Ideal.div (P.w r (P.sRec r l)) (P.total r) * P.rvs l * P.rv l d
    + Ideal.div (P.w r (P.sNew r)) (P.total r) * P.vn d

/-! ## 256 tokens at a time -/

/-- The running maximum of a lane, the running sum of its weights, the running weighted sum, over the first blocks. -/
def mxB : ℕ → Fin 256 → EReal
  | 0, l => P.sRec r l
  | k + 1, l => max (mxB k l) (P.sSel r (256 * k + l.val))
def denB : ℕ → Fin 256 → EReal
  | 0, l => P.w r (P.sRec r l)
  | k + 1, l => denB k l + P.w r (P.sSel r (256 * k + l.val))
def oB (d : Fin 128) : ℕ → EReal
  | 0 => ∑ l, Ideal.div (P.w r (P.sRec r l)) (P.total r) * P.rvs l * P.rv l d
  | k + 1 => oB d k + ∑ l : Fin 256, (if P.live (256 * k + l.val) then
      Ideal.div (P.w r (P.sSel r (256 * k + l.val))) (P.total r) * P.vs (256 * k + l.val) else 0) * P.vc (256 * k + l.val) d

theorem mxB_le (x : EReal) (l : Fin 256) : ∀ n, P.mxB r n l ≤ x ↔ P.sRec r l ≤ x ∧ ∀ k < n, P.sSel r (256 * k + l.val) ≤ x
  | 0 => by simp [mxB]
  | n + 1 => by
    rw [mxB, max_le_iff, mxB_le x l n]
    constructor
    · rintro ⟨⟨h, hk⟩, hn⟩
      refine ⟨h, fun k hk' => ?_⟩
      rcases Nat.lt_succ_iff_lt_or_eq.1 hk' with h' | rfl
      · exact hk k h'
      · exact hn
    · rintro ⟨h, hk⟩
      exact ⟨⟨h, fun k hk' => hk k (Nat.lt_succ_of_lt hk')⟩, hk n (Nat.lt_succ_self n)⟩

theorem sSel_dead {j : ℕ} (h : ¬ P.live j) : P.sSel r j = ⊥ := if_neg h

/-- A score past the total weighs nothing. -/
theorem w_bot : P.w r ⊥ = 0 := by
  unfold w
  rw [sub_eq_add_neg, EReal.bot_add]
  rfl

/-- The maximum of the lanes' maxima is the maximum. -/
theorem top_blocks {n : ℕ} (hn : n ≤ 14) (hd : ∀ j < 3584, 256 * n ≤ j → ¬ P.live j) :
    max (Finset.univ.sup fun l => P.mxB r n l) (P.sNew r) = P.top r := by
  unfold top
  congr 1
  refine eq_of_forall_ge_iff fun x => ?_
  rw [max_le_iff, Finset.sup_le_iff, Finset.sup_le_iff, Finset.sup_le_iff]
  simp only [mxB_le, Finset.mem_univ, true_implies]
  constructor
  · refine fun h => ⟨fun j => ?_, fun l => (h l).1⟩
    by_cases hj : 256 * n ≤ j.val
    · rw [P.sSel_dead r (hd j j.isLt hj)]; exact bot_le
    · have := (h ⟨j.val % 256, Nat.mod_lt _ (by decide)⟩).2 (j.val / 256) (by omega)
      rwa [show 256 * (j.val / 256) + (⟨j.val % 256, Nat.mod_lt _ (by decide)⟩ : Fin 256).val = j.val from Nat.div_add_mod _ _] at this
  · refine fun h l => ⟨h.2 l, fun k hk => h.1 ⟨256 * k + l.val, ?_⟩⟩
    have := l.isLt; omega

/-- A sum over the tokens, zero from block `n` on, is the sum over the first `n` blocks of 256. -/
theorem sum_blocks (f : ℕ → EReal) {n : ℕ} (hn : n ≤ 14) (hf : ∀ j < 3584, 256 * n ≤ j → f j = 0) :
    ∑ j : Fin 3584, f j = ∑ k ∈ Finset.range n, ∑ l : Fin 256, f (256 * k + l.val) := by
  rw [Fin.sum_univ_eq_sum_range f 3584]
  have h1 : ∑ j ∈ Finset.range 3584, f j = ∑ j ∈ Finset.range (256 * n), f j :=
    (Finset.sum_subset (Finset.range_subset_range.2 (by omega)) fun j h3 hj => hf j (Finset.mem_range.1 h3) (by simpa using hj)).symm
  rw [h1]
  clear h1 hn hf
  induction n with
  | zero => simp
  | succ n ih =>
    rw [Nat.mul_succ, Finset.sum_range_add, ih, Finset.sum_range_succ (n := n)]
    exact congrArg _ (Fin.sum_univ_eq_sum_range (fun l => f (256 * n + l)) 256).symm

theorem denB_eq (l : Fin 256) : ∀ n, P.denB r n l = P.w r (P.sRec r l) + ∑ k ∈ Finset.range n, P.w r (P.sSel r (256 * k + l.val))
  | 0 => by simp [denB]
  | n + 1 => by rw [denB, denB_eq l n, Finset.sum_range_succ, add_assoc]

/-- The lanes' totals add up to the total. -/
theorem total_blocks {n : ℕ} (hn : n ≤ 14) (hd : ∀ j < 3584, 256 * n ≤ j → ¬ P.live j) :
    ∑ l, P.denB r n l + P.w r (P.sNew r) = P.total r := by
  unfold total
  congr 1
  rw [sum_blocks (fun j => P.w r (P.sSel r j)) hn fun j h3 hj => by rw [P.sSel_dead r (hd j h3 hj), w_bot]]
  simp only [denB_eq]
  rw [Finset.sum_add_distrib, Finset.sum_comm, add_comm]

theorem oB_eq (d : Fin 128) : ∀ n, P.oB r d n = P.oB r d 0
    + ∑ k ∈ Finset.range n, ∑ l : Fin 256, P.pSel r (256 * k + l.val) * P.vs (256 * k + l.val) * P.vc (256 * k + l.val) d
  | 0 => by simp
  | n + 1 => by
    rw [Finset.sum_range_succ, ← add_assoc, ← oB_eq d n, oB]
    congr 1
    refine Finset.sum_congr rfl fun l _ => ?_
    unfold pSel
    split
    · rfl
    · rw [zero_mul, zero_mul, zero_mul]

/-- The blocks' weighted sums add up to the output. -/
theorem out_blocks {n : ℕ} (hn : n ≤ 14) (hd : ∀ j < 3584, 256 * n ≤ j → ¬ P.live j) (d : Fin 128) :
    P.oB r d n + Ideal.div (P.w r (P.sNew r)) (P.total r) * P.vn d = P.out r d := by
  unfold out
  congr 1
  rw [sum_blocks (fun j => P.pSel r j * P.vs j * P.vc j d) hn fun j h3 hj => by
    rw [show P.pSel r j = 0 from if_neg (hd j h3 hj), zero_mul, zero_mul], oB_eq, add_comm]
  rfl

end Pair

end Cert.Attend

end
-- ==== Proof.Codes.lean ====
/-
  Hand-written, untrusted. The four codes of a word: a byte as the kernel reads it, by viewing the words as bytes, and as
  the reference reads it, by a shift, a mask and a change of sign.
-/
module

public import proofs.«01_k».proof.Proof.Attend
public import Idealize.ShloMosaic.Lib.BitcastFour

@[expose] public section

noncomputable section

namespace Cert.Attend

open Idealize.ShloMosaic Idealize.ShloMosaic.ValueIdx

/-- Words read as bytes: byte row `a` of a lane is byte `a % 4` of word row `a / 4`. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  have hrow : (⟨2, ![R, n]⟩ : Shape).row (ix2 a l) = a.val := rfl
  rw [bitcast_getLsbD x h _ i hi (by decide), BitVec.getLsbD_extractLsb']
  have e2 : ((⟨2, ![R, n]⟩ : Shape).row (ix2 a l) * 8 + i) % 32 = 8 * (a.val % 4) + i := by rw [hrow]; omega
  rw [e2]
  simp only [hi, decide_true, Bool.true_and]
  congr 2
  funext c
  match c with
  | ⟨0, _⟩ => exact Fin.ext ((h.srcIdx_row _ _ _ ⟨0, Nat.zero_lt_two⟩ rfl).trans (by rw [hp, hrow]; omega))
  | ⟨1, _⟩ => exact Fin.ext (h.srcIdx_other _ _ _ ⟨1, Nat.one_lt_two⟩ (by show ¬ 1 + 2 = 2; omega))

/-- A byte with zeros above, its sign bit flipped and 128 taken away, is the byte's signed value. -/
theorem sign_byte : ∀ b : BitVec 8, (IntOp.subi (IntOp.xori (b.setWidth 32) 128#32) 128#32).toInt = b.toInt := by decide +kernel

/-- A word shifted right by whole bytes and masked is its byte with zeros above. -/
theorem mask_byte (w : BitVec 32) (k : Fin 4) :
    IntOp.andi (IntOp.shrsi .host w (IntOp.muli 8#32 (BitVec.ofNat 32 k.val))) 255#32 = (w.extractLsb' (8 * k.val) 8).setWidth 32 := by
  apply BitVec.eq_of_getLsbD_eq
  intro i hi
  have h255 : (255#32 : BitVec 32).getLsbD i = decide (i < 8) := by
    have : i < 32 := hi
    interval_cases i <;> rfl
  have hs : IntOp.shrsi .host w (IntOp.muli 8#32 (BitVec.ofNat 32 k.val)) = w.sshiftRight (8 * k.val) := by
    match k with
    | ⟨0, _⟩ => rfl
    | ⟨1, _⟩ => rfl
    | ⟨2, _⟩ => rfl
    | ⟨3, _⟩ => rfl
  rw [hs]
  simp only [IntOp.andi, BitVec.getLsbD_and, BitVec.getLsbD_setWidth, h255, BitVec.getLsbD_extractLsb', BitVec.getLsbD_sshiftRight]
  have hk := k.isLt
  by_cases h : i < 8
  · simp [h, hi, show 8 * k.val + i < 32 by omega, show ¬ 32 ≤ i by omega]
  · simp [h]

/-- So the reference's decoding is the byte's code. -/
theorem code_ref (w : BitVec 32) (k : Fin 4) :
    ((((IntOp.subi (IntOp.xori (IntOp.andi (IntOp.shrsi .host w (IntOp.muli 8#32 (BitVec.ofNat 32 k.val))) 255#32) 128#32) 128#32).toInt : ℝ)) : EReal)
      = code w k.val := by
  rw [mask_byte, sign_byte]
  rfl

end Cert.Attend

end
-- ==== Proof.Layouts.lean ====
/-
  Hand-written, untrusted. The few layout steps of the kernel read at an index, and a fold of the maximum as a supremum.
-/
module

public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

namespace Cert.Attend

open Idealize.ShloMosaic Idealize.ShloMosaic.ValueIdx

/-- A column spread over a matrix. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row with two leading unit axes, one dropped; a matrix with two, both dropped. -/
theorem shapeCast_11b_1b_apply {α : Type} {b : ℕ} (x : (⟨3, ![1, 1, b]⟩ : Shape).Idx → α) (h : (⟨3, ![1, 1, b]⟩ : Shape).ShapeCasts ⟨2, ![1, b]⟩)
    (u : Fin 1) (j : Fin b) : shapeCast ⟨2, ![1, b]⟩ x h (ix2 u j) = x (ix3 (0 : Fin 1) (0 : Fin 1) j) :=
  shapeCast_apply x h _ _ (by
    have hu : u.val = 0 := by omega
    rw [Shape.rowMajor_val_three, Shape.rowMajor_val_two]
    show (0 * 1 + 0) * b + j.val = u.val * b + j.val
    rw [hu])
theorem shapeCast_11ab_ab_apply {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [show (0 * 1 + 0) * a + i.val = i.val by omega])

/-- Two rows of 128 side by side. -/
theorem concat_rows {α : Type} (x y : (⟨2, ![1, 128]⟩ : Shape).Idx → α)
    (h : Shape.Concatenates [⟨2, ![1, 128]⟩, ⟨2, ![1, 128]⟩] ⟨2, ![1, 256]⟩ 1) (l : Fin 256) :
    concatenate ⟨2, ![1, 256]⟩ 1 [⟨⟨2, ![1, 128]⟩, x⟩, ⟨⟨2, ![1, 128]⟩, y⟩] h (ix2 (0 : Fin 1) l)
      = (if l.val < 128 then x else y) (ix2 (0 : Fin 1) (⟨l.val % 128, Nat.mod_lt _ (by decide)⟩ : Fin 128)) := by
  have hl := l.isLt
  split
  · rename_i hlt
    refine concatenate_pair_apply_left 1 x y h _ rfl _ fun b => ?_
    match b with
    | ⟨0, _⟩ => rfl
    | ⟨1, _⟩ => show l.val % 128 = l.val; omega
  · rename_i hge
    refine concatenate_pair_apply_right 1 x y h _ rfl rfl _ (fun b hb => ?_) ?_
    · match b with
      | ⟨0, _⟩ => rfl
      | ⟨1, _⟩ => exact absurd rfl hb
    · show l.val % 128 + 128 = l.val; omega

/-- A fold of the maximum from the least value is the supremum. -/
theorem fold_max_bot {ι : Type} (s : Finset ι) (f : ι → EReal) : s.fold max ⊥ f = s.sup f := rfl

end Cert.Attend

end
-- ==== Proof.KernelIdeal.Scores.lean ====
/-
  Hand-written, untrusted. A grid point at the extended reals: its pair, and each of its values up to the weights read at an
  index, against that pair's scores (Attend.lean).
-/
module

public import proofs.«01_k».proof.Proof.KernelIdeal.Values
public import proofs.«01_k».proof.Proof.Codes
public import proofs.«01_k».proof.Proof.Layouts
public import Idealize.ShloMosaic.Lib.MatmulPlain

@[expose] public section

set_option maxRecDepth 16384

noncomputable section

namespace Cert.KernelIdeal.Hand

open Cert.KernelIdeal Cert.KernelIdeal.Gen Cert.Attend
open Idealize.ShloMosaic Idealize.ShloMosaic.ValueIdx

/-- Coordinates taken modulo their extents. -/
abbrev par2 (t : ℕ) : Fin 2 := ⟨t % 2, Nat.mod_lt _ (by decide)⟩
abbrev lane (j : ℕ) : Fin 128 := ⟨j % 128, Nat.mod_lt _ (by decide)⟩

namespace PtIn

variable (P : PtIn Ideal)

/-- The pair a grid point attends for. -/
def pair : Pair where
  tot := P.v
  q r d := P.q (ix3 (0 : Fin 1) r d)
  kn d := P.kn (ix4 (0 : Fin 1) (0 : Fin 1) (par2 P.t.val) d)
  vn d := P.vn (ix4 (0 : Fin 1) (0 : Fin 1) (par2 P.t.val) d)
  rk l d := P.rk (ix3 (0 : Fin 1) l d)
  rv l d := P.rv (ix3 (0 : Fin 1) l d)
  rks l := P.rks (ix3 (0 : Fin 1) (par2 P.t.val) l)
  rvs l := P.rvs (ix3 (0 : Fin 1) (par2 P.t.val) l)
  ks j := P.ks (ix2 (⟨j / 128 % 32, Nat.mod_lt _ (by decide)⟩ : Fin 32) (lane j))
  vs j := P.vs (ix2 (⟨j / 128 % 32, Nat.mod_lt _ (by decide)⟩ : Fin 32) (lane j))
  kc j d := code (P.ko (ix2 (⟨(896 * P.t.val + j / 4) % 100352, Nat.mod_lt _ (by decide)⟩ : Fin 100352) d)) (j % 4)
  vc j d := code (P.vo (ix2 (⟨(896 * P.t.val + j / 4) % 100352, Nat.mod_lt _ (by decide)⟩ : Fin 100352) d)) (j % 4)

end PtIn

/-- The codes of a block of rows. -/
theorem rows_code (ko : S100352x128.Idx → Elt Ideal .i32) (p : Fin 112) (k : ℕ) (l : Fin 256) (d : Fin 128) :
    (sitofp (F := Ideal) .bf16 (bitcast S256x128 8 (shapeCast S64x128 (rowsOf (F := Ideal) ko p k) shapeCasts_S1x64x128_S64x128) bitcasts_S64x128_w32_S256x128_w8) : FVec Ideal S256x128 .bf16) (ix2 l d)
      = code (ko (ix2 (⟨(896 * p.val + (256 * k + l.val) / 4) % 100352, Nat.mod_lt _ (by decide)⟩ : Fin 100352) d)) ((256 * k + l.val) % 4) := by
  have hl := l.isLt
  show (((bitcast S256x128 8 (shapeCast S64x128 (rowsOf (F := Ideal) ko p k) shapeCasts_S1x64x128_S64x128) bitcasts_S64x128_w32_S256x128_w8 (ix2 l d)).toInt : ℝ) : EReal) = _
  rw [bitcast_32_8_ix2 _ bitcasts_S64x128_w32_S256x128_w8 l d (⟨l.val / 4, by omega⟩ : Fin 64) rfl, shapeCast_1ab_ab_apply]
  have e : (256 * k + l.val) % 4 = l.val % 4 := by omega
  have e2 : 896 * p.val + (256 * k + l.val) / 4 = 896 * p.val + 64 * k + l.val / 4 := by omega
  unfold code rowsOf
  simp only [e, e2]

/-- The scales of a block of rows. -/
theorem rows_scale (X : S32x128.Idx → Elt Ideal .f32) {k : ℕ} (hk : k < 14) (l : Fin 256) :
    concatenate S1x256 1 [⟨S1x128, scaleRow (F := Ideal) X (2 * k)⟩, ⟨S1x128, scaleRow (F := Ideal) X (2 * k + 1)⟩] concatenates_S1x128_S1x128_S1x256_d1 (ix2 (0 : Fin 1) l)
      = X (ix2 (⟨(256 * k + l.val) / 128 % 32, Nat.mod_lt _ (by decide)⟩ : Fin 32) (lane (256 * k + l.val))) := by
  have hl := l.isLt
  rw [concat_rows]
  split
  · refine congrArg X (congrArg₂ ix2 (Fin.ext ?_) (Fin.ext ?_))
    · show 2 * k % 32 = (256 * k + l.val) / 128 % 32; omega
    · show l.val % 128 = (256 * k + l.val) % 128; omega
  · refine congrArg X (congrArg₂ ix2 (Fin.ext ?_) (Fin.ext ?_))
    · show (2 * k + 1) % 32 = (256 * k + l.val) / 128 % 32; omega
    · show l.val % 128 = (256 * k + l.val) % 128; omega

/-- The mask word of a token is its number. -/
theorem mask_word (k : ℕ) (l : ℕ) : IntOp.addi (BitVec.ofNat 32 l) (Scalar.muli (Scf.iv 0#32 1#32 k) 256#32) = BitVec.ofNat 32 (256 * k + l) := by
  rw [iv_eq]
  apply BitVec.eq_of_toNat_eq
  simp only [Scalar.muli, IntOp.muli, IntOp.addi, BitVec.toNat_add, BitVec.toNat_mul, BitVec.toNat_ofNat]
  omega

/-- The mask of a block at a token: whether the total exceeds its number. -/
theorem mask_apply (v : BitVec 32) (k : ℕ) (r : Fin 8) (l : Fin 256) :
    cmpi .slt (addi (iota .tc S8x256 32 [1] iota_S8x256_d1_w32) (broadcast S8x256 (Scalar.muli (Scf.iv 0#32 1#32 k) 256#32))) (broadcast S8x256 v) (ix2 r l)
      = BitVec.ofBool ((BitVec.ofNat 32 (256 * k + l.val)).slt v) := by
  show IntOp.cmpi .slt (IntOp.addi (iota .tc S8x256 32 [1] iota_S8x256_d1_w32 (ix2 r l)) _) v = _
  rw [iota_single_apply .tc S8x256 32 1 iota_S8x256_d1_w32 (ix2 r l)]
  rw [show (BitVec.ofNat 32 ((ix2 r l : S8x256.Idx) 1).val) = BitVec.ofNat 32 l.val from rfl]
  rw [show (broadcast S8x256 (Scalar.muli (Scf.iv 0#32 1#32 k) 256#32) : IVec S8x256 32) (ix2 r l) = Scalar.muli (Scf.iv 0#32 1#32 k) 256#32 from rfl, mask_word]
  rfl

/-- A choice by such a mask. -/
theorem select_ofBool {α : Type} (b : Bool) (x y : α) : Scalar.select (BitVec.ofBool b) x y = if b = true then x else y := by
  cases b <;> rfl

/-- The dot of two rows, and a product of matrices, at the extended reals. -/
theorem dotT (a : FVec Ideal S8x128 .bf16) (b : FVec Ideal S256x128 .bf16) (r : Fin 8) (l : Fin 256) :
    matmul dot_S8x128_S256x128_S8x256_1_1_0_0_n_n none a b (constant S8x256 .f32 0x00000000#32) (ix2 r l) = ∑ d : Fin 128, a (ix2 r d) * b (ix2 l d) := by
  refine (Ideal.matmul_transposedRhs_apply none a b (constant S8x256 .f32 0x00000000#32) r l).trans ?_
  show Ideal.ofBits .f32 0x00000000#32 + _ = _
  rw [Ideal.ofBits_zero_f32, zero_add]
theorem dotP (a : FVec Ideal S8x256 .bf16) (b : FVec Ideal S256x128 .bf16) (r : Fin 8) (d : Fin 128) :
    matmul dot_S8x256_S256x128_S8x128_1_0_0_1_n_n none a b (constant S8x128 .f32 0x00000000#32) (ix2 r d) = ∑ l : Fin 256, a (ix2 r l) * b (ix2 l d) := by
  refine (Ideal.matmul_plain_apply none a b (constant S8x128 .f32 0x00000000#32) r d).trans ?_
  show Ideal.ofBits .f32 0x00000000#32 + _ = _
  rw [Ideal.ofBits_zero_f32, zero_add]

/-- Row sums and row maxima. -/
theorem row_sum {n : ℕ} (x : FVec Ideal ⟨2, ![8, n]⟩ .f32) (h : (⟨2, ![8, n]⟩ : Shape).Reduces [1] S8) (hφ) (hacc) (r : Fin 8) :
    multiReduction .add [1] S8 x 0x00000000#32 h hφ hacc (ix1 r) = ∑ l : Fin n, x (ix2 r l) := by
  rw [Ideal.multiReduction_add_single]
  refine Finset.sum_congr rfl fun l _ => congrArg x (funext fun a => ?_)
  match a with
  | ⟨0, _⟩ => rfl
  | ⟨1, _⟩ => rfl
theorem row_max {n : ℕ} (x : FVec Ideal ⟨2, ![8, n]⟩ .f32) (h : (⟨2, ![8, n]⟩ : Shape).Reduces [1] S8) (hφ) (hacc) (r : Fin 8) :
    multiReduction .maximumf [1] S8 x 0xFF800000#32 h hφ hacc (ix1 r) = Finset.univ.sup fun l : Fin n => x (ix2 r l) := by
  rw [Ideal.multiReduction_maximumf_single]
  rw [show (FloatOps.ofBits (F := Ideal) .f32 0xFF800000#32) = (⊥ : EReal) from negInf]
  refine (fold_max_bot _ _).trans (congrArg _ (funext fun l => congrArg x (funext fun a => ?_)))
  match a with
  | ⟨0, _⟩ => rfl
  | ⟨1, _⟩ => rfl

end Cert.KernelIdeal.Hand

end
-- ==== Proof.KernelIdeal.Output.lean ====
/-
  Hand-written, untrusted. A grid point's output block at the extended reals is its pair's attention.
-/
module

public import proofs.«01_k».proof.Proof.KernelIdeal.Scores

@[expose] public section

set_option maxRecDepth 16384

noncomputable section

namespace Cert.KernelIdeal.Hand

open Cert.KernelIdeal Cert.KernelIdeal.Gen Cert.Attend
open Idealize.ShloMosaic Idealize.ShloMosaic.ValueIdx

/-- Which of a pair's two rows a point takes. -/
theorem par_eq (t : Fin 112) : Scalar.cmpi .eq (Scalar.remsi (BitVec.ofNat 32 t.val) 2#32) 0#32 = BitVec.ofBool (decide (t.val % 2 = 0)) := by
  revert t; decide +kernel

/-- The row a point picks of two. -/
theorem pick_row (t : Fin 112) (x : FVec Ideal S1x1x2x128 .bf16) (d : Fin 128) :
    (Scalar.select (Scalar.cmpi .eq (Scalar.remsi (BitVec.ofNat 32 t.val) 2#32) 0#32)
      (extractStridedSlice S1x128 ![0, 0] (extf .f32 (shapeCast S2x128 x shapeCasts_S1x1x2x128_S2x128) bitsLt_bf16_f32 : FVec Ideal S2x128 .f32) slices_S2x128_o0_0_S1x128)
      (extractStridedSlice S1x128 ![1, 0] (extf .f32 (shapeCast S2x128 x shapeCasts_S1x1x2x128_S2x128) bitsLt_bf16_f32 : FVec Ideal S2x128 .f32) slices_S2x128_o1_0_S1x128)
      : FVec Ideal S1x128 .f32) (ix2 (0 : Fin 1) d) = x (ix4 (0 : Fin 1) (0 : Fin 1) (par2 t.val) d) := by
  rw [par_eq, select_ofBool]
  have h2 := Nat.mod_lt t.val (show 0 < 2 by decide)
  split
  · rename_i h
    have h := of_decide_eq_true h
    rw [slice2_axis0_apply 0 _ _ (0 : Fin 1) d (0 : Fin 2) rfl]
    refine (shapeCast_11ab_ab_apply x shapeCasts_S1x1x2x128_S2x128 (0 : Fin 2) d).trans (congrArg x ?_)
    rw [show par2 t.val = (0 : Fin 2) from Fin.ext h]
  · rename_i h
    have h : ¬ t.val % 2 = 0 := fun e => h (decide_eq_true e)
    rw [slice2_axis0_apply 1 _ _ (0 : Fin 1) d (1 : Fin 2) rfl]
    refine (shapeCast_11ab_ab_apply x shapeCasts_S1x1x2x128_S2x128 (1 : Fin 2) d).trans (congrArg x ?_)
    rw [show par2 t.val = (1 : Fin 2) from Fin.ext (show t.val % 2 = 1 by omega)]

namespace PtIn

variable (P : PtIn Ideal) (r : Fin 8)

theorem qv_apply (d : Fin 128) : P.qv (ix2 r d) = P.pair.q r d := by
  unfold qv k0_pay4
  exact shapeCast_1ab_ab_apply P.q _ r d

theorem gRow_apply (X : S1x2x256.Idx → Elt Ideal .f32) (l : Fin 256) :
    k0_pay5 (gRow (F := Ideal) X P.t.val) (ix2 (0 : Fin 1) l) = X (ix3 (0 : Fin 1) (par2 P.t.val) l) := by
  unfold k0_pay5
  exact shapeCast_11b_1b_apply _ _ 0 l

theorem sRec_apply (l : Fin 256) : P.sRec (ix2 r l) = P.pair.sRec r l := by
  unfold sRec k0_pay6 Pair.sRec
  show matmul dot_S8x128_S256x128_S8x256_1_1_0_0_n_n none P.qv _ _ (ix2 r l) * broadcastTo S8x256 _ _ (ix2 r l) * _ = _
  rw [dotT, broadcastTo_1b_ab_apply, gRow_apply]
  refine congrArg₂ (· * ·) (congrArg₂ (· * ·) (Finset.sum_congr rfl fun d _ => congrArg₂ (· * ·) (P.qv_apply r d) ?_) rfl) rfl
  exact shapeCast_1ab_ab_apply P.rk _ l d

theorem sNew_apply : P.sNew (ix2 r (0 : Fin 1)) = P.pair.sNew r := by
  unfold sNew k0_pay7 Pair.sNew
  show shapeCast S8x1 _ _ (ix2 r (0 : Fin 1)) * _ = _
  rw [shapeCast_a_a1_apply]
  refine congrArg₂ (· * ·) ((row_sum _ reduces_S8x128_S8 _ _ r).trans (Finset.sum_congr rfl fun d _ => ?_)) rfl
  show P.qv (ix2 r d) * broadcastTo S8x128 _ _ (ix2 r d) = _
  rw [broadcastTo_1b_ab_apply, P.qv_apply]
  exact congrArg _ (pick_row P.t P.kn d)

theorem score_apply {k : ℕ} (hk : k < 14) (l : Fin 256) : P.score k (ix2 r l) = P.pair.sSel r (256 * k + l.val) := by
  unfold score scoreAt Pair.sSel
  show Scalar.select (cmpi .slt _ _ (ix2 r l)) (matmul dot_S8x128_S256x128_S8x256_1_1_0_0_n_n none P.qv _ _ (ix2 r l) * broadcastTo S8x256 _ _ (ix2 r l) * _) _ = _
  rw [mask_apply, select_ofBool, dotT, broadcastTo_1b_ab_apply, rows_scale P.ks hk]
  refine if_congr Iff.rfl (congrArg₂ (· * ·) (congrArg₂ (· * ·) (Finset.sum_congr rfl fun d _ => congrArg₂ (· * ·) (P.qv_apply r d) ?_) rfl) rfl) negInf
  exact rows_code P.ko P.t k l d

theorem mxAt_apply (l : Fin 256) : ∀ {k : ℕ}, k ≤ 14 → P.mxAt k (ix2 r l) = P.pair.mxB r k l
  | 0, _ => P.sRec_apply r l
  | k + 1, hk => by
    show max (P.mxAt k (ix2 r l)) (P.score k (ix2 r l)) = _
    rw [mxAt_apply l (Nat.le_of_succ_le hk), P.score_apply r hk]
    rfl

/-- No token of a block from the chunks of the total on is gathered. -/
theorem dead {j : ℕ} (h : P.v.toInt ≤ 3584) (h3 : j < 3584) (hj : 256 * nOf P.v ≤ j) : ¬ P.pair.live j := by
  have hn : (nOf P.v : ℤ) ≥ (P.v.toInt + 255) / 256 := by unfold nOf; exact Int.self_le_toNat _
  have hb : (BitVec.ofNat 32 j).toInt = j := by rw [BitVec.toInt_ofNat', Int.bmod_def]; omega
  unfold Pair.live
  rw [BitVec.slt_iff_toInt_lt, hb]
  show ¬ (j : ℤ) < P.v.toInt
  omega

variable (h : P.v.toInt ≤ 3584)
include h

theorem top_apply : k0_pay15 P.sNew P.mRow (ix2 r (0 : Fin 1)) = P.pair.top r := by
  unfold k0_pay15 mRow k0_pay14
  show max (shapeCast S8x1 _ _ (ix2 r (0 : Fin 1))) (P.sNew (ix2 r (0 : Fin 1))) = _
  rw [shapeCast_a_a1_apply, P.sNew_apply]
  refine (congrArg (max · _) ((row_max _ reduces_S8x256_S8 _ _ r).trans (Finset.sup_congr rfl fun l _ => P.mxAt_apply r l (nOf_le h)))).trans ?_
  exact P.pair.top_blocks r (nOf_le h) fun j h3 hj => P.dead h h3 hj

/-- The weights: of the recent tokens, the new one, a block. -/
theorem eRec_apply (l : Fin 256) : k0_pay16 P.sRec P.sNew P.mRow (ix2 r l) = P.pair.w r (P.pair.sRec r l) := by
  unfold k0_pay16
  show Ideal.exp (P.sRec (ix2 r l) - broadcastTo S8x256 _ _ (ix2 r l)) = _
  rw [broadcastTo_a1_ab_apply, P.top_apply r h, P.sRec_apply]
  rfl
theorem eNew_apply : k0_pay17 P.sNew P.mRow (ix2 r (0 : Fin 1)) = P.pair.w r (P.pair.sNew r) := by
  unfold k0_pay17
  show Ideal.exp (P.sNew (ix2 r (0 : Fin 1)) - k0_pay15 P.sNew P.mRow (ix2 r (0 : Fin 1))) = _
  rw [P.top_apply r h, P.sNew_apply]
  rfl
theorem eSel_apply {k : ℕ} (hk : k < 14) (l : Fin 256) :
    k0_pay18 P.sNew P.mRow (P.sBlk k) (ix2 r l) = P.pair.w r (P.pair.sSel r (256 * k + l.val)) := by
  unfold k0_pay18 sBlk
  show Ideal.exp (shapeCast S8x256 _ _ (ix2 r l) - broadcastTo S8x256 _ _ (ix2 r l)) = _
  rw [broadcastTo_a1_ab_apply, P.top_apply r h, shapeCast_1ab_ab_apply, shapeCast_ab_1ab_apply, P.score_apply r hk]
  rfl

theorem denAt_apply (l : Fin 256) : ∀ {k : ℕ}, k ≤ 14 → P.denAt k (ix2 r l) = P.pair.denB r k l
  | 0, _ => P.eRec_apply r h l
  | k + 1, hk => by
    show P.denAt k (ix2 r l) + k0_pay18 P.sNew P.mRow (P.sBlk k) (ix2 r l) = _
    rw [denAt_apply l (Nat.le_of_succ_le hk), P.eSel_apply r h hk]
    rfl

theorem total_apply : k0_pay24 P.sNew P.mRow P.den (ix2 r (0 : Fin 1)) = P.pair.total r := by
  unfold k0_pay24 den
  show shapeCast S8x1 _ _ (ix2 r (0 : Fin 1)) + k0_pay17 P.sNew P.mRow (ix2 r (0 : Fin 1)) = _
  rw [shapeCast_a_a1_apply, P.eNew_apply r h]
  refine (congrArg (· + _) ((row_sum _ reduces_S8x256_S8 _ _ r).trans (Finset.sum_congr rfl fun l _ => P.denAt_apply r h l (nOf_le h)))).trans ?_
  exact P.pair.total_blocks r (nOf_le h) fun j h3 hj => P.dead h h3 hj

theorem o0_apply (d : Fin 128) : P.oAt 0 (ix2 r d) = P.pair.oB r d 0 := by
  show k0_pay27 P.sRec P.sNew P.mRow P.den (gRow P.rvs P.t.val) P.rv (ix2 r d) = _
  unfold k0_pay27 Pair.oB
  refine (dotP _ _ r d).trans (Finset.sum_congr rfl fun l _ => congrArg₂ (· * ·) ?_ (shapeCast_1ab_ab_apply P.rv _ l d))
  show Ideal.div (k0_pay16 P.sRec P.sNew P.mRow (ix2 r l)) (broadcastTo S8x256 _ _ (ix2 r l)) * broadcastTo S8x256 _ _ (ix2 r l) = _
  rw [broadcastTo_a1_ab_apply, broadcastTo_1b_ab_apply, P.eRec_apply r h, P.total_apply r h]
  exact congrArg _ (P.gRow_apply P.rvs l)

theorem oAt_apply (d : Fin 128) : ∀ {k : ℕ}, k ≤ 14 → P.oAt k (ix2 r d) = P.pair.oB r d k
  | 0, _ => P.o0_apply r h d
  | k + 1, hk => by
    show outAt P.v P.dTot k (P.oAt k) (P.eBlk k) (scaleRow P.vs (2 * k)) (scaleRow P.vs (2 * k + 1)) (rowsOf P.vo P.t k) (ix2 r d) = _
    unfold outAt Pair.oB
    show P.oAt k (ix2 r d) + matmul dot_S8x256_S256x128_S8x128_1_0_0_1_n_n none _ _ _ (ix2 r d) = _
    rw [oAt_apply d (Nat.le_of_succ_le hk), dotP]
    refine congrArg _ (Finset.sum_congr rfl fun l _ => congrArg₂ (· * ·) ?_ (rows_code P.vo P.t k l d))
    show Scalar.select (cmpi .slt _ _ (ix2 r l)) (Ideal.div (shapeCast S8x256 _ _ (ix2 r l)) (broadcastTo S8x256 _ _ (ix2 r l)) * broadcastTo S8x256 _ _ (ix2 r l)) _ = _
    rw [mask_apply, select_ofBool, broadcastTo_a1_ab_apply, broadcastTo_1b_ab_apply, rows_scale P.vs hk, shapeCast_1ab_ab_apply]
    unfold eBlk k0_pay19 dTot
    rw [shapeCast_ab_1ab_apply, P.eSel_apply r h hk, P.total_apply r h]
    exact if_congr Iff.rfl rfl Ideal.ofBits_zero_f32

/-- The output block. -/
theorem out_apply (u : Fin 1) (d : Fin 128) : P.out (ix3 u r d) = P.pair.out r d := by
  unfold out k0_pay3
  rw [shapeCast_ab_1ab_apply]
  show P.oAt (nOf P.v) (ix2 r d) + broadcastTo S8x128 _ _ (ix2 r d) * broadcastTo S8x128 _ _ (ix2 r d) = _
  rw [broadcastTo_a1_ab_apply, broadcastTo_1b_ab_apply, P.oAt_apply r h d (nOf_le h), ← P.pair.out_blocks r (nOf_le h) (fun j h3 hj => P.dead h h3 hj) d]
  refine congrArg _ (congrArg₂ (· * ·) ?_ (pick_row P.t P.vn d))
  unfold k0_pay25
  show Ideal.div (k0_pay17 P.sNew P.mRow (ix2 r (0 : Fin 1))) (k0_pay24 P.sNew P.mRow P.den (ix2 r (0 : Fin 1))) = _
  rw [P.eNew_apply r h, P.total_apply r h]

end PtIn

end Cert.KernelIdeal.Hand

end
-- ==== Proof.Args.lean ====
/-
  Hand-written, untrusted. A pair of the batch, read off the twelve argument arrays: what both the kernel and the
  reference are shown to compute the output of.
-/
module

public import proofs.«01_k».proof.Proof.Attend
public import Idealize.ShloMosaic.Lib.ValueIdx

@[expose] public section

set_option maxRecDepth 16384

noncomputable section

namespace Cert.Attend

open Idealize.ShloMosaic Idealize.ShloMosaic.ValueIdx

/-- A coordinate taken modulo 128. -/
abbrev lane (j : ℕ) : Fin 128 := ⟨j % 128, Nat.mod_lt _ (by decide)⟩
/-- The batch and the group of a pair. -/
abbrev batch (t : Fin 112) : Fin 56 := ⟨t.val / 2, by omega⟩
abbrev group (t : Fin 112) : Fin 2 := ⟨t.val % 2, by omega⟩
/-- The row of scales of token `j` of a pair, and its row of words. -/
abbrev scaleAt (t : Fin 112) (j : ℕ) : Fin 3584 := ⟨32 * t.val + j / 128 % 32, by omega⟩
abbrev wordAt (t : Fin 112) (j : ℕ) : Fin 100352 := ⟨(896 * t.val + j / 4) % 100352, Nat.mod_lt _ (by decide)⟩

/-- Pair `t` of the batch, by the argument arrays. -/
def pairAt (tb : (⟨1, ![128]⟩ : Shape).Idx → BitVec 32) (q : (⟨3, ![112, 8, 128]⟩ : Shape).Idx → EReal)
    (kn vn : (⟨4, ![56, 1, 2, 128]⟩ : Shape).Idx → EReal) (rk rv : (⟨3, ![112, 256, 128]⟩ : Shape).Idx → EReal)
    (rks rvs : (⟨3, ![56, 2, 256]⟩ : Shape).Idx → EReal) (ks vs : (⟨2, ![3584, 128]⟩ : Shape).Idx → EReal)
    (ko vo : (⟨2, ![100352, 128]⟩ : Shape).Idx → BitVec 32) (t : Fin 112) : Pair where
  tot := tb (ix1 (⟨t.val, by omega⟩ : Fin 128))
  q r d := q (ix3 t r d)
  kn d := kn (ix4 (batch t) (0 : Fin 1) (group t) d)
  vn d := vn (ix4 (batch t) (0 : Fin 1) (group t) d)
  rk l d := rk (ix3 t l d)
  rv l d := rv (ix3 t l d)
  rks l := rks (ix3 (batch t) (group t) l)
  rvs l := rvs (ix3 (batch t) (group t) l)
  ks j := ks (ix2 (scaleAt t j) (lane j))
  vs j := vs (ix2 (scaleAt t j) (lane j))
  kc j d := code (ko (ix2 (wordAt t j) d)) (j % 4)
  vc j d := code (vo (ix2 (wordAt t j) d)) (j % 4)

end Cert.Attend
end
-- ==== Proof.KernelIdeal.Array.lean ====
/-
  Hand-written, untrusted. The kernel's output array at the extended reals: each grid point reads its pair's blocks of the
  arguments, and its output block is written at the pair.
-/
module

public import proofs.«01_k».proof.Proof.KernelIdeal.Output
public import proofs.«01_k».proof.Proof.KernelIdeal.Run
public import proofs.«01_k».proof.Proof.Args
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The index maps: the pair, or its batch -/

theorem tr0 : ∀ t : Fin grid0.N, cc0_transform_0 (grid0.coords t) = ![t.val, 0, 0] := by decide +kernel
theorem tr1 : ∀ t : Fin grid0.N, cc0_transform_1 (grid0.coords t) = ![t.val / 2, 0, 0, 0] := by decide +kernel
theorem tr2 : ∀ t : Fin grid0.N, cc0_transform_2 (grid0.coords t) = ![t.val / 2, 0, 0, 0] := by decide +kernel
theorem tr3 : ∀ t : Fin grid0.N, cc0_transform_3 (grid0.coords t) = ![t.val, 0, 0] := by decide +kernel
theorem tr4 : ∀ t : Fin grid0.N, cc0_transform_4 (grid0.coords t) = ![t.val, 0, 0] := by decide +kernel
theorem tr5 : ∀ t : Fin grid0.N, cc0_transform_5 (grid0.coords t) = ![t.val / 2, 0, 0] := by decide +kernel
theorem tr6 : ∀ t : Fin grid0.N, cc0_transform_6 (grid0.coords t) = ![t.val / 2, 0, 0] := by decide +kernel
theorem tr7 : ∀ t : Fin grid0.N, cc0_transform_7 (grid0.coords t) = ![t.val, 0] := by decide +kernel
theorem tr8 : ∀ t : Fin grid0.N, cc0_transform_8 (grid0.coords t) = ![t.val, 0] := by decide +kernel
theorem tr11 : ∀ t : Fin grid0.N, cc0_transform_11 (grid0.coords t) = ![t.val, 0, 0] := by decide +kernel

variable (m : (ℓ : Loc nD τ sig) → Buf (Elt Ideal) ℓ) (c : Dev nD) (t : Fin (cfgA m).N)

/-! ## The blocks read -/

theorem iblk_0 (u : Fin 1) (r : Fin 8) (d : Fin 128) :
    iblk m c 0 t (ix3 u r d) = (V m c main_arg1 : S112x8x128.Idx → EReal) (ix3 (pairOf m t) r d) := by
  refine congrArg (V m c main_arg1) (funext fun a => Fin.ext ?_)
  refine (Pipeline.Window.rect_emb_val ((cfgA m).win 0) t (ix3 u r d) a).trans ?_
  have e : ((cfgA m).win 0).index t = ![t.val, 0, 0] := tr0 t
  rw [e]
  match a with
  | ⟨0, _⟩ => show t.val * 1 + u.val = t.val; omega
  | ⟨1, _⟩ => show 0 * 8 + r.val = r.val; omega
  | ⟨2, _⟩ => show 0 * 128 + d.val = d.val; omega

theorem iblk_1 (u v : Fin 1) (g : Fin 2) (d : Fin 128) :
    iblk m c 1 t (ix4 u v g d) = (V m c main_arg2 : S56x1x2x128.Idx → EReal) (ix4 (Attend.batch (pairOf m t)) (0 : Fin 1) g d) := by
  refine congrArg (V m c main_arg2) (funext fun a => Fin.ext ?_)
  refine (Pipeline.Window.rect_emb_val ((cfgA m).win 1) t (ix4 u v g d) a).trans ?_
  have e : ((cfgA m).win 1).index t = ![t.val / 2, 0, 0, 0] := tr1 t
  rw [e]
  match a with
  | ⟨0, _⟩ => show t.val / 2 * 1 + u.val = t.val / 2; omega
  | ⟨1, _⟩ => show 0 * 1 + v.val = 0; omega
  | ⟨2, _⟩ => show 0 * 2 + g.val = g.val; omega
  | ⟨3, _⟩ => show 0 * 128 + d.val = d.val; omega

theorem iblk_2 (u v : Fin 1) (g : Fin 2) (d : Fin 128) :
    iblk m c 2 t (ix4 u v g d) = (V m c main_arg3 : S56x1x2x128.Idx → EReal) (ix4 (Attend.batch (pairOf m t)) (0 : Fin 1) g d) := by
  refine congrArg (V m c main_arg3) (funext fun a => Fin.ext ?_)
  refine (Pipeline.Window.rect_emb_val ((cfgA m).win 2) t (ix4 u v g d) a).trans ?_
  have e : ((cfgA m).win 2).index t = ![t.val / 2, 0, 0, 0] := tr2 t
  rw [e]
  match a with
  | ⟨0, _⟩ => show t.val / 2 * 1 + u.val = t.val / 2; omega
  | ⟨1, _⟩ => show 0 * 1 + v.val = 0; omega
  | ⟨2, _⟩ => show 0 * 2 + g.val = g.val; omega
  | ⟨3, _⟩ => show 0 * 128 + d.val = d.val; omega

theorem iblk_3 (u : Fin 1) (l : Fin 256) (d : Fin 128) :
    iblk m c 3 t (ix3 u l d) = (V m c main_arg4 : S112x256x128.Idx → EReal) (ix3 (pairOf m t) l d) := by
  refine congrArg (V m c main_arg4) (funext fun a => Fin.ext ?_)
  refine (Pipeline.Window.rect_emb_val ((cfgA m).win 3) t (ix3 u l d) a).trans ?_
  have e : ((cfgA m).win 3).index t = ![t.val, 0, 0] := tr3 t
  rw [e]
  match a with
  | ⟨0, _⟩ => show t.val * 1 + u.val = t.val; omega
  | ⟨1, _⟩ => show 0 * 256 + l.val = l.val; omega
  | ⟨2, _⟩ => show 0 * 128 + d.val = d.val; omega

theorem iblk_4 (u : Fin 1) (l : Fin 256) (d : Fin 128) :
    iblk m c 4 t (ix3 u l d) = (V m c main_arg5 : S112x256x128.Idx → EReal) (ix3 (pairOf m t) l d) := by
  refine congrArg (V m c main_arg5) (funext fun a => Fin.ext ?_)
  refine (Pipeline.Window.rect_emb_val ((cfgA m).win 4) t (ix3 u l d) a).trans ?_
  have e : ((cfgA m).win 4).index t = ![t.val, 0, 0] := tr4 t
  rw [e]
  match a with
  | ⟨0, _⟩ => show t.val * 1 + u.val = t.val; omega
  | ⟨1, _⟩ => show 0 * 256 + l.val = l.val; omega
  | ⟨2, _⟩ => show 0 * 128 + d.val = d.val; omega

theorem iblk_5 (u : Fin 1) (g : Fin 2) (l : Fin 256) :
    iblk m c 5 t (ix3 u g l) = (V m c main_arg6 : S56x2x256.Idx → EReal) (ix3 (Attend.batch (pairOf m t)) g l) := by
  refine congrArg (V m c main_arg6) (funext fun a => Fin.ext ?_)
  refine (Pipeline.Window.rect_emb_val ((cfgA m).win 5) t (ix3 u g l) a).trans ?_
  have e : ((cfgA m).win 5).index t = ![t.val / 2, 0, 0] := tr5 t
  rw [e]
  match a with
  | ⟨0, _⟩ => show t.val / 2 * 1 + u.val = t.val / 2; omega
  | ⟨1, _⟩ => show 0 * 2 + g.val = g.val; omega
  | ⟨2, _⟩ => show 0 * 256 + l.val = l.val; omega

theorem iblk_6 (u : Fin 1) (g : Fin 2) (l : Fin 256) :
    iblk m c 6 t (ix3 u g l) = (V m c main_arg7 : S56x2x256.Idx → EReal) (ix3 (Attend.batch (pairOf m t)) g l) := by
  refine congrArg (V m c main_arg7) (funext fun a => Fin.ext ?_)
  refine (Pipeline.Window.rect_emb_val ((cfgA m).win 6) t (ix3 u g l) a).trans ?_
  have e : ((cfgA m).win 6).index t = ![t.val / 2, 0, 0] := tr6 t
  rw [e]
  match a with
  | ⟨0, _⟩ => show t.val / 2 * 1 + u.val = t.val / 2; omega
  | ⟨1, _⟩ => show 0 * 2 + g.val = g.val; omega
  | ⟨2, _⟩ => show 0 * 256 + l.val = l.val; omega

/-- A row of a pair's block of scales. -/
abbrev scaleRowOf (t : Fin 112) (i : Fin 32) : Fin 3584 := ⟨32 * t.val + i.val, by omega⟩

theorem iblk_7 (i : Fin 32) (l : Fin 128) :
    iblk m c 7 t (ix2 i l) = (V m c main_arg8 : S3584x128.Idx → EReal) (ix2 (scaleRowOf (pairOf m t) i) l) := by
  refine congrArg (V m c main_arg8) (funext fun a => Fin.ext ?_)
  refine (Pipeline.Window.rect_emb_val ((cfgA m).win 7) t (ix2 i l) a).trans ?_
  have e : ((cfgA m).win 7).index t = ![t.val, 0] := tr7 t
  rw [e]
  match a with
  | ⟨0, _⟩ => show t.val * 32 + i.val = 32 * t.val + i.val; omega
  | ⟨1, _⟩ => show 0 * 128 + l.val = l.val; omega

theorem iblk_8 (i : Fin 32) (l : Fin 128) :
    iblk m c 8 t (ix2 i l) = (V m c main_arg9 : S3584x128.Idx → EReal) (ix2 (scaleRowOf (pairOf m t) i) l) := by
  refine congrArg (V m c main_arg9) (funext fun a => Fin.ext ?_)
  refine (Pipeline.Window.rect_emb_val ((cfgA m).win 8) t (ix2 i l) a).trans ?_
  have e : ((cfgA m).win 8).index t = ![t.val, 0] := tr8 t
  rw [e]
  match a with
  | ⟨0, _⟩ => show t.val * 32 + i.val = 32 * t.val + i.val; omega
  | ⟨1, _⟩ => show 0 * 128 + l.val = l.val; omega

/-- The pair `p` of the arguments as launched. -/
abbrev pairV (p : Fin 112) : Attend.Pair :=
  Attend.pairAt (V m c main_arg0) (V m c main_arg1) (V m c main_arg2) (V m c main_arg3) (V m c main_arg4) (V m c main_arg5)
    (V m c main_arg6) (V m c main_arg7) (V m c main_arg8) (V m c main_arg9) (V m c main_arg10) (V m c main_arg11) p

/-- A grid point attends for its pair of the arguments. -/
theorem pair_ptIn : (ptIn m c t).pair = pairV m c (pairOf m t) := by
  unfold PtIn.pair pairV Attend.pairAt
  congr 1
  · exact congrArg (tbV m c) (funext fun a => match a with | ⟨0, _⟩ => rfl)
  · funext r d; exact iblk_0 m c t _ r d
  · funext d; exact iblk_1 m c t _ _ _ d
  · funext d; exact iblk_2 m c t _ _ _ d
  · funext l d; exact iblk_3 m c t _ l d
  · funext l d; exact iblk_4 m c t _ l d
  · funext l; exact iblk_5 m c t _ _ l
  · funext l; exact iblk_6 m c t _ _ l
  · funext j; exact iblk_7 m c t _ _
  · funext j; exact iblk_8 m c t _ _

/-- What the output array is shown to hold. -/
def outV : Buf (Elt Ideal) ((c : Thread nD τ).loc main_v0) :=
  fun i : S112x8x128.Idx => (pairV m c (i 0)).out (i 1) (i 2)

/-- Every point writes its output block back, and the blocks make up the array. -/
theorem flush_9 : ((cfgA m).win 9).flush t = true := by
  unfold Pipeline.Window.flush
  simp only [Bool.and_eq_true, Bool.or_eq_true, decide_eq_true_eq]
  refine ⟨rfl, ?_⟩
  by_cases h : t.val + 1 = grid0.N
  · exact Or.inl h
  · have h' : t.val + 1 < grid0.N := Nat.lt_of_le_of_ne t.isLt h
    refine Or.inr ⟨h', fun e => ?_⟩
    have e' := (tr11 ⟨t.val + 1, h'⟩).symm.trans (e.trans (tr11 t))
    have e0 : t.val + 1 = t.val := congrFun e' (0 : Fin 3)
    omega

theorem cover_9 (i : S112x8x128.Idx) :
    ∃ t : Fin (cfgA m).N, ((cfgA m).win 9).flush t = true ∧ i ∈ (((cfgA m).win 9).blk t).view.set := by
  have hN : (i 0).val < (cfgA m).N := Nat.lt_of_lt_of_eq (i 0).isLt N_0.symm
  refine ⟨⟨(i 0).val, hN⟩, ?_, ?_⟩
  · exact flush_9 m ⟨(i 0).val, hN⟩
  · show i ∈ ((View.whole main_v0).slice (((cfgA m).win 9).rect ⟨(i 0).val, hN⟩)).set
    erw [View.set_slice_whole]
    refine (Pipeline.Window.mem_rect_iff ((cfgA m).win 9) ⟨(i 0).val, hN⟩ i (by rfl)).mpr fun a => ?_
    have e : ((cfgA m).win 9).index ⟨(i 0).val, hN⟩ = ![(i 0).val, 0, 0] := tr11 ⟨(i 0).val, hN⟩
    rw [e]
    have h1 := (i 1).isLt
    have h2 := (i 2).isLt
    match a with
    | ⟨0, _⟩ => show (i 0).val * 1 ≤ (i 0).val ∧ (i 0).val < (i 0).val * 1 + 1; omega
    | ⟨1, _⟩ => show 0 * 8 ≤ (i 1).val ∧ (i 1).val < 0 * 8 + 8; exact ⟨by omega, by simpa using h1⟩
    | ⟨2, _⟩ => show 0 * 128 ≤ (i 2).val ∧ (i 2).val < 0 * 128 + 128; exact ⟨by omega, by simpa using h2⟩

theorem emb_9 (y : S1x8x128.Idx) :
    (((cfgA m).win 9).blk t).view.emb y = (ix3 (pairOf m t) (y 1) (y 2) : S112x8x128.Idx) := by
  refine funext fun a => Fin.ext ?_
  refine (Pipeline.Window.rect_emb_val ((cfgA m).win 9) t y a).trans ?_
  have e : ((cfgA m).win 9).index t = ![t.val, 0, 0] := tr11 t
  rw [e]
  match a with
  | ⟨0, _⟩ => have h : (y 0).val < 1 := (y 0).isLt; show t.val * 1 + (y 0).val = t.val; omega
  | ⟨1, _⟩ => show 0 * 8 + (y 1).val = (y 1).val; omega
  | ⟨2, _⟩ => show 0 * 128 + (y 2).val = (y 2).val; omega

theorem out_ptIn (hfit : Fits (tbV m c)) (y : S1x8x128.Idx) :
    (ptIn m c t).out y = (pairV m c (pairOf m t)).out (y 1) (y 2) := by
  rw [← pair_ptIn, eq_ix3 y]
  exact (ptIn m c t).out_apply (y 1) (hfit _) (y 0) (y 2)

theorem outArr_eq (hfit : Fits (tbV m c)) : outArr m c = outV m c := by
  refine (dats m 0 c).arrAt_eq_of_emb 9 (outV m c) (fun t _ (y : S1x8x128.Idx) => ?_) (cover_9 m)
  refine Eq.trans ?_ (congrArg (outV m c) (emb_9 m t y)).symm
  exact out_ptIn m c t hfit y

end Cert.KernelIdeal.Hand
end
-- ==== Proof.ReferenceIdeal.Args.lean ====
/-
  Hand-written, untrusted. The reference at the extended reals, read at an index: each of its values is the pair's
  (Attend.lean), and its result the pair's attention.
-/
module

public import proofs.«01_k».proof.Proof.Gen.ReferenceIdeal.Read
public import proofs.«01_k».proof.Proof.Codes
public import proofs.«01_k».proof.Proof.Layouts
public import proofs.«01_k».proof.Proof.Args

@[expose] public section

set_option maxRecDepth 16384

noncomputable section

namespace Cert.ReferenceIdeal.Hand

open Cert.ReferenceIdeal Cert.ReferenceIdeal.Gen Cert.ReferenceIdeal.Read Cert.Attend
open Idealize.ShloMosaic Idealize.ShloMosaic.ValueIdx

/-- A value chosen by a truth word. -/
theorem select_ofBool (p : Bool) (x y : EReal) : Scalar.select (BitVec.ofBool p) x y = if p = true then x else y := by
  cases p <;> rfl

variable (x0 : (⟨S128, .i32⟩ : BufTy).Contents (Elt Ideal)) (x1 : (⟨S112x8x128, .bf16⟩ : BufTy).Contents (Elt Ideal))
  (x2 x3 : (⟨S56x1x2x128, .bf16⟩ : BufTy).Contents (Elt Ideal)) (r0 r1 : (⟨S112x256x128, .bf16⟩ : BufTy).Contents (Elt Ideal))
  (x6 x7 : (⟨S56x2x256, .f32⟩ : BufTy).Contents (Elt Ideal)) (x8 x9 : (⟨S3584x128, .f32⟩ : BufTy).Contents (Elt Ideal))
  (x10 x11 : (⟨S100352x128, .i32⟩ : BufTy).Contents (Elt Ideal))
  (t : Fin 112) (r : Fin 8)

/-! ## The arguments, decoded and laid out by pair -/

theorem q_apply (d : Fin 128) : val_main_v51 (F := Ideal) x1 (ix4 (batch t) (group t) r d) = x1 (ix3 t r d) := by
  rw [val_main_v51_apply]
  refine congrArg x1 (funext fun a => Fin.ext ?_)
  match a with
  | ⟨0, _⟩ => show (((t.val / 2 * 2 + t.val % 2) * 8 + r.val) * 128 + d.val) / 1024 = t.val; omega
  | ⟨1, _⟩ => show (((t.val / 2 * 2 + t.val % 2) * 8 + r.val) * 128 + d.val) / 128 % 8 = r.val; omega
  | ⟨2, _⟩ => show (((t.val / 2 * 2 + t.val % 2) * 8 + r.val) * 128 + d.val) % 128 = d.val; omega

theorem rk_apply (l : Fin 256) (d : Fin 128) : val_main_v1 (F := Ideal) r0 (ix4 (batch t) (group t) l d) = r0 (ix3 t l d) := by
  rw [val_main_v1_apply]
  refine congrArg r0 (funext fun a => Fin.ext ?_)
  match a with
  | ⟨0, _⟩ => show (((t.val / 2 * 2 + t.val % 2) * 256 + l.val) * 128 + d.val) / 32768 = t.val; omega
  | ⟨1, _⟩ => show (((t.val / 2 * 2 + t.val % 2) * 256 + l.val) * 128 + d.val) / 128 % 256 = l.val; omega
  | ⟨2, _⟩ => show (((t.val / 2 * 2 + t.val % 2) * 256 + l.val) * 128 + d.val) % 128 = d.val; omega

theorem rv_apply (l : Fin 256) (d : Fin 128) : val_main_v2 (F := Ideal) r1 (ix4 (batch t) (group t) l d) = r1 (ix3 t l d) := by
  rw [val_main_v2_apply]
  refine congrArg r1 (funext fun a => Fin.ext ?_)
  match a with
  | ⟨0, _⟩ => show (((t.val / 2 * 2 + t.val % 2) * 256 + l.val) * 128 + d.val) / 32768 = t.val; omega
  | ⟨1, _⟩ => show (((t.val / 2 * 2 + t.val % 2) * 256 + l.val) * 128 + d.val) / 128 % 256 = l.val; omega
  | ⟨2, _⟩ => show (((t.val / 2 * 2 + t.val % 2) * 256 + l.val) * 128 + d.val) % 128 = d.val; omega

theorem kn_apply (d : Fin 128) :
    val_main_v66 (F := Ideal) x2 (ix3 (batch t) (group t) d) = x2 (ix4 (batch t) (0 : Fin 1) (group t) d) := by
  rw [val_main_v66_apply]
  refine congrArg x2 (funext fun a => Fin.ext ?_)
  match a with
  | ⟨0, _⟩ => show ((t.val / 2 * 2 + t.val % 2) * 128 + d.val) / 256 = t.val / 2; omega
  | ⟨1, _⟩ => rfl
  | ⟨2, _⟩ => show ((t.val / 2 * 2 + t.val % 2) * 128 + d.val) / 128 % 2 = t.val % 2; omega
  | ⟨3, _⟩ => show ((t.val / 2 * 2 + t.val % 2) * 128 + d.val) % 128 = d.val; omega

theorem vn_apply (d : Fin 128) :
    val_main_v109 (F := Ideal) x3 (ix3 (batch t) (group t) d) = x3 (ix4 (batch t) (0 : Fin 1) (group t) d) := by
  rw [val_main_v109_apply]
  refine congrArg x3 (funext fun a => Fin.ext ?_)
  match a with
  | ⟨0, _⟩ => show ((t.val / 2 * 2 + t.val % 2) * 128 + d.val) / 256 = t.val / 2; omega
  | ⟨1, _⟩ => rfl
  | ⟨2, _⟩ => show ((t.val / 2 * 2 + t.val % 2) * 128 + d.val) / 128 % 2 = t.val % 2; omega
  | ⟨3, _⟩ => show ((t.val / 2 * 2 + t.val % 2) * 128 + d.val) % 128 = d.val; omega

theorem rks_apply (l : Fin 256) : val_main_v62 (F := Ideal) x6 (ix4 (batch t) (group t) r l) = x6 (ix3 (batch t) (group t) l) := by
  rw [val_main_v62_apply, val_main_v61_apply]
  exact congrArg x6 (eq_ix3 _)

theorem rvs_apply (l : Fin 256) : val_main_v103 (F := Ideal) x7 (ix4 (batch t) (group t) r l) = x7 (ix3 (batch t) (group t) l) := by
  rw [val_main_v103_apply, val_main_v102_apply]
  exact congrArg x7 (eq_ix3 _)

theorem ks_apply (j : Fin 3584) :
    val_main_v54 (F := Ideal) x8 (ix4 (batch t) (group t) r j) = x8 (ix2 (scaleAt t j.val) (lane j.val)) := by
  rw [val_main_v54_apply, val_main_v53_apply, val_main_v40_apply, val_main_v39_apply]
  have hj := j.isLt
  refine congrArg x8 (funext fun a => Fin.ext ?_)
  match a with
  | ⟨0, _⟩ => show ((t.val / 2 * 2 + t.val % 2) * 4096 + j.val) / 128 = 32 * t.val + j.val / 128 % 32; omega
  | ⟨1, _⟩ => show ((t.val / 2 * 2 + t.val % 2) * 4096 + j.val) % 128 = j.val % 128; omega

theorem vs_apply (j : Fin 3584) :
    val_main_v98 (F := Ideal) x9 (ix4 (batch t) (group t) r j) = x9 (ix2 (scaleAt t j.val) (lane j.val)) := by
  rw [val_main_v98_apply, val_main_v97_apply, val_main_v42_apply, val_main_v41_apply]
  have hj := j.isLt
  refine congrArg x9 (funext fun a => Fin.ext ?_)
  match a with
  | ⟨0, _⟩ => show ((t.val / 2 * 2 + t.val % 2) * 4096 + j.val) / 128 = 32 * t.val + j.val / 128 % 32; omega
  | ⟨1, _⟩ => show ((t.val / 2 * 2 + t.val % 2) * 4096 + j.val) % 128 = j.val % 128; omega

/-- The row and the lane of a token's word, by the flat position of the decoded code. -/
theorem word_pos (t : Fin 112) (j : Fin 3584) (d : Fin 128) (N : ℕ) (e : N = ((t.val / 2 * 2 + t.val % 2) * 3584 + j.val) * 128 + d.val) :
    ((((N / 917504 * 2 + N / 458752 % 2) * 896 + N / 512 % 896) * 1 + 0) * 128 + N % 128) / 128 = (896 * t.val + j.val / 4) % 100352
      ∧ ((((N / 917504 * 2 + N / 458752 % 2) * 896 + N / 512 % 896) * 1 + 0) * 128 + N % 128) % 128 = d.val := by
  have hj := j.isLt
  have ht := t.isLt
  have hd := d.isLt
  have e' : N = 458752 * t.val + 128 * j.val + d.val := by omega
  have q1 : N / 917504 = t.val / 2 := by omega
  have q2 : N / 458752 % 2 = t.val % 2 := by omega
  have q3 : N / 512 % 896 = j.val / 4 := by omega
  have q4 : N % 128 = d.val := by omega
  rw [q1, q2, q3, q4]
  constructor <;> omega

/-- A word's shifted, masked and sign-corrected byte. -/
theorem kc_byte (i : S56x2x896x4x128.Idx) :
    (((val_main_v17 (F := Ideal) x10 i).toInt : ℝ) : EReal) = code (x10 (idx_main_v6 (idx_main_v9 i))) (i 3).val := by
  have hs : val_main_v10 (F := Ideal) i = IntOp.muli 8#32 (BitVec.ofNat 32 (i 3).val) := by
    rw [val_main_v10_apply, val_main_v8_apply, val_main_v7_apply, val_main_v5_apply, val_main_v4_apply]; rfl
  have h1 : val_main_v12 (F := Ideal) i = 255#32 := by rw [val_main_v12_apply]; rfl
  have h2 : val_main_v14 (F := Ideal) i = 128#32 := by rw [val_main_v14_apply]; rfl
  have h3 : val_main_v16 (F := Ideal) i = 128#32 := by rw [val_main_v16_apply]; rfl
  show (((IntOp.subi (IntOp.xori (IntOp.andi (IntOp.shrsi .host (val_main_v9 (F := Ideal) x10 i) (val_main_v10 (F := Ideal) i)) (val_main_v12 (F := Ideal) i))
    (val_main_v14 (F := Ideal) i)) (val_main_v16 (F := Ideal) i)).toInt : ℝ) : EReal) = _
  rw [hs, h1, h2, h3, val_main_v9_apply, val_main_v6_apply]
  exact code_ref _ (i 3)

theorem kc_apply (j : Fin 3584) (d : Fin 128) :
    val_main_v20 (F := Ideal) x10 (ix4 (batch t) (group t) j d) = code (x10 (ix2 (wordAt t j.val) d)) (j.val % 4) := by
  show (((val_main_v18 (F := Ideal) x10 (ix4 (batch t) (group t) j d)).toInt : ℝ) : EReal) = _
  rw [val_main_v18_apply, kc_byte]
  have hj := j.isLt
  have ht := t.isLt
  have hd := d.isLt
  have e3 : (((t.val / 2 * 2 + t.val % 2) * 3584 + j.val) * 128 + d.val) / 128 % 4 = j.val % 4 := by omega
  refine congrArg₂ code (congrArg x10 (funext fun a => Fin.ext ?_)) e3
  match a with
  | ⟨0, _⟩ => exact (word_pos t j d _ rfl).1
  | ⟨1, _⟩ => exact (word_pos t j d _ rfl).2

/-- A word's shifted, masked and sign-corrected byte. -/
theorem vc_byte (i : S56x2x896x4x128.Idx) :
    (((val_main_v35 (F := Ideal) x11 i).toInt : ℝ) : EReal) = code (x11 (idx_main_v24 (idx_main_v27 i))) (i 3).val := by
  have hs : val_main_v28 (F := Ideal) i = IntOp.muli 8#32 (BitVec.ofNat 32 (i 3).val) := by
    rw [val_main_v28_apply, val_main_v26_apply, val_main_v25_apply, val_main_v23_apply, val_main_v22_apply]; rfl
  have h1 : val_main_v30 (F := Ideal) i = 255#32 := by rw [val_main_v30_apply]; rfl
  have h2 : val_main_v32 (F := Ideal) i = 128#32 := by rw [val_main_v32_apply]; rfl
  have h3 : val_main_v34 (F := Ideal) i = 128#32 := by rw [val_main_v34_apply]; rfl
  show (((IntOp.subi (IntOp.xori (IntOp.andi (IntOp.shrsi .host (val_main_v27 (F := Ideal) x11 i) (val_main_v28 (F := Ideal) i)) (val_main_v30 (F := Ideal) i))
    (val_main_v32 (F := Ideal) i)) (val_main_v34 (F := Ideal) i)).toInt : ℝ) : EReal) = _
  rw [hs, h1, h2, h3, val_main_v27_apply, val_main_v24_apply]
  exact code_ref _ (i 3)

theorem vc_apply (j : Fin 3584) (d : Fin 128) :
    val_main_v38 (F := Ideal) x11 (ix4 (batch t) (group t) j d) = code (x11 (ix2 (wordAt t j.val) d)) (j.val % 4) := by
  show (((val_main_v36 (F := Ideal) x11 (ix4 (batch t) (group t) j d)).toInt : ℝ) : EReal) = _
  rw [val_main_v36_apply, vc_byte]
  have hj := j.isLt
  have ht := t.isLt
  have hd := d.isLt
  have e3 : (((t.val / 2 * 2 + t.val % 2) * 3584 + j.val) * 128 + d.val) / 128 % 4 = j.val % 4 := by omega
  refine congrArg₂ code (congrArg x11 (funext fun a => Fin.ext ?_)) e3
  match a with
  | ⟨0, _⟩ => exact (word_pos t j d _ rfl).1
  | ⟨1, _⟩ => exact (word_pos t j d _ rfl).2

/-- The mask of a gathered token. -/
theorem valid_apply (j : Fin 3584) :
    val_main_v50 (F := Ideal) x0 (ix3 (batch t) (group t) j) = BitVec.ofBool ((BitVec.ofNat 32 j.val).slt (x0 (ix1 (⟨t.val, by omega⟩ : Fin 128)))) := by
  rw [val_main_v50_apply, val_main_v48_apply, val_main_v47_apply, val_main_v43_apply, val_main_v49_apply, val_main_v46_apply, val_main_v45_apply, val_main_v44_apply]
  refine congrArg (fun z => BitVec.ofBool ((BitVec.ofNat 32 j.val).slt (x0 z))) (funext fun a => Fin.ext ?_)
  match a with
  | ⟨0, _⟩ => show t.val / 2 * 2 + t.val % 2 = t.val; omega

end Cert.ReferenceIdeal.Hand

end
-- ==== Proof.ReferenceIdeal.Output.lean ====
/-
  Hand-written, untrusted. The reference's scores, their maximum, the weights, their total and the weighted sum at the
  extended reals, each read at a pair: they are the pair's (Attend.lean).
-/
module

public import proofs.«01_k».proof.Proof.ReferenceIdeal.Args
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Attend
open Idealize.ShloMosaic Idealize.ShloMosaic.ValueIdx
open scoped BigOperators

/-- The host's maximum over the last axis is the supremum. -/
theorem host_max {n : ℕ} (x : FVec Ideal ⟨4, ![56, 2, 8, n]⟩ .f32) (h : (⟨4, ![56, 2, 8, n]⟩ : Shape).ReducesTo [3] S56x2x8)
    (hr : (⟨4, ![56, 2, 8, n]⟩ : Shape).Reduces [3] S56x2x8) (hu : 0 < S_.numel) (b : Fin 56) (g : Fin 2) (r : Fin 8) :
    Host.reduce FloatOps.maximumf x (constant S_ .f32 0xFF800000#32) h hu (ix3 b g r) = Finset.univ.sup fun l : Fin n => x (ix4 b g r l) := by
  refine (congrFun (hostReduce_maximumf_eq_multiReduction x 0xFF800000#32 h hu hr (Or.inl rfl) rfl) _).trans ?_
  refine (Ideal.multiReduction_maximumf_single x 0xFF800000#32 hr _ _ _).trans ?_
  rw [show (FloatOps.ofBits (F := Ideal) .f32 0xFF800000#32) = (⊥ : EReal) from negInf]
  refine (fold_max_bot _ _).trans (congrArg _ (funext fun l => congrArg x (funext fun a => ?_)))
  match a with
  | ⟨0, _⟩ => rfl
  | ⟨1, _⟩ => rfl
  | ⟨2, _⟩ => rfl
  | ⟨3, _⟩ => rfl

variable (x0 : (⟨S128, .i32⟩ : BufTy).Contents (Elt Ideal)) (x1 : (⟨S112x8x128, .bf16⟩ : BufTy).Contents (Elt Ideal))
  (x2 x3 : (⟨S56x1x2x128, .bf16⟩ : BufTy).Contents (Elt Ideal)) (r0 r1 : (⟨S112x256x128, .bf16⟩ : BufTy).Contents (Elt Ideal))
  (x6 x7 : (⟨S56x2x256, .f32⟩ : BufTy).Contents (Elt Ideal)) (x8 x9 : (⟨S3584x128, .f32⟩ : BufTy).Contents (Elt Ideal))
  (x10 x11 : (⟨S100352x128, .i32⟩ : BufTy).Contents (Elt Ideal))
  (t : Fin 112) (r : Fin 8)

/-! ## The scores -/

theorem sSel_apply (j : Fin 3584) : val_main_v59 (F := Ideal) x0 x1 x8 x10 (ix4 (batch t) (group t) r j) = (pairAt x0 x1 x2 x3 r0 r1 x6 x7 x8 x9 x10 x11 t).sSel r j.val := by
  have hv : val_main_call0_v1 (F := Ideal) x0 (ix4 (batch t) (group t) r j) = BitVec.ofBool ((BitVec.ofNat 32 j.val).slt (x0 (ix1 (⟨t.val, by omega⟩ : Fin 128)))) := by
    rw [val_main_call0_v1_apply, val_main_v58_apply]
    exact (congrArg (val_main_v50 (F := Ideal) x0) (eq_ix3 _)).trans (valid_apply x0 t j)
  have hc : val_main_call0_v2 (F := Ideal) (ix4 (batch t) (group t) r j) = (⊥ : EReal) := by
    rw [val_main_call0_v2_apply]; exact negInf
  have hs : val_main_v57 (F := Ideal) x1 x8 x10 (ix4 (batch t) (group t) r j) = (∑ d, (pairAt x0 x1 x2 x3 r0 r1 x6 x7 x8 x9 x10 x11 t).q r d * (pairAt x0 x1 x2 x3 r0 r1 x6 x7 x8 x9 x10 x11 t).kc j.val d) * (pairAt x0 x1 x2 x3 r0 r1 x6 x7 x8 x9 x10 x11 t).ks j.val * scale := by
    rw [val_main_v57_apply, val_main_v55_apply, ks_apply, val_main_v56_apply, val_main_v52_apply]
    refine congrArg₂ (· * ·) (congrArg₂ (· * ·) (Finset.sum_congr rfl fun d _ => congrArg₂ (· * ·) ?_ ?_) rfl) rfl
    · exact (congrArg (val_main_v51 (F := Ideal) x1) (eq_ix4 _)).trans (q_apply x1 t r d)
    · exact (congrArg (val_main_v20 (F := Ideal) x10) (eq_ix4 _)).trans (kc_apply x10 t j d)
  rw [val_main_v59_apply, hv, hc, hs, select_ofBool]
  rfl

theorem sRec_apply (l : Fin 256) : val_main_v65 (F := Ideal) x1 x6 r0 (ix4 (batch t) (group t) r l) = (pairAt x0 x1 x2 x3 r0 r1 x6 x7 x8 x9 x10 x11 t).sRec r l := by
  rw [val_main_v65_apply, val_main_v63_apply, rks_apply, val_main_v64_apply, val_main_v60_apply]
  refine congrArg₂ (· * ·) (congrArg₂ (· * ·) (Finset.sum_congr rfl fun d _ => congrArg₂ (· * ·) ?_ ?_) rfl) rfl
  · exact (congrArg (val_main_v51 (F := Ideal) x1) (eq_ix4 _)).trans (q_apply x1 t r d)
  · exact (congrArg (val_main_v1 (F := Ideal) r0) (eq_ix4 _)).trans (rk_apply r0 t l d)

theorem sNew_apply : val_main_v69 (F := Ideal) x1 x2 (ix3 (batch t) (group t) r) = (pairAt x0 x1 x2 x3 r0 r1 x6 x7 x8 x9 x10 x11 t).sNew r := by
  rw [val_main_v69_apply, val_main_v68_apply, val_main_v67_apply]
  refine congrArg₂ (· * ·) (Finset.sum_congr rfl fun d _ => congrArg₂ (· * ·) ?_ ?_) rfl
  · exact (congrArg (val_main_v51 (F := Ideal) x1) (eq_ix4 _)).trans (q_apply x1 t r d)
  · exact (congrArg (val_main_v66 (F := Ideal) x2) (eq_ix3 _)).trans (kn_apply x2 t d)

/-! ## Their maximum, the weights, the total weight -/

theorem top_apply : val_main_v73 (F := Ideal) x0 x1 x2 x6 x8 x10 r0 (ix3 (batch t) (group t) r) = (pairAt x0 x1 x2 x3 r0 r1 x6 x7 x8 x9 x10 x11 t).top r := by
  rw [val_main_v73_apply, val_main_v72_apply, sNew_apply x0 x1 x2 x3 r0 r1 x6 x7 x8 x9 x10 x11 t r]
  refine congrArg₂ max (congrArg₂ max ?_ ?_) rfl
  · refine (host_max (val_main_v59 (F := Ideal) x0 x1 x8 x10) reducesTo_S56x2x8x3584_S56x2x8_d3 (by decide) h_S_ (batch t) (group t) r).trans ?_
    exact Finset.sup_congr rfl fun j _ => sSel_apply x0 x1 x2 x3 r0 r1 x6 x7 x8 x9 x10 x11 t r j
  · refine (host_max (val_main_v65 (F := Ideal) x1 x6 r0) reducesTo_S56x2x8x256_S56x2x8_d3 (by decide) h_S_ (batch t) (group t) r).trans ?_
    exact Finset.sup_congr rfl fun l _ => sRec_apply x0 x1 x2 x3 r0 r1 x6 x7 x8 x9 x10 x11 t r l

theorem eSel_apply (j : Fin 3584) : val_main_v77 (F := Ideal) x0 x1 x2 x6 x8 x10 r0 (ix4 (batch t) (group t) r j) = (pairAt x0 x1 x2 x3 r0 r1 x6 x7 x8 x9 x10 x11 t).w r ((pairAt x0 x1 x2 x3 r0 r1 x6 x7 x8 x9 x10 x11 t).sSel r j.val) := by
  rw [val_main_v77_apply, val_main_v76_apply, sSel_apply x0 x1 x2 x3 r0 r1 x6 x7 x8 x9 x10 x11 t r j, val_main_v75_apply, val_main_v74_apply]
  refine congrArg (fun z => Ideal.exp ((pairAt x0 x1 x2 x3 r0 r1 x6 x7 x8 x9 x10 x11 t).sSel r j.val - z)) ?_
  exact (congrArg (val_main_v73 (F := Ideal) x0 x1 x2 x6 x8 x10 r0) (eq_ix3 _)).trans (top_apply x0 x1 x2 x3 r0 r1 x6 x7 x8 x9 x10 x11 t r)

theorem eRec_apply (l : Fin 256) : val_main_v81 (F := Ideal) x0 x1 x2 x6 x8 x10 r0 (ix4 (batch t) (group t) r l) = (pairAt x0 x1 x2 x3 r0 r1 x6 x7 x8 x9 x10 x11 t).w r ((pairAt x0 x1 x2 x3 r0 r1 x6 x7 x8 x9 x10 x11 t).sRec r l) := by
  rw [val_main_v81_apply, val_main_v80_apply, sRec_apply x0 x1 x2 x3 r0 r1 x6 x7 x8 x9 x10 x11 t r l, val_main_v79_apply, val_main_v78_apply]
  refine congrArg (fun z => Ideal.exp ((pairAt x0 x1 x2 x3 r0 r1 x6 x7 x8 x9 x10 x11 t).sRec r l - z)) ?_
  exact (congrArg (val_main_v73 (F := Ideal) x0 x1 x2 x6 x8 x10 r0) (eq_ix3 _)).trans (top_apply x0 x1 x2 x3 r0 r1 x6 x7 x8 x9 x10 x11 t r)

theorem eNew_apply : val_main_v83 (F := Ideal) x0 x1 x2 x6 x8 x10 r0 (ix3 (batch t) (group t) r) = (pairAt x0 x1 x2 x3 r0 r1 x6 x7 x8 x9 x10 x11 t).w r ((pairAt x0 x1 x2 x3 r0 r1 x6 x7 x8 x9 x10 x11 t).sNew r) := by
  rw [val_main_v83_apply, val_main_v82_apply, sNew_apply x0 x1 x2 x3 r0 r1 x6 x7 x8 x9 x10 x11 t r, top_apply x0 x1 x2 x3 r0 r1 x6 x7 x8 x9 x10 x11 t r]
  rfl

theorem total_apply : val_main_v87 (F := Ideal) x0 x1 x2 x6 x8 x10 r0 (ix3 (batch t) (group t) r) = (pairAt x0 x1 x2 x3 r0 r1 x6 x7 x8 x9 x10 x11 t).total r := by
  rw [val_main_v87_apply, val_main_v86_apply, eNew_apply x0 x1 x2 x3 r0 r1 x6 x7 x8 x9 x10 x11 t r, val_main_v84_apply, val_main_v85_apply,
    show val_main_cst_12 (F := Ideal) (Shape.Idx.first h_S_) = 0 from Ideal.ofBits_zero_f32,
    show val_main_cst_13 (F := Ideal) (Shape.Idx.first h_S_) = 0 from Ideal.ofBits_zero_f32, zero_add, zero_add]
  refine congrArg₂ (· + ·) (congrArg₂ (· + ·) (Finset.sum_congr rfl fun j _ => ?_) (Finset.sum_congr rfl fun l _ => ?_)) rfl
  · exact (congrArg (val_main_v77 (F := Ideal) x0 x1 x2 x6 x8 x10 r0) (eq_ix4 _)).trans (eSel_apply x0 x1 x2 x3 r0 r1 x6 x7 x8 x9 x10 x11 t r j)
  · exact (congrArg (val_main_v81 (F := Ideal) x0 x1 x2 x6 x8 x10 r0) (eq_ix4 _)).trans (eRec_apply x0 x1 x2 x3 r0 r1 x6 x7 x8 x9 x10 x11 t r l)

/-! ## The shares and the output -/

theorem pSel_apply (j : Fin 3584) : val_main_v92 (F := Ideal) x0 x1 x2 x6 x8 x10 r0 (ix4 (batch t) (group t) r j) = (pairAt x0 x1 x2 x3 r0 r1 x6 x7 x8 x9 x10 x11 t).pSel r j.val := by
  have hv : val_main_call1_v1 (F := Ideal) x0 (ix4 (batch t) (group t) r j) = BitVec.ofBool ((BitVec.ofNat 32 j.val).slt (x0 (ix1 (⟨t.val, by omega⟩ : Fin 128)))) := by
    rw [val_main_call1_v1_apply, val_main_v88_apply]
    exact (congrArg (val_main_v50 (F := Ideal) x0) (eq_ix3 _)).trans (valid_apply x0 t j)
  have hc : val_main_call1_v2 (F := Ideal) (ix4 (batch t) (group t) r j) = (0 : EReal) := by
    rw [val_main_call1_v2_apply]; exact Ideal.ofBits_zero_f32
  have hd : val_main_v90 (F := Ideal) x0 x1 x2 x6 x8 x10 r0 (ix4 (batch t) (group t) r j) = (pairAt x0 x1 x2 x3 r0 r1 x6 x7 x8 x9 x10 x11 t).total r := by
    rw [val_main_v90_apply, val_main_v89_apply]
    exact (congrArg (val_main_v87 (F := Ideal) x0 x1 x2 x6 x8 x10 r0) (eq_ix3 _)).trans (total_apply x0 x1 x2 x3 r0 r1 x6 x7 x8 x9 x10 x11 t r)
  rw [val_main_v92_apply, hv, hc, val_main_v91_apply, hd, eSel_apply x0 x1 x2 x3 r0 r1 x6 x7 x8 x9 x10 x11 t r j, select_ofBool]
  rfl

theorem pRec_apply (l : Fin 256) : val_main_v95 (F := Ideal) x0 x1 x2 x6 x8 x10 r0 (ix4 (batch t) (group t) r l) = Ideal.div ((pairAt x0 x1 x2 x3 r0 r1 x6 x7 x8 x9 x10 x11 t).w r ((pairAt x0 x1 x2 x3 r0 r1 x6 x7 x8 x9 x10 x11 t).sRec r l)) ((pairAt x0 x1 x2 x3 r0 r1 x6 x7 x8 x9 x10 x11 t).total r) := by
  have hd : val_main_v94 (F := Ideal) x0 x1 x2 x6 x8 x10 r0 (ix4 (batch t) (group t) r l) = (pairAt x0 x1 x2 x3 r0 r1 x6 x7 x8 x9 x10 x11 t).total r := by
    rw [val_main_v94_apply, val_main_v93_apply]
    exact (congrArg (val_main_v87 (F := Ideal) x0 x1 x2 x6 x8 x10 r0) (eq_ix3 _)).trans (total_apply x0 x1 x2 x3 r0 r1 x6 x7 x8 x9 x10 x11 t r)
  rw [val_main_v95_apply, hd, eRec_apply x0 x1 x2 x3 r0 r1 x6 x7 x8 x9 x10 x11 t r l]
  rfl

theorem pNew_apply : val_main_v96 (F := Ideal) x0 x1 x2 x6 x8 x10 r0 (ix3 (batch t) (group t) r) = Ideal.div ((pairAt x0 x1 x2 x3 r0 r1 x6 x7 x8 x9 x10 x11 t).w r ((pairAt x0 x1 x2 x3 r0 r1 x6 x7 x8 x9 x10 x11 t).sNew r)) ((pairAt x0 x1 x2 x3 r0 r1 x6 x7 x8 x9 x10 x11 t).total r) := by
  rw [val_main_v96_apply, eNew_apply x0 x1 x2 x3 r0 r1 x6 x7 x8 x9 x10 x11 t r, total_apply x0 x1 x2 x3 r0 r1 x6 x7 x8 x9 x10 x11 t r]
  rfl

/-- The output at a pair, before it is laid out by pairs. -/
theorem out_apply (d : Fin 128) :
    val_main_v116 (F := Ideal) x0 x1 x2 x3 x6 x7 x8 x9 x10 x11 r0 r1 (ix4 (batch t) (group t) r d) = (pairAt x0 x1 x2 x3 r0 r1 x6 x7 x8 x9 x10 x11 t).out r d := by
  have h1 : val_main_v112 (F := Ideal) x0 x1 x2 x6 x8 x10 r0 (ix4 (batch t) (group t) r d) = Ideal.div ((pairAt x0 x1 x2 x3 r0 r1 x6 x7 x8 x9 x10 x11 t).w r ((pairAt x0 x1 x2 x3 r0 r1 x6 x7 x8 x9 x10 x11 t).sNew r)) ((pairAt x0 x1 x2 x3 r0 r1 x6 x7 x8 x9 x10 x11 t).total r) := by
    rw [val_main_v112_apply, val_main_v108_apply]
    exact (congrArg (val_main_v96 (F := Ideal) x0 x1 x2 x6 x8 x10 r0) (eq_ix3 _)).trans (pNew_apply x0 x1 x2 x3 r0 r1 x6 x7 x8 x9 x10 x11 t r)
  have h2 : val_main_v113 (F := Ideal) x3 (ix4 (batch t) (group t) r d) = (pairAt x0 x1 x2 x3 r0 r1 x6 x7 x8 x9 x10 x11 t).vn d := by
    rw [val_main_v113_apply, val_main_v111_apply, val_main_v110_apply]
    exact (congrArg (val_main_v109 (F := Ideal) x3) (eq_ix3 _)).trans (vn_apply x3 t d)
  rw [val_main_v116_apply, val_main_v115_apply, val_main_v114_apply, h1, h2, val_main_v107_apply, val_main_v101_apply, val_main_v106_apply]
  refine congrArg₂ (· + ·) (congrArg₂ (· + ·) (Finset.sum_congr rfl fun j _ => congrArg₂ (· * ·) ?_ ?_) (Finset.sum_congr rfl fun l _ => congrArg₂ (· * ·) ?_ ?_)) rfl
  · refine (congrArg (val_main_v100 (F := Ideal) x0 x1 x2 x6 x8 x9 x10 r0) (eq_ix4 _)).trans ?_
    show val_main_v100 (F := Ideal) x0 x1 x2 x6 x8 x9 x10 r0 (ix4 (batch t) (group t) r j) = _
    rw [val_main_v100_apply, val_main_v99_apply, pSel_apply x0 x1 x2 x3 r0 r1 x6 x7 x8 x9 x10 x11 t r j, vs_apply]
    rfl
  · exact (congrArg (val_main_v38 (F := Ideal) x11) (eq_ix4 _)).trans (vc_apply x11 t j d)
  · refine (congrArg (val_main_v105 (F := Ideal) x0 x1 x2 x6 x7 x8 x10 r0) (eq_ix4 _)).trans ?_
    show val_main_v105 (F := Ideal) x0 x1 x2 x6 x7 x8 x10 r0 (ix4 (batch t) (group t) r l) = _
    rw [val_main_v105_apply, val_main_v104_apply, pRec_apply x0 x1 x2 x3 r0 r1 x6 x7 x8 x9 x10 x11 t r l, rvs_apply]
    rfl
  · exact (congrArg (val_main_v2 (F := Ideal) r1) (eq_ix4 _)).trans (rv_apply r1 t l d)

/-- The reference's result: at a pair, a head and a lane, that pair's attention. -/
theorem result_apply (i : S112x8x128.Idx) :
    val_main_v117 (F := Ideal) x0 x1 x2 x3 x6 x7 x8 x9 x10 x11 r0 r1 i = (pairAt x0 x1 x2 x3 r0 r1 x6 x7 x8 x9 x10 x11 (i 0)).out (i 1) (i 2) := by
  rw [val_main_v117_apply]
  refine Eq.trans ?_ (out_apply x0 x1 x2 x3 r0 r1 x6 x7 x8 x9 x10 x11 (i 0) (i 1) (i 2))
  refine congrArg (val_main_v116 (F := Ideal) x0 x1 x2 x3 x6 x7 x8 x9 x10 x11 r0 r1) (funext fun a => Fin.ext ?_)
  have h0 : (i 0).val < 112 := (i 0).isLt
  have h1 : (i 1).val < 8 := (i 1).isLt
  have h2 : (i 2).val < 128 := (i 2).isLt
  match a with
  | ⟨0, _⟩ => show (((i 0).val * 8 + (i 1).val) * 128 + (i 2).val) / 2048 = (i 0).val / 2; omega
  | ⟨1, _⟩ => show (((i 0).val * 8 + (i 1).val) * 128 + (i 2).val) / 1024 % 2 = (i 0).val % 2; omega
  | ⟨2, _⟩ => show (((i 0).val * 8 + (i 1).val) * 128 + (i 2).val) / 128 % 8 = (i 1).val; omega
  | ⟨3, _⟩ => show (((i 0).val * 8 + (i 1).val) * 128 + (i 2).val) % 128 = (i 2).val; omega

end Cert.ReferenceIdeal.Hand

end
-- ==== Proof.ReferenceIdeal.Region.lean ====
/-
  Hand-written, untrusted. The reference's run at the extended reals: its first operation, the widening of the recent codes,
  leaves their values as they are, so the result is the attention of every pair of the arguments.
-/
module

public import proofs.«01_k».proof.Proof.Gen.ReferenceIdeal.Run
public import proofs.«01_k».proof.Proof.Gen.ReferenceIdeal.Read
public import proofs.«01_k».proof.Proof.ReferenceIdeal.Output
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The one point of the widening call. -/
abbrev pt0 : Fin cfg0.N := ⟨0, by decide⟩

theorem zeros3 : (![0, 0, 0] : Fin 3 → Nat) = fun _ => 0 := by funext a; fin_cases a <;> rfl

/-! ## Each window's block at the one point is its whole array -/

theorem read_0 (f : Buf (Elt Ideal) ((c : Thread nD τ).loc main_arg4)) : (win0_0.blk pt0).view.read (Elt Ideal) f = f :=
  Memref.read_access_unit_zero (Elt Ideal) main_arg4
    (show (fun a => (win0_0.index pt0) a * main_arg4.ty.shape.size a) = fun _ => 0 from
      funext fun a => by fin_cases a <;> decide) (fun a => by fin_cases a <;> decide) f
theorem read_1 (f : Buf (Elt Ideal) ((c : Thread nD τ).loc main_arg5)) : (win0_1.blk pt0).view.read (Elt Ideal) f = f :=
  Memref.read_access_unit_zero (Elt Ideal) main_arg5
    (show (fun a => (win0_1.index pt0) a * main_arg5.ty.shape.size a) = fun _ => 0 from
      funext fun a => by fin_cases a <;> decide) (fun a => by fin_cases a <;> decide) f
theorem read_2 (f : Buf (Elt Ideal) ((c : Thread nD τ).loc main_v0_0)) : (win0_2.blk pt0).view.read (Elt Ideal) f = f :=
  Memref.read_access_unit_zero (Elt Ideal) main_v0_0
    (show (fun a => (win0_2.index pt0) a * main_v0_0.ty.shape.size a) = fun _ => 0 from
      funext fun a => by fin_cases a <;> decide) (fun a => by fin_cases a <;> decide) f
theorem read_3 (f : Buf (Elt Ideal) ((c : Thread nD τ).loc main_v0_1)) : (win0_3.blk pt0).view.read (Elt Ideal) f = f :=
  Memref.read_access_unit_zero (Elt Ideal) main_v0_1
    (show (fun a => (win0_3.index pt0) a * main_v0_1.ty.shape.size a) = fun _ => 0 from
      funext fun a => by fin_cases a <;> decide) (fun a => by fin_cases a <;> decide) f

/-- What the body leaves: the codes it was given. -/
theorem out_2 (x0 x1 : S112x256x128.Idx → EReal) : out0_2 (F := Ideal) x0 x1 = x0 := by
  unfold out0_2
  erw [View.canon_unit_zero (S := S112x256x128) zeros3, View.ld_unit_zero (S := S112x256x128) zeros3]
  rfl
theorem out_3 (x0 x1 : S112x256x128.Idx → EReal) : out0_3 (F := Ideal) x0 x1 = x1 := by
  unfold out0_3
  erw [View.canon_unit_zero (S := S112x256x128) zeros3, View.ld_unit_zero (S := S112x256x128) zeros3]
  rfl

theorem iblk_0 : iblk (F := Ideal) m c 0 pt0 = m ((c : Thread nD τ).loc main_arg4) := by
  show (win0_0.blk pt0).view.read (Elt Ideal) (m ((c : Thread nD τ).loc main_arg4)) = _
  exact read_0 c _
theorem iblk_1 : iblk (F := Ideal) m c 1 pt0 = m ((c : Thread nD τ).loc main_arg5) := by
  show (win0_1.blk pt0).view.read (Elt Ideal) (m ((c : Thread nD τ).loc main_arg5)) = _
  exact read_1 c _

theorem flushed_2 : (dats (F := Ideal) m 0 c).flushed 2 pt0 = (m ((c : Thread nD τ).loc main_arg4) : S112x256x128.Idx → EReal) := by
  show (cfg0.win 2).cut _ ((dats (F := Ideal) m 0 c).after 2 pt0) = _
  rw [after0_2, iblk_0, iblk_1]
  exact (funext fun _ => rfl : _ = out0_2 (F := Ideal) _ _).trans (out_2 _ _)
theorem flushed_3 : (dats (F := Ideal) m 0 c).flushed 3 pt0 = (m ((c : Thread nD τ).loc main_arg5) : S112x256x128.Idx → EReal) := by
  show (cfg0.win 3).cut _ ((dats (F := Ideal) m 0 c).after 3 pt0) = _
  rw [after0_3, iblk_0, iblk_1]
  exact (funext fun _ => rfl : _ = out0_3 (F := Ideal) _ _).trans (out_3 _ _)

/-! ## The widened codes -/

theorem reg_0 : (Value.reg_main_v0_0 (F := Ideal) m c : S112x256x128.Idx → EReal) = m ((c : Thread nD τ).loc main_arg4) := by
  have hw : ((cfg0.win 2).blk pt0).view.read (Elt Ideal) ((dats (F := Ideal) m 0 c).arrAt 2 cfg0.N)
      = (dats (F := Ideal) m 0 c).flushed 2 pt0 := by
    rw [show cfg0.N = pt0.val + 1 from rfl, (dats m 0 c).arrAt_succ (2 : Fin 4) pt0, flush0_2, if_pos rfl]
    exact View.read_write_univ _ _
  exact ((read_2 c _).symm.trans hw).trans (flushed_2 m c)
theorem reg_1 : (Value.reg_main_v0_1 (F := Ideal) m c : S112x256x128.Idx → EReal) = m ((c : Thread nD τ).loc main_arg5) := by
  have hw : ((cfg0.win 3).blk pt0).view.read (Elt Ideal) ((dats (F := Ideal) m 0 c).arrAt 3 cfg0.N)
      = (dats (F := Ideal) m 0 c).flushed 3 pt0 := by
    rw [show cfg0.N = pt0.val + 1 from rfl, (dats m 0 c).arrAt_succ (3 : Fin 4) pt0, flush0_3, if_pos rfl]
    exact View.read_write_univ _ _
  exact ((read_3 c _).symm.trans hw).trans (flushed_3 m c)

/-! ## The result -/

/-- The reference's result: every pair's attention. -/
def resV : S112x8x128.Idx → EReal := fun i =>
  (Cert.Attend.pairAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (i 0)).out (i 1) (i 2)

theorem value_eq : Read.val_main_v117 (F := Ideal) (Value.exitV m c (Proc.devRef .tc main_arg0)) (Value.exitV m c (Proc.devRef .tc main_arg1))
    (Value.exitV m c (Proc.devRef .tc main_arg2)) (Value.exitV m c (Proc.devRef .tc main_arg3)) (Value.exitV m c (Proc.devRef .tc main_arg6))
    (Value.exitV m c (Proc.devRef .tc main_arg7)) (Value.exitV m c (Proc.devRef .tc main_arg8)) (Value.exitV m c (Proc.devRef .tc main_arg9))
    (Value.exitV m c (Proc.devRef .tc main_arg10)) (Value.exitV m c (Proc.devRef .tc main_arg11)) (Value.exitV m c (Proc.devRef .tc main_v0_0))
    (Value.exitV m c (Proc.devRef .tc main_v0_1)) = resV m c := by
  rw [Value.exit_main_arg0, Value.exit_main_arg1, Value.exit_main_arg2, Value.exit_main_arg3, Value.exit_main_arg6, Value.exit_main_arg7,
    Value.exit_main_arg8, Value.exit_main_arg9, Value.exit_main_arg10, Value.exit_main_arg11, Value.exit_main_v0_0, Value.exit_main_v0_1]
  erw [reg_0, reg_1]
  exact funext fun i => result_apply _ _ _ _ _ _ _ _ _ _ _ _ i

/-- The reference runs, its result is every pair's attention, and its arguments are unchanged. -/
theorem value_run (ρ : Dev nD → PrngReg) :
    θ_run defs (onTc (τ := τ) (main (F := Ideal))) ⟨m, fun _ => 0, ρ⟩ fun r => ∀ c : Dev nD,
      r.2.mem ((c.tc : Thread nD τ).loc main_v117) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).1.trans (Read.val_main_v117_eq (F := Ideal) (Value.exitV m c))).trans (value_eq m c), (h c).2⟩)
    (Value.run m ρ)

end Cert.ReferenceIdeal.Hand

end
-- ==== Proof.lean ====
/-
  Hand-written, untrusted. The claims: both readings of the kernel and the reference run, leave their arguments as
  they were and end with every semaphore at zero; and over the extended reals the kernel and the reference end with
  the same array, each pair's attention over its gathered rows, its recent rows and its new token.
-/
module

public import proofs.«01_k».proof.Defs
public import proofs.«01_k».proof.Proof.Totals
public import proofs.«01_k».proof.Proof.Kernel.Run
public import proofs.«01_k».proof.Proof.KernelIdeal.Run
public import proofs.«01_k».proof.Proof.KernelIdeal.Array
public import proofs.«01_k».proof.Proof.Gen.ReferenceIdeal.Frame
public import proofs.«01_k».proof.Proof.ReferenceIdeal.Region
public import Idealize.ShloMosaic.Adequacy
public import Idealize.ShloMosaic.Init

@[expose] public section

noncomputable section

namespace Cert.Proof

open Idealize.ShloMosaic Idealize.SL.Sem

/-- From agreeing arguments the two programs name the same array. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hargs :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : Cert.ReferenceIdeal.Hand.resV m' c = Cert.KernelIdeal.Hand.outV m c := by
  obtain ⟨h0, h1, h2, h3, h4, h5, h6, h7, h8, h9, h10, h11⟩ := hargs
  unfold Cert.ReferenceIdeal.Hand.resV
  erw [h0, h1, h2, h3, h4, h5, h6, h7, h8, h9, h10, h11]
  rfl

theorem claim : Cert.Claim := ⟨Cert.Kernel.Gen.facts, Cert.KernelIdeal.Gen.facts, Cert.ReferenceIdeal.Gen.facts, Cert.Pre_fits.Gen.facts,
  fun m g h => Cert.Kernel.Hand.frame_run m g (fits_kernel h),
  fun m g h => Cert.KernelIdeal.Hand.frame_run m g (fits_kernelIdeal h),
  fun m g _ => Cert.ReferenceIdeal.Gen.frame m g,
  fun m g _ => Cert.ReferenceIdeal.Gen.frame m g,
  trivial,
  fun m g m' g' h hargs => ⟨fun c => Cert.KernelIdeal.Hand.outV m c,
    (θ_run _ _ _).mono (fun _ hr c => ⟨(hr c).1.trans (Cert.KernelIdeal.Hand.outArr_eq m c (fits_kernelIdeal h c)), (hr c).2⟩)
      (Cert.KernelIdeal.Hand.value_run m g (fits_kernelIdeal h)),
    (θ_run _ _ _).mono (fun _ hr c => ⟨(hr c).1.trans (res_eq m m' c (hargs c)), (hr c).2⟩)
      (Cert.ReferenceIdeal.Hand.value_run m' g')⟩⟩

end Cert.Proof

end
